-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Opt (m : (ℓ : Loc Cert.Opt.nD Cert.Opt.τ Cert.Opt.sig) → Buf (Elt Bits) ℓ) : Prop :=
  True

def Pre_OptIdeal (m : (ℓ : Loc Cert.OptIdeal.nD Cert.OptIdeal.τ Cert.OptIdeal.sig) → Buf (Elt Ideal) ℓ) : Prop :=
  True

def Pre_OptRefIdeal (m : (ℓ : Loc Cert.OptRefIdeal.nD Cert.OptRefIdeal.τ Cert.OptRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_Opt [hOpt : Cert.Opt.Facts] : Prop :=
  ∀ (m : (ℓ : Loc Cert.Opt.nD Cert.Opt.τ Cert.Opt.sig) → Buf (Elt Bits) ℓ) (g : Dev Cert.Opt.nD → PrngReg), Pre_Opt m →
    θ_run (Cert.Opt.defs (F := Bits)) (onTc (τ := Cert.Opt.τ) (Cert.Opt.main (F := Bits))) ⟨m, fun _ => 0, g⟩ (fun r => (∀ c : Dev Cert.Opt.nD,
      r.2.mem ((c.tc : Thread Cert.Opt.nD Cert.Opt.τ).loc Cert.Opt.main_arg0) = m ((c.tc : Thread Cert.Opt.nD Cert.Opt.τ).loc Cert.Opt.main_arg0)
      ∧ r.2.mem ((c.tc : Thread Cert.Opt.nD Cert.Opt.τ).loc Cert.Opt.main_arg1) = m ((c.tc : Thread Cert.Opt.nD Cert.Opt.τ).loc Cert.Opt.main_arg1)
      ∧ r.2.mem ((c.tc : Thread Cert.Opt.nD Cert.Opt.τ).loc Cert.Opt.main_arg2) = m ((c.tc : Thread Cert.Opt.nD Cert.Opt.τ).loc Cert.Opt.main_arg2)
      ∧ r.2.mem ((c.tc : Thread Cert.Opt.nD Cert.Opt.τ).loc Cert.Opt.main_arg3) = m ((c.tc : Thread Cert.Opt.nD Cert.Opt.τ).loc Cert.Opt.main_arg3)
      ∧ r.2.mem ((c.tc : Thread Cert.Opt.nD Cert.Opt.τ).loc Cert.Opt.main_arg4) = m ((c.tc : Thread Cert.Opt.nD Cert.Opt.τ).loc Cert.Opt.main_arg4)
      ∧ r.2.mem ((c.tc : Thread Cert.Opt.nD Cert.Opt.τ).loc Cert.Opt.main_arg5) = m ((c.tc : Thread Cert.Opt.nD Cert.Opt.τ).loc Cert.Opt.main_arg5)
      ∧ r.2.mem ((c.tc : Thread Cert.Opt.nD Cert.Opt.τ).loc Cert.Opt.main_arg6) = m ((c.tc : Thread Cert.Opt.nD Cert.Opt.τ).loc Cert.Opt.main_arg6)
      ∧ r.2.mem ((c.tc : Thread Cert.Opt.nD Cert.Opt.τ).loc Cert.Opt.main_arg7) = m ((c.tc : Thread Cert.Opt.nD Cert.Opt.τ).loc Cert.Opt.main_arg7)
      ∧ r.2.mem ((c.tc : Thread Cert.Opt.nD Cert.Opt.τ).loc Cert.Opt.main_arg8) = m ((c.tc : Thread Cert.Opt.nD Cert.Opt.τ).loc Cert.Opt.main_arg8)
      ∧ r.2.mem ((c.tc : Thread Cert.Opt.nD Cert.Opt.τ).loc Cert.Opt.main_arg9) = m ((c.tc : Thread Cert.Opt.nD Cert.Opt.τ).loc Cert.Opt.main_arg9)
      ∧ r.2.mem ((c.tc : Thread Cert.Opt.nD Cert.Opt.τ).loc Cert.Opt.main_arg10) = m ((c.tc : Thread Cert.Opt.nD Cert.Opt.τ).loc Cert.Opt.main_arg10)
      ∧ r.2.mem ((c.tc : Thread Cert.Opt.nD Cert.Opt.τ).loc Cert.Opt.main_arg11) = m ((c.tc : Thread Cert.Opt.nD Cert.Opt.τ).loc Cert.Opt.main_arg11)
      ∧ r.2.mem ((c.tc : Thread Cert.Opt.nD Cert.Opt.τ).loc Cert.Opt.main_arg12) = m ((c.tc : Thread Cert.Opt.nD Cert.Opt.τ).loc Cert.Opt.main_arg12)
      ∧ r.2.mem ((c.tc : Thread Cert.Opt.nD Cert.Opt.τ).loc Cert.Opt.main_arg13) = m ((c.tc : Thread Cert.Opt.nD Cert.Opt.τ).loc Cert.Opt.main_arg13)
      ∧ r.2.mem ((c.tc : Thread Cert.Opt.nD Cert.Opt.τ).loc Cert.Opt.main_arg14) = m ((c.tc : Thread Cert.Opt.nD Cert.Opt.τ).loc Cert.Opt.main_arg14)
      ∧ r.2.mem ((c.tc : Thread Cert.Opt.nD Cert.Opt.τ).loc Cert.Opt.main_arg15) = m ((c.tc : Thread Cert.Opt.nD Cert.Opt.τ).loc Cert.Opt.main_arg15)
      ∧ r.2.mem ((c.tc : Thread Cert.Opt.nD Cert.Opt.τ).loc Cert.Opt.main_arg16) = m ((c.tc : Thread Cert.Opt.nD Cert.Opt.τ).loc Cert.Opt.main_arg16)
      ∧ r.2.mem ((c.tc : Thread Cert.Opt.nD Cert.Opt.τ).loc Cert.Opt.main_arg17) = m ((c.tc : Thread Cert.Opt.nD Cert.Opt.τ).loc Cert.Opt.main_arg17)
      ∧ r.2.mem ((c.tc : Thread Cert.Opt.nD Cert.Opt.τ).loc Cert.Opt.main_arg18) = m ((c.tc : Thread Cert.Opt.nD Cert.Opt.τ).loc Cert.Opt.main_arg18)
      ∧ r.2.mem ((c.tc : Thread Cert.Opt.nD Cert.Opt.τ).loc Cert.Opt.main_arg19) = m ((c.tc : Thread Cert.Opt.nD Cert.Opt.τ).loc Cert.Opt.main_arg19))
      ∧ r.2.sem = fun _ => 0)

def quiescent_OptIdeal [hOptIdeal : Cert.OptIdeal.Facts] : Prop :=
  ∀ (m : (ℓ : Loc Cert.OptIdeal.nD Cert.OptIdeal.τ Cert.OptIdeal.sig) → Buf (Elt Ideal) ℓ) (g : Dev Cert.OptIdeal.nD → PrngReg), Pre_OptIdeal m →
    θ_run (Cert.OptIdeal.defs (F := Ideal)) (onTc (τ := Cert.OptIdeal.τ) (Cert.OptIdeal.main (F := Ideal))) ⟨m, fun _ => 0, g⟩ (fun r => (∀ c : Dev Cert.OptIdeal.nD,
      r.2.mem ((c.tc : Thread Cert.OptIdeal.nD Cert.OptIdeal.τ).loc Cert.OptIdeal.main_arg0) = m ((c.tc : Thread Cert.OptIdeal.nD Cert.OptIdeal.τ).loc Cert.OptIdeal.main_arg0)
      ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
      ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
      ∧ r.2.mem ((c.tc : Thread Cert.OptIdeal.nD Cert.OptIdeal.τ).loc Cert.OptIdeal.main_arg3) = m ((c.tc : Thread Cert.OptIdeal.nD Cert.OptIdeal.τ).loc Cert.OptIdeal.main_arg3)
      ∧ r.2.mem ((c.tc : Thread Cert.OptIdeal.nD Cert.OptIdeal.τ).loc Cert.OptIdeal.main_arg4) = m ((c.tc : Thread Cert.OptIdeal.nD Cert.OptIdeal.τ).loc Cert.OptIdeal.main_arg4)
      ∧ r.2.mem ((c.tc : Thread Cert.OptIdeal.nD Cert.OptIdeal.τ).loc Cert.OptIdeal.main_arg5) = m ((c.tc : Thread Cert.OptIdeal.nD Cert.OptIdeal.τ).loc Cert.OptIdeal.main_arg5)
      ∧ r.2.mem ((c.tc : Thread Cert.OptIdeal.nD Cert.OptIdeal.τ).loc Cert.OptIdeal.main_arg6) = m ((c.tc : Thread Cert.OptIdeal.nD Cert.OptIdeal.τ).loc Cert.OptIdeal.main_arg6)
      ∧ r.2.mem ((c.tc : Thread Cert.OptIdeal.nD Cert.OptIdeal.τ).loc Cert.OptIdeal.main_arg7) = m ((c.tc : Thread Cert.OptIdeal.nD Cert.OptIdeal.τ).loc Cert.OptIdeal.main_arg7)
      ∧ r.2.mem ((c.tc : Thread Cert.OptIdeal.nD Cert.OptIdeal.τ).loc Cert.OptIdeal.main_arg8) = m ((c.tc : Thread Cert.OptIdeal.nD Cert.OptIdeal.τ).loc Cert.OptIdeal.main_arg8)
      ∧ r.2.mem ((c.tc : Thread Cert.OptIdeal.nD Cert.OptIdeal.τ).loc Cert.OptIdeal.main_arg9) = m ((c.tc : Thread Cert.OptIdeal.nD Cert.OptIdeal.τ).loc Cert.OptIdeal.main_arg9)
      ∧ r.2.mem ((c.tc : Thread Cert.OptIdeal.nD Cert.OptIdeal.τ).loc Cert.OptIdeal.main_arg10) = m ((c.tc : Thread Cert.OptIdeal.nD Cert.OptIdeal.τ).loc Cert.OptIdeal.main_arg10)
      ∧ r.2.mem ((c.tc : Thread Cert.OptIdeal.nD Cert.OptIdeal.τ).loc Cert.OptIdeal.main_arg11) = m ((c.tc : Thread Cert.OptIdeal.nD Cert.OptIdeal.τ).loc Cert.OptIdeal.main_arg11)
      ∧ r.2.mem ((c.tc : Thread Cert.OptIdeal.nD Cert.OptIdeal.τ).loc Cert.OptIdeal.main_arg12) = m ((c.tc : Thread Cert.OptIdeal.nD Cert.OptIdeal.τ).loc Cert.OptIdeal.main_arg12)
      ∧ r.2.mem ((c.tc : Thread Cert.OptIdeal.nD Cert.OptIdeal.τ).loc Cert.OptIdeal.main_arg13) = m ((c.tc : Thread Cert.OptIdeal.nD Cert.OptIdeal.τ).loc Cert.OptIdeal.main_arg13)
      ∧ r.2.mem ((c.tc : Thread Cert.OptIdeal.nD Cert.OptIdeal.τ).loc Cert.OptIdeal.main_arg14) = m ((c.tc : Thread Cert.OptIdeal.nD Cert.OptIdeal.τ).loc Cert.OptIdeal.main_arg14)
      ∧ r.2.mem ((c.tc : Thread Cert.OptIdeal.nD Cert.OptIdeal.τ).loc Cert.OptIdeal.main_arg15) = m ((c.tc : Thread Cert.OptIdeal.nD Cert.OptIdeal.τ).loc Cert.OptIdeal.main_arg15)
      ∧ r.2.mem ((c.tc : Thread Cert.OptIdeal.nD Cert.OptIdeal.τ).loc Cert.OptIdeal.main_arg16) = m ((c.tc : Thread Cert.OptIdeal.nD Cert.OptIdeal.τ).loc Cert.OptIdeal.main_arg16)
      ∧ r.2.mem ((c.tc : Thread Cert.OptIdeal.nD Cert.OptIdeal.τ).loc Cert.OptIdeal.main_arg17) = m ((c.tc : Thread Cert.OptIdeal.nD Cert.OptIdeal.τ).loc Cert.OptIdeal.main_arg17)
      ∧ r.2.mem ((c.tc : Thread Cert.OptIdeal.nD Cert.OptIdeal.τ).loc Cert.OptIdeal.main_arg18) = m ((c.tc : Thread Cert.OptIdeal.nD Cert.OptIdeal.τ).loc Cert.OptIdeal.main_arg18)
      ∧ r.2.mem ((c.tc : Thread Cert.OptIdeal.nD Cert.OptIdeal.τ).loc Cert.OptIdeal.main_arg19) = m ((c.tc : Thread Cert.OptIdeal.nD Cert.OptIdeal.τ).loc Cert.OptIdeal.main_arg19))
      ∧ r.2.sem = fun _ => 0)

def quiescent_OptRefIdeal [hOptRefIdeal : Cert.OptRefIdeal.Facts] : Prop :=
  ∀ (m : (ℓ : Loc Cert.OptRefIdeal.nD Cert.OptRefIdeal.τ Cert.OptRefIdeal.sig) → Buf (Elt Ideal) ℓ) (g : Dev Cert.OptRefIdeal.nD → PrngReg), Pre_OptRefIdeal m →
    θ_run (Cert.OptRefIdeal.defs (F := Ideal)) (onTc (τ := Cert.OptRefIdeal.τ) (Cert.OptRefIdeal.main (F := Ideal))) ⟨m, fun _ => 0, g⟩ (fun r => (∀ c : Dev Cert.OptRefIdeal.nD,
      r.2.mem ((c.tc : Thread Cert.OptRefIdeal.nD Cert.OptRefIdeal.τ).loc Cert.OptRefIdeal.main_arg0) = m ((c.tc : Thread Cert.OptRefIdeal.nD Cert.OptRefIdeal.τ).loc Cert.OptRefIdeal.main_arg0)
      ∧ r.2.mem ((c.tc : Thread Cert.OptRefIdeal.nD Cert.OptRefIdeal.τ).loc Cert.OptRefIdeal.main_arg1) = m ((c.tc : Thread Cert.OptRefIdeal.nD Cert.OptRefIdeal.τ).loc Cert.OptRefIdeal.main_arg1)
      ∧ r.2.mem ((c.tc : Thread Cert.OptRefIdeal.nD Cert.OptRefIdeal.τ).loc Cert.OptRefIdeal.main_arg2) = m ((c.tc : Thread Cert.OptRefIdeal.nD Cert.OptRefIdeal.τ).loc Cert.OptRefIdeal.main_arg2)
      ∧ r.2.mem ((c.tc : Thread Cert.OptRefIdeal.nD Cert.OptRefIdeal.τ).loc Cert.OptRefIdeal.main_arg3) = m ((c.tc : Thread Cert.OptRefIdeal.nD Cert.OptRefIdeal.τ).loc Cert.OptRefIdeal.main_arg3)
      ∧ r.2.mem ((c.tc : Thread Cert.OptRefIdeal.nD Cert.OptRefIdeal.τ).loc Cert.OptRefIdeal.main_arg4) = m ((c.tc : Thread Cert.OptRefIdeal.nD Cert.OptRefIdeal.τ).loc Cert.OptRefIdeal.main_arg4)
      ∧ r.2.mem ((c.tc : Thread Cert.OptRefIdeal.nD Cert.OptRefIdeal.τ).loc Cert.OptRefIdeal.main_arg5) = m ((c.tc : Thread Cert.OptRefIdeal.nD Cert.OptRefIdeal.τ).loc Cert.OptRefIdeal.main_arg5)
      ∧ r.2.mem ((c.tc : Thread Cert.OptRefIdeal.nD Cert.OptRefIdeal.τ).loc Cert.OptRefIdeal.main_arg6) = m ((c.tc : Thread Cert.OptRefIdeal.nD Cert.OptRefIdeal.τ).loc Cert.OptRefIdeal.main_arg6)
      ∧ r.2.mem ((c.tc : Thread Cert.OptRefIdeal.nD Cert.OptRefIdeal.τ).loc Cert.OptRefIdeal.main_arg7) = m ((c.tc : Thread Cert.OptRefIdeal.nD Cert.OptRefIdeal.τ).loc Cert.OptRefIdeal.main_arg7)
      ∧ r.2.mem ((c.tc : Thread Cert.OptRefIdeal.nD Cert.OptRefIdeal.τ).loc Cert.OptRefIdeal.main_arg8) = m ((c.tc : Thread Cert.OptRefIdeal.nD Cert.OptRefIdeal.τ).loc Cert.OptRefIdeal.main_arg8)
      ∧ r.2.mem ((c.tc : Thread Cert.OptRefIdeal.nD Cert.OptRefIdeal.τ).loc Cert.OptRefIdeal.main_arg9) = m ((c.tc : Thread Cert.OptRefIdeal.nD Cert.OptRefIdeal.τ).loc Cert.OptRefIdeal.main_arg9)
      ∧ r.2.mem ((c.tc : Thread Cert.OptRefIdeal.nD Cert.OptRefIdeal.τ).loc Cert.OptRefIdeal.main_arg10) = m ((c.tc : Thread Cert.OptRefIdeal.nD Cert.OptRefIdeal.τ).loc Cert.OptRefIdeal.main_arg10)
      ∧ r.2.mem ((c.tc : Thread Cert.OptRefIdeal.nD Cert.OptRefIdeal.τ).loc Cert.OptRefIdeal.main_arg11) = m ((c.tc : Thread Cert.OptRefIdeal.nD Cert.OptRefIdeal.τ).loc Cert.OptRefIdeal.main_arg11)
      ∧ r.2.mem ((c.tc : Thread Cert.OptRefIdeal.nD Cert.OptRefIdeal.τ).loc Cert.OptRefIdeal.main_arg12) = m ((c.tc : Thread Cert.OptRefIdeal.nD Cert.OptRefIdeal.τ).loc Cert.OptRefIdeal.main_arg12)
      ∧ r.2.mem ((c.tc : Thread Cert.OptRefIdeal.nD Cert.OptRefIdeal.τ).loc Cert.OptRefIdeal.main_arg13) = m ((c.tc : Thread Cert.OptRefIdeal.nD Cert.OptRefIdeal.τ).loc Cert.OptRefIdeal.main_arg13)
      ∧ r.2.mem ((c.tc : Thread Cert.OptRefIdeal.nD Cert.OptRefIdeal.τ).loc Cert.OptRefIdeal.main_arg14) = m ((c.tc : Thread Cert.OptRefIdeal.nD Cert.OptRefIdeal.τ).loc Cert.OptRefIdeal.main_arg14)
      ∧ r.2.mem ((c.tc : Thread Cert.OptRefIdeal.nD Cert.OptRefIdeal.τ).loc Cert.OptRefIdeal.main_arg15) = m ((c.tc : Thread Cert.OptRefIdeal.nD Cert.OptRefIdeal.τ).loc Cert.OptRefIdeal.main_arg15)
      ∧ r.2.mem ((c.tc : Thread Cert.OptRefIdeal.nD Cert.OptRefIdeal.τ).loc Cert.OptRefIdeal.main_arg16) = m ((c.tc : Thread Cert.OptRefIdeal.nD Cert.OptRefIdeal.τ).loc Cert.OptRefIdeal.main_arg16)
      ∧ r.2.mem ((c.tc : Thread Cert.OptRefIdeal.nD Cert.OptRefIdeal.τ).loc Cert.OptRefIdeal.main_arg17) = m ((c.tc : Thread Cert.OptRefIdeal.nD Cert.OptRefIdeal.τ).loc Cert.OptRefIdeal.main_arg17)
      ∧ r.2.mem ((c.tc : Thread Cert.OptRefIdeal.nD Cert.OptRefIdeal.τ).loc Cert.OptRefIdeal.main_arg18) = m ((c.tc : Thread Cert.OptRefIdeal.nD Cert.OptRefIdeal.τ).loc Cert.OptRefIdeal.main_arg18)
      ∧ r.2.mem ((c.tc : Thread Cert.OptRefIdeal.nD Cert.OptRefIdeal.τ).loc Cert.OptRefIdeal.main_arg19) = m ((c.tc : Thread Cert.OptRefIdeal.nD Cert.OptRefIdeal.τ).loc Cert.OptRefIdeal.main_arg19))
      ∧ r.2.sem = fun _ => 0)

def preserves_Ffn_FfnIdeal : Prop :=
  True

def preserves_MixIn_MixInIdeal : Prop :=
  True

def preserves_MixOut_MixOutIdeal : Prop :=
  True

def preserves_Opt_OptIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v22)) (v1 : (c : Dev Cert.FfnIdeal.nD) → Buf (Elt Ideal) ((c.tc : Thread Cert.FfnIdeal.nD Cert.FfnIdeal.τ).loc Cert.FfnIdeal.main_v14_1)) (v2 : (c : Dev Cert.FfnIdeal.nD) → Buf (Elt Ideal) ((c.tc : Thread Cert.FfnIdeal.nD Cert.FfnIdeal.τ).loc Cert.FfnIdeal.main_v19)) (v3 : (c : Dev Cert.FfnIdeal.nD) → Buf (Elt Ideal) ((c.tc : Thread Cert.FfnIdeal.nD Cert.FfnIdeal.τ).loc Cert.FfnIdeal.main_v25)) (v4 : (c : Dev Cert.FfnIdeal.nD) → Buf (Elt Ideal) ((c.tc : Thread Cert.FfnIdeal.nD Cert.FfnIdeal.τ).loc Cert.FfnIdeal.main_v28)) (v5 : (c : Dev Cert.FfnIdeal.nD) → Buf (Elt Ideal) ((c.tc : Thread Cert.FfnIdeal.nD Cert.FfnIdeal.τ).loc Cert.FfnIdeal.main_v31)) (v6 : (c : Dev Cert.FfnIdeal.nD) → Buf (Elt Ideal) ((c.tc : Thread Cert.FfnIdeal.nD Cert.FfnIdeal.τ).loc Cert.FfnIdeal.main_v17)) (v7 : (c : Dev Cert.FfnIdeal.nD) → Buf (Elt Ideal) ((c.tc : Thread Cert.FfnIdeal.nD Cert.FfnIdeal.τ).loc Cert.FfnIdeal.main_v15_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v22) = v0 c
          ∧ r.2.mem ((c.tc : Thread Cert.FfnIdeal.nD Cert.FfnIdeal.τ).loc Cert.FfnIdeal.main_v14_1) = v1 c
          ∧ r.2.mem ((c.tc : Thread Cert.FfnIdeal.nD Cert.FfnIdeal.τ).loc Cert.FfnIdeal.main_v19) = v2 c
          ∧ r.2.mem ((c.tc : Thread Cert.FfnIdeal.nD Cert.FfnIdeal.τ).loc Cert.FfnIdeal.main_v25) = v3 c
          ∧ r.2.mem ((c.tc : Thread Cert.FfnIdeal.nD Cert.FfnIdeal.τ).loc Cert.FfnIdeal.main_v28) = v4 c
          ∧ r.2.mem ((c.tc : Thread Cert.FfnIdeal.nD Cert.FfnIdeal.τ).loc Cert.FfnIdeal.main_v31) = v5 c
          ∧ r.2.mem ((c.tc : Thread Cert.FfnIdeal.nD Cert.FfnIdeal.τ).loc Cert.FfnIdeal.main_v17) = v6 c
          ∧ r.2.mem ((c.tc : Thread Cert.FfnIdeal.nD Cert.FfnIdeal.τ).loc Cert.FfnIdeal.main_v15_1) = v7 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v83) = v0 c
          ∧ r.2.mem ((c.tc : Thread Cert.FfnRefIdeal.nD Cert.FfnRefIdeal.τ).loc Cert.FfnRefIdeal.main_v89) = v1 c
          ∧ r.2.mem ((c.tc : Thread Cert.FfnRefIdeal.nD Cert.FfnRefIdeal.τ).loc Cert.FfnRefIdeal.main_v167) = v2 c
          ∧ r.2.mem ((c.tc : Thread Cert.FfnRefIdeal.nD Cert.FfnRefIdeal.τ).loc Cert.FfnRefIdeal.main_v169) = v3 c
          ∧ r.2.mem ((c.tc : Thread Cert.FfnRefIdeal.nD Cert.FfnRefIdeal.τ).loc Cert.FfnRefIdeal.main_v164) = v4 c
          ∧ r.2.mem ((c.tc : Thread Cert.FfnRefIdeal.nD Cert.FfnRefIdeal.τ).loc Cert.FfnRefIdeal.main_v170) = v5 c
          ∧ r.2.mem ((c.tc : Thread Cert.FfnRefIdeal.nD Cert.FfnRefIdeal.τ).loc Cert.FfnRefIdeal.main_v171) = v6 c
          ∧ r.2.mem ((c.tc : Thread Cert.FfnRefIdeal.nD Cert.FfnRefIdeal.τ).loc Cert.FfnRefIdeal.main_v172) = v7 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)
      ∧ m' ((c.tc : Thread Cert.MixInRefIdeal.nD Cert.MixInRefIdeal.τ).loc Cert.MixInRefIdeal.main_arg7) = m ((c.tc : Thread Cert.MixInIdeal.nD Cert.MixInIdeal.τ).loc Cert.MixInIdeal.main_arg7)) →
    ∃ (v0 : (c : Dev Cert.MixInIdeal.nD) → Buf (Elt Ideal) ((c.tc : Thread Cert.MixInIdeal.nD Cert.MixInIdeal.τ).loc Cert.MixInIdeal.main_v24)) (v1 : (c : Dev Cert.MixInIdeal.nD) → Buf (Elt Ideal) ((c.tc : Thread Cert.MixInIdeal.nD Cert.MixInIdeal.τ).loc Cert.MixInIdeal.main_v16)) (v2 : (c : Dev Cert.MixInIdeal.nD) → Buf (Elt Ideal) ((c.tc : Thread Cert.MixInIdeal.nD Cert.MixInIdeal.τ).loc Cert.MixInIdeal.main_v25)) (v3 : (c : Dev Cert.MixInIdeal.nD) → Buf (Elt Ideal) ((c.tc : Thread Cert.MixInIdeal.nD Cert.MixInIdeal.τ).loc Cert.MixInIdeal.main_v20_0)) (v4 : (c : Dev Cert.MixInIdeal.nD) → Buf (Elt Ideal) ((c.tc : Thread Cert.MixInIdeal.nD Cert.MixInIdeal.τ).loc Cert.MixInIdeal.main_v20_1)) (v5 : (c : Dev Cert.MixInIdeal.nD) → Buf (Elt Ideal) ((c.tc : Thread Cert.MixInIdeal.nD Cert.MixInIdeal.τ).loc Cert.MixInIdeal.main_v31)) (v6 : (c : Dev Cert.MixInIdeal.nD) → Buf (Elt Ideal) ((c.tc : Thread Cert.MixInIdeal.nD Cert.MixInIdeal.τ).loc Cert.MixInIdeal.main_v17_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v24) = v0 c
          ∧ r.2.mem ((c.tc : Thread Cert.MixInIdeal.nD Cert.MixInIdeal.τ).loc Cert.MixInIdeal.main_v16) = v1 c
          ∧ r.2.mem ((c.tc : Thread Cert.MixInIdeal.nD Cert.MixInIdeal.τ).loc Cert.MixInIdeal.main_v25) = v2 c
          ∧ r.2.mem ((c.tc : Thread Cert.MixInIdeal.nD Cert.MixInIdeal.τ).loc Cert.MixInIdeal.main_v20_0) = v3 c
          ∧ r.2.mem ((c.tc : Thread Cert.MixInIdeal.nD Cert.MixInIdeal.τ).loc Cert.MixInIdeal.main_v20_1) = v4 c
          ∧ r.2.mem ((c.tc : Thread Cert.MixInIdeal.nD Cert.MixInIdeal.τ).loc Cert.MixInIdeal.main_v31) = v5 c
          ∧ r.2.mem ((c.tc : Thread Cert.MixInIdeal.nD Cert.MixInIdeal.τ).loc Cert.MixInIdeal.main_v17_1) = v6 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v19) = v0 c
          ∧ r.2.mem ((c.tc : Thread Cert.MixInRefIdeal.nD Cert.MixInRefIdeal.τ).loc Cert.MixInRefIdeal.main_v134) = v1 c
          ∧ r.2.mem ((c.tc : Thread Cert.MixInRefIdeal.nD Cert.MixInRefIdeal.τ).loc Cert.MixInRefIdeal.main_v21) = v2 c
          ∧ r.2.mem ((c.tc : Thread Cert.MixInRefIdeal.nD Cert.MixInRefIdeal.τ).loc Cert.MixInRefIdeal.main_v133) = v3 c
          ∧ r.2.mem ((c.tc : Thread Cert.MixInRefIdeal.nD Cert.MixInRefIdeal.τ).loc Cert.MixInRefIdeal.main_v135) = v4 c
          ∧ r.2.mem ((c.tc : Thread Cert.MixInRefIdeal.nD Cert.MixInRefIdeal.τ).loc Cert.MixInRefIdeal.main_v136) = v5 c
          ∧ r.2.mem ((c.tc : Thread Cert.MixInRefIdeal.nD Cert.MixInRefIdeal.τ).loc Cert.MixInRefIdeal.main_v107) = v6 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6)
          ∧ r.2.mem ((c.tc : Thread Cert.MixInRefIdeal.nD Cert.MixInRefIdeal.τ).loc Cert.MixInRefIdeal.main_arg7) = m' ((c.tc : Thread Cert.MixInRefIdeal.nD Cert.MixInRefIdeal.τ).loc Cert.MixInRefIdeal.main_arg7))

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)) (v2 : (c : Dev Cert.MixOutIdeal.nD) → Buf (Elt Ideal) ((c.tc : Thread Cert.MixOutIdeal.nD Cert.MixOutIdeal.τ).loc Cert.MixOutIdeal.main_v4_0)) (v3 : (c : Dev Cert.MixOutIdeal.nD) → Buf (Elt Ideal) ((c.tc : Thread Cert.MixOutIdeal.nD Cert.MixOutIdeal.τ).loc Cert.MixOutIdeal.main_v5)) (v4 : (c : Dev Cert.MixOutIdeal.nD) → Buf (Elt Ideal) ((c.tc : Thread Cert.MixOutIdeal.nD Cert.MixOutIdeal.τ).loc Cert.MixOutIdeal.main_v6)) (v5 : (c : Dev Cert.MixOutIdeal.nD) → Buf (Elt Ideal) ((c.tc : Thread Cert.MixOutIdeal.nD Cert.MixOutIdeal.τ).loc Cert.MixOutIdeal.main_v4_3)) (v6 : (c : Dev Cert.MixOutIdeal.nD) → Buf (Elt Ideal) ((c.tc : Thread Cert.MixOutIdeal.nD Cert.MixOutIdeal.τ).loc Cert.MixOutIdeal.main_v4_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_v4_0) = v2 c
          ∧ r.2.mem ((c.tc : Thread Cert.MixOutIdeal.nD Cert.MixOutIdeal.τ).loc Cert.MixOutIdeal.main_v5) = v3 c
          ∧ r.2.mem ((c.tc : Thread Cert.MixOutIdeal.nD Cert.MixOutIdeal.τ).loc Cert.MixOutIdeal.main_v6) = v4 c
          ∧ r.2.mem ((c.tc : Thread Cert.MixOutIdeal.nD Cert.MixOutIdeal.τ).loc Cert.MixOutIdeal.main_v4_3) = v5 c
          ∧ r.2.mem ((c.tc : Thread Cert.MixOutIdeal.nD Cert.MixOutIdeal.τ).loc Cert.MixOutIdeal.main_v4_2) = v6 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v18) = v0 c
          ∧ r.2.mem ((c.tc : Thread Cert.MixOutRefIdeal.nD Cert.MixOutRefIdeal.τ).loc Cert.MixOutRefIdeal.main_v80) = v1 c
          ∧ r.2.mem ((c.tc : Thread Cert.MixOutRefIdeal.nD Cert.MixOutRefIdeal.τ).loc Cert.MixOutRefIdeal.main_v55) = v2 c
          ∧ r.2.mem ((c.tc : Thread Cert.MixOutRefIdeal.nD Cert.MixOutRefIdeal.τ).loc Cert.MixOutRefIdeal.main_v79) = v3 c
          ∧ r.2.mem ((c.tc : Thread Cert.MixOutRefIdeal.nD Cert.MixOutRefIdeal.τ).loc Cert.MixOutRefIdeal.main_v81) = v4 c
          ∧ r.2.mem ((c.tc : Thread Cert.MixOutRefIdeal.nD Cert.MixOutRefIdeal.τ).loc Cert.MixOutRefIdeal.main_v82) = v5 c
          ∧ r.2.mem ((c.tc : Thread Cert.MixOutRefIdeal.nD Cert.MixOutRefIdeal.τ).loc Cert.MixOutRefIdeal.main_v83) = v6 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def algebraic_OptIdeal_OptRefIdeal [hOptIdeal : Cert.OptIdeal.Facts] [hOptRefIdeal : Cert.OptRefIdeal.Facts] : Prop :=
  ∀ (m : (ℓ : Loc Cert.OptIdeal.nD Cert.OptIdeal.τ Cert.OptIdeal.sig) → Buf (Elt Ideal) ℓ) (g : Dev Cert.OptIdeal.nD → PrngReg)
    (m' : (ℓ : Loc Cert.OptRefIdeal.nD Cert.OptRefIdeal.τ Cert.OptRefIdeal.sig) → Buf (Elt Ideal) ℓ) (g' : Dev Cert.OptRefIdeal.nD → PrngReg), Pre_OptIdeal m →
    (∀ c : Dev Cert.OptIdeal.nD,
      m' ((c.tc : Thread Cert.OptRefIdeal.nD Cert.OptRefIdeal.τ).loc Cert.OptRefIdeal.main_arg0) = m ((c.tc : Thread Cert.OptIdeal.nD Cert.OptIdeal.τ).loc Cert.OptIdeal.main_arg0)
      ∧ m' ((c.tc : Thread Cert.OptRefIdeal.nD Cert.OptRefIdeal.τ).loc Cert.OptRefIdeal.main_arg1) = m ((c.tc : Thread Cert.OptIdeal.nD Cert.OptIdeal.τ).loc Cert.OptIdeal.main_arg1)
      ∧ m' ((c.tc : Thread Cert.OptRefIdeal.nD Cert.OptRefIdeal.τ).loc Cert.OptRefIdeal.main_arg2) = m ((c.tc : Thread Cert.OptIdeal.nD Cert.OptIdeal.τ).loc Cert.OptIdeal.main_arg2)
      ∧ m' ((c.tc : Thread Cert.OptRefIdeal.nD Cert.OptRefIdeal.τ).loc Cert.OptRefIdeal.main_arg3) = m ((c.tc : Thread Cert.OptIdeal.nD Cert.OptIdeal.τ).loc Cert.OptIdeal.main_arg3)
      ∧ m' ((c.tc : Thread Cert.OptRefIdeal.nD Cert.OptRefIdeal.τ).loc Cert.OptRefIdeal.main_arg4) = m ((c.tc : Thread Cert.OptIdeal.nD Cert.OptIdeal.τ).loc Cert.OptIdeal.main_arg4)
      ∧ m' ((c.tc : Thread Cert.OptRefIdeal.nD Cert.OptRefIdeal.τ).loc Cert.OptRefIdeal.main_arg5) = m ((c.tc : Thread Cert.OptIdeal.nD Cert.OptIdeal.τ).loc Cert.OptIdeal.main_arg5)
      ∧ m' ((c.tc : Thread Cert.OptRefIdeal.nD Cert.OptRefIdeal.τ).loc Cert.OptRefIdeal.main_arg6) = m ((c.tc : Thread Cert.OptIdeal.nD Cert.OptIdeal.τ).loc Cert.OptIdeal.main_arg6)
      ∧ m' ((c.tc : Thread Cert.OptRefIdeal.nD Cert.OptRefIdeal.τ).loc Cert.OptRefIdeal.main_arg7) = m ((c.tc : Thread Cert.OptIdeal.nD Cert.OptIdeal.τ).loc Cert.OptIdeal.main_arg7)
      ∧ m' ((c.tc : Thread Cert.OptRefIdeal.nD Cert.OptRefIdeal.τ).loc Cert.OptRefIdeal.main_arg8) = m ((c.tc : Thread Cert.OptIdeal.nD Cert.OptIdeal.τ).loc Cert.OptIdeal.main_arg8)
      ∧ m' ((c.tc : Thread Cert.OptRefIdeal.nD Cert.OptRefIdeal.τ).loc Cert.OptRefIdeal.main_arg9) = m ((c.tc : Thread Cert.OptIdeal.nD Cert.OptIdeal.τ).loc Cert.OptIdeal.main_arg9)
      ∧ m' ((c.tc : Thread Cert.OptRefIdeal.nD Cert.OptRefIdeal.τ).loc Cert.OptRefIdeal.main_arg10) = m ((c.tc : Thread Cert.OptIdeal.nD Cert.OptIdeal.τ).loc Cert.OptIdeal.main_arg10)
      ∧ m' ((c.tc : Thread Cert.OptRefIdeal.nD Cert.OptRefIdeal.τ).loc Cert.OptRefIdeal.main_arg11) = m ((c.tc : Thread Cert.OptIdeal.nD Cert.OptIdeal.τ).loc Cert.OptIdeal.main_arg11)
      ∧ m' ((c.tc : Thread Cert.OptRefIdeal.nD Cert.OptRefIdeal.τ).loc Cert.OptRefIdeal.main_arg12) = m ((c.tc : Thread Cert.OptIdeal.nD Cert.OptIdeal.τ).loc Cert.OptIdeal.main_arg12)
      ∧ m' ((c.tc : Thread Cert.OptRefIdeal.nD Cert.OptRefIdeal.τ).loc Cert.OptRefIdeal.main_arg13) = m ((c.tc : Thread Cert.OptIdeal.nD Cert.OptIdeal.τ).loc Cert.OptIdeal.main_arg13)
      ∧ m' ((c.tc : Thread Cert.OptRefIdeal.nD Cert.OptRefIdeal.τ).loc Cert.OptRefIdeal.main_arg14) = m ((c.tc : Thread Cert.OptIdeal.nD Cert.OptIdeal.τ).loc Cert.OptIdeal.main_arg14)
      ∧ m' ((c.tc : Thread Cert.OptRefIdeal.nD Cert.OptRefIdeal.τ).loc Cert.OptRefIdeal.main_arg15) = m ((c.tc : Thread Cert.OptIdeal.nD Cert.OptIdeal.τ).loc Cert.OptIdeal.main_arg15)
      ∧ m' ((c.tc : Thread Cert.OptRefIdeal.nD Cert.OptRefIdeal.τ).loc Cert.OptRefIdeal.main_arg16) = m ((c.tc : Thread Cert.OptIdeal.nD Cert.OptIdeal.τ).loc Cert.OptIdeal.main_arg16)
      ∧ m' ((c.tc : Thread Cert.OptRefIdeal.nD Cert.OptRefIdeal.τ).loc Cert.OptRefIdeal.main_arg17) = m ((c.tc : Thread Cert.OptIdeal.nD Cert.OptIdeal.τ).loc Cert.OptIdeal.main_arg17)
      ∧ m' ((c.tc : Thread Cert.OptRefIdeal.nD Cert.OptRefIdeal.τ).loc Cert.OptRefIdeal.main_arg18) = m ((c.tc : Thread Cert.OptIdeal.nD Cert.OptIdeal.τ).loc Cert.OptIdeal.main_arg18)
      ∧ m' ((c.tc : Thread Cert.OptRefIdeal.nD Cert.OptRefIdeal.τ).loc Cert.OptRefIdeal.main_arg19) = m ((c.tc : Thread Cert.OptIdeal.nD Cert.OptIdeal.τ).loc Cert.OptIdeal.main_arg19)) →
    ∃ (v0 : (c : Dev Cert.OptIdeal.nD) → Buf (Elt Ideal) ((c.tc : Thread Cert.OptIdeal.nD Cert.OptIdeal.τ).loc Cert.OptIdeal.main_v4)) (v1 : (c : Dev Cert.OptIdeal.nD) → Buf (Elt Ideal) ((c.tc : Thread Cert.OptIdeal.nD Cert.OptIdeal.τ).loc Cert.OptIdeal.main_v5)) (v2 : (c : Dev Cert.OptIdeal.nD) → Buf (Elt Ideal) ((c.tc : Thread Cert.OptIdeal.nD Cert.OptIdeal.τ).loc Cert.OptIdeal.main_v6)) (v3 : (c : Dev Cert.OptIdeal.nD) → Buf (Elt Ideal) ((c.tc : Thread Cert.OptIdeal.nD Cert.OptIdeal.τ).loc Cert.OptIdeal.main_v7)) (v4 : (c : Dev Cert.OptIdeal.nD) → Buf (Elt Ideal) ((c.tc : Thread Cert.OptIdeal.nD Cert.OptIdeal.τ).loc Cert.OptIdeal.main_v8_0)) (v5 : (c : Dev Cert.OptIdeal.nD) → Buf (Elt Ideal) ((c.tc : Thread Cert.OptIdeal.nD Cert.OptIdeal.τ).loc Cert.OptIdeal.main_v8_1)) (v6 : (c : Dev Cert.OptIdeal.nD) → Buf (Elt Ideal) ((c.tc : Thread Cert.OptIdeal.nD Cert.OptIdeal.τ).loc Cert.OptIdeal.main_v8_2)) (v7 : (c : Dev Cert.OptIdeal.nD) → Buf (Elt Ideal) ((c.tc : Thread Cert.OptIdeal.nD Cert.OptIdeal.τ).loc Cert.OptIdeal.main_v8_3)) (v8 : (c : Dev Cert.OptIdeal.nD) → Buf (Elt Ideal) ((c.tc : Thread Cert.OptIdeal.nD Cert.OptIdeal.τ).loc Cert.OptIdeal.main_v13)) (v9 : (c : Dev Cert.OptIdeal.nD) → Buf (Elt Ideal) ((c.tc : Thread Cert.OptIdeal.nD Cert.OptIdeal.τ).loc Cert.OptIdeal.main_v14)) (v10 : (c : Dev Cert.OptIdeal.nD) → Buf (Elt Ideal) ((c.tc : Thread Cert.OptIdeal.nD Cert.OptIdeal.τ).loc Cert.OptIdeal.main_v15)) (v11 : (c : Dev Cert.OptIdeal.nD) → Buf (Elt Ideal) ((c.tc : Thread Cert.OptIdeal.nD Cert.OptIdeal.τ).loc Cert.OptIdeal.main_v16)) (v12 : (c : Dev Cert.OptIdeal.nD) → Buf (Elt Ideal) ((c.tc : Thread Cert.OptIdeal.nD Cert.OptIdeal.τ).loc Cert.OptIdeal.main_v17_0)) (v13 : (c : Dev Cert.OptIdeal.nD) → Buf (Elt Ideal) ((c.tc : Thread Cert.OptIdeal.nD Cert.OptIdeal.τ).loc Cert.OptIdeal.main_v17_1)) (v14 : (c : Dev Cert.OptIdeal.nD) → Buf (Elt Ideal) ((c.tc : Thread Cert.OptIdeal.nD Cert.OptIdeal.τ).loc Cert.OptIdeal.main_v17_2)) (v15 : (c : Dev Cert.OptIdeal.nD) → Buf (Elt Ideal) ((c.tc : Thread Cert.OptIdeal.nD Cert.OptIdeal.τ).loc Cert.OptIdeal.main_v17_3)),
      θ_run (Cert.OptIdeal.defs (F := Ideal)) (onTc (τ := Cert.OptIdeal.τ) (Cert.OptIdeal.main (F := Ideal))) ⟨m, fun _ => 0, g⟩ (fun r => ∀ c : Dev Cert.OptIdeal.nD,
          r.2.mem ((c.tc : Thread Cert.OptIdeal.nD Cert.OptIdeal.τ).loc Cert.OptIdeal.main_v4) = v0 c
          ∧ r.2.mem ((c.tc : Thread Cert.OptIdeal.nD Cert.OptIdeal.τ).loc Cert.OptIdeal.main_v5) = v1 c
          ∧ r.2.mem ((c.tc : Thread Cert.OptIdeal.nD Cert.OptIdeal.τ).loc Cert.OptIdeal.main_v6) = v2 c
          ∧ r.2.mem ((c.tc : Thread Cert.OptIdeal.nD Cert.OptIdeal.τ).loc Cert.OptIdeal.main_v7) = v3 c
          ∧ r.2.mem ((c.tc : Thread Cert.OptIdeal.nD Cert.OptIdeal.τ).loc Cert.OptIdeal.main_v8_0) = v4 c
          ∧ r.2.mem ((c.tc : Thread Cert.OptIdeal.nD Cert.OptIdeal.τ).loc Cert.OptIdeal.main_v8_1) = v5 c
          ∧ r.2.mem ((c.tc : Thread Cert.OptIdeal.nD Cert.OptIdeal.τ).loc Cert.OptIdeal.main_v8_2) = v6 c
          ∧ r.2.mem ((c.tc : Thread Cert.OptIdeal.nD Cert.OptIdeal.τ).loc Cert.OptIdeal.main_v8_3) = v7 c
          ∧ r.2.mem ((c.tc : Thread Cert.OptIdeal.nD Cert.OptIdeal.τ).loc Cert.OptIdeal.main_v13) = v8 c
          ∧ r.2.mem ((c.tc : Thread Cert.OptIdeal.nD Cert.OptIdeal.τ).loc Cert.OptIdeal.main_v14) = v9 c
          ∧ r.2.mem ((c.tc : Thread Cert.OptIdeal.nD Cert.OptIdeal.τ).loc Cert.OptIdeal.main_v15) = v10 c
          ∧ r.2.mem ((c.tc : Thread Cert.OptIdeal.nD Cert.OptIdeal.τ).loc Cert.OptIdeal.main_v16) = v11 c
          ∧ r.2.mem ((c.tc : Thread Cert.OptIdeal.nD Cert.OptIdeal.τ).loc Cert.OptIdeal.main_v17_0) = v12 c
          ∧ r.2.mem ((c.tc : Thread Cert.OptIdeal.nD Cert.OptIdeal.τ).loc Cert.OptIdeal.main_v17_1) = v13 c
          ∧ r.2.mem ((c.tc : Thread Cert.OptIdeal.nD Cert.OptIdeal.τ).loc Cert.OptIdeal.main_v17_2) = v14 c
          ∧ r.2.mem ((c.tc : Thread Cert.OptIdeal.nD Cert.OptIdeal.τ).loc Cert.OptIdeal.main_v17_3) = v15 c
          ∧ r.2.mem ((c.tc : Thread Cert.OptIdeal.nD Cert.OptIdeal.τ).loc Cert.OptIdeal.main_arg0) = m ((c.tc : Thread Cert.OptIdeal.nD Cert.OptIdeal.τ).loc Cert.OptIdeal.main_arg0)
          ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
          ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
          ∧ r.2.mem ((c.tc : Thread Cert.OptIdeal.nD Cert.OptIdeal.τ).loc Cert.OptIdeal.main_arg3) = m ((c.tc : Thread Cert.OptIdeal.nD Cert.OptIdeal.τ).loc Cert.OptIdeal.main_arg3)
          ∧ r.2.mem ((c.tc : Thread Cert.OptIdeal.nD Cert.OptIdeal.τ).loc Cert.OptIdeal.main_arg4) = m ((c.tc : Thread Cert.OptIdeal.nD Cert.OptIdeal.τ).loc Cert.OptIdeal.main_arg4)
          ∧ r.2.mem ((c.tc : Thread Cert.OptIdeal.nD Cert.OptIdeal.τ).loc Cert.OptIdeal.main_arg5) = m ((c.tc : Thread Cert.OptIdeal.nD Cert.OptIdeal.τ).loc Cert.OptIdeal.main_arg5)
          ∧ r.2.mem ((c.tc : Thread Cert.OptIdeal.nD Cert.OptIdeal.τ).loc Cert.OptIdeal.main_arg6) = m ((c.tc : Thread Cert.OptIdeal.nD Cert.OptIdeal.τ).loc Cert.OptIdeal.main_arg6)
          ∧ r.2.mem ((c.tc : Thread Cert.OptIdeal.nD Cert.OptIdeal.τ).loc Cert.OptIdeal.main_arg7) = m ((c.tc : Thread Cert.OptIdeal.nD Cert.OptIdeal.τ).loc Cert.OptIdeal.main_arg7)
          ∧ r.2.mem ((c.tc : Thread Cert.OptIdeal.nD Cert.OptIdeal.τ).loc Cert.OptIdeal.main_arg8) = m ((c.tc : Thread Cert.OptIdeal.nD Cert.OptIdeal.τ).loc Cert.OptIdeal.main_arg8)
          ∧ r.2.mem ((c.tc : Thread Cert.OptIdeal.nD Cert.OptIdeal.τ).loc Cert.OptIdeal.main_arg9) = m ((c.tc : Thread Cert.OptIdeal.nD Cert.OptIdeal.τ).loc Cert.OptIdeal.main_arg9)
          ∧ r.2.mem ((c.tc : Thread Cert.OptIdeal.nD Cert.OptIdeal.τ).loc Cert.OptIdeal.main_arg10) = m ((c.tc : Thread Cert.OptIdeal.nD Cert.OptIdeal.τ).loc Cert.OptIdeal.main_arg10)
          ∧ r.2.mem ((c.tc : Thread Cert.OptIdeal.nD Cert.OptIdeal.τ).loc Cert.OptIdeal.main_arg11) = m ((c.tc : Thread Cert.OptIdeal.nD Cert.OptIdeal.τ).loc Cert.OptIdeal.main_arg11)
          ∧ r.2.mem ((c.tc : Thread Cert.OptIdeal.nD Cert.OptIdeal.τ).loc Cert.OptIdeal.main_arg12) = m ((c.tc : Thread Cert.OptIdeal.nD Cert.OptIdeal.τ).loc Cert.OptIdeal.main_arg12)
          ∧ r.2.mem ((c.tc : Thread Cert.OptIdeal.nD Cert.OptIdeal.τ).loc Cert.OptIdeal.main_arg13) = m ((c.tc : Thread Cert.OptIdeal.nD Cert.OptIdeal.τ).loc Cert.OptIdeal.main_arg13)
          ∧ r.2.mem ((c.tc : Thread Cert.OptIdeal.nD Cert.OptIdeal.τ).loc Cert.OptIdeal.main_arg14) = m ((c.tc : Thread Cert.OptIdeal.nD Cert.OptIdeal.τ).loc Cert.OptIdeal.main_arg14)
          ∧ r.2.mem ((c.tc : Thread Cert.OptIdeal.nD Cert.OptIdeal.τ).loc Cert.OptIdeal.main_arg15) = m ((c.tc : Thread Cert.OptIdeal.nD Cert.OptIdeal.τ).loc Cert.OptIdeal.main_arg15)
          ∧ r.2.mem ((c.tc : Thread Cert.OptIdeal.nD Cert.OptIdeal.τ).loc Cert.OptIdeal.main_arg16) = m ((c.tc : Thread Cert.OptIdeal.nD Cert.OptIdeal.τ).loc Cert.OptIdeal.main_arg16)
          ∧ r.2.mem ((c.tc : Thread Cert.OptIdeal.nD Cert.OptIdeal.τ).loc Cert.OptIdeal.main_arg17) = m ((c.tc : Thread Cert.OptIdeal.nD Cert.OptIdeal.τ).loc Cert.OptIdeal.main_arg17)
          ∧ r.2.mem ((c.tc : Thread Cert.OptIdeal.nD Cert.OptIdeal.τ).loc Cert.OptIdeal.main_arg18) = m ((c.tc : Thread Cert.OptIdeal.nD Cert.OptIdeal.τ).loc Cert.OptIdeal.main_arg18)
          ∧ r.2.mem ((c.tc : Thread Cert.OptIdeal.nD Cert.OptIdeal.τ).loc Cert.OptIdeal.main_arg19) = m ((c.tc : Thread Cert.OptIdeal.nD Cert.OptIdeal.τ).loc Cert.OptIdeal.main_arg19))
      ∧ θ_run (Cert.OptRefIdeal.defs (F := Ideal)) (onTc (τ := Cert.OptRefIdeal.τ) (Cert.OptRefIdeal.main (F := Ideal))) ⟨m', fun _ => 0, g'⟩ (fun r => ∀ c : Dev Cert.OptRefIdeal.nD,
          r.2.mem ((c.tc : Thread Cert.OptRefIdeal.nD Cert.OptRefIdeal.τ).loc Cert.OptRefIdeal.main_v7) = v0 c
          ∧ r.2.mem ((c.tc : Thread Cert.OptRefIdeal.nD Cert.OptRefIdeal.τ).loc Cert.OptRefIdeal.main_v53) = v1 c
          ∧ r.2.mem ((c.tc : Thread Cert.OptRefIdeal.nD Cert.OptRefIdeal.τ).loc Cert.OptRefIdeal.main_v34) = v2 c
          ∧ r.2.mem ((c.tc : Thread Cert.OptRefIdeal.nD Cert.OptRefIdeal.τ).loc Cert.OptRefIdeal.main_v40) = v3 c
          ∧ r.2.mem ((c.tc : Thread Cert.OptRefIdeal.nD Cert.OptRefIdeal.τ).loc Cert.OptRefIdeal.main_v14) = v4 c
          ∧ r.2.mem ((c.tc : Thread Cert.OptRefIdeal.nD Cert.OptRefIdeal.τ).loc Cert.OptRefIdeal.main_v77) = v5 c
          ∧ r.2.mem ((c.tc : Thread Cert.OptRefIdeal.nD Cert.OptRefIdeal.τ).loc Cert.OptRefIdeal.main_v58) = v6 c
          ∧ r.2.mem ((c.tc : Thread Cert.OptRefIdeal.nD Cert.OptRefIdeal.τ).loc Cert.OptRefIdeal.main_v64) = v7 c
          ∧ r.2.mem ((c.tc : Thread Cert.OptRefIdeal.nD Cert.OptRefIdeal.τ).loc Cert.OptRefIdeal.main_v22) = v8 c
          ∧ r.2.mem ((c.tc : Thread Cert.OptRefIdeal.nD Cert.OptRefIdeal.τ).loc Cert.OptRefIdeal.main_v101) = v9 c
          ∧ r.2.mem ((c.tc : Thread Cert.OptRefIdeal.nD Cert.OptRefIdeal.τ).loc Cert.OptRefIdeal.main_v82) = v10 c
          ∧ r.2.mem ((c.tc : Thread Cert.OptRefIdeal.nD Cert.OptRefIdeal.τ).loc Cert.OptRefIdeal.main_v88) = v11 c
          ∧ r.2.mem ((c.tc : Thread Cert.OptRefIdeal.nD Cert.OptRefIdeal.τ).loc Cert.OptRefIdeal.main_v29) = v12 c
          ∧ r.2.mem ((c.tc : Thread Cert.OptRefIdeal.nD Cert.OptRefIdeal.τ).loc Cert.OptRefIdeal.main_v125) = v13 c
          ∧ r.2.mem ((c.tc : Thread Cert.OptRefIdeal.nD Cert.OptRefIdeal.τ).loc Cert.OptRefIdeal.main_v106) = v14 c
          ∧ r.2.mem ((c.tc : Thread Cert.OptRefIdeal.nD Cert.OptRefIdeal.τ).loc Cert.OptRefIdeal.main_v112) = v15 c
          ∧ r.2.mem ((c.tc : Thread Cert.OptRefIdeal.nD Cert.OptRefIdeal.τ).loc Cert.OptRefIdeal.main_arg0) = m' ((c.tc : Thread Cert.OptRefIdeal.nD Cert.OptRefIdeal.τ).loc Cert.OptRefIdeal.main_arg0)
          ∧ r.2.mem ((c.tc : Thread Cert.OptRefIdeal.nD Cert.OptRefIdeal.τ).loc Cert.OptRefIdeal.main_arg1) = m' ((c.tc : Thread Cert.OptRefIdeal.nD Cert.OptRefIdeal.τ).loc Cert.OptRefIdeal.main_arg1)
          ∧ r.2.mem ((c.tc : Thread Cert.OptRefIdeal.nD Cert.OptRefIdeal.τ).loc Cert.OptRefIdeal.main_arg2) = m' ((c.tc : Thread Cert.OptRefIdeal.nD Cert.OptRefIdeal.τ).loc Cert.OptRefIdeal.main_arg2)
          ∧ r.2.mem ((c.tc : Thread Cert.OptRefIdeal.nD Cert.OptRefIdeal.τ).loc Cert.OptRefIdeal.main_arg3) = m' ((c.tc : Thread Cert.OptRefIdeal.nD Cert.OptRefIdeal.τ).loc Cert.OptRefIdeal.main_arg3)
          ∧ r.2.mem ((c.tc : Thread Cert.OptRefIdeal.nD Cert.OptRefIdeal.τ).loc Cert.OptRefIdeal.main_arg4) = m' ((c.tc : Thread Cert.OptRefIdeal.nD Cert.OptRefIdeal.τ).loc Cert.OptRefIdeal.main_arg4)
          ∧ r.2.mem ((c.tc : Thread Cert.OptRefIdeal.nD Cert.OptRefIdeal.τ).loc Cert.OptRefIdeal.main_arg5) = m' ((c.tc : Thread Cert.OptRefIdeal.nD Cert.OptRefIdeal.τ).loc Cert.OptRefIdeal.main_arg5)
          ∧ r.2.mem ((c.tc : Thread Cert.OptRefIdeal.nD Cert.OptRefIdeal.τ).loc Cert.OptRefIdeal.main_arg6) = m' ((c.tc : Thread Cert.OptRefIdeal.nD Cert.OptRefIdeal.τ).loc Cert.OptRefIdeal.main_arg6)
          ∧ r.2.mem ((c.tc : Thread Cert.OptRefIdeal.nD Cert.OptRefIdeal.τ).loc Cert.OptRefIdeal.main_arg7) = m' ((c.tc : Thread Cert.OptRefIdeal.nD Cert.OptRefIdeal.τ).loc Cert.OptRefIdeal.main_arg7)
          ∧ r.2.mem ((c.tc : Thread Cert.OptRefIdeal.nD Cert.OptRefIdeal.τ).loc Cert.OptRefIdeal.main_arg8) = m' ((c.tc : Thread Cert.OptRefIdeal.nD Cert.OptRefIdeal.τ).loc Cert.OptRefIdeal.main_arg8)
          ∧ r.2.mem ((c.tc : Thread Cert.OptRefIdeal.nD Cert.OptRefIdeal.τ).loc Cert.OptRefIdeal.main_arg9) = m' ((c.tc : Thread Cert.OptRefIdeal.nD Cert.OptRefIdeal.τ).loc Cert.OptRefIdeal.main_arg9)
          ∧ r.2.mem ((c.tc : Thread Cert.OptRefIdeal.nD Cert.OptRefIdeal.τ).loc Cert.OptRefIdeal.main_arg10) = m' ((c.tc : Thread Cert.OptRefIdeal.nD Cert.OptRefIdeal.τ).loc Cert.OptRefIdeal.main_arg10)
          ∧ r.2.mem ((c.tc : Thread Cert.OptRefIdeal.nD Cert.OptRefIdeal.τ).loc Cert.OptRefIdeal.main_arg11) = m' ((c.tc : Thread Cert.OptRefIdeal.nD Cert.OptRefIdeal.τ).loc Cert.OptRefIdeal.main_arg11)
          ∧ r.2.mem ((c.tc : Thread Cert.OptRefIdeal.nD Cert.OptRefIdeal.τ).loc Cert.OptRefIdeal.main_arg12) = m' ((c.tc : Thread Cert.OptRefIdeal.nD Cert.OptRefIdeal.τ).loc Cert.OptRefIdeal.main_arg12)
          ∧ r.2.mem ((c.tc : Thread Cert.OptRefIdeal.nD Cert.OptRefIdeal.τ).loc Cert.OptRefIdeal.main_arg13) = m' ((c.tc : Thread Cert.OptRefIdeal.nD Cert.OptRefIdeal.τ).loc Cert.OptRefIdeal.main_arg13)
          ∧ r.2.mem ((c.tc : Thread Cert.OptRefIdeal.nD Cert.OptRefIdeal.τ).loc Cert.OptRefIdeal.main_arg14) = m' ((c.tc : Thread Cert.OptRefIdeal.nD Cert.OptRefIdeal.τ).loc Cert.OptRefIdeal.main_arg14)
          ∧ r.2.mem ((c.tc : Thread Cert.OptRefIdeal.nD Cert.OptRefIdeal.τ).loc Cert.OptRefIdeal.main_arg15) = m' ((c.tc : Thread Cert.OptRefIdeal.nD Cert.OptRefIdeal.τ).loc Cert.OptRefIdeal.main_arg15)
          ∧ r.2.mem ((c.tc : Thread Cert.OptRefIdeal.nD Cert.OptRefIdeal.τ).loc Cert.OptRefIdeal.main_arg16) = m' ((c.tc : Thread Cert.OptRefIdeal.nD Cert.OptRefIdeal.τ).loc Cert.OptRefIdeal.main_arg16)
          ∧ r.2.mem ((c.tc : Thread Cert.OptRefIdeal.nD Cert.OptRefIdeal.τ).loc Cert.OptRefIdeal.main_arg17) = m' ((c.tc : Thread Cert.OptRefIdeal.nD Cert.OptRefIdeal.τ).loc Cert.OptRefIdeal.main_arg17)
          ∧ r.2.mem ((c.tc : Thread Cert.OptRefIdeal.nD Cert.OptRefIdeal.τ).loc Cert.OptRefIdeal.main_arg18) = m' ((c.tc : Thread Cert.OptRefIdeal.nD Cert.OptRefIdeal.τ).loc Cert.OptRefIdeal.main_arg18)
          ∧ r.2.mem ((c.tc : Thread Cert.OptRefIdeal.nD Cert.OptRefIdeal.τ).loc Cert.OptRefIdeal.main_arg19) = m' ((c.tc : Thread Cert.OptRefIdeal.nD Cert.OptRefIdeal.τ).loc Cert.OptRefIdeal.main_arg19))

def Claim : Prop :=
  ∃ (hFfn : Cert.Ffn.Facts) (hFfnIdeal : Cert.FfnIdeal.Facts) (hFfnRefIdeal : Cert.FfnRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hOpt : Cert.Opt.Facts) (hOptIdeal : Cert.OptIdeal.Facts) (hOptRefIdeal : Cert.OptRefIdeal.Facts),
    quiescent_Ffn (hFfn := hFfn)
    ∧ quiescent_FfnIdeal (hFfnIdeal := hFfnIdeal)
    ∧ quiescent_FfnRefIdeal (hFfnRefIdeal := hFfnRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Opt (hOpt := hOpt)
    ∧ quiescent_OptIdeal (hOptIdeal := hOptIdeal)
    ∧ quiescent_OptRefIdeal (hOptRefIdeal := hOptRefIdeal)
    ∧ preserves_Ffn_FfnIdeal
    ∧ preserves_MixIn_MixInIdeal
    ∧ preserves_MixOut_MixOutIdeal
    ∧ preserves_Opt_OptIdeal
    ∧ algebraic_FfnIdeal_FfnRefIdeal (hFfnIdeal := hFfnIdeal) (hFfnRefIdeal := hFfnRefIdeal)
    ∧ algebraic_MixInIdeal_MixInRefIdeal (hMixInIdeal := hMixInIdeal) (hMixInRefIdeal := hMixInRefIdeal)
    ∧ algebraic_MixOutIdeal_MixOutRefIdeal (hMixOutIdeal := hMixOutIdeal) (hMixOutRefIdeal := hMixOutRefIdeal)
    ∧ algebraic_OptIdeal_OptRefIdeal (hOptIdeal := hOptIdeal) (hOptRefIdeal := hOptRefIdeal)
-- ==== Ffn.lean ====
abbrev S2048x1024 : Shape := ⟨2, ![2048, 1024]⟩
abbrev S5632x1024 : Shape := ⟨2, ![5632, 1024]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S2x22x128x1024 : Shape := ⟨4, ![2, 22, 128, 1024]⟩
abbrev S22x2x128x1024 : Shape := ⟨4, ![22, 2, 128, 1024]⟩
abbrev S3x2x22x128 : Shape := ⟨4, ![3, 2, 22, 128]⟩
abbrev S3x22x2x128 : Shape := ⟨4, ![3, 22, 2, 128]⟩
abbrev S1x5632 : Shape := ⟨2, ![1, 5632]⟩
abbrev S1x2x22x128 : Shape := ⟨4, ![1, 2, 22, 128]⟩
abbrev S1x22x2x128 : Shape := ⟨4, ![1, 22, 2, 128]⟩
abbrev S1x1024 : Shape := ⟨2, ![1, 1024]⟩
abbrev S2048x5632 : Shape := ⟨2, ![2048, 5632]⟩
abbrev S512x1024 : Shape := ⟨2, ![512, 1024]⟩
abbrev S2048x512 : Shape := ⟨2, ![2048, 512]⟩
abbrev S2048x2816 : Shape := ⟨2, ![2048, 2816]⟩
abbrev S2048x256 : Shape := ⟨2, ![2048, 256]⟩
abbrev S3x256 : Shape := ⟨2, ![3, 256]⟩
abbrev S1x256 : Shape := ⟨2, ![1, 256]⟩
abbrev S2048x128 : Shape := ⟨2, ![2048, 128]⟩
abbrev S1x128 : Shape := ⟨2, ![1, 128]⟩
abbrev S512x2816 : Shape := ⟨2, ![512, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1408x1024 : Shape := ⟨2, ![1408, 1024]⟩
abbrev S2048x1408 : Shape := ⟨2, ![2048, 1408]⟩
abbrev S1408x512 : Shape := ⟨2, ![1408, 512]⟩
abbrev S128 : Shape := ⟨1, ![128]⟩
abbrev S512x5632 : Shape := ⟨2, ![512, 5632]⟩
abbrev S_ : Shape := ⟨0, ![]⟩

abbrev nBuf : Space → Nat
  | .hbm => 44
  | .vmem => 71
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S5632x1024, .bf16⟩
  | .hbm, ⟨3, _⟩ => ⟨S3x5632, .f32⟩
  | .hbm, ⟨4, _⟩ => ⟨S5632, .f32⟩
  | .hbm, ⟨5, _⟩ => ⟨S2816x1024, .bf16⟩
  | .hbm, ⟨6, _⟩ => ⟨S1024, .f32⟩
  | .hbm, ⟨7, _⟩ => ⟨S2048x1024, .f32⟩
  | .hbm, ⟨8, _⟩ => ⟨S2x22x128x1024, .bf16⟩
  | .hbm, ⟨9, _⟩ => ⟨S22x2x128x1024, .bf16⟩
  | .hbm, ⟨10, _⟩ => ⟨S5632x1024, .bf16⟩
  | .hbm, ⟨11, _⟩ => ⟨S3x2x22x128, .f32⟩
  | .hbm, ⟨12, _⟩ => ⟨S3x22x2x128, .f32⟩
  | .hbm, ⟨13, _⟩ => ⟨S3x5632, .f32⟩
  | .hbm, ⟨14, _⟩ => ⟨S1x5632, .f32⟩
  | .hbm, ⟨15, _⟩ => ⟨S1x2x22x128, .f32⟩
  | .hbm, ⟨16, _⟩ => ⟨S1x22x2x128, .f32⟩
  | .hbm, ⟨17, _⟩ => ⟨S1x5632, .f32⟩
  | .hbm, ⟨18, _⟩ => ⟨S1x1024, .f32⟩
  | .hbm, ⟨19, _⟩ => ⟨S2048x5632, .bf16⟩
  | .hbm, ⟨20, _⟩ => ⟨S2048x2816, .bf16⟩
  | .hbm, ⟨21, _⟩ => ⟨S2048x1024, .f32⟩
  | .hbm, ⟨22, _⟩ => ⟨S1x128, .f32⟩
  | .hbm, ⟨23, _⟩ => ⟨S2048x1024, .f32⟩
  | .hbm, ⟨24, _⟩ => ⟨S2048x1024, .bf16⟩
  | .hbm, ⟨25, _⟩ => ⟨S1x1024, .f32⟩
  | .hbm, ⟨26, _⟩ => ⟨S2048x2816, .bf16⟩
  | .hbm, ⟨27, _⟩ => ⟨S2816x1024, .bf16⟩
  | .hbm, ⟨28, _⟩ => ⟨S2048x5632, .bf16⟩
  | .hbm, ⟨29, _⟩ => ⟨S3x5632, .f32⟩
  | .hbm, ⟨30, _⟩ => ⟨S1x5632, .f32⟩
  | .hbm, ⟨31, _⟩ => ⟨S2048x1024, .f32⟩
  | .hbm, ⟨32, _⟩ => ⟨S5632x1024, .bf16⟩
  | .hbm, ⟨33, _⟩ => ⟨S1x1, .f32⟩
  | .hbm, ⟨34, _⟩ => ⟨S_, .f32⟩
  | .hbm, ⟨35, _⟩ => ⟨S22x2x128x1024, .bf16⟩
  | .hbm, ⟨36, _⟩ => ⟨S2x22x128x1024, .bf16⟩
  | .hbm, ⟨37, _⟩ => ⟨S5632x1024, .bf16⟩
  | .hbm, ⟨38, _⟩ => ⟨S3x22x2x128, .f32⟩
  | .hbm, ⟨39, _⟩ => ⟨S3x2x22x128, .f32⟩
  | .hbm, ⟨40, _⟩ => ⟨S3x5632, .f32⟩
  | .hbm, ⟨41, _⟩ => ⟨S1x22x2x128, .f32⟩
  | .hbm, ⟨42, _⟩ => ⟨S1x2x22x128, .f32⟩
  | .hbm, ⟨43, _⟩ => ⟨S1x5632, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x256, .bf16⟩
  | .local _ .vmem, ⟨6, _⟩ => ⟨S2048x256, .bf16⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S2048x128, .bf16⟩
  | .local _ .vmem, ⟨12, _⟩ => ⟨S2048x128, .bf16⟩
  | .local _ .vmem, ⟨13, _⟩ => ⟨S512x2816, .bf16⟩
  | .local _ .vmem, ⟨14, _⟩ => ⟨S512x2816, .bf16⟩
  | .local _ .vmem, ⟨15, _⟩ => ⟨S2816x1024, .bf16⟩
  | .local _ .vmem, ⟨16, _⟩ => ⟨S512x1024, .f32⟩
  | .local _ .vmem, ⟨17, _⟩ => ⟨S512x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S1x128, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S1x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .bf16⟩
  | .local _ .vmem, ⟨34, _⟩ => ⟨S256x1024, .bf16⟩
  | .local _ .vmem, ⟨35, _⟩ => ⟨S1x1024, .f32⟩
  | .local _ .vmem, ⟨36, _⟩ => ⟨S2048x1024, .bf16⟩
  | .local _ .vmem, ⟨37, _⟩ => ⟨S1408x1024, .bf16⟩
  | .local _ .vmem, ⟨38, _⟩ => ⟨S1408x1024, .bf16⟩
  | .local _ .vmem, ⟨39, _⟩ => ⟨S2048x1408, .bf16⟩
  | .local _ .vmem, ⟨40, _⟩ => ⟨S2048x1408, .bf16⟩
  | .local _ .vmem, ⟨41, _⟩ => ⟨S2048x1408, .bf16⟩
  | .local _ .vmem, ⟨42, _⟩ => ⟨S2048x1408, .bf16⟩
  | .local _ .vmem, ⟨43, _⟩ => ⟨S2048x512, .bf16⟩
  | .local _ .vmem, ⟨44, _⟩ => ⟨S2048x512, .bf16⟩
  | .local _ .vmem, ⟨45, _⟩ => ⟨S1408x512, .bf16⟩
  | .local _ .vmem, ⟨46, _⟩ => ⟨S1408x512, .bf16⟩
  | .local _ .vmem, ⟨47, _⟩ => ⟨S2048x256, .bf16⟩
  | .local _ .vmem, ⟨48, _⟩ => ⟨S2048x256, .bf16⟩
  | .local _ .vmem, ⟨49, _⟩ => ⟨S3x256, .f32⟩
  | .local _ .vmem, ⟨50, _⟩ => ⟨S3x256, .f32⟩
  | .local _ .vmem, ⟨51, _⟩ => ⟨S1x256, .f32⟩
  | .local _ .vmem, ⟨52, _⟩ => ⟨S1x256, .f32⟩
  | .local _ .vmem, ⟨53, _⟩ => ⟨S2048x128, .bf16⟩
  | .local _ .vmem, ⟨54, _⟩ => ⟨S2048x128, .bf16⟩
  | .local _ .vmem, ⟨55, _⟩ => ⟨S2048x256, .bf16⟩
  | .local _ .vmem, ⟨56, _⟩ => ⟨S2048x256, .bf16⟩
  | .local _ .vmem, ⟨57, _⟩ => ⟨S3x256, .f32⟩
  | .local _ .vmem, ⟨58, _⟩ => ⟨S3x256, .f32⟩
  | .local _ .vmem, ⟨59, _⟩ => ⟨S1x256, .f32⟩
  | .local _ .vmem, ⟨60, _⟩ => ⟨S1x256, .f32⟩
  | .local _ .vmem, ⟨61, _⟩ => ⟨S512x5632, .bf16⟩
  | .local _ .vmem, ⟨62, _⟩ => ⟨S512x5632, .bf16⟩
  | .local _ .vmem, ⟨63, _⟩ => ⟨S5632x1024, .bf16⟩
  | .local _ .vmem, ⟨64, _⟩ => ⟨S512x1024, .f32⟩
  | .local _ .vmem, ⟨65, _⟩ => ⟨S512x1024, .f32⟩
  | .local _ .vmem, ⟨66, _⟩ => ⟨S2048x512, .bf16⟩
  | .local _ .vmem, ⟨67, _⟩ => ⟨S2048x512, .bf16⟩
  | .local _ .vmem, ⟨68, _⟩ => ⟨S2048x1024, .bf16⟩
  | .local _ .vmem, ⟨69, _⟩ => ⟨S512x1024, .bf16⟩
  | .local _ .vmem, ⟨70, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15_0 : Ref sig .tc := ⟨.hbm, 24, rfl⟩
abbrev main_v15_1 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc5_stg0_0 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg3_1 : Ref sig .tc := ⟨.vmem, 54, rfl⟩
abbrev cc7_stg4_0 : Ref sig .tc := ⟨.vmem, 55, rfl⟩
abbrev cc7_stg4_1 : Ref sig .tc := ⟨.vmem, 56, rfl⟩
abbrev cc7_stg5_0 : Ref sig .tc := ⟨.vmem, 57, rfl⟩
abbrev cc7_stg5_1 : Ref sig .tc := ⟨.vmem, 58, rfl⟩
abbrev cc7_stg6_0 : Ref sig .tc := ⟨.vmem, 59, rfl⟩
abbrev cc7_stg6_1 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg2_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg2_1 : Ref sig .tc := ⟨.vmem, 70, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem3_1 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc5_sem0_0 : DmaSem sig := 36
abbrev cc5_sem1_0 : DmaSem sig := 37
abbrev cc5_sem1_1 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem3_1 : DmaSem sig := 54
abbrev cc7_sem4_0 : DmaSem sig := 55
abbrev cc7_sem4_1 : DmaSem sig := 56
abbrev cc7_sem5_0 : DmaSem sig := 57
abbrev cc7_sem5_1 : DmaSem sig := 58
abbrev cc7_sem6_0 : DmaSem sig := 59
abbrev cc7_sem6_1 : DmaSem sig := 60
abbrev cc8_sem0_0 : DmaSem sig := 61
abbrev cc8_sem0_1 : DmaSem sig := 62
abbrev cc8_sem1_0 : DmaSem sig := 63
abbrev cc8_sem2_0 : DmaSem sig := 64
abbrev cc8_sem2_1 : DmaSem sig := 65
abbrev cc9_sem0_0 : DmaSem sig := 66
abbrev cc9_sem0_1 : DmaSem sig := 67
abbrev cc9_sem1_0 : DmaSem sig := 68
abbrev cc9_sem2_0 : DmaSem sig := 69
abbrev cc9_sem2_1 : DmaSem sig := 70

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨3, ![1, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S1408x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2048x1408 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1408x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨1, ![22], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S2048x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S3x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2048x128 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2048x256 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S3x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨3, ![4, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S512x5632 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S5632x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![11, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S2048x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 1 → Memref sig .tc .vmem S2048x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 2 → Memref sig .tc .vmem S512x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]
-- ==== FfnRefIdeal.lean ====
abbrev S2048x1024 : Shape := ⟨2, ![2048, 1024]⟩
abbrev S5632x1024 : Shape := ⟨2, ![5632, 1024]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1024x5632 : Shape := ⟨2, ![1024, 5632]⟩
abbrev S2048x5632 : Shape := ⟨2, ![2048, 5632]⟩
abbrev S1x5632 : Shape := ⟨2, ![1, 5632]⟩
abbrev S_ : Shape := ⟨0, ![]⟩
abbrev S2x5632 : Shape := ⟨2, ![2, 5632]⟩
abbrev S2046x5632 : Shape := ⟨2, ![2046, 5632]⟩
abbrev S2047x5632 : Shape := ⟨2, ![2047, 5632]⟩
abbrev S2048x2816 : Shape := ⟨2, ![2048, 2816]⟩
abbrev S2048 : Shape := ⟨1, ![2048]⟩
abbrev S2048x1 : Shape := ⟨2, ![2048, 1]⟩
abbrev S1x1024 : Shape := ⟨2, ![1, 1024]⟩
abbrev S1024x2816 : Shape := ⟨2, ![1024, 2816]⟩

abbrev nBuf : Space → Nat
  | .hbm => 225
  | .vmem => 0
  | .smem => 0
  | _ => 0

abbrev hbmTy0_0 (i : Nat) : BufTy := match i % 128 with
  | 0 => ⟨S2048x1024, .f32⟩
  | 1 => ⟨S2048x1024, .bf16⟩
  | 2 => ⟨S5632x1024, .bf16⟩
  | 3 => ⟨S3x5632, .f32⟩
  | 4 => ⟨S5632, .f32⟩
  | 5 => ⟨S2816x1024, .bf16⟩
  | 6 => ⟨S1024, .f32⟩
  | 7 => ⟨S2048x1024, .f32⟩
  | 8 => ⟨S2048x1024, .f32⟩
  | 9 => ⟨S5632x1024, .f32⟩
  | 10 => ⟨S2816x1024, .f32⟩
  | 11 => ⟨S1024x5632, .f32⟩
  | 12 => ⟨S2048x5632, .f32⟩
  | 13 => ⟨S1x5632, .f32⟩
  | 14 => ⟨S5632, .f32⟩
  | 15 => ⟨S1x5632, .f32⟩
  | 16 => ⟨S2048x5632, .f32⟩
  | 17 => ⟨S2048x5632, .f32⟩
  | 18 => ⟨S1x5632, .f32⟩
  | 19 => ⟨S5632, .f32⟩
  | 20 => ⟨S_, .f32⟩
  | 21 => ⟨S2x5632, .f32⟩
  | 22 => ⟨S2046x5632, .f32⟩
  | 23 => ⟨S2048x5632, .f32⟩
  | 24 => ⟨S_, .f32⟩
  | 25 => ⟨S2x5632, .f32⟩
  | 26 => ⟨S1x5632, .f32⟩
  | 27 => ⟨S2048x5632, .f32⟩
  | 28 => ⟨S2048x5632, .f32⟩
  | 29 => ⟨S2048x5632, .f32⟩
  | 30 => ⟨S1x5632, .f32⟩
  | 31 => ⟨S5632, .f32⟩
  | 32 => ⟨S_, .f32⟩
  | 33 => ⟨S1x5632, .f32⟩
  | 34 => ⟨S2047x5632, .f32⟩
  | 35 => ⟨S2048x5632, .f32⟩
  | 36 => ⟨S_, .f32⟩
  | 37 => ⟨S1x5632, .f32⟩
  | 38 => ⟨S1x5632, .f32⟩
  | 39 => ⟨S2048x5632, .f32⟩
  | 40 => ⟨S2048x5632, .f32⟩
  | 41 => ⟨S2048x5632, .f32⟩
  | 42 => ⟨S1x5632, .f32⟩
  | 43 => ⟨S2048x5632, .f32⟩
  | 44 => ⟨S2048x5632, .f32⟩
  | 45 => ⟨S2048x2816, .f32⟩
  | 46 => ⟨S2048x2816, .f32⟩
  | 47 => ⟨S2048x2816, .f32⟩
  | 48 => ⟨S2048x2816, .f32⟩
  | 49 => ⟨S2048x2816, .f32⟩
  | 50 => ⟨S_, .f32⟩
  | 51 => ⟨S2048x2816, .f32⟩
  | 52 => ⟨S2048x2816, .f32⟩
  | 53 => ⟨S_, .f32⟩
  | 54 => ⟨S2048x2816, .f32⟩
  | 55 => ⟨S2048x2816, .f32⟩
  | 56 => ⟨S2048x2816, .f32⟩
  | 57 => ⟨S_, .f32⟩
  | 58 => ⟨S2048x2816, .f32⟩
  | 59 => ⟨S2048x2816, .f32⟩
  | 60 => ⟨S2048x2816, .f32⟩
  | 61 => ⟨S_, .f32⟩
  | 62 => ⟨S2048x2816, .f32⟩
  | 63 => ⟨S2048x2816, .f32⟩
  | 64 => ⟨S_, .f32⟩
  | 65 => ⟨S2048x2816, .f32⟩
  | 66 => ⟨S2048x2816, .f32⟩
  | 67 => ⟨S2048x2816, .f32⟩
  | 68 => ⟨S_, .f32⟩
  | 69 => ⟨S2048x2816, .f32⟩
  | 70 => ⟨S2048x2816, .f32⟩
  | 71 => ⟨S_, .f32⟩
  | 72 => ⟨S2048x2816, .f32⟩
  | 73 => ⟨S2048x2816, .f32⟩
  | 74 => ⟨S2048x2816, .f32⟩
  | 75 => ⟨S2048x2816, .f32⟩
  | 76 => ⟨S2048x1024, .f32⟩
  | 77 => ⟨S2048x1024, .f32⟩
  | 78 => ⟨S_, .f32⟩
  | 79 => ⟨S2048, .f32⟩
  | 80 => ⟨S2048x1, .f32⟩
  | 81 => ⟨S_, .f32⟩
  | 82 => ⟨S2048x1, .f32⟩
  | 83 => ⟨S2048x1, .f32⟩
  | 84 => ⟨S_, .f32⟩
  | 85 => ⟨S2048x1, .f32⟩
  | 86 => ⟨S2048x1, .f32⟩
  | 87 => ⟨S2048x1, .f32⟩
  | 88 => ⟨S2048x1, .f32⟩
  | 89 => ⟨S_, .f32⟩
  | 90 => ⟨S2048x1, .f32⟩
  | 91 => ⟨S2048x1, .f32⟩
  | 92 => ⟨S2048x1024, .f32⟩
  | 93 => ⟨S2048x1024, .f32⟩
  | 94 => ⟨S1x1024, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S_, .f32⟩
  | 101 => ⟨S2048x1024, .f32⟩
  | 102 => ⟨S2048x1024, .f32⟩
  | 103 => ⟨S_, .f32⟩
  | 104 => ⟨S2048, .f32⟩
  | 105 => ⟨S_, .f32⟩
  | 106 => ⟨S2048, .f32⟩
  | 107 => ⟨S2048, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S2048, .f32⟩
  | 116 => ⟨S_, .f32⟩
  | 117 => ⟨S2048, .f32⟩
  | 118 => ⟨S2048, .f32⟩
  | 119 => ⟨S2048x1024, .f32⟩
  | 120 => ⟨S2048x1024, .f32⟩
  | 121 => ⟨S2048x1024, .f32⟩
  | 122 => ⟨S_, .f32⟩
  | 123 => ⟨S1024, .f32⟩
  | 124 => ⟨S1x1024, .f32⟩
  | 125 => ⟨S2048x1024, .f32⟩
  | 126 => ⟨S2048x1024, .f32⟩
  | 127 => ⟨S_, .f32⟩
  | _ => ⟨S2048x1024, .f32⟩

abbrev hbmTy0_1 (i : Nat) : BufTy := match i % 128 with
  | 0 => ⟨S1024, .f32⟩
  | 1 => ⟨S2048x1024, .f32⟩
  | 2 => ⟨S_, .f32⟩
  | 3 => ⟨S2048, .f32⟩
  | 4 => ⟨S2048x1, .f32⟩
  | 5 => ⟨S2048x1024, .f32⟩
  | 6 => ⟨S2048x1024, .f32⟩
  | 7 => ⟨S2048x1, .f32⟩
  | 8 => ⟨S_, .f32⟩
  | 9 => ⟨S2048x1, .f32⟩
  | 10 => ⟨S2048x1, .f32⟩
  | 11 => ⟨S_, .f32⟩
  | 12 => ⟨S2048, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S1024x2816, .f32⟩
  | 19 => ⟨S2816x1024, .f32⟩
  | 20 => ⟨S2048x2816, .f32⟩
  | 21 => ⟨S2048x2816, .f32⟩
  | 22 => ⟨S2048x2816, .f32⟩
  | 23 => ⟨S2048x2816, .f32⟩
  | 24 => ⟨S2048x2816, .f32⟩
  | 25 => ⟨S_, .f32⟩
  | 26 => ⟨S2048x2816, .f32⟩
  | 27 => ⟨S2048x2816, .f32⟩
  | 28 => ⟨S2048x2816, .f32⟩
  | 29 => ⟨S_, .f32⟩
  | 30 => ⟨S2048x2816, .f32⟩
  | 31 => ⟨S2048x2816, .f32⟩
  | 32 => ⟨S2048x2816, .f32⟩
  | 33 => ⟨S_, .f32⟩
  | 34 => ⟨S2048x2816, .f32⟩
  | 35 => ⟨S2048x2816, .f32⟩
  | 36 => ⟨S2048x2816, .f32⟩
  | 37 => ⟨S2048x2816, .f32⟩
  | 38 => ⟨S2048x5632, .f32⟩
  | 39 => ⟨S_, .f32⟩
  | 40 => ⟨S5632, .f32⟩
  | 41 => ⟨S1x5632, .f32⟩
  | 42 => ⟨S_, .f32⟩
  | 43 => ⟨S5632, .f32⟩
  | 44 => ⟨S2048x5632, .f32⟩
  | 45 => ⟨S2048x5632, .f32⟩
  | 46 => ⟨S2048x5632, .f32⟩
  | 47 => ⟨S_, .f32⟩
  | 48 => ⟨S5632, .f32⟩
  | 49 => ⟨S1x5632, .f32⟩
  | 50 => ⟨S_, .f32⟩
  | 51 => ⟨S5632, .f32⟩
  | 52 => ⟨S1x5632, .f32⟩
  | 53 => ⟨S2047x5632, .f32⟩
  | 54 => ⟨S_, .f32⟩
  | 55 => ⟨S2048x5632, .f32⟩
  | 56 => ⟨S1x5632, .f32⟩
  | 57 => ⟨S_, .f32⟩
  | 58 => ⟨S3x5632, .f32⟩
  | 59 => ⟨S2048x5632, .f32⟩
  | 60 => ⟨S2048x5632, .f32⟩
  | 61 => ⟨S2048x5632, .f32⟩
  | 62 => ⟨S_, .f32⟩
  | 63 => ⟨S5632, .f32⟩
  | 64 => ⟨S1x5632, .f32⟩
  | 65 => ⟨S_, .f32⟩
  | 66 => ⟨S5632, .f32⟩
  | 67 => ⟨S2x5632, .f32⟩
  | 68 => ⟨S2046x5632, .f32⟩
  | 69 => ⟨S_, .f32⟩
  | 70 => ⟨S2048x5632, .f32⟩
  | 71 => ⟨S2048x5632, .f32⟩
  | 72 => ⟨S1x5632, .f32⟩
  | 73 => ⟨S_, .f32⟩
  | 74 => ⟨S3x5632, .f32⟩
  | 75 => ⟨S3x5632, .f32⟩
  | 76 => ⟨S2048x5632, .f32⟩
  | 77 => ⟨S_, .f32⟩
  | 78 => ⟨S5632, .f32⟩
  | 79 => ⟨S1x5632, .f32⟩
  | 80 => ⟨S2048x5632, .f32⟩
  | 81 => ⟨S2048x5632, .f32⟩
  | 82 => ⟨S2048x5632, .f32⟩
  | 83 => ⟨S_, .f32⟩
  | 84 => ⟨S5632, .f32⟩
  | 85 => ⟨S1x5632, .f32⟩
  | 86 => ⟨S_, .f32⟩
  | 87 => ⟨S3x5632, .f32⟩
  | 88 => ⟨S3x5632, .f32⟩
  | 89 => ⟨S5632x1024, .f32⟩
  | 90 => ⟨S1024x5632, .f32⟩
  | 91 => ⟨S2048x1024, .f32⟩
  | 92 => ⟨S5632x1024, .f32⟩
  | 93 => ⟨S5632x1024, .bf16⟩
  | 94 => ⟨S1x5632, .f32⟩
  | 95 => ⟨S2816x1024, .bf16⟩
  | 96 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_14 : Ref sig .tc := ⟨.hbm, 100, rfl⟩
abbrev main_v77 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_cst_16 : Ref sig .tc := ⟨.hbm, 105, rfl⟩
abbrev main_v80 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩
abbrev main_cst_18 : Ref sig .tc := ⟨.hbm, 110, rfl⟩
abbrev main_v83 : Ref sig .tc := ⟨.hbm, 111, rfl⟩
abbrev main_cst_19 : Ref sig .tc := ⟨.hbm, 112, rfl⟩
abbrev main_cst_20 : Ref sig .tc := ⟨.hbm, 113, rfl⟩
abbrev main_v84 : Ref sig .tc := ⟨.hbm, 114, rfl⟩
abbrev main_v85 : Ref sig .tc := ⟨.hbm, 115, rfl⟩
abbrev main_cst_21 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_22 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_23 : Ref sig .tc := ⟨.hbm, 127, rfl⟩
abbrev main_v95 : Ref sig .tc := ⟨.hbm, 128, rfl⟩
abbrev main_v96 : Ref sig .tc := ⟨.hbm, 129, rfl⟩
abbrev main_cst_24 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_25 : Ref sig .tc := ⟨.hbm, 136, rfl⟩
abbrev main_v102 : Ref sig .tc := ⟨.hbm, 137, rfl⟩
abbrev main_v103 : Ref sig .tc := ⟨.hbm, 138, rfl⟩
abbrev main_cst_26 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_27 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_28 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_29 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_30 : Ref sig .tc := ⟨.hbm, 167, rfl⟩
abbrev main_v128 : Ref sig .tc := ⟨.hbm, 168, rfl⟩
abbrev main_v129 : Ref sig .tc := ⟨.hbm, 169, rfl⟩
abbrev main_cst_31 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_32 : Ref sig .tc := ⟨.hbm, 175, rfl⟩
abbrev main_v134 : Ref sig .tc := ⟨.hbm, 176, rfl⟩
abbrev main_v135 : Ref sig .tc := ⟨.hbm, 177, rfl⟩
abbrev main_cst_33 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_34 : Ref sig .tc := ⟨.hbm, 182, rfl⟩
abbrev main_v139 : Ref sig .tc := ⟨.hbm, 183, rfl⟩
abbrev main_v140 : Ref sig .tc := ⟨.hbm, 184, rfl⟩
abbrev main_cst_35 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_cst_36 : Ref sig .tc := ⟨.hbm, 190, rfl⟩
abbrev main_v145 : Ref sig .tc := ⟨.hbm, 191, rfl⟩
abbrev main_v146 : Ref sig .tc := ⟨.hbm, 192, rfl⟩
abbrev main_cst_37 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_38 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_39 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_40 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_41 : Ref sig .tc := ⟨.hbm, 211, rfl⟩
abbrev main_v161 : Ref sig .tc := ⟨.hbm, 212, rfl⟩
abbrev main_v162 : Ref sig .tc := ⟨.hbm, 213, rfl⟩
abbrev main_cst_42 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩

abbrev nD : Nat := 1
abbrev τ : Topo := Topo.v7x

variable {F : FTy → Type} [FloatOps F]
-- ==== MixIn.lean ====
abbrev S2048x1024 : Shape := ⟨2, ![2048, 1024]⟩
abbrev S1024 : Shape := ⟨1, ![1024]⟩
abbrev S3592x1024 : Shape := ⟨2, ![3592, 1024]⟩
abbrev S4x1536 : Shape := ⟨2, ![4, 1536]⟩
abbrev S2048x1536 : Shape := ⟨2, ![2048, 1536]⟩
abbrev S2048x520 : Shape := ⟨2, ![2048, 520]⟩
abbrev S1x1024 : Shape := ⟨2, ![1, 1024]⟩
abbrev S1536x1024 : Shape := ⟨2, ![1536, 1024]⟩
abbrev S3x4x128x1024 : Shape := ⟨4, ![3, 4, 128, 1024]⟩
abbrev S4x3x128x1024 : Shape := ⟨4, ![4, 3, 128, 1024]⟩
abbrev S2056x1024 : Shape := ⟨2, ![2056, 1024]⟩
abbrev S_ : Shape := ⟨0, ![]⟩
abbrev S3840x1024 : Shape := ⟨2, ![3840, 1024]⟩
abbrev S2048x3x4x128 : Shape := ⟨4, ![2048, 3, 4, 128]⟩
abbrev S2048x4x3x128 : Shape := ⟨4, ![2048, 4, 3, 128]⟩
abbrev S2048x248 : Shape := ⟨2, ![2048, 248]⟩
abbrev S2048x3840 : Shape := ⟨2, ![2048, 3840]⟩
abbrev S256x1024 : Shape := ⟨2, ![256, 1024]⟩
abbrev S256 : Shape := ⟨1, ![256]⟩
abbrev S256x1 : Shape := ⟨2, ![256, 1]⟩
abbrev S768x1024 : Shape := ⟨2, ![768, 1024]⟩
abbrev S2048x768 : Shape := ⟨2, ![2048, 768]⟩
abbrev S2048x128 : Shape := ⟨2, ![2048, 128]⟩
abbrev S4x128 : Shape := ⟨2, ![4, 128]⟩
abbrev S1x128 : Shape := ⟨2, ![1, 128]⟩
abbrev S128 : Shape := ⟨1, ![128]⟩
abbrev S512x3840 : Shape := ⟨2, ![512, 3840]⟩
abbrev S512x1024 : Shape := ⟨2, ![512, 1024]⟩

abbrev nBuf : Space → Nat
  | .hbm => 46
  | .vmem => 46
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S3592x1024, .bf16⟩
  | .hbm, ⟨3, _⟩ => ⟨S4x1536, .f32⟩
  | .hbm, ⟨4, _⟩ => ⟨S2048x1536, .bf16⟩
  | .hbm, ⟨5, _⟩ => ⟨S2048x1536, .f32⟩
  | .hbm, ⟨6, _⟩ => ⟨S2048x520, .bf16⟩
  | .hbm, ⟨7, _⟩ => ⟨S2048x1024, .f32⟩
  | .hbm, ⟨8, _⟩ => ⟨S1x1024, .f32⟩
  | .hbm, ⟨9, _⟩ => ⟨S1536x1024, .bf16⟩
  | .hbm, ⟨10, _⟩ => ⟨S3x4x128x1024, .bf16⟩
  | .hbm, ⟨11, _⟩ => ⟨S4x3x128x1024, .bf16⟩
  | .hbm, ⟨12, _⟩ => ⟨S1536x1024, .bf16⟩
  | .hbm, ⟨13, _⟩ => ⟨S2056x1024, .bf16⟩
  | .hbm, ⟨14, _⟩ => ⟨S3592x1024, .bf16⟩
  | .hbm, ⟨15, _⟩ => ⟨S_, .i32⟩
  | .hbm, ⟨16, _⟩ => ⟨S_, .bf16⟩
  | .hbm, ⟨17, _⟩ => ⟨S3840x1024, .bf16⟩
  | .hbm, ⟨18, _⟩ => ⟨S2048x3x4x128, .bf16⟩
  | .hbm, ⟨19, _⟩ => ⟨S2048x4x3x128, .bf16⟩
  | .hbm, ⟨20, _⟩ => ⟨S2048x1536, .bf16⟩
  | .hbm, ⟨21, _⟩ => ⟨S_, .bf16⟩
  | .hbm, ⟨22, _⟩ => ⟨S2048x1536, .bf16⟩
  | .hbm, ⟨23, _⟩ => ⟨S_, .bf16⟩
  | .hbm, ⟨24, _⟩ => ⟨S2048x248, .bf16⟩
  | .hbm, ⟨25, _⟩ => ⟨S2048x3840, .bf16⟩
  | .hbm, ⟨26, _⟩ => ⟨S2048x1024, .bf16⟩
  | .hbm, ⟨27, _⟩ => ⟨S2048x3840, .f32⟩
  | .hbm, ⟨28, _⟩ => ⟨S2048x1536, .bf16⟩
  | .hbm, ⟨29, _⟩ => ⟨S2048x3840, .bf16⟩
  | .hbm, ⟨30, _⟩ => ⟨S4x1536, .f32⟩
  | .hbm, ⟨31, _⟩ => ⟨S2048x1024, .f32⟩
  | .hbm, ⟨32, _⟩ => ⟨S3840x1024, .bf16⟩
  | .hbm, ⟨33, _⟩ => ⟨S2048x1024, .f32⟩
  | .hbm, ⟨34, _⟩ => ⟨S1x1024, .f32⟩
  | .hbm, ⟨35, _⟩ => ⟨S2048x1536, .f32⟩
  | .hbm, ⟨36, _⟩ => ⟨S2048x4x3x128, .f32⟩
  | .hbm, ⟨37, _⟩ => ⟨S2048x3x4x128, .f32⟩
  | .hbm, ⟨38, _⟩ => ⟨S2048x1536, .f32⟩
  | .hbm, ⟨39, _⟩ => ⟨S2048x520, .f32⟩
  | .hbm, ⟨40, _⟩ => ⟨S1536x1024, .bf16⟩
  | .hbm, ⟨41, _⟩ => ⟨S4x3x128x1024, .bf16⟩
  | .hbm, ⟨42, _⟩ => ⟨S3x4x128x1024, .bf16⟩
  | .hbm, ⟨43, _⟩ => ⟨S1536x1024, .bf16⟩
  | .hbm, ⟨44, _⟩ => ⟨S2056x1024, .bf16⟩
  | .hbm, ⟨45, _⟩ => ⟨S3592x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S2048x1024, .bf16⟩
  | .local _ .vmem, ⟨6, _⟩ => ⟨S768x1024, .bf16⟩
  | .local _ .vmem, ⟨7, _⟩ => ⟨S768x1024, .bf16⟩
  | .local _ .vmem, ⟨8, _⟩ => ⟨S2048x768, .f32⟩
  | .local _ .vmem, ⟨9, _⟩ => ⟨S2048x768, .f32⟩
  | .local _ .vmem, ⟨10, _⟩ => ⟨S2048x128, .f32⟩
  | .local _ .vmem, ⟨11, _⟩ => ⟨S2048x128, .f32⟩
  | .local _ .vmem, ⟨12, _⟩ => ⟨S4x128, .f32⟩
  | .local _ .vmem, ⟨13, _⟩ => ⟨S4x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | .local _ .vmem, ⟨18, _⟩ => ⟨S4x128, .f32⟩
  | .local _ .vmem, ⟨19, _⟩ => ⟨S4x128, .f32⟩
  | .local _ .vmem, ⟨20, _⟩ => ⟨S2048x128, .f32⟩
  | .local _ .vmem, ⟨21, _⟩ => ⟨S2048x128, .f32⟩
  | .local _ .vmem, ⟨22, _⟩ => ⟨S2048x128, .bf16⟩
  | .local _ .vmem, ⟨23, _⟩ => ⟨S2048x128, .bf16⟩
  | .local _ .vmem, ⟨24, _⟩ => ⟨S4x128, .f32⟩
  | .local _ .vmem, ⟨25, _⟩ => ⟨S4x128, .f32⟩
  | .local _ .vmem, ⟨26, _⟩ => ⟨S512x3840, .bf16⟩
  | .local _ .vmem, ⟨27, _⟩ => ⟨S512x3840, .bf16⟩
  | .local _ .vmem, ⟨28, _⟩ => ⟨S3840x1024, .bf16⟩
  | .local _ .vmem, ⟨29, _⟩ => ⟨S512x1024, .f32⟩
  | .local _ .vmem, ⟨30, _⟩ => ⟨S512x1024, .f32⟩
  | .local _ .vmem, ⟨31, _⟩ => ⟨S2048x768, .bf16⟩
  | .local _ .vmem, ⟨32, _⟩ => ⟨S2048x768, .bf16⟩
  | .local _ .vmem, ⟨33, _⟩ => ⟨S2048x1024, .bf16⟩
  | .local _ .vmem, ⟨34, _⟩ => ⟨S768x1024, .bf16⟩
  | .local _ .vmem, ⟨35, _⟩ => ⟨S768x1024, .bf16⟩
  | .local _ .vmem, ⟨36, _⟩ => ⟨S256x1024, .f32⟩
  | .local _ .vmem, ⟨37, _⟩ => ⟨S256x1024, .f32⟩
  | .local _ .vmem, ⟨38, _⟩ => ⟨S1x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc6_stg3_0 : Ref sig .tc := ⟨.vmem, 41, rfl⟩
abbrev cc6_stg3_1 : Ref sig .tc := ⟨.vmem, 42, rfl⟩
abbrev cc6_stg4_0 : Ref sig .tc := ⟨.vmem, 43, rfl⟩
abbrev cc6_stg4_1 : Ref sig .tc := ⟨.vmem, 44, rfl⟩
abbrev cc6_stg5_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc6_sem3_0 : DmaSem sig := 41
abbrev cc6_sem3_1 : DmaSem sig := 42
abbrev cc6_sem4_0 : DmaSem sig := 43
abbrev cc6_sem4_1 : DmaSem sig := 44
abbrev cc6_sem5_0 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 5, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S768x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![12], ![false]⟩

def cc2_transform_0 (i : grid2.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![12], ![false]⟩

def cc3_transform_0 (i : grid3.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x3840 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S3840x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![5, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x768 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S768x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]
-- ==== MixInRefIdeal.lean ====
abbrev S2048x1024 : Shape := ⟨2, ![2048, 1024]⟩
abbrev S1024 : Shape := ⟨1, ![1024]⟩
abbrev S3592x1024 : Shape := ⟨2, ![3592, 1024]⟩
abbrev S4x1536 : Shape := ⟨2, ![4, 1536]⟩
abbrev S2048x1536 : Shape := ⟨2, ![2048, 1536]⟩
abbrev S2048x520 : Shape := ⟨2, ![2048, 520]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x3592 : Shape := ⟨2, ![1024, 3592]⟩
abbrev S2048x3592 : Shape := ⟨2, ![2048, 3592]⟩
abbrev S1x1536 : Shape := ⟨2, ![1, 1536]⟩
abbrev S1536 : Shape := ⟨1, ![1536]⟩
abbrev S3x1536 : Shape := ⟨2, ![3, 1536]⟩
abbrev S2045x1536 : Shape := ⟨2, ![2045, 1536]⟩
abbrev S2x1536 : Shape := ⟨2, ![2, 1536]⟩
abbrev S2046x1536 : Shape := ⟨2, ![2046, 1536]⟩
abbrev S2047x1536 : Shape := ⟨2, ![2047, 1536]⟩

abbrev nBuf : Space → Nat
  | .hbm => 190
  | .vmem => 0
  | .smem => 0
  | _ => 0

abbrev hbmTy0_0 (i : Nat) : BufTy := match i % 128 with
  | 0 => ⟨S2048x1024, .f32⟩
  | 1 => ⟨S1024, .f32⟩
  | 2 => ⟨S3592x1024, .bf16⟩
  | 3 => ⟨S4x1536, .f32⟩
  | 4 => ⟨S2048x1536, .bf16⟩
  | 5 => ⟨S2048x1536, .f32⟩
  | 6 => ⟨S2048x520, .bf16⟩
  | 7 => ⟨S2048x1024, .f32⟩
  | 8 => ⟨S3592x1024, .f32⟩
  | 9 => ⟨S2048x1024, .f32⟩
  | 10 => ⟨S_, .f32⟩
  | 11 => ⟨S2048, .f32⟩
  | 12 => ⟨S2048x1, .f32⟩
  | 13 => ⟨S_, .f32⟩
  | 14 => ⟨S2048x1, .f32⟩
  | 15 => ⟨S2048x1, .f32⟩
  | 16 => ⟨S_, .f32⟩
  | 17 => ⟨S2048x1, .f32⟩
  | 18 => ⟨S2048x1, .f32⟩
  | 19 => ⟨S2048x1, .f32⟩
  | 20 => ⟨S2048x1, .f32⟩
  | 21 => ⟨S_, .f32⟩
  | 22 => ⟨S2048x1, .f32⟩
  | 23 => ⟨S2048x1, .f32⟩
  | 24 => ⟨S2048x1024, .f32⟩
  | 25 => ⟨S2048x1024, .f32⟩
  | 26 => ⟨S1x1024, .f32⟩
  | 27 => ⟨S2048x1024, .f32⟩
  | 28 => ⟨S2048x1024, .f32⟩
  | 29 => ⟨S1024x3592, .f32⟩
  | 30 => ⟨S2048x3592, .f32⟩
  | 31 => ⟨S2048x1536, .f32⟩
  | 32 => ⟨S2048x1536, .f32⟩
  | 33 => ⟨S2048x520, .f32⟩
  | 34 => ⟨S1x1536, .f32⟩
  | 35 => ⟨S1536, .f32⟩
  | 36 => ⟨S1x1536, .f32⟩
  | 37 => ⟨S2048x1536, .f32⟩
  | 38 => ⟨S2048x1536, .f32⟩
  | 39 => ⟨S1x1536, .f32⟩
  | 40 => ⟨S1536, .f32⟩
  | 41 => ⟨S_, .f32⟩
  | 42 => ⟨S3x1536, .f32⟩
  | 43 => ⟨S2045x1536, .f32⟩
  | 44 => ⟨S2048x1536, .f32⟩
  | 45 => ⟨S_, .f32⟩
  | 46 => ⟨S3x1536, .f32⟩
  | 47 => ⟨S1x1536, .f32⟩
  | 48 => ⟨S2048x1536, .f32⟩
  | 49 => ⟨S2048x1536, .f32⟩
  | 50 => ⟨S2048x1536, .f32⟩
  | 51 => ⟨S1x1536, .f32⟩
  | 52 => ⟨S1536, .f32⟩
  | 53 => ⟨S_, .f32⟩
  | 54 => ⟨S2x1536, .f32⟩
  | 55 => ⟨S2046x1536, .f32⟩
  | 56 => ⟨S2048x1536, .f32⟩
  | 57 => ⟨S_, .f32⟩
  | 58 => ⟨S2x1536, .f32⟩
  | 59 => ⟨S1x1536, .f32⟩
  | 60 => ⟨S2048x1536, .f32⟩
  | 61 => ⟨S2048x1536, .f32⟩
  | 62 => ⟨S2048x1536, .f32⟩
  | 63 => ⟨S1x1536, .f32⟩
  | 64 => ⟨S1536, .f32⟩
  | 65 => ⟨S_, .f32⟩
  | 66 => ⟨S1x1536, .f32⟩
  | 67 => ⟨S2047x1536, .f32⟩
  | 68 => ⟨S2048x1536, .f32⟩
  | 69 => ⟨S_, .f32⟩
  | 70 => ⟨S1x1536, .f32⟩
  | 71 => ⟨S1x1536, .f32⟩
  | 72 => ⟨S2048x1536, .f32⟩
  | 73 => ⟨S2048x1536, .f32⟩
  | 74 => ⟨S2048x1536, .f32⟩
  | 75 => ⟨S2048x1536, .f32⟩
  | 76 => ⟨S2048x1536, .f32⟩
  | 77 => ⟨S_, .f32⟩
  | 78 => ⟨S2048x1536, .f32⟩
  | 79 => ⟨S2048x1536, .f32⟩
  | 80 => ⟨S_, .f32⟩
  | 81 => ⟨S2048x1536, .f32⟩
  | 82 => ⟨S2048x1536, .f32⟩
  | 83 => ⟨S_, .f32⟩
  | 84 => ⟨S2048x1536, .f32⟩
  | 85 => ⟨S2048x1536, .f32⟩
  | 86 => ⟨S2048x1536, .f32⟩
  | 87 => ⟨S2048x1536, .f32⟩
  | 88 => ⟨S2048x1536, .f32⟩
  | 89 => ⟨S2048x520, .f32⟩
  | 90 => ⟨S2048x1536, .f32⟩
  | 91 => ⟨S2048x1536, .f32⟩
  | 92 => ⟨S2048x1536, .f32⟩
  | 93 => ⟨S2048x1536, .f32⟩
  | 94 => ⟨S2048x1536, .f32⟩
  | 95 => ⟨S2048x1536, .f32⟩
  | 96 => ⟨S2048x1536, .f32⟩
  | 97 => ⟨S_, .f32⟩
  | 98 => ⟨S1536, .f32⟩
  | 99 => ⟨S1x1536, .f32⟩
  | 100 => ⟨S_, .f32⟩
  | 101 => ⟨S1536, .f32⟩
  | 102 => ⟨S1x1536, .f32⟩
  | 103 => ⟨S2047x1536, .f32⟩
  | 104 => ⟨S_, .f32⟩
  | 105 => ⟨S2048x1536, .f32⟩
  | 106 => ⟨S1x1536, .f32⟩
  | 107 => ⟨S_, .f32⟩
  | 108 => ⟨S4x1536, .f32⟩
  | 109 => ⟨S2048x1536, .f32⟩
  | 110 => ⟨S2048x1536, .f32⟩
  | 111 => ⟨S2048x1536, .f32⟩
  | 112 => ⟨S_, .f32⟩
  | 113 => ⟨S1536, .f32⟩
  | 114 => ⟨S1x1536, .f32⟩
  | 115 => ⟨S_, .f32⟩
  | 116 => ⟨S1536, .f32⟩
  | 117 => ⟨S2x1536, .f32⟩
  | 118 => ⟨S2046x1536, .f32⟩
  | 119 => ⟨S_, .f32⟩
  | 120 => ⟨S2048x1536, .f32⟩
  | 121 => ⟨S2048x1536, .f32⟩
  | 122 => ⟨S1x1536, .f32⟩
  | 123 => ⟨S_, .f32⟩
  | 124 => ⟨S4x1536, .f32⟩
  | 125 => ⟨S4x1536, .f32⟩
  | 126 => ⟨S2048x1536, .f32⟩
  | 127 => ⟨S2048x1536, .f32⟩
  | _ => ⟨S2048x1024, .f32⟩

abbrev hbmTy0_1 (i : Nat) : BufTy := match i % 128 with
  | 0 => ⟨S2048x1536, .f32⟩
  | 1 => ⟨S_, .f32⟩
  | 2 => ⟨S1536, .f32⟩
  | 3 => ⟨S1x1536, .f32⟩
  | 4 => ⟨S_, .f32⟩
  | 5 => ⟨S1536, .f32⟩
  | 6 => ⟨S3x1536, .f32⟩
  | 7 => ⟨S2045x1536, .f32⟩
  | 8 => ⟨S_, .f32⟩
  | 9 => ⟨S2048x1536, .f32⟩
  | 10 => ⟨S2048x1536, .f32⟩
  | 11 => ⟨S1x1536, .f32⟩
  | 12 => ⟨S_, .f32⟩
  | 13 => ⟨S4x1536, .f32⟩
  | 14 => ⟨S4x1536, .f32⟩
  | 15 => ⟨S2048x1536, .f32⟩
  | 16 => ⟨S_, .f32⟩
  | 17 => ⟨S1536, .f32⟩
  | 18 => ⟨S1x1536, .f32⟩
  | 19 => ⟨S2048x1536, .f32⟩
  | 20 => ⟨S2048x1536, .f32⟩
  | 21 => ⟨S2048x1536, .f32⟩
  | 22 => ⟨S_, .f32⟩
  | 23 => ⟨S1536, .f32⟩
  | 24 => ⟨S1x1536, .f32⟩
  | 25 => ⟨S_, .f32⟩
  | 26 => ⟨S4x1536, .f32⟩
  | 27 => ⟨S4x1536, .f32⟩
  | 28 => ⟨S2048x3592, .f32⟩
  | 29 => ⟨S3592x1024, .f32⟩
  | 30 => ⟨S1024x3592, .f32⟩
  | 31 => ⟨S2048x1024, .f32⟩
  | 32 => ⟨S3592x1024, .f32⟩
  | 33 => ⟨S2048x1024, .f32⟩
  | 34 => ⟨S_, .f32⟩
  | 35 => ⟨S1024, .f32⟩
  | 36 => ⟨S1x1024, .f32⟩
  | 37 => ⟨S2048x1024, .f32⟩
  | 38 => ⟨S2048x1024, .f32⟩
  | 39 => ⟨S_, .f32⟩
  | 40 => ⟨S1024, .f32⟩
  | 41 => ⟨S2048x1024, .f32⟩
  | 42 => ⟨S_, .f32⟩
  | 43 => ⟨S2048, .f32⟩
  | 44 => ⟨S2048x1, .f32⟩
  | 45 => ⟨S2048x1024, .f32⟩
  | 46 => ⟨S2048x1024, .f32⟩
  | 47 => ⟨S2048x1024, .f32⟩
  | 48 => ⟨S2048x1, .f32⟩
  | 49 => ⟨S_, .f32⟩
  | 50 => ⟨S2048x1, .f32⟩
  | 51 => ⟨S2048x1, .f32⟩
  | 52 => ⟨S_, .f32⟩
  | 53 => ⟨S2048, .f32⟩
  | 54 => ⟨S2048x1024, .f32⟩
  | 55 => ⟨S2048x1024, .f32⟩
  | 56 => ⟨S2048x1024, .f32⟩
  | 57 => ⟨S2048x1024, .f32⟩
  | 58 => ⟨S2048x1024, .f32⟩
  | 59 => ⟨S2048x1536, .bf16⟩
  | 60 => ⟨S1x1024, .f32⟩
  | 61 => ⟨S3592x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_v57_2 : Ref sig .tc := ⟨.hbm, 82, rfl⟩
abbrev main_call0_cst_1 : Ref sig .tc := ⟨.hbm, 83, rfl⟩
abbrev main_call0_v6 : Ref sig .tc := ⟨.hbm, 84, rfl⟩
abbrev main_call0_v7 : Ref sig .tc := ⟨.hbm, 85, rfl⟩
abbrev main_v57_1 : Ref sig .tc := ⟨.hbm, 86, rfl⟩
abbrev main_v57_0 : Ref sig .tc := ⟨.hbm, 87, rfl⟩
abbrev main_v58 : Ref sig .tc := ⟨.hbm, 88, rfl⟩
abbrev main_v59 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_9 : Ref sig .tc := ⟨.hbm, 97, rfl⟩
abbrev main_v64 : Ref sig .tc := ⟨.hbm, 98, rfl⟩
abbrev main_v65 : Ref sig .tc := ⟨.hbm, 99, rfl⟩
abbrev main_cst_10 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_11 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_13 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_15 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_16 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_17 : Ref sig .tc := ⟨.hbm, 129, rfl⟩
abbrev main_v88 : Ref sig .tc := ⟨.hbm, 130, rfl⟩
abbrev main_v89 : Ref sig .tc := ⟨.hbm, 131, rfl⟩
abbrev main_cst_18 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_19 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_20 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_22 : Ref sig .tc := ⟨.hbm, 150, rfl⟩
abbrev main_v104 : Ref sig .tc := ⟨.hbm, 151, rfl⟩
abbrev main_v105 : Ref sig .tc := ⟨.hbm, 152, rfl⟩
abbrev main_cst_23 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_24 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_25 : Ref sig .tc := ⟨.hbm, 167, rfl⟩
abbrev main_v118 : Ref sig .tc := ⟨.hbm, 168, rfl⟩
abbrev main_v119 : Ref sig .tc := ⟨.hbm, 169, rfl⟩
abbrev main_cst_26 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_27 : Ref sig .tc := ⟨.hbm, 177, rfl⟩
abbrev main_v126 : Ref sig .tc := ⟨.hbm, 178, rfl⟩
abbrev main_v127 : Ref sig .tc := ⟨.hbm, 179, rfl⟩
abbrev main_cst_28 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩

abbrev nD : Nat := 1
abbrev τ : Topo := Topo.v7x

variable {F : FTy → Type} [FloatOps F]
-- ==== MixOut.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S2048x512 : Shape := ⟨2, ![2048, 512]⟩
abbrev S1024x512 : Shape := ⟨2, ![1024, 512]⟩

abbrev nBuf : Space → Nat
  | .hbm => 18
  | .vmem => 41
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .bf16⟩
  | .hbm, ⟨12, _⟩ => ⟨S2048x1024, .f32⟩
  | .hbm, ⟨13, _⟩ => ⟨S2048x1024, .bf16⟩
  | .hbm, ⟨14, _⟩ => ⟨S1x1024, .f32⟩
  | .hbm, ⟨15, _⟩ => ⟨S1x1024, .f32⟩
  | .hbm, ⟨16, _⟩ => ⟨S2048x1024, .f32⟩
  | .hbm, ⟨17, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | .local _ .vmem, ⟨29, _⟩ => ⟨S1x1024, .f32⟩
  | .local _ .vmem, ⟨30, _⟩ => ⟨S1x1024, .f32⟩
  | .local _ .vmem, ⟨31, _⟩ => ⟨S2048x1024, .bf16⟩
  | .local _ .vmem, ⟨32, _⟩ => ⟨S512x1024, .bf16⟩
  | .local _ .vmem, ⟨33, _⟩ => ⟨S512x1024, .bf16⟩
  | .local _ .vmem, ⟨34, _⟩ => ⟨S2048x512, .f32⟩
  | .local _ .vmem, ⟨35, _⟩ => ⟨S2048x512, .f32⟩
  | .local _ .vmem, ⟨36, _⟩ => ⟨S2048x1024, .f32⟩
  | .local _ .vmem, ⟨37, _⟩ => ⟨S2048x512, .bf16⟩
  | .local _ .vmem, ⟨38, _⟩ => ⟨S2048x512, .bf16⟩
  | .local _ .vmem, ⟨39, _⟩ => ⟨S1024x512, .bf16⟩
  | .local _ .vmem, ⟨40, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg9_0 : Ref sig .tc := ⟨.vmem, 30, rfl⟩
abbrev cc3_stg0_0 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28
abbrev cc2_sem8_0 : DmaSem sig := 29
abbrev cc2_sem9_0 : DmaSem sig := 30
abbrev cc3_sem0_0 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem1_0 : DmaSem sig := 37
abbrev cc4_sem1_1 : DmaSem sig := 38
abbrev cc4_sem2_0 : DmaSem sig := 39
abbrev cc4_sem2_1 : DmaSem sig := 40

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== MixOutRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S1024, .f32⟩
  | .hbm, ⟨85, _⟩ => ⟨S2048x1024, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S2048x1024, .f32⟩
  | .hbm, ⟨90, _⟩ => ⟨S2048x1024, .f32⟩
  | .hbm, ⟨91, _⟩ => ⟨S2048x1, .f32⟩
  | .hbm, ⟨92, _⟩ => ⟨S_, .f32⟩
  | .hbm, ⟨93, _⟩ => ⟨S2048x1, .f32⟩
  | .hbm, ⟨94, _⟩ => ⟨S2048x1, .f32⟩
  | .hbm, ⟨95, _⟩ => ⟨S_, .f32⟩
  | .hbm, ⟨96, _⟩ => ⟨S2048, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S1024x1024, .f32⟩
  | .hbm, ⟨103, _⟩ => ⟨S1024x1024, .f32⟩
  | .hbm, ⟨104, _⟩ => ⟨S2048x1024, .f32⟩
  | .hbm, ⟨105, _⟩ => ⟨S2048x1024, .bf16⟩
  | .hbm, ⟨106, _⟩ => ⟨S1024x1024, .bf16⟩
  | .hbm, ⟨107, _⟩ => ⟨S1x1024, .f32⟩
  | .hbm, ⟨108, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Opt.lean ====
abbrev S4x449x1024 : Shape := ⟨3, ![4, 449, 1024]⟩
abbrev S2x1024x449 : Shape := ⟨3, ![2, 1024, 449]⟩
abbrev S4x128x1024 : Shape := ⟨3, ![4, 128, 1024]⟩
abbrev S2x128x1024 : Shape := ⟨3, ![2, 128, 1024]⟩
abbrev S4x704x1024 : Shape := ⟨3, ![4, 704, 1024]⟩
abbrev S2x1024x704 : Shape := ⟨3, ![2, 1024, 704]⟩
abbrev S4x352x1024 : Shape := ⟨3, ![4, 352, 1024]⟩
abbrev S2x352x1024 : Shape := ⟨3, ![2, 352, 1024]⟩
abbrev S2x449x1024 : Shape := ⟨3, ![2, 449, 1024]⟩
abbrev S4x449x256 : Shape := ⟨3, ![4, 449, 256]⟩
abbrev S1x449x256 : Shape := ⟨3, ![1, 449, 256]⟩
abbrev S449x256 : Shape := ⟨2, ![449, 256]⟩
abbrev S1x128x1024 : Shape := ⟨3, ![1, 128, 1024]⟩
abbrev S128x1024 : Shape := ⟨2, ![128, 1024]⟩
abbrev S2x704x1024 : Shape := ⟨3, ![2, 704, 1024]⟩
abbrev S4x176x1024 : Shape := ⟨3, ![4, 176, 1024]⟩
abbrev S1x176x1024 : Shape := ⟨3, ![1, 176, 1024]⟩
abbrev S176x1024 : Shape := ⟨2, ![176, 1024]⟩

abbrev nBuf : Space → Nat
  | .hbm => 50
  | .vmem => 72
  | .smem => 0
  | _ => 0

abbrev bufTy : (tb : Table) → Fin (tcTables nBuf tb) → BufTy
  | .hbm, ⟨0, _⟩ => ⟨S4x449x1024, .bf16⟩
  | .hbm, ⟨1, _⟩ => ⟨S4x449x1024, .bf16⟩
  | .hbm, ⟨2, _⟩ => ⟨S2x1024x449, .f32⟩
  | .hbm, ⟨3, _⟩ => ⟨S2x1024x449, .f32⟩
  | .hbm, ⟨4, _⟩ => ⟨S2x1024x449, .f32⟩
  | .hbm, ⟨5, _⟩ => ⟨S4x128x1024, .bf16⟩
  | .hbm, ⟨6, _⟩ => ⟨S4x128x1024, .bf16⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S4x704x1024, .bf16⟩
  | .hbm, ⟨11, _⟩ => ⟨S4x704x1024, .bf16⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S4x352x1024, .bf16⟩
  | .hbm, ⟨16, _⟩ => ⟨S4x352x1024, .bf16⟩
  | .hbm, ⟨17, _⟩ => ⟨S2x352x1024, .f32⟩
  | .hbm, ⟨18, _⟩ => ⟨S2x352x1024, .f32⟩
  | .hbm, ⟨19, _⟩ => ⟨S2x352x1024, .f32⟩
  | .hbm, ⟨20, _⟩ => ⟨S2x449x1024, .f32⟩
  | .hbm, ⟨21, _⟩ => ⟨S2x449x1024, .f32⟩
  | .hbm, ⟨22, _⟩ => ⟨S2x449x1024, .f32⟩
  | .hbm, ⟨23, _⟩ => ⟨S2x449x1024, .f32⟩
  | .hbm, ⟨24, _⟩ => ⟨S2x449x1024, .f32⟩
  | .hbm, ⟨25, _⟩ => ⟨S2x449x1024, .f32⟩
  | .hbm, ⟨26, _⟩ => ⟨S2x449x1024, .f32⟩
  | .hbm, ⟨27, _⟩ => ⟨S2x1024x449, .f32⟩
  | .hbm, ⟨28, _⟩ => ⟨S2x1024x449, .f32⟩
  | .hbm, ⟨29, _⟩ => ⟨S2x1024x449, .f32⟩
  | .hbm, ⟨30, _⟩ => ⟨S2x1024x449, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S2x128x1024, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S2x704x1024, .f32⟩
  | .hbm, ⟨41, _⟩ => ⟨S2x704x1024, .f32⟩
  | .hbm, ⟨42, _⟩ => ⟨S2x1024x704, .f32⟩
  | .hbm, ⟨43, _⟩ => ⟨S2x1024x704, .f32⟩
  | .hbm, ⟨44, _⟩ => ⟨S2x1024x704, .f32⟩
  | .hbm, ⟨45, _⟩ => ⟨S2x1024x704, .f32⟩
  | .hbm, ⟨46, _⟩ => ⟨S2x352x1024, .f32⟩
  | .hbm, ⟨47, _⟩ => ⟨S2x352x1024, .f32⟩
  | .hbm, ⟨48, _⟩ => ⟨S2x352x1024, .f32⟩
  | .hbm, ⟨49, _⟩ => ⟨S2x352x1024, .f32⟩
  | .local _ .vmem, ⟨0, _⟩ => ⟨S4x449x256, .bf16⟩
  | .local _ .vmem, ⟨1, _⟩ => ⟨S4x449x256, .bf16⟩
  | .local _ .vmem, ⟨2, _⟩ => ⟨S4x449x256, .bf16⟩
  | .local _ .vmem, ⟨3, _⟩ => ⟨S4x449x256, .bf16⟩
  | .local _ .vmem, ⟨4, _⟩ => ⟨S1x449x256, .f32⟩
  | .local _ .vmem, ⟨5, _⟩ => ⟨S1x449x256, .f32⟩
  | .local _ .vmem, ⟨6, _⟩ => ⟨S1x449x256, .f32⟩
  | .local _ .vmem, ⟨7, _⟩ => ⟨S1x449x256, .f32⟩
  | .local _ .vmem, ⟨8, _⟩ => ⟨S1x449x256, .f32⟩
  | .local _ .vmem, ⟨9, _⟩ => ⟨S1x449x256, .f32⟩
  | .local _ .vmem, ⟨10, _⟩ => ⟨S1x449x256, .f32⟩
  | .local _ .vmem, ⟨11, _⟩ => ⟨S1x449x256, .f32⟩
  | .local _ .vmem, ⟨12, _⟩ => ⟨S1x449x256, .f32⟩
  | .local _ .vmem, ⟨13, _⟩ => ⟨S1x449x256, .f32⟩
  | .local _ .vmem, ⟨14, _⟩ => ⟨S1x449x256, .f32⟩
  | .local _ .vmem, ⟨15, _⟩ => ⟨S1x449x256, .f32⟩
  | .local _ .vmem, ⟨16, _⟩ => ⟨S1x449x256, .f32⟩
  | .local _ .vmem, ⟨17, _⟩ => ⟨S1x449x256, .f32⟩
  | .local _ .vmem, ⟨18, _⟩ => ⟨S4x128x1024, .bf16⟩
  | .local _ .vmem, ⟨19, _⟩ => ⟨S4x128x1024, .bf16⟩
  | .local _ .vmem, ⟨20, _⟩ => ⟨S4x128x1024, .bf16⟩
  | .local _ .vmem, ⟨21, _⟩ => ⟨S4x128x1024, .bf16⟩
  | .local _ .vmem, ⟨22, _⟩ => ⟨S1x128x1024, .f32⟩
  | .local _ .vmem, ⟨23, _⟩ => ⟨S1x128x1024, .f32⟩
  | .local _ .vmem, ⟨24, _⟩ => ⟨S1x128x1024, .f32⟩
  | .local _ .vmem, ⟨25, _⟩ => ⟨S1x128x1024, .f32⟩
  | .local _ .vmem, ⟨26, _⟩ => ⟨S1x128x1024, .f32⟩
  | .local _ .vmem, ⟨27, _⟩ => ⟨S1x128x1024, .f32⟩
  | .local _ .vmem, ⟨28, _⟩ => ⟨S1x128x1024, .f32⟩
  | .local _ .vmem, ⟨29, _⟩ => ⟨S1x128x1024, .f32⟩
  | .local _ .vmem, ⟨30, _⟩ => ⟨S1x128x1024, .f32⟩
  | .local _ .vmem, ⟨31, _⟩ => ⟨S1x128x1024, .f32⟩
  | .local _ .vmem, ⟨32, _⟩ => ⟨S1x128x1024, .f32⟩
  | .local _ .vmem, ⟨33, _⟩ => ⟨S1x128x1024, .f32⟩
  | .local _ .vmem, ⟨34, _⟩ => ⟨S1x128x1024, .f32⟩
  | .local _ .vmem, ⟨35, _⟩ => ⟨S1x128x1024, .f32⟩
  | .local _ .vmem, ⟨36, _⟩ => ⟨S4x176x1024, .bf16⟩
  | .local _ .vmem, ⟨37, _⟩ => ⟨S4x176x1024, .bf16⟩
  | .local _ .vmem, ⟨38, _⟩ => ⟨S4x176x1024, .bf16⟩
  | .local _ .vmem, ⟨39, _⟩ => ⟨S4x176x1024, .bf16⟩
  | .local _ .vmem, ⟨40, _⟩ => ⟨S1x176x1024, .f32⟩
  | .local _ .vmem, ⟨41, _⟩ => ⟨S1x176x1024, .f32⟩
  | .local _ .vmem, ⟨42, _⟩ => ⟨S1x176x1024, .f32⟩
  | .local _ .vmem, ⟨43, _⟩ => ⟨S1x176x1024, .f32⟩
  | .local _ .vmem, ⟨44, _⟩ => ⟨S1x176x1024, .f32⟩
  | .local _ .vmem, ⟨45, _⟩ => ⟨S1x176x1024, .f32⟩
  | .local _ .vmem, ⟨46, _⟩ => ⟨S1x176x1024, .f32⟩
  | .local _ .vmem, ⟨47, _⟩ => ⟨S1x176x1024, .f32⟩
  | .local _ .vmem, ⟨48, _⟩ => ⟨S1x176x1024, .f32⟩
  | .local _ .vmem, ⟨49, _⟩ => ⟨S1x176x1024, .f32⟩
  | .local _ .vmem, ⟨50, _⟩ => ⟨S1x176x1024, .f32⟩
  | .local _ .vmem, ⟨51, _⟩ => ⟨S1x176x1024, .f32⟩
  | .local _ .vmem, ⟨52, _⟩ => ⟨S1x176x1024, .f32⟩
  | .local _ .vmem, ⟨53, _⟩ => ⟨S1x176x1024, .f32⟩
  | .local _ .vmem, ⟨54, _⟩ => ⟨S4x176x1024, .bf16⟩
  | .local _ .vmem, ⟨55, _⟩ => ⟨S4x176x1024, .bf16⟩
  | .local _ .vmem, ⟨56, _⟩ => ⟨S4x176x1024, .bf16⟩
  | .local _ .vmem, ⟨57, _⟩ => ⟨S4x176x1024, .bf16⟩
  | .local _ .vmem, ⟨58, _⟩ => ⟨S1x176x1024, .f32⟩
  | .local _ .vmem, ⟨59, _⟩ => ⟨S1x176x1024, .f32⟩
  | .local _ .vmem, ⟨60, _⟩ => ⟨S1x176x1024, .f32⟩
  | .local _ .vmem, ⟨61, _⟩ => ⟨S1x176x1024, .f32⟩
  | .local _ .vmem, ⟨62, _⟩ => ⟨S1x176x1024, .f32⟩
  | .local _ .vmem, ⟨63, _⟩ => ⟨S1x176x1024, .f32⟩
  | .local _ .vmem, ⟨64, _⟩ => ⟨S1x176x1024, .f32⟩
  | .local _ .vmem, ⟨65, _⟩ => ⟨S1x176x1024, .f32⟩
  | .local _ .vmem, ⟨66, _⟩ => ⟨S1x176x1024, .f32⟩
  | .local _ .vmem, ⟨67, _⟩ => ⟨S1x176x1024, .f32⟩
  | .local _ .vmem, ⟨68, _⟩ => ⟨S1x176x1024, .f32⟩
  | .local _ .vmem, ⟨69, _⟩ => ⟨S1x176x1024, .f32⟩
  | .local _ .vmem, ⟨70, _⟩ => ⟨S1x176x1024, .f32⟩
  | .local _ .vmem, ⟨71, _⟩ => ⟨S1x176x1024, .f32⟩
  | _, _ => ⟨S4x449x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3_0 : Ref sig .tc := ⟨.hbm, 23, rfl⟩
abbrev main_v3_1 : Ref sig .tc := ⟨.hbm, 24, rfl⟩
abbrev main_v3_2 : Ref sig .tc := ⟨.hbm, 25, rfl⟩
abbrev main_v3_3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8_0 : Ref sig .tc := ⟨.hbm, 31, rfl⟩
abbrev main_v8_1 : Ref sig .tc := ⟨.hbm, 32, rfl⟩
abbrev main_v8_2 : Ref sig .tc := ⟨.hbm, 33, rfl⟩
abbrev main_v8_3 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12_0 : Ref sig .tc := ⟨.hbm, 38, rfl⟩
abbrev main_v12_1 : Ref sig .tc := ⟨.hbm, 39, rfl⟩
abbrev main_v12_2 : Ref sig .tc := ⟨.hbm, 40, rfl⟩
abbrev main_v12_3 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17_0 : Ref sig .tc := ⟨.hbm, 46, rfl⟩
abbrev main_v17_1 : Ref sig .tc := ⟨.hbm, 47, rfl⟩
abbrev main_v17_2 : Ref sig .tc := ⟨.hbm, 48, rfl⟩
abbrev main_v17_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc3_stg6_0 : Ref sig .tc := ⟨.vmem, 66, rfl⟩
abbrev cc3_stg6_1 : Ref sig .tc := ⟨.vmem, 67, rfl⟩
abbrev cc3_stg7_0 : Ref sig .tc := ⟨.vmem, 68, rfl⟩
abbrev cc3_stg7_1 : Ref sig .tc := ⟨.vmem, 69, rfl⟩
abbrev cc3_stg8_0 : Ref sig .tc := ⟨.vmem, 70, rfl⟩
abbrev cc3_stg8_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem5_1 : DmaSem sig := 65
abbrev cc3_sem6_0 : DmaSem sig := 66
abbrev cc3_sem6_1 : DmaSem sig := 67
abbrev cc3_sem7_0 : DmaSem sig := 68
abbrev cc3_sem7_1 : DmaSem sig := 69
abbrev cc3_sem8_0 : DmaSem sig := 70
abbrev cc3_sem8_1 : DmaSem sig := 71

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S4x449x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x449x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x449x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x449x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x449x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x449x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x449x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x449x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x449x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev grid1 : Pipeline.Grid := ⟨3, ![2, 1, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S4x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S4x128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S1x128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev grid2 : Pipeline.Grid := ⟨3, ![2, 4, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_8 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S4x176x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S4x176x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x176x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x176x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x176x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 2 → Memref sig .tc .vmem S1x176x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

abbrev stage2_6 : Fin 2 → Memref sig .tc .vmem S1x176x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true]

abbrev stage2_7 : Fin 2 → Memref sig .tc .vmem S1x176x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, true]

abbrev stage2_8 : Fin 2 → Memref sig .tc .vmem S1x176x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true, true]

abbrev grid3 : Pipeline.Grid := ⟨3, ![2, 2, 1], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_7 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_8 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 2 → Memref sig .tc .vmem S4x176x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S4x176x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x176x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x176x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x176x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x176x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev stage3_6 : Fin 2 → Memref sig .tc .vmem S1x176x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, true]

abbrev stage3_7 : Fin 2 → Memref sig .tc .vmem S1x176x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true, true]

abbrev stage3_8 : Fin 2 → Memref sig .tc .vmem S1x176x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true, true]
-- ==== OptRefIdeal.lean ====
abbrev S4x449x1024 : Shape := ⟨3, ![4, 449, 1024]⟩
abbrev S2x1024x449 : Shape := ⟨3, ![2, 1024, 449]⟩
abbrev S4x128x1024 : Shape := ⟨3, ![4, 128, 1024]⟩
abbrev S2x128x1024 : Shape := ⟨3, ![2, 128, 1024]⟩
abbrev S4x704x1024 : Shape := ⟨3, ![4, 704, 1024]⟩
abbrev S2x1024x704 : Shape := ⟨3, ![2, 1024, 704]⟩
abbrev S4x352x1024 : Shape := ⟨3, ![4, 352, 1024]⟩
abbrev S2x352x1024 : Shape := ⟨3, ![2, 352, 1024]⟩
abbrev S_ : Shape := ⟨0, ![]⟩
abbrev S449x1024 : Shape := ⟨2, ![449, 1024]⟩
abbrev S1x449x1024 : Shape := ⟨3, ![1, 449, 1024]⟩
abbrev S2x449x1024 : Shape := ⟨3, ![2, 449, 1024]⟩
abbrev S128x1024 : Shape := ⟨2, ![128, 1024]⟩
abbrev S1x128x1024 : Shape := ⟨3, ![1, 128, 1024]⟩
abbrev S704x1024 : Shape := ⟨2, ![704, 1024]⟩
abbrev S1x704x1024 : Shape := ⟨3, ![1, 704, 1024]⟩
abbrev S2x704x1024 : Shape := ⟨3, ![2, 704, 1024]⟩
abbrev S352x1024 : Shape := ⟨2, ![352, 1024]⟩
abbrev S1x352x1024 : Shape := ⟨3, ![1, 352, 1024]⟩

abbrev nBuf : Space → Nat
  | .hbm => 190
  | .vmem => 0
  | .smem => 0
  | _ => 0

abbrev hbmTy0_0 (i : Nat) : BufTy := match i % 128 with
  | 0 => ⟨S4x449x1024, .bf16⟩
  | 1 => ⟨S4x449x1024, .bf16⟩
  | 2 => ⟨S2x1024x449, .f32⟩
  | 3 => ⟨S2x1024x449, .f32⟩
  | 4 => ⟨S2x1024x449, .f32⟩
  | 5 => ⟨S4x128x1024, .bf16⟩
  | 6 => ⟨S4x128x1024, .bf16⟩
  | 7 => ⟨S2x128x1024, .f32⟩
  | 8 => ⟨S2x128x1024, .f32⟩
  | 9 => ⟨S2x128x1024, .f32⟩
  | 10 => ⟨S4x704x1024, .bf16⟩
  | 11 => ⟨S4x704x1024, .bf16⟩
  | 12 => ⟨S2x1024x704, .f32⟩
  | 13 => ⟨S2x1024x704, .f32⟩
  | 14 => ⟨S2x1024x704, .f32⟩
  | 15 => ⟨S4x352x1024, .bf16⟩
  | 16 => ⟨S4x352x1024, .bf16⟩
  | 17 => ⟨S2x352x1024, .f32⟩
  | 18 => ⟨S2x352x1024, .f32⟩
  | 19 => ⟨S2x352x1024, .f32⟩
  | 20 => ⟨S4x449x1024, .f32⟩
  | 21 => ⟨S_, .f32⟩
  | 22 => ⟨S449x1024, .f32⟩
  | 23 => ⟨S4x449x1024, .f32⟩
  | 24 => ⟨S_, .f32⟩
  | 25 => ⟨S449x1024, .f32⟩
  | 26 => ⟨S1x449x1024, .f32⟩
  | 27 => ⟨S1x449x1024, .f32⟩
  | 28 => ⟨S2x449x1024, .f32⟩
  | 29 => ⟨S2x1024x449, .f32⟩
  | 30 => ⟨S4x128x1024, .f32⟩
  | 31 => ⟨S_, .f32⟩
  | 32 => ⟨S128x1024, .f32⟩
  | 33 => ⟨S4x128x1024, .f32⟩
  | 34 => ⟨S_, .f32⟩
  | 35 => ⟨S128x1024, .f32⟩
  | 36 => ⟨S1x128x1024, .f32⟩
  | 37 => ⟨S1x128x1024, .f32⟩
  | 38 => ⟨S2x128x1024, .f32⟩
  | 39 => ⟨S4x704x1024, .f32⟩
  | 40 => ⟨S_, .f32⟩
  | 41 => ⟨S704x1024, .f32⟩
  | 42 => ⟨S4x704x1024, .f32⟩
  | 43 => ⟨S_, .f32⟩
  | 44 => ⟨S704x1024, .f32⟩
  | 45 => ⟨S1x704x1024, .f32⟩
  | 46 => ⟨S1x704x1024, .f32⟩
  | 47 => ⟨S2x704x1024, .f32⟩
  | 48 => ⟨S2x1024x704, .f32⟩
  | 49 => ⟨S4x352x1024, .f32⟩
  | 50 => ⟨S_, .f32⟩
  | 51 => ⟨S352x1024, .f32⟩
  | 52 => ⟨S4x352x1024, .f32⟩
  | 53 => ⟨S_, .f32⟩
  | 54 => ⟨S352x1024, .f32⟩
  | 55 => ⟨S1x352x1024, .f32⟩
  | 56 => ⟨S1x352x1024, .f32⟩
  | 57 => ⟨S2x352x1024, .f32⟩
  | 58 => ⟨S_, .f32⟩
  | 59 => ⟨S2x1024x449, .f32⟩
  | 60 => ⟨S2x1024x449, .f32⟩
  | 61 => ⟨S_, .f32⟩
  | 62 => ⟨S2x1024x449, .f32⟩
  | 63 => ⟨S2x1024x449, .f32⟩
  | 64 => ⟨S2x1024x449, .f32⟩
  | 65 => ⟨S_, .f32⟩
  | 66 => ⟨S2x1024x449, .f32⟩
  | 67 => ⟨S2x1024x449, .f32⟩
  | 68 => ⟨S2x1024x449, .f32⟩
  | 69 => ⟨S_, .f32⟩
  | 70 => ⟨S2x1024x449, .f32⟩
  | 71 => ⟨S2x1024x449, .f32⟩
  | 72 => ⟨S2x1024x449, .f32⟩
  | 73 => ⟨S_, .f32⟩
  | 74 => ⟨S2x1024x449, .f32⟩
  | 75 => ⟨S2x1024x449, .f32⟩
  | 76 => ⟨S_, .f32⟩
  | 77 => ⟨S2x1024x449, .f32⟩
  | 78 => ⟨S2x1024x449, .f32⟩
  | 79 => ⟨S2x1024x449, .f32⟩
  | 80 => ⟨S_, .f32⟩
  | 81 => ⟨S2x1024x449, .f32⟩
  | 82 => ⟨S2x1024x449, .f32⟩
  | 83 => ⟨S2x1024x449, .f32⟩
  | 84 => ⟨S_, .f32⟩
  | 85 => ⟨S2x1024x449, .f32⟩
  | 86 => ⟨S2x1024x449, .f32⟩
  | 87 => ⟨S2x1024x449, .f32⟩
  | 88 => ⟨S_, .f32⟩
  | 89 => ⟨S2x1024x449, .f32⟩
  | 90 => ⟨S2x1024x449, .f32⟩
  | 91 => ⟨S_, .f32⟩
  | 92 => ⟨S2x128x1024, .f32⟩
  | 93 => ⟨S2x128x1024, .f32⟩
  | 94 => ⟨S_, .f32⟩
  | 95 => ⟨S2x128x1024, .f32⟩
  | 96 => ⟨S2x128x1024, .f32⟩
  | 97 => ⟨S2x128x1024, .f32⟩
  | 98 => ⟨S_, .f32⟩
  | 99 => ⟨S2x128x1024, .f32⟩
  | 100 => ⟨S2x128x1024, .f32⟩
  | 101 => ⟨S2x128x1024, .f32⟩
  | 102 => ⟨S_, .f32⟩
  | 103 => ⟨S2x128x1024, .f32⟩
  | 104 => ⟨S2x128x1024, .f32⟩
  | 105 => ⟨S2x128x1024, .f32⟩
  | 106 => ⟨S_, .f32⟩
  | 107 => ⟨S2x128x1024, .f32⟩
  | 108 => ⟨S2x128x1024, .f32⟩
  | 109 => ⟨S_, .f32⟩
  | 110 => ⟨S2x128x1024, .f32⟩
  | 111 => ⟨S2x128x1024, .f32⟩
  | 112 => ⟨S2x128x1024, .f32⟩
  | 113 => ⟨S_, .f32⟩
  | 114 => ⟨S2x128x1024, .f32⟩
  | 115 => ⟨S2x128x1024, .f32⟩
  | 116 => ⟨S2x128x1024, .f32⟩
  | 117 => ⟨S_, .f32⟩
  | 118 => ⟨S2x128x1024, .f32⟩
  | 119 => ⟨S2x128x1024, .f32⟩
  | 120 => ⟨S2x128x1024, .f32⟩
  | 121 => ⟨S_, .f32⟩
  | 122 => ⟨S2x128x1024, .f32⟩
  | 123 => ⟨S2x128x1024, .f32⟩
  | 124 => ⟨S_, .f32⟩
  | 125 => ⟨S2x1024x704, .f32⟩
  | 126 => ⟨S2x1024x704, .f32⟩
  | 127 => ⟨S_, .f32⟩
  | _ => ⟨S4x449x1024, .bf16⟩

abbrev hbmTy0_1 (i : Nat) : BufTy := match i % 128 with
  | 0 => ⟨S2x1024x704, .f32⟩
  | 1 => ⟨S2x1024x704, .f32⟩
  | 2 => ⟨S2x1024x704, .f32⟩
  | 3 => ⟨S_, .f32⟩
  | 4 => ⟨S2x1024x704, .f32⟩
  | 5 => ⟨S2x1024x704, .f32⟩
  | 6 => ⟨S2x1024x704, .f32⟩
  | 7 => ⟨S_, .f32⟩
  | 8 => ⟨S2x1024x704, .f32⟩
  | 9 => ⟨S2x1024x704, .f32⟩
  | 10 => ⟨S2x1024x704, .f32⟩
  | 11 => ⟨S_, .f32⟩
  | 12 => ⟨S2x1024x704, .f32⟩
  | 13 => ⟨S2x1024x704, .f32⟩
  | 14 => ⟨S_, .f32⟩
  | 15 => ⟨S2x1024x704, .f32⟩
  | 16 => ⟨S2x1024x704, .f32⟩
  | 17 => ⟨S2x1024x704, .f32⟩
  | 18 => ⟨S_, .f32⟩
  | 19 => ⟨S2x1024x704, .f32⟩
  | 20 => ⟨S2x1024x704, .f32⟩
  | 21 => ⟨S2x1024x704, .f32⟩
  | 22 => ⟨S_, .f32⟩
  | 23 => ⟨S2x1024x704, .f32⟩
  | 24 => ⟨S2x1024x704, .f32⟩
  | 25 => ⟨S2x1024x704, .f32⟩
  | 26 => ⟨S_, .f32⟩
  | 27 => ⟨S2x1024x704, .f32⟩
  | 28 => ⟨S2x1024x704, .f32⟩
  | 29 => ⟨S_, .f32⟩
  | 30 => ⟨S2x352x1024, .f32⟩
  | 31 => ⟨S2x352x1024, .f32⟩
  | 32 => ⟨S_, .f32⟩
  | 33 => ⟨S2x352x1024, .f32⟩
  | 34 => ⟨S2x352x1024, .f32⟩
  | 35 => ⟨S2x352x1024, .f32⟩
  | 36 => ⟨S_, .f32⟩
  | 37 => ⟨S2x352x1024, .f32⟩
  | 38 => ⟨S2x352x1024, .f32⟩
  | 39 => ⟨S2x352x1024, .f32⟩
  | 40 => ⟨S_, .f32⟩
  | 41 => ⟨S2x352x1024, .f32⟩
  | 42 => ⟨S2x352x1024, .f32⟩
  | 43 => ⟨S2x352x1024, .f32⟩
  | 44 => ⟨S_, .f32⟩
  | 45 => ⟨S2x352x1024, .f32⟩
  | 46 => ⟨S2x352x1024, .f32⟩
  | 47 => ⟨S_, .f32⟩
  | 48 => ⟨S2x352x1024, .f32⟩
  | 49 => ⟨S2x352x1024, .f32⟩
  | 50 => ⟨S2x352x1024, .f32⟩
  | 51 => ⟨S_, .f32⟩
  | 52 => ⟨S2x352x1024, .f32⟩
  | 53 => ⟨S2x352x1024, .f32⟩
  | 54 => ⟨S2x352x1024, .f32⟩
  | 55 => ⟨S_, .f32⟩
  | 56 => ⟨S2x352x1024, .f32⟩
  | 57 => ⟨S2x352x1024, .f32⟩
  | 58 => ⟨S2x352x1024, .f32⟩
  | 59 => ⟨S_, .f32⟩
  | 60 => ⟨S2x352x1024, .f32⟩
  | 61 => ⟨S2x352x1024, .f32⟩
  | _ => ⟨S4x449x1024, .bf16⟩

abbrev hbmTy (i : Nat) : BufTy := match i / 128 with
  | 0 => hbmTy0_0 i
  | 1 => hbmTy0_1 i
  | _ => ⟨S4x449x1024, .bf16⟩

abbrev bufTy : (tb : Table) → Fin (tcTables nBuf tb) → BufTy
  | .hbm, ⟨i, _⟩ => hbmTy i
  | _, _ => ⟨S4x449x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_cst_4 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_cst_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_7 : Ref sig .tc := ⟨.hbm, 58, rfl⟩
abbrev main_v30 : Ref sig .tc := ⟨.hbm, 59, rfl⟩
abbrev main_v31 : Ref sig .tc := ⟨.hbm, 60, rfl⟩
abbrev main_cst_8 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_9 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_10 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_11 : Ref sig .tc := ⟨.hbm, 73, rfl⟩
abbrev main_v41 : Ref sig .tc := ⟨.hbm, 74, rfl⟩
abbrev main_v42 : Ref sig .tc := ⟨.hbm, 75, rfl⟩
abbrev main_cst_12 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_13 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_14 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_15 : Ref sig .tc := ⟨.hbm, 88, rfl⟩
abbrev main_v52 : Ref sig .tc := ⟨.hbm, 89, rfl⟩
abbrev main_v53 : Ref sig .tc := ⟨.hbm, 90, rfl⟩
abbrev main_cst_16 : Ref sig .tc := ⟨.hbm, 91, rfl⟩
abbrev main_v54 : Ref sig .tc := ⟨.hbm, 92, rfl⟩
abbrev main_v55 : Ref sig .tc := ⟨.hbm, 93, rfl⟩
abbrev main_cst_17 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_18 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_19 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_20 : Ref sig .tc := ⟨.hbm, 106, rfl⟩
abbrev main_v65 : Ref sig .tc := ⟨.hbm, 107, rfl⟩
abbrev main_v66 : Ref sig .tc := ⟨.hbm, 108, rfl⟩
abbrev main_cst_21 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_22 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_23 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_24 : Ref sig .tc := ⟨.hbm, 121, rfl⟩
abbrev main_v76 : Ref sig .tc := ⟨.hbm, 122, rfl⟩
abbrev main_v77 : Ref sig .tc := ⟨.hbm, 123, rfl⟩
abbrev main_cst_25 : Ref sig .tc := ⟨.hbm, 124, rfl⟩
abbrev main_v78 : Ref sig .tc := ⟨.hbm, 125, rfl⟩
abbrev main_v79 : Ref sig .tc := ⟨.hbm, 126, rfl⟩
abbrev main_cst_26 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_27 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_28 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_29 : Ref sig .tc := ⟨.hbm, 139, rfl⟩
abbrev main_v89 : Ref sig .tc := ⟨.hbm, 140, rfl⟩
abbrev main_v90 : Ref sig .tc := ⟨.hbm, 141, rfl⟩
abbrev main_cst_30 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_31 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_32 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_33 : Ref sig .tc := ⟨.hbm, 154, rfl⟩
abbrev main_v100 : Ref sig .tc := ⟨.hbm, 155, rfl⟩
abbrev main_v101 : Ref sig .tc := ⟨.hbm, 156, rfl⟩
abbrev main_cst_34 : Ref sig .tc := ⟨.hbm, 157, rfl⟩
abbrev main_v102 : Ref sig .tc := ⟨.hbm, 158, rfl⟩
abbrev main_v103 : Ref sig .tc := ⟨.hbm, 159, rfl⟩
abbrev main_cst_35 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_cst_36 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_cst_37 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_38 : Ref sig .tc := ⟨.hbm, 172, rfl⟩
abbrev main_v113 : Ref sig .tc := ⟨.hbm, 173, rfl⟩
abbrev main_v114 : Ref sig .tc := ⟨.hbm, 174, rfl⟩
abbrev main_cst_39 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_40 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_41 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_cst_42 : Ref sig .tc := ⟨.hbm, 187, rfl⟩
abbrev main_v124 : Ref sig .tc := ⟨.hbm, 188, rfl⟩
abbrev main_v125 : Ref sig .tc := ⟨.hbm, 189, rfl⟩

abbrev nD : Nat := 1
abbrev τ : Topo := Topo.v7x

variable {F : FTy → Type} [FloatOps F]
-- ==== Proof.Ffn.Run.lean ====
/- The run of the ten calls: every result ends at what the fold over the calls gives it. -/
module

public import proofs.«01_k».proof.Proof.Gen.FfnIdeal.Frame

@[expose] public section

set_option maxRecDepth 16384

noncomputable section

namespace Cert.FfnIdeal.Run

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every result ends at the contents of the last boundary, every argument as launched. -/
theorem results : θ_run defs (onTc (τ := τ) (main (F := F))) ⟨m, fun _ => 0, ρ⟩ (fun r => ∀ c : Dev nD,
      r.2.mem ((c.tc : Thread nD τ).loc main_v22) = W12 m ρ c main_v22
      ∧ r.2.mem ((c.tc : Thread nD τ).loc main_v14_1) = W12 m ρ c main_v14_1
      ∧ r.2.mem ((c.tc : Thread nD τ).loc main_v19) = W12 m ρ c main_v19
      ∧ r.2.mem ((c.tc : Thread nD τ).loc main_v25) = W12 m ρ c main_v25
      ∧ r.2.mem ((c.tc : Thread nD τ).loc main_v28) = W12 m ρ c main_v28
      ∧ r.2.mem ((c.tc : Thread nD τ).loc main_v31) = W12 m ρ c main_v31
      ∧ r.2.mem ((c.tc : Thread nD τ).loc main_v17) = W12 m ρ c main_v17
      ∧ r.2.mem ((c.tc : Thread nD τ).loc main_v15_1) = W12 m ρ c main_v15_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c =>
      ⟨h c _ (mem_uc main_v22 (by decide)),
       h c _ (mem_uc main_v14_1 (by decide)),
       h c _ (mem_uc main_v19 (by decide)),
       h c _ (mem_uc main_v25 (by decide)),
       h c _ (mem_uc main_v28 (by decide)),
       h c _ (mem_uc main_v31 (by decide)),
       h c _ (mem_uc main_v17 (by decide)),
       h c _ (mem_uc main_v15_1 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.FfnIdeal.Run

end
-- ==== Proof.Geglu.Math.lean ====
/- The gradient of `gelu(conv(gate)) · conv(up)` along one column, as plain functions of the column's entries. -/
module

public import Idealize.ShloMosaic.Lib.Pointwise

@[expose] public section

set_option maxRecDepth 16384

noncomputable section

open Idealize.ShloMosaic

namespace Cert.Geglu

/-- A column of 2048 entries read `j` rows earlier: zero on the first `j` rows. -/
def late (j : ℕ) (x : Fin 2048 → EReal) (r : Fin 2048) : EReal :=
  if j ≤ r.val then x ⟨r.val - j, by omega⟩ else 0

/-- A column of 2048 entries read `j` rows later: zero on the last `j` rows. -/
def early (j : ℕ) (x : Fin 2048 → EReal) (r : Fin 2048) : EReal :=
  if h : r.val + j < 2048 then x ⟨r.val + j, h⟩ else 0

/-- The causal convolution with three taps and a bias. -/
def conv (x : Fin 2048 → EReal) (w : Fin 3 → EReal) (b : EReal) (r : Fin 2048) : EReal :=
  x r * w 2 + late 2 x r * w 0 + late 1 x r * w 1 + b

/-- The inner tangent of the approximate GELU. -/
def th (a : EReal) : EReal :=
  Ideal.tanh (Ideal.ofBits .f32 0x3F4C422A#32 * (a + Ideal.ofBits .f32 0x3D372713#32 * (a * a * a)))

/-- The approximate GELU. -/
def gelu (a : EReal) : EReal := Ideal.ofBits .f32 0x3F000000#32 * a * (1 + th a)

/-- `d · up` carried back through the inner tangent of the approximate GELU. -/
def dinner (a d : EReal) : EReal :=
  Ideal.ofBits .f32 0x3F4C422A#32 * (Ideal.ofBits .f32 0x3F000000#32 * a * d * ((1 + th a) * (1 - th a)))

/-- The gradient of the approximate GELU at `a`, against the incoming `d`. -/
def dgelu (a d : EReal) : EReal :=
  dinner a d + Ideal.ofBits .f32 0x3D372713#32 * dinner a d * (a * a) + Ideal.ofBits .f32 0x3D372713#32 * dinner a d * (a * a)
    + Ideal.ofBits .f32 0x3D372713#32 * dinner a d * (a * a) + Ideal.ofBits .f32 0x3F000000#32 * (d * (1 + th a))

/-- The gradient of the causal convolution with respect to its input, against the incoming column `g`. -/
def dconv (g : Fin 2048 → EReal) (w : Fin 3 → EReal) (r : Fin 2048) : EReal :=
  early 1 (fun r => g r * w 1) r + early 2 (fun r => g r * w 0) r + g r * w 2

/-- The gradient of the causal convolution with respect to the tap applied `j` rows back. -/
def dtap (j : ℕ) (x g : Fin 2048 → EReal) : EReal := ∑ r, late j x r * g r

/-- Reading zero rows back changes nothing. -/
theorem late_zero (x : Fin 2048 → EReal) (r : Fin 2048) : late 0 x r = x r := by simp [late]

/-- The gradient of the approximate GELU with the cube differentiated factor by factor. -/
theorem dgelu_factors (a d : EReal) : dgelu a d = dinner a d + a * a * (Ideal.ofBits .f32 0x3D372713#32 * dinner a d)
    + a * (Ideal.ofBits .f32 0x3D372713#32 * dinner a d * a) + Ideal.ofBits .f32 0x3D372713#32 * dinner a d * a * a
    + Ideal.ofBits .f32 0x3F000000#32 * (d * (1 + th a)) := by
  unfold dgelu
  rw [mul_comm (a * a), mul_left_comm a, mul_assoc _ a a]

/-- Three times an extended real is its sum with itself, three terms. -/
theorem three_mul_sum (q : EReal) : Ideal.ofBits .f32 0x40400000#32 * q = q + q + q := by
  have h3 : Ideal.ofBits .f32 0x40400000#32 = ((3 : ℝ) : EReal) := by
    simp [Ideal.ofBits, Ideal.ieee, -EReal.coe_mul]; norm_num
  rw [h3]
  induction q using EReal.rec with
  | bot => rw [EReal.coe_mul_bot_of_pos (by norm_num)]; rfl
  | top => rw [EReal.coe_mul_top_of_pos (by norm_num)]; rfl
  | coe x => rw [← EReal.coe_mul, ← EReal.coe_add, ← EReal.coe_add]; congr 1; ring

/-- The gradient of the approximate GELU with the cube differentiated as three times the square. -/
theorem dgelu_cube (a d : EReal) : dgelu a d = d * (Ideal.ofBits .f32 0x3F000000#32 * (1 + th a)) + dinner a d
    + Ideal.ofBits .f32 0x3D372713#32 * dinner a d * (Ideal.ofBits .f32 0x40400000#32 * (a * a)) := by
  unfold dgelu
  rw [mul_left_comm _ (Ideal.ofBits .f32 0x40400000#32), three_mul_sum, mul_left_comm d]
  generalize Ideal.ofBits .f32 0x3D372713#32 * dinner a d * (a * a) = q
  ac_rfl

/-- The approximate GELU with the half multiplied into the other factor. -/
theorem gelu_half (a : EReal) : gelu a = a * (Ideal.ofBits .f32 0x3F000000#32 * (1 + th a)) := by
  unfold gelu; ac_rfl

/-- Zeros joined to a column without its last `j` rows are the column read `j` rows earlier. -/
theorem late_joined (j : ℕ) (x : Fin 2048 → EReal) (r : Fin 2048) :
    (if h : r.val < j then 0 else x ⟨r.val - j, by omega⟩) = late j x r := by
  unfold late
  by_cases h : r.val < j
  · rw [dif_pos h, if_neg (by omega)]
  · rw [dif_neg h, if_pos (by omega)]

/-- A scaled column without its first `j` rows, zeros appended, is the scaled column read `j` rows later. -/
theorem early_padded (j : ℕ) (w : EReal) (g : Fin 2048 → EReal) (r : Fin 2048) :
    (if h : r.val < 2048 - j then w * g ⟨j + r.val, by omega⟩ else 0) = early j (fun r => g r * w) r := by
  unfold early
  by_cases h : r.val < 2048 - j
  · rw [dif_pos h, dif_pos (by omega), mul_comm]
    simp only [add_comm]
  · rw [dif_neg h, dif_neg (by omega)]

/-- Each tap's gradient, placed in its own row of three, the other rows zero, and the three added. -/
theorem dtap_placed (x g : Fin 2048 → EReal) (k : Fin 3) :
    (((if h : 1 ≤ k.val ∧ k.val - 1 < 1 then ∑ _ : Fin 1, ∑ r, g r * late 1 x r else 0)
      + if h : k.val < 1 then ∑ _ : Fin 1, ∑ r, g r * late 2 x r else 0)
      + if h : 2 ≤ k.val ∧ k.val - 2 < 1 then ∑ _ : Fin 1, ∑ r, x r * g r else 0) = dtap (2 - k.val) x g := by
  unfold dtap
  match k with
  | 0 => simp [mul_comm]
  | 1 => simp [mul_comm]
  | 2 => simp [late_zero]

end Cert.Geglu

end
-- ==== Proof.Ffn.Stages.lean ====
/- The feed-forward sub-layer, its loss and its gradients, stage by stage, as plain functions of the entries of the arguments. -/
module

public import proofs.«01_k».proof.Proof.Geglu.Math

@[expose] public section

set_option maxRecDepth 16384

noncomputable section

open Idealize.ShloMosaic

namespace Cert.Stages

open Cert.Geglu

/-- The arguments' entries: the residual rows, the normalised rows, the input weights, the taps and biases of the convolution,
    the output weights, the weights of the closing norm, the target. -/
structure Inputs where
  x : Fin 2048 → Fin 1024 → EReal
  h : Fin 2048 → Fin 1024 → EReal
  wi : Fin 5632 → Fin 1024 → EReal
  cw : Fin 3 → Fin 5632 → EReal
  cb : Fin 5632 → EReal
  wo : Fin 2816 → Fin 1024 → EReal
  nw : Fin 1024 → EReal
  tg : Fin 2048 → Fin 1024 → EReal

/-- Column `c` of the gate's half (`p = 0`) or of up's (`p = 1`). -/
def half (p : Fin 2) (c : Fin 2816) : Fin 5632 := ⟨2816 * p.val + c.val, by omega⟩
/-- Which half a column lies in. -/
def halfOf (n : Fin 5632) : Fin 2 := ⟨n.val / 2816, by omega⟩
/-- The column's place in its half. -/
def colOf (n : Fin 5632) : Fin 2816 := ⟨n.val % 2816, by omega⟩
theorem half_of (n : Fin 5632) : half (halfOf n) (colOf n) = n := Fin.ext (by simp only [half, halfOf, colOf]; omega)
theorem halfOf_half (p : Fin 2) (c : Fin 2816) : halfOf (half p c) = p := Fin.ext (by simp only [half, halfOf]; omega)
theorem colOf_half (p : Fin 2) (c : Fin 2816) : colOf (half p c) = c := Fin.ext (by simp only [half, colOf]; omega)

/-- The mean square of a row, kept off zero. -/
def meanSq (f : Fin 1024 → EReal) : EReal :=
  Ideal.div (∑ n, f n * f n) (Ideal.ofBits .f32 0x44800000#32) + Ideal.ofBits .f32 0x358637BD#32
/-- The row divided by its root mean square. -/
def normed (f : Fin 1024 → EReal) (n : Fin 1024) : EReal := f n * Ideal.rsqrt (meanSq f)
/-- The share of the mean square in the gradient of the norm, against `g`, the incoming row times the norm's weights. -/
def pull (f g : Fin 1024 → EReal) : EReal :=
  Ideal.div ((∑ n, f n * g n) * (Ideal.ofBits .f32 0xBF000000#32 * Ideal.div (Ideal.rsqrt (meanSq f)) (meanSq f))) (Ideal.ofBits .f32 0x44800000#32)
/-- The gradient of the norm with respect to its row. -/
def dnorm (f g : Fin 1024 → EReal) (n : Fin 1024) : EReal := g n * Ideal.rsqrt (meanSq f) + f n * pull f g + pull f g * f n

theorem half_val : Ideal.ofBits .f32 0x3F000000#32 = ((1 / 2 : ℝ) : EReal) := by
  simp [Ideal.ofBits, Ideal.ieee, -EReal.coe_mul]; norm_num
theorem two_val : Ideal.ofBits .f32 0x40000000#32 = ((2 : ℝ) : EReal) := by
  simp [Ideal.ofBits, Ideal.ieee, -EReal.coe_mul]; norm_num
theorem width_val : Ideal.ofBits .f32 0x44800000#32 = ((1024 : ℝ) : EReal) := by
  simp [Ideal.ofBits, Ideal.ieee, -EReal.coe_mul]; norm_num
theorem share_val : Ideal.ofBits .f32 0x3A800000#32 = ((1 / 1024 : ℝ) : EReal) := by
  simp [Ideal.ofBits, Ideal.ieee, -EReal.coe_mul]; norm_num

/-- Half of a 1024th of twice an entry is its 1024th. -/
theorem scale_two (e : EReal) : Ideal.div (Ideal.ofBits .f32 0x3F000000#32) (Ideal.ofBits .f32 0x44800000#32) * (Ideal.ofBits .f32 0x40000000#32 * e)
    = e * Ideal.ofBits .f32 0x3A800000#32 := by
  rw [half_val, two_val, width_val, share_val, Ideal.div_coe (by norm_num), ← EReal.coe_mul, ← mul_assoc, ← EReal.coe_mul, mul_comm]
  congr 2; norm_num
/-- Division by 1024 is multiplication by its inverse. -/
theorem div_width (e : EReal) : Ideal.div e (Ideal.ofBits .f32 0x44800000#32) = e * Ideal.ofBits .f32 0x3A800000#32 := by
  rw [width_val, share_val, Ideal.div_coe (by norm_num)]
/-- Half of a sum is the sum of the halves. -/
theorem half_sum {ι : Type} [Fintype ι] (f : ι → EReal) :
    Ideal.ofBits .f32 0x3F000000#32 * ∑ i, f i = ∑ i, Ideal.ofBits .f32 0x3F000000#32 * f i := by
  classical
  rw [half_val]
  induction (Finset.univ : Finset ι) using Finset.induction_on with
  | empty => simp
  | insert a s h ih =>
    rw [Finset.sum_insert h, Finset.sum_insert h, ← ih,
      EReal.left_distrib_of_nonneg_of_ne_top (by exact_mod_cast (by norm_num : (0 : ℝ) ≤ 1 / 2)) (EReal.coe_ne_top _)]

variable (I : Inputs)

/-- Column `n` of the first product. -/
def pre (n : Fin 5632) (r : Fin 2048) : EReal := ∑ k, I.h r k * I.wi n k
/-- The column convolved and biased. -/
def conved (n : Fin 5632) : Fin 2048 → EReal := conv (pre I n) (fun k => I.cw k n) (I.cb n)
/-- The gated entry. -/
def act (r : Fin 2048) (c : Fin 2816) : EReal := gelu (conved I (half 0 c) r) * conved I (half 1 c) r
/-- Row `r` of the second product. -/
def out (r : Fin 2048) (n : Fin 1024) : EReal := ∑ c, act I r c * I.wo c n
/-- The sub-layer's result less the target. -/
def err (r : Fin 2048) (n : Fin 1024) : EReal := I.x r n + normed (out I r) n * I.nw n - I.tg r n
/-- The loss. -/
def loss : EReal := Ideal.ofBits .f32 0x3F000000#32 * ∑ r, Ideal.div (∑ n, err I r n * err I r n) (Ideal.ofBits .f32 0x44800000#32)
/-- The gradient of the loss with respect to the sub-layer's result. -/
def dx (r : Fin 2048) (n : Fin 1024) : EReal := err I r n * Ideal.ofBits .f32 0x3A800000#32
/-- The gradient of the norm's weights. -/
def dnw (n : Fin 1024) : EReal := ∑ r, normed (out I r) n * dx I r n
/-- The gradient of the second product. -/
def dout (r : Fin 2048) : Fin 1024 → EReal := dnorm (out I r) fun n => dx I r n * I.nw n
/-- The gradient of the output weights. -/
def dwo (c : Fin 2816) (n : Fin 1024) : EReal := ∑ r, act I r c * dout I r n
/-- The gradient of the gated entries. -/
def dact (r : Fin 2048) (c : Fin 2816) : EReal := ∑ n, dout I r n * I.wo c n
/-- The gradient that reaches the convolution of the gate's (`p = 0`) or up's (`p = 1`) column. -/
def grad (p : Fin 2) (c : Fin 2816) (r : Fin 2048) : EReal :=
  if p = 0 then dgelu (conved I (half 0 c) r) (dact I r c * conved I (half 1 c) r)
  else gelu (conved I (half 0 c) r) * dact I r c
/-- The gradient of the first product, column `n`. -/
def dpre (n : Fin 5632) : Fin 2048 → EReal := dconv (grad I (halfOf n) (colOf n)) fun k => I.cw k n
/-- The gradient of the taps. -/
def dcw (k : Fin 3) (n : Fin 5632) : EReal := dtap (2 - k.val) (pre I n) (grad I (halfOf n) (colOf n))
/-- The gradient of the biases. -/
def dcb (n : Fin 5632) : EReal := ∑ r, grad I (halfOf n) (colOf n) r
/-- The gradient of the normalised rows. -/
def dh (r : Fin 2048) (k : Fin 1024) : EReal := ∑ n, dpre I n r * I.wi n k
/-- The gradient of the input weights. -/
def dwi (n : Fin 5632) (k : Fin 1024) : EReal := ∑ r, dpre I n r * I.h r k

end Cert.Stages

end
-- ==== Proof.Ffn.Listing.lean ====
/- The order in which the calls list the columns of the gate and of up: 128 columns of the gate, then the same 128 of up. -/
module

public import proofs.«01_k».proof.Proof.Ffn.Stages

@[expose] public section

noncomputable section

namespace Cert.Stages

/-- The half in which the column listed at place `n` lies. -/
def halfAt (n : Fin 5632) : Fin 2 := ⟨n.val / 128 % 2, by omega⟩
/-- The place in its half of the column listed at place `n`. -/
def colAt (n : Fin 5632) : Fin 2816 := ⟨n.val / 256 * 128 + n.val % 128, by omega⟩
/-- The column listed at place `n`. -/
def src (n : Fin 5632) : Fin 5632 := half (halfAt n) (colAt n)
/-- The place at which a column is listed. -/
def listed (n : Fin 5632) : Fin 5632 := ⟨n.val % 2816 / 128 * 256 + n.val / 2816 * 128 + n.val % 128, by omega⟩

theorem src_listed (n : Fin 5632) : src (listed n) = n := by
  have hn := n.isLt
  refine Fin.ext ?_
  simp only [src, half, halfAt, colAt, listed]
  obtain ⟨a, ha⟩ : ∃ a, n.val / 2816 = a := ⟨_, rfl⟩
  obtain ⟨q, hq⟩ : ∃ q, n.val % 2816 / 128 = q := ⟨_, rfl⟩
  obtain ⟨s, hs⟩ : ∃ s, n.val % 128 = s := ⟨_, rfl⟩
  have h1 : a < 2 := by omega
  have h2 : s < 128 := by omega
  have h3 : n.val = 2816 * a + (128 * q + s) := by omega
  rw [ha, hq, hs, show (q * 256 + a * 128 + s) / 128 = 2 * q + a by omega, show (q * 256 + a * 128 + s) / 256 = q by omega,
    show (q * 256 + a * 128 + s) % 128 = s by omega]
  omega
theorem listed_src (n : Fin 5632) : listed (src n) = n := by
  have hn := n.isLt
  refine Fin.ext ?_
  simp only [src, half, halfAt, colAt, listed]
  obtain ⟨a, ha⟩ : ∃ a, n.val / 128 % 2 = a := ⟨_, rfl⟩
  obtain ⟨q, hq⟩ : ∃ q, n.val / 256 = q := ⟨_, rfl⟩
  obtain ⟨s, hs⟩ : ∃ s, n.val % 128 = s := ⟨_, rfl⟩
  have h1 : a < 2 := by omega
  have h2 : s < 128 := by omega
  have h4 : q < 22 := by omega
  have h3 : n.val = 256 * q + (128 * a + s) := by omega
  rw [ha, hq, hs, show (2816 * a + (q * 128 + s)) % 2816 = 128 * q + s by omega, show (128 * q + s) / 128 = q by omega,
    show (2816 * a + (q * 128 + s)) / 2816 = a by omega, show (2816 * a + (q * 128 + s)) % 128 = s by omega]
  omega
theorem halfOf_src (n : Fin 5632) : halfOf (src n) = halfAt n := halfOf_half _ _
theorem colOf_src (n : Fin 5632) : colOf (src n) = colAt n := colOf_half _ _

/-- A sum over the listed columns is the sum over the columns. -/
theorem sum_src (f : Fin 5632 → EReal) : ∑ n, f (src n) = ∑ n, f n :=
  Fintype.sum_equiv ⟨src, listed, listed_src, src_listed⟩ _ _ fun _ => rfl

end Cert.Stages

end
-- ==== Proof.Ffn.Hosts.lean ====
/- The host's part: the weights, taps and biases listed for the calls, the results put back in the columns' own order. -/
module

public import proofs.«01_k».proof.Proof.Gen.FfnIdeal.Frame.Fold0
public import proofs.«01_k».proof.Proof.Ffn.Listing
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnIdeal.Hosts

open Cert.FfnIdeal Cert.FfnIdeal.Gen Cert.Stages

variable (σ : Valuation τ sig (Elt Ideal)) (m : (ℓ : Loc nD τ sig) → Buf (Elt Ideal) ℓ) (ρ : Dev nD → PrngReg) (c : Dev nD)

/-- The arguments' entries. -/
def ins : Inputs where
  x r n := m ((c : Thread nD τ).loc main_arg0) (ix2 r n)
  h r n := m ((c : Thread nD τ).loc main_arg1) (ix2 r n)
  wi n k := m ((c : Thread nD τ).loc main_arg2) (ix2 n k)
  cw k n := m ((c : Thread nD τ).loc main_arg3) (ix2 k n)
  cb n := m ((c : Thread nD τ).loc main_arg4) (ix1 n)
  wo c' n := m ((c : Thread nD τ).loc main_arg5) (ix2 c' n)
  nw n := m ((c : Thread nD τ).loc main_arg6) (ix1 n)
  tg r n := m ((c : Thread nD τ).loc main_arg7) (ix2 r n)

theorem weights (n : Fin 5632) (k : Fin 1024) : V1 m ρ c main_v2 (ix2 n k) = (ins m c).wi (src n) k := by
  show StableHlo.after hostOps0 (W0 m ρ c) (Proc.devRef .tc main_v2) (ix2 n k) = _
  entry_read
  pointwise
  refine congrArg (m _) ?_
  blk_ext [src, half, halfAt, colAt]
  all_goals omega
theorem taps (k : Fin 3) (n : Fin 5632) : V1 m ρ c main_v5 (ix2 k n) = (ins m c).cw k (src n) := by
  show StableHlo.after hostOps0 (W0 m ρ c) (Proc.devRef .tc main_v5) (ix2 k n) = _
  entry_read
  pointwise
  refine congrArg (m _) ?_
  blk_ext [src, half, halfAt, colAt]
  all_goals omega
theorem biases (n : Fin 5632) : V1 m ρ c main_v9 (ix2 0 n) = (ins m c).cb (src n) := by
  show StableHlo.after hostOps0 (W0 m ρ c) (Proc.devRef .tc main_v9) (ix2 0 n) = _
  entry_read
  pointwise
  refine congrArg (m _) ?_
  blk_ext [src, half, halfAt, colAt]
  all_goals omega
theorem norm_weights (n : Fin 1024) : V1 m ρ c main_v10 (ix2 0 n) = (ins m c).nw n := by
  show StableHlo.after hostOps0 (W0 m ρ c) (Proc.devRef .tc main_v10) (ix2 0 n) = _
  entry_read
  pointwise
  rfl

theorem loss_last : StableHlo.after hostOps10 σ (Proc.devRef .tc main_v22) = fun _ => σ (Proc.devRef .tc main_v14_0) (ix2 0 0) := by
  funext y
  entry_read
  pointwise
theorem weights_last (n : Fin 5632) (k : Fin 1024) : StableHlo.after hostOps10 σ (Proc.devRef .tc main_v25) (ix2 n k) = σ (Proc.devRef .tc main_v20) (ix2 (listed n) k) := by
  entry_read
  pointwise
  refine congrArg _ ?_
  blk_ext [listed]
  all_goals omega
theorem taps_last (k : Fin 3) (n : Fin 5632) : StableHlo.after hostOps10 σ (Proc.devRef .tc main_v28) (ix2 k n) = σ (Proc.devRef .tc main_v18_1) (ix2 k (listed n)) := by
  entry_read
  pointwise
  refine congrArg _ ?_
  blk_ext [listed]
  all_goals omega
theorem biases_last (n : Fin 5632) : StableHlo.after hostOps10 σ (Proc.devRef .tc main_v31) (ix2 0 n) = σ (Proc.devRef .tc main_v18_2) (ix2 0 (listed n)) := by
  entry_read
  pointwise
  refine congrArg _ ?_
  blk_ext [listed]
  all_goals omega

end Cert.FfnIdeal.Hosts

end
-- ==== Proof.Geglu.Shared.lean ====
/- What the stages of both programs share: products of matrices, and a rotated column with its wrapped rows cleared. -/
module

public import proofs.«01_k».proof.Proof.Geglu.Math
public import Idealize.ShloMosaic.Lib.Pointwise
public import Idealize.ShloMosaic.Lib.WordCmp

@[expose] public section

set_option maxRecDepth 16384

noncomputable section

open Idealize.ShloMosaic

namespace Cert.Geglu

/-- A matrix of extended reals, as the programs' arrays hold it. -/
abbrev Mat (m n : ℕ) := (⟨2, ![m, n]⟩ : Shape).Idx → EReal

/-- `A · Bᵀ`. -/
def mulT {m n k : ℕ} (A : Mat m k) (B : Mat n k) : Mat m n := fun y => ∑ j, A (ix2 (y 0) j) * B (ix2 (y 1) j)
/-- `A · B`. -/
def mul {m n k : ℕ} (A : Mat m k) (B : Mat k n) : Mat m n := fun y => ∑ j, A (ix2 (y 0) j) * B (ix2 j (y 1))
/-- `Aᵀ · B`. -/
def tMul {m n k : ℕ} (A : Mat k m) (B : Mat k n) : Mat m n := fun y => ∑ j, A (ix2 j (y 0)) * B (ix2 j (y 1))

variable (r : Fin 2048)

/-- Rotated by `j` rows, the first `j` rows cleared: the column read `j` rows earlier. -/
theorem late_sel (j : ℕ) (hj : j < 2048) (x : Fin 2048 → EReal) :
    Scalar.select (IntOp.cmpi CmpIPredicate.sge (BitVec.ofNat 32 r) (BitVec.ofNat 32 j)) (x ⟨(r.val + 2048 - j) % 2048, by omega⟩) 0
      = late j x r := by
  have hr := r.isLt
  word_cmp
  unfold late
  by_cases h : j ≤ r.val
  · rw [if_pos h, if_pos h]
    congr 2; omega
  · rw [if_neg h, if_neg h]

/-- Rotated by `j` rows, all but the first `j` rows cleared: the column read `2048 - j` rows later. -/
theorem early_sel (j : ℕ) (hj : j < 2048) (x : Fin 2048 → EReal) :
    Scalar.select (IntOp.cmpi CmpIPredicate.slt (BitVec.ofNat 32 r) (BitVec.ofNat 32 j)) (x ⟨(r.val + 2048 - j) % 2048, by omega⟩) 0
      = early (2048 - j) x r := by
  have hr := r.isLt
  word_cmp
  unfold early
  by_cases h : r.val < j
  · rw [if_pos h, dif_pos (by omega)]
    congr 2; omega
  · rw [if_neg h, dif_neg (by omega)]

end Cert.Geglu

end
-- ==== Proof.Ffn.Products.lean ====
/- The six calls that are plain products: the array each leaves, from the arrays it finds. -/
module

public import proofs.«01_k».proof.Proof.Gen.FfnIdeal.Frame.Region0
public import proofs.«01_k».proof.Proof.Gen.FfnIdeal.Frame.Region2
public import proofs.«01_k».proof.Proof.Gen.FfnIdeal.Frame.Region5
public import proofs.«01_k».proof.Proof.Gen.FfnIdeal.Frame.Region6
public import proofs.«01_k».proof.Proof.Gen.FfnIdeal.Frame.Region8
public import proofs.«01_k».proof.Proof.Gen.FfnIdeal.Frame.Region9
public import proofs.«01_k».proof.Proof.Geglu.Shared
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Products

open Cert.FfnIdeal Cert.FfnIdeal.Gen
open Cert.Geglu (Mat mul mulT tMul)

variable (V : (c : Dev nD) → (b : Ref sig .tc) → Buf (Elt Ideal) ((c : Thread nD τ).loc b)) (c : Dev nD)

theorem idx0 : ∀ t : Fin cfg0.N, win0_0.index t = ![0, 0] ∧ win0_1.index t = ![t.val, 0]
    ∧ win0_2.index t = ![0, t.val] :=
  (by decide +kernel : ∀ t : Fin grid0.N, _)
theorem out0_at (x0 : Vec Ideal S2048x1024 .bf16) (x1 : Vec Ideal S512x1024 .bf16) (r : Fin 2048) (l : Fin 512) :
    out0_2 x0 x1 (ix2 r l) = ∑ k, x0 (ix2 r k) * x1 (ix2 l k) := by
  frame_out
  pointwise [k0_pay1]
/-- The hidden pre-activation: the normalised rows times the listed input weights, transposed. -/
theorem product0 : (dat0 V c).arrAt 2 cfg0.N = mulT (V c main_arg1) (V c main_v2) := by
  refine (dat0 V c).arrAt_eq_of_covers 2 _ (by decide +kernel) fun t _ y => ?_
  have ht := lt_of_lt_of_eq t.isLt N_0
  rw [after0_2]
  obtain ⟨r, l, rfl⟩ : ∃ (r : Fin 2048) (l : Fin 512), y = ix2 r l := ⟨y 0, y 1, (ix2_eta y).symm⟩
  have he : ((cfg0.win 2).blk t).view.emb (ix2 r l) = ix2 r ⟨512 * t.val + l.val, by omega⟩ := by
    blk_ext [idx0 t]
    all_goals omega
  have h : out0_2 (iblk0 V c 0 t) (iblk0 V c 1 t) (ix2 r l) = mulT (V c main_arg1) (V c main_v2) (ix2 r ⟨512 * t.val + l.val, by omega⟩) := by
    refine (out0_at ..).trans (Finset.sum_congr rfl fun k _ => congrArg₂ (· * ·) ?_ ?_) <;> blk_ext [iblk0, idx0 t]
    all_goals omega
  rw [he]
  refine Eq.trans ?_ h
  refine (cast_eq _ _).trans (congrArg (out0_2 (iblk0 V c 0 t) (iblk0 V c 1 t)) (funext fun a => Fin.ext ?_))
  fin_cases a <;> rfl

theorem idx2 : ∀ t : Fin cfg2.N, win2_0.index t = ![t.val, 0] ∧ win2_1.index t = ![0, 0]
    ∧ win2_2.index t = ![t.val, 0] :=
  (by decide +kernel : ∀ t : Fin grid2.N, _)
theorem out2_at (x0 : Vec Ideal S512x2816 .bf16) (x1 : Vec Ideal S2816x1024 .bf16) (r : Fin 512) (l : Fin 1024) :
    out2_2 x0 x1 (ix2 r l) = ∑ k, x0 (ix2 r k) * x1 (ix2 k l) := by
  frame_out
  pointwise [k2_pay1]
/-- The sub-layer's output before its norm: the gated rows times the output weights. -/
theorem product2 : (dat2 V c).arrAt 2 cfg2.N = mul (V c main_v12) (V c main_arg5) := by
  refine (dat2 V c).arrAt_eq_of_covers 2 _ (by decide +kernel) fun t _ y => ?_
  have ht := lt_of_lt_of_eq t.isLt N_2
  rw [after2_2]
  obtain ⟨r, l, rfl⟩ : ∃ (r : Fin 512) (l : Fin 1024), y = ix2 r l := ⟨y 0, y 1, (ix2_eta y).symm⟩
  have he : ((cfg2.win 2).blk t).view.emb (ix2 r l) = ix2 ⟨512 * t.val + r.val, by omega⟩ l := by
    blk_ext [idx2 t]
    all_goals omega
  have h : out2_2 (iblk2 V c 0 t) (iblk2 V c 1 t) (ix2 r l) = mul (V c main_v12) (V c main_arg5) (ix2 ⟨512 * t.val + r.val, by omega⟩ l) := by
    refine (out2_at ..).trans (Finset.sum_congr rfl fun k _ => congrArg₂ (· * ·) ?_ ?_) <;> blk_ext [iblk2, idx2 t]
    all_goals omega
  rw [he]
  refine Eq.trans ?_ h
  refine (cast_eq _ _).trans (congrArg (out2_2 (iblk2 V c 0 t) (iblk2 V c 1 t)) (funext fun a => Fin.ext ?_))
  fin_cases a <;> rfl

theorem idx5 : ∀ t : Fin cfg5.N, win5_0.index t = ![0, 0] ∧ win5_1.index t = ![t.val, 0]
    ∧ win5_2.index t = ![0, t.val] :=
  (by decide +kernel : ∀ t : Fin grid5.N, _)
theorem out5_at (x0 : Vec Ideal S2048x1024 .bf16) (x1 : Vec Ideal S1408x1024 .bf16) (r : Fin 2048) (l : Fin 1408) :
    out5_2 x0 x1 (ix2 r l) = ∑ k, x0 (ix2 r k) * x1 (ix2 l k) := by
  frame_out
  pointwise [k5_pay1]
/-- The gradient that reaches the gate: the norm's gradient times the output weights, transposed. -/
theorem product5 : (dat5 V c).arrAt 2 cfg5.N = mulT (V c main_v15_0) (V c main_arg5) := by
  refine (dat5 V c).arrAt_eq_of_covers 2 _ (by decide +kernel) fun t _ y => ?_
  have ht := lt_of_lt_of_eq t.isLt N_5
  rw [after5_2]
  obtain ⟨r, l, rfl⟩ : ∃ (r : Fin 2048) (l : Fin 1408), y = ix2 r l := ⟨y 0, y 1, (ix2_eta y).symm⟩
  have he : ((cfg5.win 2).blk t).view.emb (ix2 r l) = ix2 r ⟨1408 * t.val + l.val, by omega⟩ := by
    blk_ext [idx5 t]
    all_goals omega
  have h : out5_2 (iblk5 V c 0 t) (iblk5 V c 1 t) (ix2 r l) = mulT (V c main_v15_0) (V c main_arg5) (ix2 r ⟨1408 * t.val + l.val, by omega⟩) := by
    refine (out5_at ..).trans (Finset.sum_congr rfl fun k _ => congrArg₂ (· * ·) ?_ ?_) <;> blk_ext [iblk5, idx5 t]
    all_goals omega
  rw [he]
  refine Eq.trans ?_ h
  refine (cast_eq _ _).trans (congrArg (out5_2 (iblk5 V c 0 t) (iblk5 V c 1 t)) (funext fun a => Fin.ext ?_))
  fin_cases a <;> rfl

theorem idx6 : ∀ t : Fin cfg6.N, win6_0.index t = ![0, t.val / 2] ∧ win6_1.index t = ![0, t.val % 2]
    ∧ win6_2.index t = ![t.val / 2, t.val % 2] :=
  (by decide +kernel : ∀ t : Fin grid6.N, _)
theorem out6_at (x0 : Vec Ideal S2048x1408 .bf16) (x1 : Vec Ideal S2048x512 .bf16) (r : Fin 1408) (l : Fin 512) :
    out6_2 x0 x1 (ix2 r l) = ∑ k, x0 (ix2 k r) * x1 (ix2 k l) := by
  frame_out
  pointwise [k6_pay1]
/-- The gradient of the output weights. -/
theorem product6 : (dat6 V c).arrAt 2 cfg6.N = tMul (V c main_v12) (V c main_v15_0) := by
  refine (dat6 V c).arrAt_eq_of_covers 2 _ (by decide +kernel) fun t _ y => ?_
  have ht := lt_of_lt_of_eq t.isLt N_6
  rw [after6_2]
  obtain ⟨r, l, rfl⟩ : ∃ (r : Fin 1408) (l : Fin 512), y = ix2 r l := ⟨y 0, y 1, (ix2_eta y).symm⟩
  have he : ((cfg6.win 2).blk t).view.emb (ix2 r l) = ix2 ⟨1408 * (t.val / 2) + r.val, by omega⟩ ⟨512 * (t.val % 2) + l.val, by omega⟩ := by
    blk_ext [idx6 t]
    all_goals omega
  have h : out6_2 (iblk6 V c 0 t) (iblk6 V c 1 t) (ix2 r l) = tMul (V c main_v12) (V c main_v15_0) (ix2 ⟨1408 * (t.val / 2) + r.val, by omega⟩ ⟨512 * (t.val % 2) + l.val, by omega⟩) := by
    refine (out6_at ..).trans (Finset.sum_congr rfl fun k _ => congrArg₂ (· * ·) ?_ ?_) <;> blk_ext [iblk6, idx6 t]
    all_goals omega
  rw [he]
  refine Eq.trans ?_ h
  refine (cast_eq _ _).trans (congrArg (out6_2 (iblk6 V c 0 t) (iblk6 V c 1 t)) (funext fun a => Fin.ext ?_))
  fin_cases a <;> rfl

theorem idx8 : ∀ t : Fin cfg8.N, win8_0.index t = ![t.val, 0] ∧ win8_1.index t = ![0, 0]
    ∧ win8_2.index t = ![t.val, 0] :=
  (by decide +kernel : ∀ t : Fin grid8.N, _)
theorem out8_at (x0 : Vec Ideal S512x5632 .bf16) (x1 : Vec Ideal S5632x1024 .bf16) (r : Fin 512) (l : Fin 1024) :
    out8_2 x0 x1 (ix2 r l) = ∑ k, x0 (ix2 r k) * x1 (ix2 k l) := by
  frame_out
  pointwise [k8_pay1]
/-- The gradient of the normalised rows. -/
theorem product8 : (dat8 V c).arrAt 2 cfg8.N = mul (V c main_v18_0) (V c main_v2) := by
  refine (dat8 V c).arrAt_eq_of_covers 2 _ (by decide +kernel) fun t _ y => ?_
  have ht := lt_of_lt_of_eq t.isLt N_8
  rw [after8_2]
  obtain ⟨r, l, rfl⟩ : ∃ (r : Fin 512) (l : Fin 1024), y = ix2 r l := ⟨y 0, y 1, (ix2_eta y).symm⟩
  have he : ((cfg8.win 2).blk t).view.emb (ix2 r l) = ix2 ⟨512 * t.val + r.val, by omega⟩ l := by
    blk_ext [idx8 t]
    all_goals omega
  have h : out8_2 (iblk8 V c 0 t) (iblk8 V c 1 t) (ix2 r l) = mul (V c main_v18_0) (V c main_v2) (ix2 ⟨512 * t.val + r.val, by omega⟩ l) := by
    refine (out8_at ..).trans (Finset.sum_congr rfl fun k _ => congrArg₂ (· * ·) ?_ ?_) <;> blk_ext [iblk8, idx8 t]
    all_goals omega
  rw [he]
  refine Eq.trans ?_ h
  refine (cast_eq _ _).trans (congrArg (out8_2 (iblk8 V c 0 t) (iblk8 V c 1 t)) (funext fun a => Fin.ext ?_))
  fin_cases a <;> rfl

theorem idx9 : ∀ t : Fin cfg9.N, win9_0.index t = ![0, t.val] ∧ win9_1.index t = ![0, 0]
    ∧ win9_2.index t = ![t.val, 0] :=
  (by decide +kernel : ∀ t : Fin grid9.N, _)
theorem out9_at (x0 : Vec Ideal S2048x512 .bf16) (x1 : Vec Ideal S2048x1024 .bf16) (r : Fin 512) (l : Fin 1024) :
    out9_2 x0 x1 (ix2 r l) = ∑ k, x0 (ix2 k r) * x1 (ix2 k l) := by
  frame_out
  pointwise [k9_pay1]
/-- The gradient of the listed input weights. -/
theorem product9 : (dat9 V c).arrAt 2 cfg9.N = tMul (V c main_v18_0) (V c main_arg1) := by
  refine (dat9 V c).arrAt_eq_of_covers 2 _ (by decide +kernel) fun t _ y => ?_
  have ht := lt_of_lt_of_eq t.isLt N_9
  rw [after9_2]
  obtain ⟨r, l, rfl⟩ : ∃ (r : Fin 512) (l : Fin 1024), y = ix2 r l := ⟨y 0, y 1, (ix2_eta y).symm⟩
  have he : ((cfg9.win 2).blk t).view.emb (ix2 r l) = ix2 ⟨512 * t.val + r.val, by omega⟩ l := by
    blk_ext [idx9 t]
    all_goals omega
  have h : out9_2 (iblk9 V c 0 t) (iblk9 V c 1 t) (ix2 r l) = tMul (V c main_v18_0) (V c main_arg1) (ix2 ⟨512 * t.val + r.val, by omega⟩ l) := by
    refine (out9_at ..).trans (Finset.sum_congr rfl fun k _ => congrArg₂ (· * ·) ?_ ?_) <;> blk_ext [iblk9, idx9 t]
    all_goals omega
  rw [he]
  refine Eq.trans ?_ h
  refine (cast_eq _ _).trans (congrArg (out9_2 (iblk9 V c 0 t) (iblk9 V c 1 t)) (funext fun a => Fin.ext ?_))
  fin_cases a <;> rfl

end Cert.FfnIdeal.Products
end
-- ==== Proof.Ffn.Gate.lean ====
/- The gate's two calls on one block of columns: the forward call, and the call that carries the gradient back. -/
module

public import proofs.«01_k».proof.Proof.Gen.FfnIdeal.Frame.Region1
public import proofs.«01_k».proof.Proof.Gen.FfnIdeal.Frame.Region7
public import proofs.«01_k».proof.Proof.Geglu.Shared
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.FfnIdeal.Gate

open Cert.FfnIdeal Cert.FfnIdeal.Gen Cert.Geglu

variable (x0 : Vec Ideal S2048x256 .bf16) (x1 : Vec Ideal S3x256 .f32) (x2 : Vec Ideal S1x256 .f32) (x3 : Vec Ideal S2048x128 .bf16)
variable (r : Fin 2048) (l : Fin 128)

/-- Lane `l` of the block's gate half (`p = 0`) or up half (`p = 1`). -/
def lane (p : Fin 2) (l : Fin 128) : Fin 256 := ⟨128 * p.val + l.val, by omega⟩

/-- The block's pre-activation column at lane `l` of half `p`. -/
def col (p : Fin 2) (l : Fin 128) (r : Fin 2048) : EReal := x0 (ix2 r (lane p l))
/-- The block's three taps at lane `l` of half `p`. -/
def taps (p : Fin 2) (l : Fin 128) (k : Fin 3) : EReal := x1 (ix2 k (lane p l))
/-- The convolved and biased column at lane `l` of half `p`. -/
def act (p : Fin 2) (l : Fin 128) : Fin 2048 → EReal := conv (col x0 p l) (taps x1 p l) (x2 (ix2 0 (lane p l)))
/-- The gradient column that reaches the convolution at lane `l`: the gate's (`p = 0`) or up's (`p = 1`). -/
def grad (p : Fin 2) (l : Fin 128) (r : Fin 2048) : EReal :=
  if p = 0 then dgelu (act x0 x1 x2 0 l r) (x3 (ix2 r l) * act x0 x1 x2 1 l r)
  else gelu (act x0 x1 x2 0 l r) * x3 (ix2 r l)

theorem gate_late2 : k7_pay11 (View.ld x0 r7_0) (ix2 r l) = late 2 (col x0 0 l) r := by
  rw [← late_sel r 2 (by omega)]
  pointwise [k7_pay11, k7_pay1, col, lane, r7_0]
theorem gate_late1 : k7_pay14 (k7_pay45 x0 x1 x2 x3) (k7_pay44 x0 x1 x2 x3) (k7_pay54 x0 x1 x2 x3) (ix2 r l) = late 1 (col x0 0 l) r := by
  rw [← late_sel r 1 (by omega)]
  pointwise [k7_pay14, k7_pay1, k7_pay45, k7_pay44, k7_pay54, k7_pay13, col, lane, r7_0]
theorem up_late2 : k7_pay22 (k7_pay46 x0 x1 x2 x3) (ix2 r l) = late 2 (col x0 1 l) r := by
  rw [← late_sel r 2 (by omega)]
  pointwise [k7_pay22, k7_pay2, k7_pay46, col, lane, r7_1]
theorem up_late1 : k7_pay24 (k7_pay46 x0 x1 x2 x3) (ix2 r l) = late 1 (col x0 1 l) r := by
  rw [← late_sel r 1 (by omega)]
  pointwise [k7_pay24, k7_pay2, k7_pay46, col, lane, r7_1]
theorem gate_act : k7_pay55 x0 x1 x2 x3 (ix2 r l) = act x0 x1 x2 0 l r := by
  pointwise [k7_pay55, k7_pay15, k7_pay47, k7_pay51, k7_pay53, k7_pay12, gate_late1, gate_late2, act, conv]
  pointwise! [k7_pay1, k7_pay3, k7_pay4, k7_pay5, k7_pay9, col, lane, taps, r7_0, r7_2, r7_3, r7_4, r7_8]
theorem up_act : k7_pay60 x0 x1 x2 x3 (ix2 r l) + k7_pay61 x0 x1 x2 x3 (ix2 r l) + k7_pay52 x0 x1 x2 x3 (ix2 0 l) = act x0 x1 x2 1 l r := by
  pointwise [k7_pay60, k7_pay61, k7_pay52, k7_pay23, k7_pay25, up_late1, up_late2, act, conv]
  pointwise! [k7_pay46, k7_pay48, k7_pay49, k7_pay50, k7_pay2, k7_pay6, k7_pay7, k7_pay8, k7_pay10, col, lane, taps, r7_1, r7_5, r7_6, r7_7, r7_9]
theorem gate_act' : k7_pay15 (k7_pay45 x0 x1 x2 x3) (k7_pay47 x0 x1 x2 x3) (k7_pay51 x0 x1 x2 x3) (k7_pay53 x0 x1 x2 x3)
    (k7_pay44 x0 x1 x2 x3) (k7_pay54 x0 x1 x2 x3) (ix2 r l) = act x0 x1 x2 0 l r := gate_act x0 x1 x2 x3 r l
theorem up_grad : k7_pay27 (k7_pay59 x0 x1 x2 x3) (View.ld x3 r7_10) (ix2 r l) = grad x0 x1 x2 x3 1 l r := by
  pointwise [k7_pay59, k7_pay27, k7_pay26, k7_pay21, k7_pay20, k7_pay16, k7_pay18, k7_pay17, grad, gelu, th, r7_10, gate_act']
theorem gate_grad : k7_pay37 (k7_pay55 x0 x1 x2 x3) (k7_pay57 x0 x1 x2 x3) (k7_pay62 x0 x1 x2 x3) (k7_pay63 x0 x1 x2 x3) (k7_pay64 x0 x1 x2 x3) (ix2 r l)
    = grad x0 x1 x2 x3 0 l r := by
  rw [grad, if_pos rfl, dgelu_factors]
  pointwise [k7_pay37, k7_pay57, k7_pay62, k7_pay63, k7_pay64, k7_pay34, k7_pay35, k7_pay36, k7_pay28, k7_pay26, k7_pay56, k7_pay58, k7_pay19,
    k7_pay20, k7_pay16, k7_pay18, k7_pay17, dinner, th, r7_10, gate_act', gate_act, up_act]
theorem dx_gate : k7_pay42 (k7_pay3 (View.ld x1 r7_2)) (k7_pay47 x0 x1 x2 x3) (k7_pay5 (View.ld x1 r7_4)) (k7_pay55 x0 x1 x2 x3)
    (k7_pay57 x0 x1 x2 x3) (k7_pay62 x0 x1 x2 x3) (k7_pay63 x0 x1 x2 x3) (k7_pay64 x0 x1 x2 x3) (ix2 r l)
      = dconv (grad x0 x1 x2 x3 0 l) (taps x1 0 l) r := by
  unfold dconv
  rw [← early_sel r 2047 (by omega), ← early_sel r 2046 (by omega)]
  pointwise [k7_pay42, gate_grad, k7_pay47, k7_pay3, k7_pay4, k7_pay5, taps, lane, r7_2, r7_3, r7_4]
theorem dx_up : k7_pay43 (k7_pay33 (k7_pay48 x0 x1 x2 x3) (k7_pay49 x0 x1 x2 x3) (k7_pay50 x0 x1 x2 x3) (k7_pay59 x0 x1 x2 x3) (View.ld x3 r7_10)) (ix2 r l)
      = dconv (grad x0 x1 x2 x3 1 l) (taps x1 1 l) r := by
  unfold dconv
  rw [← early_sel r 2047 (by omega), ← early_sel r 2046 (by omega)]
  pointwise [k7_pay43, k7_pay33, up_grad, k7_pay48, k7_pay49, k7_pay50, k7_pay6, k7_pay7, k7_pay8, taps, lane, r7_5, r7_6, r7_7]

theorem dtap_gate2 : k7_pay40 (k7_pay11 (View.ld x0 r7_0)) (k7_pay55 x0 x1 x2 x3) (k7_pay57 x0 x1 x2 x3) (k7_pay62 x0 x1 x2 x3) (k7_pay63 x0 x1 x2 x3) (k7_pay64 x0 x1 x2 x3) (ix2 0 l) = dtap 2 (col x0 0 l) (grad x0 x1 x2 x3 0 l) := by
  pointwise [k7_pay40, gate_grad, gate_late2, dtap]
theorem dtap_gate1 : k7_pay39 (k7_pay14 (k7_pay45 x0 x1 x2 x3) (k7_pay44 x0 x1 x2 x3) (k7_pay54 x0 x1 x2 x3)) (k7_pay55 x0 x1 x2 x3) (k7_pay57 x0 x1 x2 x3) (k7_pay62 x0 x1 x2 x3) (k7_pay63 x0 x1 x2 x3) (k7_pay64 x0 x1 x2 x3) (ix2 0 l) = dtap 1 (col x0 0 l) (grad x0 x1 x2 x3 0 l) := by
  pointwise [k7_pay39, gate_grad, gate_late1, dtap]
theorem dtap_gate0 : k7_pay41 (k7_pay45 x0 x1 x2 x3) (k7_pay55 x0 x1 x2 x3) (k7_pay57 x0 x1 x2 x3) (k7_pay62 x0 x1 x2 x3) (k7_pay63 x0 x1 x2 x3) (k7_pay64 x0 x1 x2 x3) (ix2 0 l) = dtap 0 (col x0 0 l) (grad x0 x1 x2 x3 0 l) := by
  pointwise [k7_pay41, gate_grad, k7_pay45, k7_pay1, r7_0, late_zero, col, lane, dtap]
theorem dtap_up2 : k7_pay31 (k7_pay59 x0 x1 x2 x3) (k7_pay22 (k7_pay46 x0 x1 x2 x3)) (View.ld x3 r7_10) (ix2 0 l)
    = dtap 2 (col x0 1 l) (grad x0 x1 x2 x3 1 l) := by
  pointwise [k7_pay31, up_grad, up_late2, dtap]
theorem dtap_up1 : k7_pay30 (k7_pay59 x0 x1 x2 x3) (k7_pay24 (k7_pay46 x0 x1 x2 x3)) (View.ld x3 r7_10) (ix2 0 l)
    = dtap 1 (col x0 1 l) (grad x0 x1 x2 x3 1 l) := by
  pointwise [k7_pay30, up_grad, up_late1, dtap]
theorem dtap_up0 : k7_pay32 (k7_pay46 x0 x1 x2 x3) (k7_pay59 x0 x1 x2 x3) (View.ld x3 r7_10) (ix2 0 l)
    = dtap 0 (col x0 1 l) (grad x0 x1 x2 x3 1 l) := by
  pointwise [k7_pay32, up_grad, k7_pay46, k7_pay2, r7_1, late_zero, col, lane, dtap]
theorem dbias_gate : k7_pay38 (k7_pay55 x0 x1 x2 x3) (k7_pay57 x0 x1 x2 x3) (k7_pay62 x0 x1 x2 x3) (k7_pay63 x0 x1 x2 x3) (k7_pay64 x0 x1 x2 x3) (ix2 0 l)
    = ∑ r, grad x0 x1 x2 x3 0 l r := by
  pointwise [k7_pay38, gate_grad]
theorem dbias_up : k7_pay29 (k7_pay59 x0 x1 x2 x3) (View.ld x3 r7_10) (ix2 0 l) = ∑ r, grad x0 x1 x2 x3 1 l r := by
  pointwise [k7_pay29, up_grad]

theorem lane_up {p : Fin 2} {l y : Fin 128} (h : (lane p l : ℕ) = 128 + y) : p = 1 ∧ l = y := by
  have hl := l.isLt; have hp := p.isLt; have hy := y.isLt
  constructor <;> (apply Fin.ext; simp only [lane] at h ⊢; omega)
theorem lane_gate {p : Fin 2} {l y : Fin 128} (h : (lane p l : ℕ) = y) : p = 0 ∧ l = y := by
  have hl := l.isLt; have hp := p.isLt; have hy := y.isLt
  constructor <;> (apply Fin.ext; simp only [lane] at h ⊢; omega)

/-- What the body leaves in its first output block: the input gradient. -/
theorem out4 (p : Fin 2) : out7_4 x0 x1 x2 x3 (ix2 r (lane p l)) = dconv (grad x0 x1 x2 x3 p l) (taps x1 p l) r := by
  unfold out7_4
  canon_tiles y h <;> idx_vars y <;> obtain rfl : r = y0 := Fin.ext h0
  · obtain ⟨rfl, rfl⟩ := lane_up h1
    exact dx_up ..
  · obtain ⟨rfl, rfl⟩ := lane_gate h1
    exact dx_gate ..

theorem out5 (k : Fin 3) (p : Fin 2) : out7_5 x0 x1 x2 x3 (ix2 k (lane p l)) = dtap (2 - k.val) (col x0 p l) (grad x0 x1 x2 x3 p l) := by
  unfold out7_5
  canon_tiles y h <;> idx_vars y <;> (obtain rfl : y0 = 0 := Fin.ext (by omega)) <;> (replace h0 : (k : ℕ) = _ := h0) <;> rw [h0]
  · obtain ⟨rfl, rfl⟩ := lane_up h1
    exact dtap_up0 ..
  · obtain ⟨rfl, rfl⟩ := lane_gate h1
    exact dtap_gate0 ..
  · obtain ⟨rfl, rfl⟩ := lane_up h1
    exact dtap_up1 ..
  · obtain ⟨rfl, rfl⟩ := lane_gate h1
    exact dtap_gate1 ..
  · obtain ⟨rfl, rfl⟩ := lane_up h1
    exact dtap_up2 ..
  · obtain ⟨rfl, rfl⟩ := lane_gate h1
    exact dtap_gate2 ..

theorem out6 (p : Fin 2) : out7_6 x0 x1 x2 x3 (ix2 0 (lane p l)) = ∑ r, grad x0 x1 x2 x3 p l r := by
  unfold out7_6
  canon_tiles y h <;> idx_vars y <;> (obtain rfl : y0 = 0 := Fin.ext (by omega))
  · obtain ⟨rfl, rfl⟩ := lane_up h1
    exact dbias_up ..
  · obtain ⟨rfl, rfl⟩ := lane_gate h1
    exact dbias_gate ..
theorem fwd_gate : k1_pay9 (View.ld x0 r1_0) (View.ld x1 r1_2) (View.ld x1 r1_4) (ix2 r l)
    = col x0 0 l r * taps x1 0 l 2 + late 2 (col x0 0 l) r * taps x1 0 l 0 := by
  rw [← late_sel r 2 (by omega)]
  pointwise [k1_pay9, k1_pay1, col, taps, lane, r1_0, r1_2, r1_4]
/-- What the forward body leaves in its output block: the gated entries. -/
theorem fwd : out1_3 x0 x1 x2 (ix2 r l) = gelu (act x0 x1 x2 0 l r) * act x0 x1 x2 1 l r := by
  unfold out1_3
  frame_out
  unfold act conv gelu th
  rw [← late_sel r 1 (by omega), ← late_sel r 1 (by omega), ← late_sel r 2 (by omega) (col x0 1 l)]
  pointwise [k1_pay11, fwd_gate, k1_pay1, k1_pay2, k1_pay3, k1_pay4, k1_pay5, k1_pay6, k1_pay7, k1_pay8, k1_pay10, col, taps, lane,
    r1_0, r1_1, r1_3, r1_5, r1_6, r1_7, r1_8, r1_9]

end Cert.FfnIdeal.Gate
end
-- ==== Proof.Ffn.GateArrays.lean ====
/- The gate's two calls, whole arrays: what each holds when the call has gone over all its blocks of columns. -/
module

public import proofs.«01_k».proof.Proof.Ffn.Gate
public import proofs.«01_k».proof.Proof.Ffn.Listing

@[expose] public section

set_option maxRecDepth 16384

noncomputable section

open Idealize.ShloMosaic Idealize.ShloMosaic.TcCoe Idealize.SL.Sem

namespace Cert.FfnIdeal.GateArrays

open Cert.FfnIdeal Cert.FfnIdeal.Gen Cert.Geglu
open Cert.FfnIdeal.Gate (lane)
open Cert.Stages (Inputs half src halfAt colAt)

variable (V : (c : Dev nD) → (b : Ref sig .tc) → Buf (Elt Ideal) ((c : Thread nD τ).loc b)) (c : Dev nD) (I : Inputs)

/-- Every window's block at grid point `t` is block column `t`. -/
theorem idx1 : ∀ t : Fin cfg1.N, win1_0.index t = ![0, t.val] ∧ win1_1.index t = ![0, t.val] ∧ win1_2.index t = ![0, t.val]
    ∧ win1_3.index t = ![0, t.val] :=
  (by decide +kernel : ∀ t : Fin grid1.N, _)
theorem idx7 : ∀ t : Fin cfg7.N, win7_0.index t = ![0, t.val] ∧ win7_1.index t = ![0, t.val] ∧ win7_2.index t = ![0, t.val]
    ∧ win7_3.index t = ![0, t.val] ∧ win7_4.index t = ![0, t.val] ∧ win7_5.index t = ![0, t.val] ∧ win7_6.index t = ![0, t.val] :=
  (by decide +kernel : ∀ t : Fin grid7.N, _)

/-- The column of its half that block `t` treats at lane `l`. -/
def place (t : Fin 22) (l : Fin 128) : Fin 2816 := ⟨128 * t.val + l.val, by omega⟩
/-- The place in the listing that block `t` treats at a lane. -/
def spot (t : Fin 22) (p : Fin 2) (l : Fin 128) : Fin 5632 := ⟨256 * t.val + (lane p l).val, by have := (lane p l).isLt; omega⟩

theorem halfAt_spot (t : Fin 22) (p : Fin 2) (l : Fin 128) : halfAt (spot t p l) = p := by
  have hp := p.isLt
  refine Fin.ext ?_
  simp only [halfAt, spot, lane]; omega
theorem colAt_spot (t : Fin 22) (p : Fin 2) (l : Fin 128) : colAt (spot t p l) = place t l := by
  have hp := p.isLt
  refine Fin.ext ?_
  simp only [colAt, spot, place, lane]; omega
theorem src_spot (t : Fin 22) (p : Fin 2) (l : Fin 128) : src (spot t p l) = half p (place t l) := by
  rw [src, halfAt_spot, colAt_spot]

/-- A column of a block is a lane of one of its two halves. -/
theorem lane_split (y : Fin 256) : ∃ p l, y = lane p l :=
  ⟨⟨y.val / 128, by omega⟩, ⟨y.val % 128, by omega⟩, Fin.ext (by simp only [lane]; omega)⟩

section Block

variable {c I} {x0 : Vec Ideal S2048x256 .bf16} {x1 : Vec Ideal S3x256 .f32} {x2 : Vec Ideal S1x256 .f32} {x3 : Vec Ideal S2048x128 .bf16}
  {t : Fin 22} (h0 : ∀ r p l, x0 (ix2 r (lane p l)) = Stages.pre I (src (spot t p l)) r)
  (h1 : ∀ k p l, x1 (ix2 k (lane p l)) = I.cw k (src (spot t p l)))
  (h2 : ∀ p l, x2 (ix2 0 (lane p l)) = I.cb (src (spot t p l)))
  (h3 : ∀ r l, x3 (ix2 r l) = Stages.dact I r (place t l))

include h0 in
theorem col_eq (p : Fin 2) (l : Fin 128) : Gate.col x0 p l = Stages.pre I (half p (place t l)) := by
  funext r
  rw [← src_spot]
  exact h0 r p l
include h1 in
theorem taps_eq (p : Fin 2) (l : Fin 128) : Gate.taps x1 p l = fun k => I.cw k (half p (place t l)) := by
  funext k
  rw [← src_spot]
  exact h1 k p l
include h0 h1 h2 in
theorem act_eq (p : Fin 2) (l : Fin 128) : Gate.act x0 x1 x2 p l = Stages.conved I (half p (place t l)) := by
  unfold Gate.act Stages.conved
  rw [col_eq h0, taps_eq h1, h2, src_spot]
include h0 h1 h2 h3 in
theorem grad_eq (p : Fin 2) (l : Fin 128) : Gate.grad x0 x1 x2 x3 p l = Stages.grad I p (place t l) := by
  funext r
  unfold Gate.grad Stages.grad
  rw [act_eq h0 h1 h2, act_eq h0 h1 h2, h3]

include h0 h1 h2 in
theorem fwd_eq (r : Fin 2048) (l : Fin 128) : out1_3 x0 x1 x2 (ix2 r l) = Stages.act I r (place t l) := by
  rw [Gate.fwd, act_eq h0 h1 h2, act_eq h0 h1 h2, Stages.act]
include h0 h1 h2 h3 in
theorem dpre_eq (r : Fin 2048) (p : Fin 2) (l : Fin 128) :
    out7_4 x0 x1 x2 x3 (ix2 r (lane p l)) = Stages.dpre I (src (spot t p l)) r := by
  rw [Gate.out4, grad_eq h0 h1 h2 h3, taps_eq h1, Stages.dpre, Stages.halfOf_src, Stages.colOf_src, src_spot, halfAt_spot, colAt_spot]
include h0 h1 h2 h3 in
theorem dcw_eq (k : Fin 3) (p : Fin 2) (l : Fin 128) :
    out7_5 x0 x1 x2 x3 (ix2 k (lane p l)) = Stages.dcw I k (src (spot t p l)) := by
  rw [Gate.out5, grad_eq h0 h1 h2 h3, col_eq h0, Stages.dcw, Stages.halfOf_src, Stages.colOf_src, src_spot, halfAt_spot, colAt_spot]
include h0 h1 h2 h3 in
theorem dcb_eq (p : Fin 2) (l : Fin 128) :
    out7_6 x0 x1 x2 x3 (ix2 0 (lane p l)) = Stages.dcb I (src (spot t p l)) := by
  rw [Gate.out6, grad_eq h0 h1 h2 h3, Stages.dcb, Stages.halfOf_src, Stages.colOf_src, halfAt_spot, colAt_spot]

end Block

variable {I} (hX : ∀ r n, V c main_v11 (ix2 r n) = Stages.pre I (src n) r)
  (hW : ∀ k n, V c main_v5 (ix2 k n) = I.cw k (src n))
  (hB : ∀ n, V c main_v9 (ix2 0 n) = I.cb (src n))
  (hD : ∀ r n, V c main_v16 (ix2 r n) = Stages.dact I r n)

/-- A grid point as the number of its block. -/
abbrev num1 (t : Fin cfg1.N) : Fin 22 := ⟨t.val, lt_of_lt_of_eq t.isLt N_1⟩
abbrev num7 (t : Fin cfg7.N) : Fin 22 := ⟨t.val, lt_of_lt_of_eq t.isLt N_7⟩

include hX in
theorem blk1_0 (t : Fin cfg1.N) (r : Fin 2048) (p : Fin 2) (l : Fin 128) :
    iblk1 V c 0 t (ix2 r (lane p l)) = Stages.pre I (src (spot (num1 t) p l)) r := by
  rw [← hX]; blk_ext [iblk1, idx1 t, spot, lane]; all_goals omega
include hW in
theorem blk1_1 (t : Fin cfg1.N) (k : Fin 3) (p : Fin 2) (l : Fin 128) :
    iblk1 V c 1 t (ix2 k (lane p l)) = I.cw k (src (spot (num1 t) p l)) := by
  rw [← hW]; blk_ext [iblk1, idx1 t, spot, lane]; all_goals omega
include hB in
theorem blk1_2 (t : Fin cfg1.N) (p : Fin 2) (l : Fin 128) :
    iblk1 V c 2 t (ix2 0 (lane p l)) = I.cb (src (spot (num1 t) p l)) := by
  rw [← hB]; blk_ext [iblk1, idx1 t, spot, lane]; all_goals omega
include hX in
theorem blk7_0 (t : Fin cfg7.N) (r : Fin 2048) (p : Fin 2) (l : Fin 128) :
    iblk7 V c 0 t (ix2 r (lane p l)) = Stages.pre I (src (spot (num7 t) p l)) r := by
  rw [← hX]; blk_ext [iblk7, idx7 t, spot, lane]; all_goals omega
include hW in
theorem blk7_1 (t : Fin cfg7.N) (k : Fin 3) (p : Fin 2) (l : Fin 128) :
    iblk7 V c 1 t (ix2 k (lane p l)) = I.cw k (src (spot (num7 t) p l)) := by
  rw [← hW]; blk_ext [iblk7, idx7 t, spot, lane]; all_goals omega
include hB in
theorem blk7_2 (t : Fin cfg7.N) (p : Fin 2) (l : Fin 128) :
    iblk7 V c 2 t (ix2 0 (lane p l)) = I.cb (src (spot (num7 t) p l)) := by
  rw [← hB]; blk_ext [iblk7, idx7 t, spot, lane]; all_goals omega
include hD in
theorem blk7_3 (t : Fin cfg7.N) (r : Fin 2048) (l : Fin 128) :
    iblk7 V c 3 t (ix2 r l) = Stages.dact I r (place (num7 t) l) := by
  rw [← hD]; blk_ext [iblk7, idx7 t, place]; all_goals omega

include hX hW hB in
/-- The forward call leaves the gated entries. -/
theorem act_at : (dat1 V c).arrAt 3 cfg1.N = fun y => Stages.act I (y 0) (y 1) := by
  refine (dat1 V c).arrAt_eq_of_covers 3 _ (by decide +kernel) fun t _ y => ?_
  have ht := lt_of_lt_of_eq t.isLt N_1
  rw [after1_3]
  obtain ⟨r, l, rfl⟩ : ∃ (r : Fin 2048) (l : Fin 128), y = ix2 r l := ⟨y 0, y 1, (ix2_eta y).symm⟩
  have he : ((cfg1.win 3).blk t).view.emb (ix2 r l) = ix2 r (place (num1 t) l) := by
    blk_ext [place, idx1 t]
    all_goals omega
  have h := fwd_eq (blk1_0 V c hX t) (blk1_1 V c hW t) (blk1_2 V c hB t) r l
  rw [he]
  refine Eq.trans ?_ h
  refine (cast_eq _ _).trans (congrArg (out1_3 (iblk1 V c 0 t) (iblk1 V c 1 t) (iblk1 V c 2 t)) (funext fun a => Fin.ext ?_))
  fin_cases a <;> rfl

include hX hW hB hD in
/-- The backward call leaves the gradient of the first product, column by listed column, … -/
theorem dpre_at : (dat7 V c).arrAt 4 cfg7.N = fun y => Stages.dpre I (src (y 1)) (y 0) := by
  refine (dat7 V c).arrAt_eq_of_covers 4 _ (by decide +kernel) fun t _ y => ?_
  have ht := lt_of_lt_of_eq t.isLt N_7
  rw [after7_4]
  obtain ⟨r, p, l, rfl⟩ : ∃ (r : Fin 2048) (p : Fin 2) (l : Fin 128), y = ix2 r (lane p l) := by
    obtain ⟨p, l, h⟩ := lane_split (y 1)
    exact ⟨y 0, p, l, by rw [← h]; exact (ix2_eta y).symm⟩
  have he : ((cfg7.win 4).blk t).view.emb (ix2 r (lane p l)) = ix2 r (spot (num7 t) p l) := by
    blk_ext [spot, idx7 t]
    all_goals omega
  have h := dpre_eq (blk7_0 V c hX t) (blk7_1 V c hW t) (blk7_2 V c hB t) (blk7_3 V c hD t) r p l
  rw [he]
  refine Eq.trans ?_ h
  refine (cast_eq _ _).trans (congrArg (out7_4 (iblk7 V c 0 t) (iblk7 V c 1 t) (iblk7 V c 2 t) (iblk7 V c 3 t)) (funext fun a => Fin.ext ?_))
  fin_cases a <;> rfl

include hX hW hB hD in
/-- … the gradient of the taps, … -/
theorem dcw_at : (dat7 V c).arrAt 5 cfg7.N = fun y => Stages.dcw I (y 0) (src (y 1)) := by
  refine (dat7 V c).arrAt_eq_of_covers 5 _ (by decide +kernel) fun t _ y => ?_
  have ht := lt_of_lt_of_eq t.isLt N_7
  rw [after7_5]
  obtain ⟨r, p, l, rfl⟩ : ∃ (r : Fin 3) (p : Fin 2) (l : Fin 128), y = ix2 r (lane p l) := by
    obtain ⟨p, l, h⟩ := lane_split (y 1)
    exact ⟨y 0, p, l, by rw [← h]; exact (ix2_eta y).symm⟩
  have he : ((cfg7.win 5).blk t).view.emb (ix2 r (lane p l)) = ix2 r (spot (num7 t) p l) := by
    blk_ext [spot, idx7 t]
    all_goals omega
  have h := dcw_eq (blk7_0 V c hX t) (blk7_1 V c hW t) (blk7_2 V c hB t) (blk7_3 V c hD t) r p l
  rw [he]
  refine Eq.trans ?_ h
  refine (cast_eq _ _).trans (congrArg (out7_5 (iblk7 V c 0 t) (iblk7 V c 1 t) (iblk7 V c 2 t) (iblk7 V c 3 t)) (funext fun a => Fin.ext ?_))
  fin_cases a <;> rfl

include hX hW hB hD in
/-- … and the gradient of the biases. -/
theorem dcb_at : (dat7 V c).arrAt 6 cfg7.N = fun y => Stages.dcb I (src (y 1)) := by
  refine (dat7 V c).arrAt_eq_of_covers 6 _ (by decide +kernel) fun t _ y => ?_
  have ht := lt_of_lt_of_eq t.isLt N_7
  rw [after7_6]
  obtain ⟨r, p, l, rfl⟩ : ∃ (r : Fin 1) (p : Fin 2) (l : Fin 128), y = ix2 r (lane p l) := by
    obtain ⟨p, l, h⟩ := lane_split (y 1)
    exact ⟨y 0, p, l, by rw [← h]; exact (ix2_eta y).symm⟩
  obtain rfl : r = 0 := Subsingleton.elim _ _
  have he : ((cfg7.win 6).blk t).view.emb (ix2 0 (lane p l)) = ix2 0 (spot (num7 t) p l) := by
    blk_ext [spot, idx7 t]
    all_goals omega
  have h := dcb_eq (blk7_0 V c hX t) (blk7_1 V c hW t) (blk7_2 V c hB t) (blk7_3 V c hD t) p l
  rw [he]
  refine Eq.trans ?_ h
  refine (cast_eq _ _).trans (congrArg (out7_6 (iblk7 V c 0 t) (iblk7 V c 1 t) (iblk7 V c 2 t) (iblk7 V c 3 t)) (funext fun a => Fin.ext ?_))
  fin_cases a <;> rfl

end Cert.FfnIdeal.GateArrays

end
-- ==== Proof.Ffn.Norm.lean ====
/- The closing norm with the loss, and the norm's gradient: eight blocks of 256 rows, the loss and the weights' gradient
   accumulated over the blocks. -/
module

public import proofs.«01_k».proof.Proof.Gen.FfnIdeal.Frame.Region3
public import proofs.«01_k».proof.Proof.Gen.FfnIdeal.Frame.Region4
public import proofs.«01_k».proof.Proof.Ffn.Stages
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnIdeal.Norm

open Cert.FfnIdeal Cert.FfnIdeal.Gen Cert.Stages

section Block

variable (x f d : Vec Ideal S256x1024 .f32) (w : Vec Ideal S1x1024 .f32) (g : Vec Ideal S256x1024 .f32)

/-- Row `s` of a block. -/
def row (f : Vec Ideal S256x1024 .f32) (s : Fin 256) (n : Fin 1024) : EReal := f (ix2 s n)

theorem err_at (s : Fin 256) (n : Fin 1024) :
    k3_pay2 x f w g (ix2 s n) = x (ix2 s n) + normed (row f s) n * w (ix2 0 n) - g (ix2 s n) := by
  unfold normed meanSq row
  pointwise [k3_pay2]
/-- The block's share of the loss, before the half. -/
def share (x f : Vec Ideal S256x1024 .f32) (w : Vec Ideal S1x1024 .f32) (g : Vec Ideal S256x1024 .f32) : EReal :=
  ∑ s : Fin 256, (∑ n, k3_pay2 x f w g (ix2 s n) * k3_pay2 x f w g (ix2 s n)) * Ideal.ofBits .f32 0x3A800000#32
theorem share_at : k3_pay6 x f w g (ix2 0 0) = share x f w g := by
  unfold share
  pointwise [k3_pay6]
theorem zero_loss (j : S1x128.Idx) : k3_pay4 (F := Ideal) j = 0 := by pointwise [k3_pay4]
theorem add_loss (a : Vec Ideal S1x128 .f32) (j : S1x128.Idx) :
    k3_pay1 (k3_pay5 a) (k3_pay6 x f w g) j = a j + Ideal.ofBits .f32 0x3F000000#32 * share x f w g := by
  rw [← share_at]
  pointwise [k3_pay1, k3_pay5]
theorem zero_dw (j : S1x1024.Idx) : k4_pay1 (F := Ideal) j = 0 := by pointwise [k4_pay1]
theorem add_dw (a : Vec Ideal S1x1024 .f32) (j : S1x1024.Idx) : k4_pay2 (k4_pay7 f d) a j = a j + k4_pay7 f d j := by
  pointwise [k4_pay2]
theorem dw_at (n : Fin 1024) : k4_pay7 f d (ix2 0 n) = ∑ s, normed (row f s) n * d (ix2 s n) := by
  unfold normed meanSq row
  pointwise [k4_pay7, k4_pay3, k4_pay4, k4_pay5, k4_pay6]
theorem df_at (s : Fin 256) (n : Fin 1024) :
    k4_pay8 f w d (ix2 s n) = dnorm (row f s) (fun n => d (ix2 s n) * w (ix2 0 n)) n := by
  unfold dnorm pull meanSq row
  pointwise [k4_pay8, k4_pay3, k4_pay4, k4_pay5, k4_pay6]
  rw [Fin.sum_univ_one (M := EReal) _]

end Block

variable (V : (c : Dev nD) → (b : Ref sig .tc) → Buf (Elt Ideal) ((c : Thread nD τ).loc b)) (c : Dev nD) {I : Inputs}

theorem idx3 : ∀ t : Fin cfg3.N, win3_0.index t = ![t.val, 0] ∧ win3_1.index t = ![t.val, 0] ∧ win3_2.index t = ![0, 0]
    ∧ win3_3.index t = ![t.val, 0] ∧ win3_5.index t = ![t.val, 0] :=
  (by decide +kernel : ∀ t : Fin grid3.N, _)
theorem idx4 : ∀ t : Fin cfg4.N, win4_0.index t = ![t.val, 0] ∧ win4_1.index t = ![0, 0] ∧ win4_2.index t = ![t.val, 0]
    ∧ win4_3.index t = ![t.val, 0] :=
  (by decide +kernel : ∀ t : Fin grid4.N, _)

/-- The row that block `t` holds at its row `s`. -/
def rowOf (t : Fin 8) (s : Fin 256) : Fin 2048 := ⟨t.val * 256 + s.val, by omega⟩
abbrev num3 (t : Fin cfg3.N) : Fin 8 := ⟨t.val, lt_of_lt_of_eq t.isLt N_3⟩
abbrev num4 (t : Fin cfg4.N) : Fin 8 := ⟨t.val, lt_of_lt_of_eq t.isLt N_4⟩

section Loss

variable (hx : ∀ r n, V c main_arg0 (ix2 r n) = I.x r n) (hf : ∀ r n, V c main_v13 (ix2 r n) = Stages.out I r n)
  (hw : ∀ n, V c main_v10 (ix2 0 n) = I.nw n) (hg : ∀ r n, V c main_arg7 (ix2 r n) = I.tg r n)

include hx hf hw hg in
theorem err_blk (t : Fin cfg3.N) (s : Fin 256) (n : Fin 1024) :
    k3_pay2 (iblk3 V c 0 t) (iblk3 V c 1 t) (iblk3 V c 2 t) (iblk3 V c 3 t) (ix2 s n) = err I (rowOf (num3 t) s) n := by
  have h0 : iblk3 V c 0 t (ix2 s n) = I.x (rowOf (num3 t) s) n := by
    rw [← hx]; blk_ext [iblk3, idx3 t, rowOf]; all_goals omega
  have h1 : row (iblk3 V c 1 t) s = Stages.out I (rowOf (num3 t) s) := by
    funext k; rw [← hf]; unfold row; blk_ext [iblk3, idx3 t, rowOf]; all_goals omega
  have h2 : iblk3 V c 2 t (ix2 0 n) = I.nw n := by
    rw [← hw]; blk_ext [iblk3, idx3 t]
  have h3 : iblk3 V c 3 t (ix2 s n) = I.tg (rowOf (num3 t) s) n := by
    rw [← hg]; blk_ext [iblk3, idx3 t, rowOf]; all_goals omega
  rw [err_at, h0, h1, h2, h3, err]

include hx hf hw hg in
/-- The gradient of the loss with respect to the sub-layer's result. -/
theorem dx_at : (dat3 V c).arrAt 5 cfg3.N = fun y => dx I (y 0) (y 1) := by
  refine (dat3 V c).arrAt_eq_of_covers 5 _ (by decide +kernel) fun t _ y => ?_
  have ht := lt_of_lt_of_eq t.isLt N_3
  rw [after3_5]
  have hb : (outsAt3 V c t.val t.isLt).2 = k3_pay3 (iblk3 V c 0 t) (iblk3 V c 1 t) (iblk3 V c 2 t) (iblk3 V c 3 t) := by
    by_cases h : t.val % 8 = 0
    · rw [outsAt3_A V c t h]; frame_out
    · rw [outsAt3_B V c t h]; frame_out
  rw [hb]
  obtain ⟨s, n, rfl⟩ : ∃ (s : Fin 256) (n : Fin 1024), y = ix2 s n := ⟨y 0, y 1, (ix2_eta y).symm⟩
  have he : ((cfg3.win 5).blk t).view.emb (ix2 s n) = ix2 (rowOf (num3 t) s) n := by
    blk_ext [rowOf, idx3 t]
    all_goals omega
  have h : k3_pay3 (iblk3 V c 0 t) (iblk3 V c 1 t) (iblk3 V c 2 t) (iblk3 V c 3 t) (ix2 s n) = dx I (rowOf (num3 t) s) n := by
    rw [dx, ← err_blk V c hx hf hw hg t s n]
    pointwise [k3_pay3]
  rw [he]
  refine Eq.trans ?_ h
  refine (cast_eq _ _).trans (congrArg (k3_pay3 (iblk3 V c 0 t) (iblk3 V c 1 t) (iblk3 V c 2 t) (iblk3 V c 3 t)) (funext fun a => Fin.ext ?_))
  fin_cases a <;> rfl

include hx hf hw hg in
theorem share_blk (t : Fin cfg3.N) : share (iblk3 V c 0 t) (iblk3 V c 1 t) (iblk3 V c 2 t) (iblk3 V c 3 t)
    = ∑ s : Fin 256, Ideal.div (∑ n, err I (rowOf (num3 t) s) n * err I (rowOf (num3 t) s) n) (Ideal.ofBits .f32 0x44800000#32) := by
  unfold share
  simp only [err_blk V c hx hf hw hg, div_width]

include hx hf hw hg in
/-- The loss, in every lane of its row. -/
theorem loss_at : (dat3 V c).arrAt 4 cfg3.N = fun _ => loss I := by
  refine (dat3 V c).arrAt_eq_of_after_last 4 t3_7 (by decide +kernel) _ fun j => ?_
  blk_simp
  rw [after3_4, Pipeline.eq_sum_fin_of_reset_step_apply_last (fun n h => (outsAt3 V c n h).1) 8 (fun _ => 0) _
    (fun t h j => by rw [outsAt3_A V c t h]; frame_out; rw [add_loss, zero_loss])
    (fun t h j => by rw [outsAt3_B V c t h]; frame_out; rw [add_loss])
    (le_of_eq N_3) t3_7 rfl j, zero_add]
  show (∑ t : Fin cfg3.N, Ideal.ofBits .f32 0x3F000000#32 * share (iblk3 V c 0 t) (iblk3 V c 1 t) (iblk3 V c 2 t) (iblk3 V c 3 t) : EReal) = loss I
  simp only [share_blk V c hx hf hw hg]
  rw [← half_sum, loss]
  refine congrArg _ ?_
  refine Fin.sum_mul_add_congr (S := 8) (n := 256) fun t s hl => ?_
  rfl

end Loss

section Grad

variable (hf : ∀ r n, V c main_v13 (ix2 r n) = Stages.out I r n)
  (hw : ∀ n, V c main_v10 (ix2 0 n) = I.nw n) (hd : ∀ r n, V c main_v14_1 (ix2 r n) = dx I r n)

include hf in
theorem row_blk (t : Fin cfg4.N) (s : Fin 256) : row (iblk4 V c 0 t) s = Stages.out I (rowOf (num4 t) s) := by
  funext k; rw [← hf]; unfold row; blk_ext [iblk4, idx4 t, rowOf]; all_goals omega
include hd in
theorem dx_blk (t : Fin cfg4.N) (s : Fin 256) (n : Fin 1024) : iblk4 V c 2 t (ix2 s n) = dx I (rowOf (num4 t) s) n := by
  rw [← hd]; blk_ext [iblk4, idx4 t, rowOf]; all_goals omega
include hw in
theorem weight_blk (t : Fin cfg4.N) (n : Fin 1024) : iblk4 V c 1 t (ix2 0 n) = I.nw n := by
  rw [← hw]; blk_ext [iblk4, idx4 t]

include hf hw hd in
/-- The gradient of the second product. -/
theorem dout_at : (dat4 V c).arrAt 3 cfg4.N = fun y => dout I (y 0) (y 1) := by
  refine (dat4 V c).arrAt_eq_of_covers 3 _ (by decide +kernel) fun t _ y => ?_
  have ht := lt_of_lt_of_eq t.isLt N_4
  rw [after4_3]
  have hb : (outsAt4 V c t.val t.isLt).1 = k4_pay8 (iblk4 V c 0 t) (iblk4 V c 1 t) (iblk4 V c 2 t) := by
    by_cases h : t.val % 8 = 0
    · rw [outsAt4_A V c t h]; frame_out
    · rw [outsAt4_B V c t h]; frame_out
  rw [hb]
  obtain ⟨s, n, rfl⟩ : ∃ (s : Fin 256) (n : Fin 1024), y = ix2 s n := ⟨y 0, y 1, (ix2_eta y).symm⟩
  have he : ((cfg4.win 3).blk t).view.emb (ix2 s n) = ix2 (rowOf (num4 t) s) n := by
    blk_ext [rowOf, idx4 t]
    all_goals omega
  have h : k4_pay8 (iblk4 V c 0 t) (iblk4 V c 1 t) (iblk4 V c 2 t) (ix2 s n) = dout I (rowOf (num4 t) s) n := by
    rw [df_at, row_blk V c hf, dout]
    simp only [dx_blk V c hd, weight_blk V c hw]
  rw [he]
  refine Eq.trans ?_ h
  refine (cast_eq _ _).trans (congrArg (k4_pay8 (iblk4 V c 0 t) (iblk4 V c 1 t) (iblk4 V c 2 t)) (funext fun a => Fin.ext ?_))
  fin_cases a <;> rfl

include hf hd in
/-- The gradient of the norm's weights. -/
theorem dnw_at : (dat4 V c).arrAt 4 cfg4.N = fun y => dnw I (y 1) := by
  refine (dat4 V c).arrAt_eq_of_after_last 4 t4_7 (by decide +kernel) _ fun j => ?_
  blk_simp
  rw [after4_4, Pipeline.eq_sum_fin_of_reset_step_apply_last (fun n h => (outsAt4 V c n h).2) 8 (fun _ => 0) _
    (fun t h j => by rw [outsAt4_A V c t h]; frame_out; rw [add_dw, zero_dw])
    (fun t h j => by rw [outsAt4_B V c t h]; frame_out; rw [add_dw])
    (le_of_eq N_4) t4_7 rfl j, zero_add]
  obtain ⟨r, n, rfl⟩ : ∃ (r : Fin 1) (n : Fin 1024), j = ix2 r n := ⟨j 0, j 1, (ix2_eta j).symm⟩
  obtain rfl : r = 0 := Subsingleton.elim _ _
  show (∑ t : Fin cfg4.N, k4_pay7 (iblk4 V c 0 t) (iblk4 V c 2 t) (ix2 0 n) : EReal) = dnw I n
  simp only [dw_at, row_blk V c hf, dx_blk V c hd]
  rw [dnw]
  refine Fin.sum_mul_add_congr (S := 8) (n := 256) fun t s hl => ?_
  rfl

end Grad

end Cert.FfnIdeal.Norm

end
-- ==== Proof.Ffn.Chain.lean ====
/- The ten calls one after the other: what each array holds when its call ends, as the stage it computes. -/
module

public import proofs.«01_k».proof.Proof.Ffn.Hosts
public import proofs.«01_k».proof.Proof.Ffn.Products
public import proofs.«01_k».proof.Proof.Ffn.GateArrays
public import proofs.«01_k».proof.Proof.Ffn.Norm

@[expose] public section

set_option maxRecDepth 16384

noncomputable section

open Idealize.ShloMosaic Idealize.ShloMosaic.TcCoe Idealize.SL.Sem

namespace Cert.FfnIdeal.Chain

open Cert.FfnIdeal Cert.FfnIdeal.Gen Cert.Stages
open Cert.FfnIdeal.Hosts (ins)

variable (m : (ℓ : Loc nD τ sig) → Buf (Elt Ideal) ℓ) (ρ : Dev nD → PrngReg) (c : Dev nD)

/-! ## What no call in between writes is kept -/

theorem taps_1_2 : V2 m ρ c main_v5 = V1 m ρ c main_v5 :=
  W2_of m ρ c main_v5 (by decide +kernel)
theorem biases_1_2 : V2 m ρ c main_v9 = V1 m ρ c main_v9 :=
  W2_of m ρ c main_v9 (by decide +kernel)
theorem weights_1_9 : V9 m ρ c main_v2 = V1 m ρ c main_v2 :=
  (((((((W9_of m ρ c main_v2 (by decide +kernel)).trans (W8_of m ρ c main_v2 (by decide +kernel))).trans (W7_of m ρ c main_v2 (by decide +kernel))).trans (W6_of m ρ c main_v2 (by decide +kernel))).trans (W5_of m ρ c main_v2 (by decide +kernel))).trans (W4_of m ρ c main_v2 (by decide +kernel))).trans (W3_of m ρ c main_v2 (by decide +kernel))).trans (W2_of m ρ c main_v2 (by decide +kernel))
theorem norm_weights_1_4 : V4 m ρ c main_v10 = V1 m ρ c main_v10 :=
  ((W4_of m ρ c main_v10 (by decide +kernel)).trans (W3_of m ρ c main_v10 (by decide +kernel))).trans (W2_of m ρ c main_v10 (by decide +kernel))
theorem norm_weights_4_5 : V5 m ρ c main_v10 = V4 m ρ c main_v10 :=
  W5_of m ρ c main_v10 (by decide +kernel)
theorem pre_2_8 : V8 m ρ c main_v11 = V2 m ρ c main_v11 :=
  (((((W8_of m ρ c main_v11 (by decide +kernel)).trans (W7_of m ρ c main_v11 (by decide +kernel))).trans (W6_of m ρ c main_v11 (by decide +kernel))).trans (W5_of m ρ c main_v11 (by decide +kernel))).trans (W4_of m ρ c main_v11 (by decide +kernel))).trans (W3_of m ρ c main_v11 (by decide +kernel))
theorem act_3_7 : V7 m ρ c main_v12 = V3 m ρ c main_v12 :=
  (((W7_of m ρ c main_v12 (by decide +kernel)).trans (W6_of m ρ c main_v12 (by decide +kernel))).trans (W5_of m ρ c main_v12 (by decide +kernel))).trans (W4_of m ρ c main_v12 (by decide +kernel))
theorem out_4_5 : V5 m ρ c main_v13 = V4 m ρ c main_v13 :=
  W5_of m ρ c main_v13 (by decide +kernel)
theorem dout_6_7 : V7 m ρ c main_v15_0 = V6 m ρ c main_v15_0 :=
  W7_of m ρ c main_v15_0 (by decide +kernel)
theorem taps_2_8 : V8 m ρ c main_v5 = V2 m ρ c main_v5 :=
  (((((W8_of m ρ c main_v5 (by decide +kernel)).trans (W7_of m ρ c main_v5 (by decide +kernel))).trans (W6_of m ρ c main_v5 (by decide +kernel))).trans (W5_of m ρ c main_v5 (by decide +kernel))).trans (W4_of m ρ c main_v5 (by decide +kernel))).trans (W3_of m ρ c main_v5 (by decide +kernel))
theorem biases_2_8 : V8 m ρ c main_v9 = V2 m ρ c main_v9 :=
  (((((W8_of m ρ c main_v9 (by decide +kernel)).trans (W7_of m ρ c main_v9 (by decide +kernel))).trans (W6_of m ρ c main_v9 (by decide +kernel))).trans (W5_of m ρ c main_v9 (by decide +kernel))).trans (W4_of m ρ c main_v9 (by decide +kernel))).trans (W3_of m ρ c main_v9 (by decide +kernel))
theorem dx_5_11 : V11 m ρ c main_v14_1 = V5 m ρ c main_v14_1 :=
  (((((W11_of m ρ c main_v14_1 (by decide +kernel)).trans (W10_of m ρ c main_v14_1 (by decide +kernel))).trans (W9_of m ρ c main_v14_1 (by decide +kernel))).trans (W8_of m ρ c main_v14_1 (by decide +kernel))).trans (W7_of m ρ c main_v14_1 (by decide +kernel))).trans (W6_of m ρ c main_v14_1 (by decide +kernel))
theorem dnw_6_11 : V11 m ρ c main_v15_1 = V6 m ρ c main_v15_1 :=
  ((((W11_of m ρ c main_v15_1 (by decide +kernel)).trans (W10_of m ρ c main_v15_1 (by decide +kernel))).trans (W9_of m ρ c main_v15_1 (by decide +kernel))).trans (W8_of m ρ c main_v15_1 (by decide +kernel))).trans (W7_of m ρ c main_v15_1 (by decide +kernel))
theorem dwo_8_11 : V11 m ρ c main_v17 = V8 m ρ c main_v17 :=
  ((W11_of m ρ c main_v17 (by decide +kernel)).trans (W10_of m ρ c main_v17 (by decide +kernel))).trans (W9_of m ρ c main_v17 (by decide +kernel))
theorem dcw_9_11 : V11 m ρ c main_v18_1 = V9 m ρ c main_v18_1 :=
  (W11_of m ρ c main_v18_1 (by decide +kernel)).trans (W10_of m ρ c main_v18_1 (by decide +kernel))
theorem dcb_9_11 : V11 m ρ c main_v18_2 = V9 m ρ c main_v18_2 :=
  (W11_of m ρ c main_v18_2 (by decide +kernel)).trans (W10_of m ρ c main_v18_2 (by decide +kernel))
theorem dpre_9_10 : V10 m ρ c main_v18_0 = V9 m ρ c main_v18_0 :=
  W10_of m ρ c main_v18_0 (by decide +kernel)
theorem loss_5_11 : V11 m ρ c main_v14_0 = V5 m ρ c main_v14_0 :=
  (((((W11_of m ρ c main_v14_0 (by decide +kernel)).trans (W10_of m ρ c main_v14_0 (by decide +kernel))).trans (W9_of m ρ c main_v14_0 (by decide +kernel))).trans (W8_of m ρ c main_v14_0 (by decide +kernel))).trans (W7_of m ρ c main_v14_0 (by decide +kernel))).trans (W6_of m ρ c main_v14_0 (by decide +kernel))
theorem dh_10_11 : V11 m ρ c main_v19 = V10 m ρ c main_v19 :=
  W11_of m ρ c main_v19 (by decide +kernel)

theorem arg_at1 (a : Ref sig .tc) (h : a ∈ argRefs) : V1 m ρ c a = m ((c : Thread nD τ).loc a) := W1_args m ρ c a h
theorem arg_at3 (a : Ref sig .tc) (h : a ∈ argRefs) : V3 m ρ c a = m ((c : Thread nD τ).loc a) := W3_args m ρ c a h
theorem arg_at4 (a : Ref sig .tc) (h : a ∈ argRefs) : V4 m ρ c a = m ((c : Thread nD τ).loc a) := W4_args m ρ c a h
theorem arg_at6 (a : Ref sig .tc) (h : a ∈ argRefs) : V6 m ρ c a = m ((c : Thread nD τ).loc a) := W6_args m ρ c a h
theorem arg_at10 (a : Ref sig .tc) (h : a ∈ argRefs) : V10 m ρ c a = m ((c : Thread nD τ).loc a) := W10_args m ρ c a h

/-! ## The calls -/

theorem weights_at : V1 m ρ c main_v2 = fun y => (ins m c).wi (src (y 0)) (y 1) := by
  funext y
  rw [← Hosts.weights m ρ c (y 0) (y 1)]
  exact congrArg _ (ix2_eta y).symm

theorem pre_at (r : Fin 2048) (n : Fin 5632) : V2 m ρ c main_v11 (ix2 r n) = pre (ins m c) (src n) r := by
  rw [show V2 m ρ c main_v11 = _ from W2_arr m ρ c 2, Products.product0, weights_at, arg_at1 m ρ c main_arg1 (by decide)]
  rfl

theorem act_at : V3 m ρ c main_v12 = fun y => act (ins m c) (y 0) (y 1) :=
  (W3_arr m ρ c 3).trans (GateArrays.act_at (V2 m ρ) c (pre_at m ρ c)
    (fun k n => (congrFun (taps_1_2 m ρ c) _).trans (Hosts.taps m ρ c k n))
    (fun n => (congrFun (biases_1_2 m ρ c) _).trans (Hosts.biases m ρ c n)))

theorem out_at (r : Fin 2048) (n : Fin 1024) : V4 m ρ c main_v13 (ix2 r n) = out (ins m c) r n := by
  rw [show V4 m ρ c main_v13 = _ from W4_arr m ρ c 2, Products.product2, act_at, arg_at3 m ρ c main_arg5 (by decide)]
  rfl

theorem loss_at : V5 m ρ c main_v14_0 = fun _ => loss (ins m c) :=
  (W5_arr m ρ c 4).trans (Norm.loss_at (V4 m ρ) c (fun r n => congrFun (arg_at4 m ρ c main_arg0 (by decide)) _) (out_at m ρ c)
    (fun n => (congrFun (norm_weights_1_4 m ρ c) _).trans (Hosts.norm_weights m ρ c n))
    (fun r n => congrFun (arg_at4 m ρ c main_arg7 (by decide)) _))
theorem dx_at : V5 m ρ c main_v14_1 = fun y => dx (ins m c) (y 0) (y 1) :=
  (W5_arr m ρ c 5).trans (Norm.dx_at (V4 m ρ) c (fun r n => congrFun (arg_at4 m ρ c main_arg0 (by decide)) _) (out_at m ρ c)
    (fun n => (congrFun (norm_weights_1_4 m ρ c) _).trans (Hosts.norm_weights m ρ c n))
    (fun r n => congrFun (arg_at4 m ρ c main_arg7 (by decide)) _))

theorem dout_at : V6 m ρ c main_v15_0 = fun y => dout (ins m c) (y 0) (y 1) :=
  (W6_arr m ρ c 3).trans (Norm.dout_at (V5 m ρ) c (fun r n => (congrFun (out_4_5 m ρ c) _).trans (out_at m ρ c r n))
    (fun n => (congrFun ((norm_weights_4_5 m ρ c).trans (norm_weights_1_4 m ρ c)) _).trans (Hosts.norm_weights m ρ c n))
    (fun r n => congrFun (dx_at m ρ c) _))
theorem dnw_at : V6 m ρ c main_v15_1 = fun y => dnw (ins m c) (y 1) :=
  (W6_arr m ρ c 4).trans (Norm.dnw_at (V5 m ρ) c (fun r n => (congrFun (out_4_5 m ρ c) _).trans (out_at m ρ c r n))
    (fun r n => congrFun (dx_at m ρ c) _))

theorem dact_at (r : Fin 2048) (n : Fin 2816) : V7 m ρ c main_v16 (ix2 r n) = dact (ins m c) r n := by
  rw [show V7 m ρ c main_v16 = _ from W7_arr m ρ c 2, Products.product5, dout_at, arg_at6 m ρ c main_arg5 (by decide)]
  rfl

theorem dwo_at : V8 m ρ c main_v17 = fun y => dwo (ins m c) (y 0) (y 1) := by
  rw [show V8 m ρ c main_v17 = _ from W8_arr m ρ c 2, Products.product6, dout_6_7, dout_at, act_3_7, act_at]
  rfl

theorem dact_8 (r : Fin 2048) (n : Fin 2816) : V8 m ρ c main_v16 (ix2 r n) = dact (ins m c) r n :=
  (congrFun (W8_of m ρ c main_v16 (by decide +kernel)) _).trans (dact_at m ρ c r n)
theorem pre_8 (r : Fin 2048) (n : Fin 5632) : V8 m ρ c main_v11 (ix2 r n) = pre (ins m c) (src n) r :=
  (congrFun (pre_2_8 m ρ c) _).trans (pre_at m ρ c r n)
theorem taps_8 (k : Fin 3) (n : Fin 5632) : V8 m ρ c main_v5 (ix2 k n) = (ins m c).cw k (src n) :=
  (congrFun ((taps_2_8 m ρ c).trans (taps_1_2 m ρ c)) _).trans (Hosts.taps m ρ c k n)
theorem biases_8 (n : Fin 5632) : V8 m ρ c main_v9 (ix2 0 n) = (ins m c).cb (src n) :=
  (congrFun ((biases_2_8 m ρ c).trans (biases_1_2 m ρ c)) _).trans (Hosts.biases m ρ c n)

theorem dpre_at : V9 m ρ c main_v18_0 = fun y => dpre (ins m c) (src (y 1)) (y 0) :=
  (W9_arr m ρ c 4).trans (GateArrays.dpre_at (V8 m ρ) c (pre_8 m ρ c) (taps_8 m ρ c) (biases_8 m ρ c) (dact_8 m ρ c))
theorem dcw_at : V9 m ρ c main_v18_1 = fun y => dcw (ins m c) (y 0) (src (y 1)) :=
  (W9_arr m ρ c 5).trans (GateArrays.dcw_at (V8 m ρ) c (pre_8 m ρ c) (taps_8 m ρ c) (biases_8 m ρ c) (dact_8 m ρ c))
theorem dcb_at : V9 m ρ c main_v18_2 = fun y => dcb (ins m c) (src (y 1)) :=
  (W9_arr m ρ c 6).trans (GateArrays.dcb_at (V8 m ρ) c (pre_8 m ρ c) (taps_8 m ρ c) (biases_8 m ρ c) (dact_8 m ρ c))

/-- The listing does not change the sum over the columns. -/
theorem dh_at : V10 m ρ c main_v19 = fun y => dh (ins m c) (y 0) (y 1) := by
  rw [show V10 m ρ c main_v19 = _ from W10_arr m ρ c 2, Products.product8, dpre_at, weights_1_9, weights_at]
  funext y
  exact sum_src fun n => dpre (ins m c) n (y 0) * (ins m c).wi n (y 1)

theorem dwi_at (n : Fin 5632) (k : Fin 1024) : V11 m ρ c main_v20 (ix2 n k) = dwi (ins m c) (src n) k := by
  rw [show V11 m ρ c main_v20 = _ from W11_arr m ρ c 2, Products.product9, dpre_9_10, dpre_at, arg_at10 m ρ c main_arg1 (by decide)]
  rfl

/-! ## The results -/

theorem loss_end : W12 m ρ c main_v22 = fun _ => loss (ins m c) := by
  rw [show W12 m ρ c main_v22 = _ from Hosts.loss_last (W11 m ρ c)]
  funext _
  exact congrFun ((loss_5_11 m ρ c).trans (loss_at m ρ c)) _
theorem dx_end : W12 m ρ c main_v14_1 = fun y => dx (ins m c) (y 0) (y 1) :=
  (W12_of m ρ c main_v14_1 (by decide)).trans ((dx_5_11 m ρ c).trans (dx_at m ρ c))
theorem dh_end : W12 m ρ c main_v19 = fun y => dh (ins m c) (y 0) (y 1) :=
  (W12_of m ρ c main_v19 (by decide)).trans ((dh_10_11 m ρ c).trans (dh_at m ρ c))
theorem dwi_end (n : Fin 5632) (k : Fin 1024) : W12 m ρ c main_v25 (ix2 n k) = dwi (ins m c) n k :=
  (Hosts.weights_last (W11 m ρ c) n k).trans ((dwi_at m ρ c (listed n) k).trans (by rw [src_listed]))
theorem dcw_end (k : Fin 3) (n : Fin 5632) : W12 m ρ c main_v28 (ix2 k n) = dcw (ins m c) k n :=
  (Hosts.taps_last (W11 m ρ c) k n).trans ((congrFun ((dcw_9_11 m ρ c).trans (dcw_at m ρ c)) _).trans (by
    show dcw (ins m c) k (src (listed n)) = _; rw [src_listed]))
theorem dcb_end (n : Fin 5632) : W12 m ρ c main_v31 (ix2 0 n) = dcb (ins m c) n :=
  (Hosts.biases_last (W11 m ρ c) n).trans ((congrFun ((dcb_9_11 m ρ c).trans (dcb_at m ρ c)) _).trans (by
    show dcb (ins m c) (src (listed n)) = _; rw [src_listed]))
theorem dwo_end : W12 m ρ c main_v17 = fun y => dwo (ins m c) (y 0) (y 1) :=
  (W12_of m ρ c main_v17 (by decide)).trans ((dwo_8_11 m ρ c).trans (dwo_at m ρ c))
theorem dnw_end : W12 m ρ c main_v15_1 = fun y => dnw (ins m c) (y 1) :=
  (W12_of m ρ c main_v15_1 (by decide)).trans ((dnw_6_11 m ρ c).trans (dnw_at m ρ c))

end Cert.FfnIdeal.Chain

end
-- ==== Proof.Ffn.Reference.lean ====
/- The reference's arrays, stage by stage, at one entry. -/
module

public import proofs.«01_k».proof.Proof.Gen.FfnRefIdeal.Run
public import proofs.«01_k».proof.Proof.Ffn.Stages
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.FfnRefIdeal.Entries

open Cert.FfnRefIdeal Cert.FfnRefIdeal.Gen Cert.FfnRefIdeal.Value Cert.Geglu Cert.Stages

variable (V : Valuation τ sig (Elt Ideal))

/-- The entries of the reference's arguments. -/
def ins : Inputs where
  x r n := (V (Proc.devRef .tc main_arg0) : FVec Ideal S2048x1024 .f32) (ix2 r n)
  h r n := (V (Proc.devRef .tc main_arg1) : FVec Ideal S2048x1024 .bf16) (ix2 r n)
  wi n k := (V (Proc.devRef .tc main_arg2) : FVec Ideal S5632x1024 .bf16) (ix2 n k)
  cw k n := (V (Proc.devRef .tc main_arg3) : FVec Ideal S3x5632 .f32) (ix2 k n)
  cb n := (V (Proc.devRef .tc main_arg4) : FVec Ideal S5632 .f32) (ix1 n)
  wo c n := (V (Proc.devRef .tc main_arg5) : FVec Ideal S2816x1024 .bf16) (ix2 c n)
  nw n := (V (Proc.devRef .tc main_arg6) : FVec Ideal S1024 .f32) (ix1 n)
  tg r n := (V (Proc.devRef .tc main_arg7) : FVec Ideal S2048x1024 .f32) (ix2 r n)

variable (r : Fin 2048) (n : Fin 5632) (c : Fin 2816) (l : Fin 1024) (k : Fin 3)

theorem x_in : (V (Proc.devRef .tc main_arg0) : FVec Ideal S2048x1024 .f32) (ix2 r l) = (ins V).x r l := rfl
theorem h_in : (V (Proc.devRef .tc main_arg1) : FVec Ideal S2048x1024 .bf16) (ix2 r l) = (ins V).h r l := rfl
theorem wi_in : (V (Proc.devRef .tc main_arg2) : FVec Ideal S5632x1024 .bf16) (ix2 n l) = (ins V).wi n l := rfl
theorem cw_in : (V (Proc.devRef .tc main_arg3) : FVec Ideal S3x5632 .f32) (ix2 k n) = (ins V).cw k n := rfl
theorem cb_in : (V (Proc.devRef .tc main_arg4) : FVec Ideal S5632 .f32) (ix1 n) = (ins V).cb n := rfl
theorem wo_in : (V (Proc.devRef .tc main_arg5) : FVec Ideal S2816x1024 .bf16) (ix2 c l) = (ins V).wo c l := rfl
theorem nw_in : (V (Proc.devRef .tc main_arg6) : FVec Ideal S1024 .f32) (ix1 l) = (ins V).nw l := rfl
theorem tg_in : (V (Proc.devRef .tc main_arg7) : FVec Ideal S2048x1024 .f32) (ix2 r l) = (ins V).tg r l := rfl

theorem pre_at : res_main_v4 V (ix2 r n) = pre (ins V) n r := by
  pointwise [res_main_v4, res_main_v0, res_main_v3, pre, h_in, wi_in]
theorem late2 : res_main_v14 V (ix2 r n) = late 2 (pre (ins V) n) r := by
  pointwise [res_main_v14, pre_at]
  exact late_joined 2 (pre (ins V) n) r
theorem late1 : res_main_v24 V (ix2 r n) = late 1 (pre (ins V) n) r := by
  pointwise [res_main_v24, pre_at]
  exact late_joined 1 (pre (ins V) n) r
theorem conved_at : res_main_v32 V (ix2 r n) = conved (ins V) n r := by
  pointwise [res_main_v32, res_main_v7, res_main_v16, res_main_v26, pre_at, late1, late2, conved, conv, cw_in, cb_in]
  rw [mul_comm (late 2 _ _), mul_comm (late 1 _ _)]
theorem th_at : res_main_v45 V (ix2 r c) = th (conved (ins V) (half 0 c) r) := by
  pointwise [res_main_v45, res_main_v33, conved_at, th, half]
theorem gelu_at : res_main_v55 V (ix2 r c) = gelu (conved (ins V) (half 0 c) r) := by
  rw [gelu_half]
  pointwise [res_main_v55, res_main_v54, res_main_v33, th_at, conved_at, half]
theorem act_at : res_main_v56 V (ix2 r c) = act (ins V) r c := by
  pointwise [res_main_v56, res_main_v34, gelu_at, conved_at, half, act]
theorem out_at : res_main_v57 V (ix2 r l) = out (ins V) r l := by
  pointwise [res_main_v57, act_at, res_main_v2, out, wo_in]
theorem meanSq_at (z : Fin 1) : res_main_v64 V (ix2 r z) = meanSq (out (ins V) r) := by
  pointwise [res_main_v64, out_at, meanSq]
theorem normed_at : res_main_v70 V (ix2 r l) = normed (out (ins V) r) l := by
  pointwise [res_main_v70, res_main_v65, meanSq_at, out_at, normed]
theorem err_at : res_main_v75 V (ix2 r l) = err (ins V) r l := by
  pointwise [res_main_v75, res_main_v71, normed_at, err, x_in, nw_in, tg_in]
theorem dx_at : res_main_v89 V (ix2 r l) = dx (ins V) r l := by
  pointwise [res_main_v89, err_at, dx]
  exact scale_two _
theorem pull_at : res_main_v105 V (ix2 r l) = pull (out (ins V) r) (fun n => dx (ins V) r n * (ins V).nw n) := by
  pointwise [res_main_v105, res_main_v94, res_main_v65, res_main_v71, meanSq_at, out_at, dx_at, pull, nw_in]
  exact Fin.sum_univ_one (M := EReal) _
theorem dout_at : res_main_v109 V (ix2 r l) = dout (ins V) r l := by
  pointwise [res_main_v109, res_main_v94, res_main_v65, res_main_v71, pull_at, meanSq_at, out_at, dx_at, dout, dnorm, nw_in]
theorem dact_at : res_main_v112 V (ix2 r c) = dact (ins V) r c := by
  pointwise [res_main_v112, dout_at, res_main_v2, dact, wo_in]
theorem inner_at : res_main_v121 V (ix2 r c) = dinner (conved (ins V) (half 0 c) r) (dact (ins V) r c * conved (ins V) (half 1 c) r) := by
  unfold dinner
  rw [mul_assoc _ (conved (ins V) _ _)]
  pointwise [res_main_v121, res_main_v114, res_main_v34, res_main_v33, dact_at, conved_at, th_at, half]
theorem grad_gate : res_main_v127 V (ix2 r (half 0 c)) = grad (ins V) 0 c r := by
  rw [grad, if_pos rfl, dgelu_cube]
  pointwise [res_main_v127, res_main_v114, res_main_v54, inner_at, th_at, res_main_v33, res_main_v34, dact_at, conved_at, half]
theorem grad_up : res_main_v127 V (ix2 r (half 1 c)) = grad (ins V) 1 c r := by
  rw [grad, if_neg (by decide)]
  pointwise [res_main_v127, gelu_at, dact_at, half]
theorem grad_at : res_main_v127 V (ix2 r n) = grad (ins V) (halfOf n) (colOf n) r := by
  rw [← half_of n, halfOf_half, colOf_half]
  generalize halfOf n = p
  match p with
  | 0 => exact grad_gate ..
  | 1 => exact grad_up ..
theorem dpre_at : res_main_v160 V (ix2 r n) = dpre (ins V) n r := by
  pointwise [res_main_v160, res_main_v132, res_main_v143, grad_at, res_main_v7, res_main_v16, res_main_v26, dpre, dconv, cw_in]
  exact congrArg₂ (· + ·) (congrArg₂ (· + ·) (early_padded 1 _ _ r) (early_padded 2 _ _ r)) rfl

/-- The loss the reference returns. -/
abbrev lossOut : FVec Ideal S_ .f32 :=
  mulf (constant S_ .f32 0x3F000000#32) (Host.reduceAdd (Host.divf (Host.reduceAdd (mulf (res_main_v75 V) (res_main_v75 V)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_)
/-- The gradient of the normalised rows. -/
abbrev dhOut : FVec Ideal S2048x1024 .f32 :=
  Host.dotGeneral (φ₁ := .f32) (φ₂ := .f32) dot_S2048x5632_S1024x5632_S2048x1024_1_1_0_0_n_n none (res_main_v160 V) (res_main_v3 V)
/-- The gradient of the input weights. -/
abbrev dwiOut : FVec Ideal S5632x1024 .bf16 :=
  truncf .bf16 (transpose S5632x1024 [1, 0] (transpose S1024x5632 [1, 0] (Host.dotGeneral (φ₁ := .f32) (φ₂ := .f32) dot_S2048x5632_S2048x1024_S5632x1024_0_0_1_1_n_n none (res_main_v160 V) (res_main_v0 V)) transposes_S5632x1024_S1024x5632_1_0) transposes_S1024x5632_S5632x1024_1_0) bitsLt_bf16_f32
/-- The gradient of the taps. -/
abbrev dcwOut : FVec Ideal S3x5632 .f32 :=
  addf (addf (pad S3x5632 ![1, 0] ![1, 0] ![0, 0] (broadcastInDim S1x5632 ![1] bcast_S5632_S1x5632_1 (Host.reduceAdd (shapeCast _ (Host.reduceAdd (mulf (res_main_v127 V) (res_main_v24 V)) (constant S_ .f32 0x00000000#32) reducesTo_S2048x5632_S5632_d0 h_S_) shapeCasts_S5632_S1x5632) (constant S_ .f32 0x00000000#32) reducesTo_S1x5632_S5632_d0 h_S_)) (constant S_ .f32 0x00000000#32) pads_S1x5632_S3x5632_110_000 h_S_) (pad S3x5632 ![0, 0] ![2, 0] ![0, 0] (broadcastInDim S1x5632 ![1] bcast_S5632_S1x5632_1 (Host.reduceAdd (shapeCast _ (Host.reduceAdd (mulf (res_main_v127 V) (res_main_v14 V)) (constant S_ .f32 0x00000000#32) reducesTo_S2048x5632_S5632_d0 h_S_) shapeCasts_S5632_S1x5632) (constant S_ .f32 0x00000000#32) reducesTo_S1x5632_S5632_d0 h_S_)) (constant S_ .f32 0x00000000#32) pads_S1x5632_S3x5632_020_000 h_S_)) (pad S3x5632 ![2, 0] ![0, 0] ![0, 0] (broadcastInDim S1x5632 ![1] bcast_S5632_S1x5632_1 (Host.reduceAdd (shapeCast _ (Host.reduceAdd (mulf (res_main_v4 V) (res_main_v127 V)) (constant S_ .f32 0x00000000#32) reducesTo_S2048x5632_S5632_d0 h_S_) shapeCasts_S5632_S1x5632) (constant S_ .f32 0x00000000#32) reducesTo_S1x5632_S5632_d0 h_S_)) (constant S_ .f32 0x00000000#32) pads_S1x5632_S3x5632_200_000 h_S_)
/-- The gradient of the biases. -/
abbrev dcbOut : FVec Ideal S1x5632 .f32 :=
  broadcastInDim S1x5632 ![1] bcast_S5632_S1x5632_1 (Host.reduceAdd (shapeCast _ (Host.reduceAdd (res_main_v127 V) (constant S_ .f32 0x00000000#32) reducesTo_S2048x5632_S5632_d0 h_S_) shapeCasts_S5632_S1x5632) (constant S_ .f32 0x00000000#32) reducesTo_S1x5632_S5632_d0 h_S_)
/-- The gradient of the output weights. -/
abbrev dwoOut : FVec Ideal S2816x1024 .bf16 :=
  truncf .bf16 (transpose S2816x1024 [1, 0] (Host.dotGeneral (φ₁ := .f32) (φ₂ := .f32) dot_S2048x1024_S2048x2816_S1024x2816_0_0_1_1_n_n none (res_main_v109 V) (res_main_v56 V)) transposes_S1024x2816_S2816x1024_1_0) bitsLt_bf16_f32
/-- The gradient of the norm's weights. -/
abbrev dnwOut : FVec Ideal S1x1024 .f32 :=
  broadcastInDim S1x1024 ![1] bcast_S1024_S1x1024_1 (Host.reduceAdd (shapeCast _ (Host.reduceAdd (mulf (res_main_v70 V) (res_main_v89 V)) (constant S_ .f32 0x00000000#32) reducesTo_S2048x1024_S1024_d0 h_S_) shapeCasts_S1024_S1x1024) (constant S_ .f32 0x00000000#32) reducesTo_S1x1024_S1024_d0 h_S_)

theorem loss_at (y : S_.Idx) : lossOut V y = loss (ins V) := by
  pointwise [lossOut, err_at, loss]
theorem dh_at : dhOut V (ix2 r l) = dh (ins V) r l := by
  pointwise [dhOut, dpre_at, res_main_v3, wi_in, dh]
theorem dwi_at : dwiOut V (ix2 n l) = dwi (ins V) n l := by
  pointwise [dwiOut, dpre_at, res_main_v0, h_in, dwi]
theorem dcw_at : dcwOut V (ix2 k n) = dcw (ins V) k n := by
  pointwise [dcwOut, grad_at, late1, late2, pre_at]
  exact dtap_placed (pre (ins V) n) (grad (ins V) (halfOf n) (colOf n)) k
theorem dcb_at : dcbOut V (ix2 0 n) = dcb (ins V) n := by
  pointwise [dcbOut, grad_at, dcb]
  exact Fin.sum_univ_one (M := EReal) _
theorem dwo_at : dwoOut V (ix2 c l) = dwo (ins V) c l := by
  pointwise [dwoOut, dout_at, act_at, dwo]
  exact Finset.sum_congr rfl fun _ _ => mul_comm _ _
theorem dnw_at : dnwOut V (ix2 0 l) = dnw (ins V) l := by
  pointwise [dnwOut, normed_at, dx_at, dnw]
  exact Fin.sum_univ_one (M := EReal) _
end Cert.FfnRefIdeal.Entries

end
-- ==== Proof.MixIn.Run.lean ====
/- The run of the seven calls: every result ends at what the fold over the calls gives it. -/
module

public import proofs.«01_k».proof.Proof.Gen.MixInIdeal.Frame

@[expose] public section

set_option maxRecDepth 16384

noncomputable section

namespace Cert.MixInIdeal.Run

open Cert.MixInIdeal Cert.MixInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every result ends at the contents of the last boundary, every argument as launched. -/
theorem results : θ_run defs (onTc (τ := τ) (main (F := F))) ⟨m, fun _ => 0, ρ⟩ (fun r => ∀ c : Dev nD,
      r.2.mem ((c.tc : Thread nD τ).loc main_v24) = W12 m ρ c main_v24
      ∧ r.2.mem ((c.tc : Thread nD τ).loc main_v16) = W12 m ρ c main_v16
      ∧ r.2.mem ((c.tc : Thread nD τ).loc main_v25) = W12 m ρ c main_v25
      ∧ r.2.mem ((c.tc : Thread nD τ).loc main_v20_0) = W12 m ρ c main_v20_0
      ∧ r.2.mem ((c.tc : Thread nD τ).loc main_v20_1) = W12 m ρ c main_v20_1
      ∧ r.2.mem ((c.tc : Thread nD τ).loc main_v31) = W12 m ρ c main_v31
      ∧ r.2.mem ((c.tc : Thread nD τ).loc main_v17_1) = W12 m ρ c main_v17_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c =>
      ⟨h c _ (mem_uc main_v24 (by decide)),
       h c _ (mem_uc main_v16 (by decide)),
       h c _ (mem_uc main_v25 (by decide)),
       h c _ (mem_uc main_v20_0 (by decide)),
       h c _ (mem_uc main_v20_1 (by decide)),
       h c _ (mem_uc main_v31 (by decide)),
       h c _ (mem_uc main_v17_1 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.MixInIdeal.Run

end
-- ==== Proof.MixIn.Stages.lean ====
/- The entry to the mixer and its gradients, stage by stage, as plain functions of the entries of the arguments: the norm, the
   in-projection, the short causal convolution with its SiLU. -/
module

public import proofs.«01_k».proof.Proof.Ffn.Stages

@[expose] public section

set_option maxRecDepth 16384

noncomputable section

open Idealize.ShloMosaic

namespace Cert.Mixer

open Cert.Geglu
open Cert.Stages (normed dnorm)

/-- The causal convolution with four taps. -/
def conv (x : Fin 2048 → EReal) (w : Fin 4 → EReal) (r : Fin 2048) : EReal :=
  x r * w 3 + late 3 x r * w 0 + late 2 x r * w 1 + late 1 x r * w 2
/-- Its gradient with respect to its input, against the incoming column `g`. -/
def dconv (g : Fin 2048 → EReal) (w : Fin 4 → EReal) (r : Fin 2048) : EReal :=
  early 1 (fun r => g r * w 2) r + early 2 (fun r => g r * w 1) r + early 3 (fun r => g r * w 0) r + g r * w 3

/-- The logistic function. -/
def expit (a : EReal) : EReal := Ideal.div 1 (1 + Ideal.exp (-a))
/-- The SiLU. -/
def silu (a : EReal) : EReal := a * expit a
/-- The gradient of the SiLU at `a`, against the incoming `g`. -/
def dsilu (a g : EReal) : EReal := g * expit a + a * g * (expit a * (1 - expit a))

/-- The slope of the logistic function, written with the exponential and the squared denominator. -/
theorem slope (a : EReal) : Ideal.div 1 ((1 + Ideal.exp (-a)) * (1 + Ideal.exp (-a))) * Ideal.exp (-a) = expit a * (1 - expit a) := by
  unfold expit
  induction a using EReal.rec with
  | bot =>
    have h : (1 : EReal) + ⊤ = ⊤ := EReal.add_top_of_ne_bot (EReal.coe_ne_bot 1)
    simp [Ideal.div, h]
  | top =>
    have h : (1 : EReal) - 1 = 0 := EReal.sub_self (EReal.coe_ne_top 1) (EReal.coe_ne_bot 1)
    simp [Ideal.div, h]
  | coe x =>
    have h : (1 + Real.exp (-x)) ≠ 0 := by positivity
    rw [← EReal.coe_neg, Ideal.exp_coe, ← EReal.coe_one, ← EReal.coe_add, ← EReal.coe_mul, Ideal.div_coe h, Ideal.div_coe (mul_ne_zero h h),
      ← EReal.coe_mul, ← EReal.coe_mul, ← EReal.coe_mul, ← EReal.coe_sub, ← EReal.coe_mul]
    congr 1
    field_simp
    ring

/-- The arguments' entries: the residual rows, the norm's weights, the input weights, the taps, and the incoming gradients of the
    attention's columns, of the convolved columns, of the last columns and of the residual rows. -/
structure Inputs where
  x : Fin 2048 → Fin 1024 → EReal
  nw : Fin 1024 → EReal
  wi : Fin 3592 → Fin 1024 → EReal
  cw : Fin 4 → Fin 1536 → EReal
  dq : Fin 2048 → Fin 1536 → EReal
  dc : Fin 2048 → Fin 1536 → EReal
  dt : Fin 2048 → Fin 520 → EReal
  dx1 : Fin 2048 → Fin 1024 → EReal

/-- Column `n` of those the convolution reads. -/
def mid (n : Fin 1536) : Fin 3592 := ⟨1536 + n.val, by omega⟩
/-- Column `n` of those passed on untouched, after the convolution's. -/
def last (n : Fin 520) : Fin 3592 := ⟨3072 + n.val, by omega⟩
/-- Column `n` of the attention's. -/
def first (n : Fin 1536) : Fin 3592 := ⟨n.val, by omega⟩

variable (I : Inputs)

/-- The normalised rows. -/
def h (r : Fin 2048) (k : Fin 1024) : EReal := normed (I.x r) k * I.nw k
/-- Column `n` of the in-projection. -/
def proj (n : Fin 3592) (r : Fin 2048) : EReal := ∑ k, h I r k * I.wi n k
/-- The column convolved. -/
def conved (n : Fin 1536) : Fin 2048 → EReal := conv (proj I (mid n)) fun k => I.cw k n
/-- The convolved columns after the SiLU. -/
def act (r : Fin 2048) (n : Fin 1536) : EReal := silu (conved I n r)
/-- The gradient that reaches the convolution. -/
def grad (n : Fin 1536) (r : Fin 2048) : EReal := dsilu (conved I n r) (I.dc r n)
/-- The gradient of the in-projection, column `n`. -/
def dproj (n : Fin 3592) (r : Fin 2048) : EReal :=
  if h : n.val < 1536 then I.dq r ⟨n.val, h⟩
  else if h : n.val < 3072 then dconv (grad I ⟨n.val - 1536, by omega⟩) (fun k => I.cw k ⟨n.val - 1536, by omega⟩) r
  else I.dt r ⟨n.val - 3072, by omega⟩
/-- The gradient of the taps. -/
def dcw (k : Fin 4) (n : Fin 1536) : EReal := dtap (3 - k.val) (proj I (mid n)) (grad I n)
/-- The gradient of the normalised rows. -/
def dh (r : Fin 2048) (k : Fin 1024) : EReal := ∑ n, dproj I n r * I.wi n k
/-- The gradient of the input weights. -/
def dwi (n : Fin 3592) (k : Fin 1024) : EReal := ∑ r, dproj I n r * h I r k
/-- The gradient of the residual rows. -/
def dx (r : Fin 2048) (n : Fin 1024) : EReal := dnorm (I.x r) (fun n => dh I r n * I.nw n) n + I.dx1 r n
/-- The gradient of the norm's weights. -/
def dnw (n : Fin 1024) : EReal := ∑ r, normed (I.x r) n * dh I r n

end Cert.Mixer

end
-- ==== Proof.MixIn.Listing.lean ====
/- The order in which the calls list the rows of the input weights: the attention's rows of one pair of heads together, then the
   rest; and rows of zeros after the last. -/
module

public import proofs.«01_k».proof.Proof.MixIn.Stages

@[expose] public section

set_option maxRecDepth 16384

noncomputable section

namespace Cert.Mixer

/-- The row listed at place `n`. -/
def src (n : Fin 3592) : Fin 3592 :=
  if h : n.val < 1536 then ⟨n.val / 128 % 3 * 512 + n.val / 384 * 128 + n.val % 128, by omega⟩ else n
/-- The place at which a row is listed. -/
def listed (n : Fin 3592) : Fin 3592 :=
  if h : n.val < 1536 then ⟨n.val / 128 % 4 * 384 + n.val / 512 * 128 + n.val % 128, by omega⟩ else n

theorem src_listed (n : Fin 3592) : src (listed n) = n := by
  by_cases h : n.val < 1536
  · refine Fin.ext ?_
    obtain ⟨a, ha⟩ : ∃ a, n.val / 512 = a := ⟨_, rfl⟩
    obtain ⟨q, hq⟩ : ∃ q, n.val / 128 % 4 = q := ⟨_, rfl⟩
    obtain ⟨s, hs⟩ : ∃ s, n.val % 128 = s := ⟨_, rfl⟩
    have h3 : n.val = 512 * a + (128 * q + s) := by omega
    rw [listed, dif_pos h, src, dif_pos (by simp only []; omega)]
    simp only [ha, hq, hs]
    rw [show (q * 384 + a * 128 + s) / 128 = 3 * q + a by omega, show (q * 384 + a * 128 + s) / 384 = q by omega,
      show (q * 384 + a * 128 + s) % 128 = s by omega]
    omega
  · rw [listed, dif_neg h, src, dif_neg h]
theorem listed_src (n : Fin 3592) : listed (src n) = n := by
  by_cases h : n.val < 1536
  · refine Fin.ext ?_
    obtain ⟨a, ha⟩ : ∃ a, n.val / 128 % 3 = a := ⟨_, rfl⟩
    obtain ⟨q, hq⟩ : ∃ q, n.val / 384 = q := ⟨_, rfl⟩
    obtain ⟨s, hs⟩ : ∃ s, n.val % 128 = s := ⟨_, rfl⟩
    have h3 : n.val = 384 * q + (128 * a + s) := by omega
    rw [src, dif_pos h, listed, dif_pos (by simp only []; omega)]
    simp only [ha, hq, hs]
    rw [show (a * 512 + q * 128 + s) / 128 = 4 * a + q by omega, show (a * 512 + q * 128 + s) / 512 = a by omega,
      show (a * 512 + q * 128 + s) % 128 = s by omega]
    omega
  · rw [src, dif_neg h, listed, dif_neg h]

theorem src_low {n : Fin 3592} (h : n.val < 1536) : (src n).val = n.val / 128 % 3 * 512 + n.val / 384 * 128 + n.val % 128 := by
  rw [src, dif_pos h]
theorem src_high {n : Fin 3592} (h : ¬n.val < 1536) : (src n).val = n.val := by
  rw [src, dif_neg h]
theorem listed_low {n : Fin 3592} (h : n.val < 1536) : (listed n).val = n.val / 128 % 4 * 384 + n.val / 512 * 128 + n.val % 128 := by
  rw [listed, dif_pos h]
theorem listed_high {n : Fin 3592} (h : ¬n.val < 1536) : (listed n).val = n.val := by
  rw [listed, dif_neg h]

/-- A sum over the listed rows is the sum over the rows. -/
theorem sum_src (f : Fin 3592 → EReal) : ∑ n, f (src n) = ∑ n, f n :=
  Fintype.sum_equiv ⟨src, listed, listed_src, src_listed⟩ _ _ fun _ => rfl

/-- Zeros after the last of 3592 entries. -/
def padded (f : Fin 3592 → EReal) (n : Fin 3840) : EReal := if h : n.val < 3592 then f ⟨n.val, h⟩ else 0

/-- The zeros add nothing. -/
theorem sum_padded (f g : Fin 3592 → EReal) : ∑ n, padded f n * padded g n = ∑ n, f n * g n := by
  rw [show (∑ n, padded f n * padded g n) = _ from Fin.sum_univ_add (M := EReal) (a := 3592) (b := 248) fun n => padded f n * padded g n]
  rw [show (∑ i : Fin 248, padded f (Fin.natAdd 3592 i) * padded g (Fin.natAdd 3592 i)) = 0 from
    Finset.sum_eq_zero fun i _ => by rw [padded, dif_neg (by simp), zero_mul], add_zero]
  refine Finset.sum_congr rfl fun i _ => ?_
  rw [padded, dif_pos (by simp), padded, dif_pos (by simp)]
  rfl

end Cert.Mixer

end
-- ==== Proof.MixIn.Hosts.lean ====
/- The host's part: the weights listed and padded for the calls, the incoming gradients set side by side, the results put back
   in the columns' own order. -/
module

public import proofs.«01_k».proof.Proof.Gen.MixInIdeal.Frame
public import proofs.«01_k».proof.Proof.MixIn.Stages
public import proofs.«01_k».proof.Proof.MixIn.Listing
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixInIdeal.Hosts

open Cert.MixInIdeal Cert.MixInIdeal.Gen Cert.Mixer

variable (σ : Valuation τ sig (Elt Ideal)) (m : (ℓ : Loc nD τ sig) → Buf (Elt Ideal) ℓ) (ρ : Dev nD → PrngReg) (c : Dev nD)

/-- The arguments' entries. -/
def ins : Inputs where
  x r n := m ((c : Thread nD τ).loc main_arg0) (ix2 r n)
  nw n := m ((c : Thread nD τ).loc main_arg1) (ix1 n)
  wi n k := m ((c : Thread nD τ).loc main_arg2) (ix2 n k)
  cw k n := m ((c : Thread nD τ).loc main_arg3) (ix2 k n)
  dq r n := m ((c : Thread nD τ).loc main_arg4) (ix2 r n)
  dc r n := m ((c : Thread nD τ).loc main_arg5) (ix2 r n)
  dt r n := m ((c : Thread nD τ).loc main_arg6) (ix2 r n)
  dx1 r n := m ((c : Thread nD τ).loc main_arg7) (ix2 r n)

theorem norm_weights (n : Fin 1024) : V3 m ρ c main_v0 (ix2 0 n) = (ins m c).nw n := by
  refine (congrFun ((W3_of m ρ c main_v0 (by decide)).trans (W2_of m ρ c main_v0 (by decide))) _).trans ?_
  show StableHlo.after hostOps0 (W0 m ρ c) (Proc.devRef .tc main_v0) (ix2 0 n) = _
  entry_read
  pointwise
  rfl

theorem listed_weights (n : Fin 3592) (k : Fin 1024) : W1 m ρ c main_v6 (ix2 n k) = (ins m c).wi (src n) k := by
  show StableHlo.after hostOps0 (W0 m ρ c) (Proc.devRef .tc main_v6) (ix2 n k) = _
  entry_read
  pointwise
  by_cases h : n.val < 1536
  · have hs := src_low h
    rw [dif_pos h]
    refine congrArg (m _) ?_
    blk_ext
    all_goals omega
  · have hs := src_high h
    rw [dif_neg h]
    refine congrArg (m _) ?_
    blk_ext
    all_goals omega
theorem pad_word : StableHlo.after hostOps0 (W0 m ρ c) (Proc.devRef .tc main_c) = fun _ => 0#32 := by
  funext y
  entry_read
  pointwise
theorem padded_at (X : Vec Ideal S3592x1024 .bf16) (z : IVec S_ 32) (hz : z = fun _ => 0#32) (n : Fin 3840) (k : Fin 1024) :
    pad S3840x1024 ![0, 0] ![248, 0] ![0, 0] X (sitofp (F := Ideal) .bf16 z) pads_S3592x1024_S3840x1024_02480_000 h_S_ (ix2 n k)
      = if h : n.val < 3592 then X (ix2 ⟨n.val, h⟩ k) else (0 : EReal) := by
  subst hz
  have h0 : (FloatOps.sitofp FTy.bf16 0#32 : Ideal .bf16) = (0 : EReal) := by
    show (((0#32 : BitVec 32).toInt : ℝ) : EReal) = 0
    simp
  pointwise [h0]
theorem padding (hc : σ (Proc.devRef .tc main_c) = fun _ => 0#32) (n : Fin 3840) (k : Fin 1024) :
    StableHlo.after hostOps0_1 σ (Proc.devRef .tc main_v7) (ix2 n k) = if h : n.val < 3592 then σ (Proc.devRef .tc main_v6) (ix2 ⟨n.val, h⟩ k) else (0 : EReal) := by
  entry_read
  exact padded_at (σ (Proc.devRef .tc main_v6)) (σ (Proc.devRef .tc main_c)) hc n k
theorem weights (n : Fin 3840) (k : Fin 1024) : V3 m ρ c main_v7 (ix2 n k) = padded (fun n => (ins m c).wi (src n) k) n := by
  refine (congrFun (W3_of m ρ c main_v7 (by decide)) _).trans ((padding (W1 m ρ c) (pad_word m ρ c) n k).trans ?_)
  rw [padded]
  simp only [← listed_weights m ρ]
theorem beside_split : StableHlo.after hostOps0_2 σ (Proc.devRef .tc main_v13)
    = concatenate S2048x3840 1 [⟨S2048x1536, StableHlo.after (hostOps0_2.take 7) σ (Proc.devRef .tc main_v10)⟩,
        ⟨S2048x1536, StableHlo.after (hostOps0_2.take 7) σ (Proc.devRef .tc main_v11)⟩,
        ⟨S2048x520, StableHlo.after (hostOps0_2.take 7) σ (Proc.devRef .tc main_arg6)⟩,
        ⟨S2048x248, StableHlo.after (hostOps0_2.take 7) σ (Proc.devRef .tc main_v12)⟩]
        concatenates_S2048x1536_S2048x1536_S2048x520_S2048x248_S2048x3840_d1 := by
  simp only [StableHlo.after_cons, StableHlo.after_nil]
  rw [StableHlo.nary4_result]
  rfl
theorem beside_first (r : Fin 2048) (n : Fin 1536) : StableHlo.after (hostOps0_2.take 7) σ (Proc.devRef .tc main_v10) (ix2 r n) =
    σ (Proc.devRef .tc main_arg4) (ix2 r ⟨n.val / 128 % 3 * 512 + n.val / 384 * 128 + n.val % 128, by omega⟩) := by
  simp only [hostOps0_2, List.take_succ_cons, List.take_zero]
  entry_read
  pointwise
theorem beside_last (r : Fin 2048) (n : Fin 520) : StableHlo.after (hostOps0_2.take 7) σ (Proc.devRef .tc main_arg6) (ix2 r n) =
    σ (Proc.devRef .tc main_arg6) (ix2 r n) := by
  simp only [hostOps0_2, List.take_succ_cons, List.take_zero]
  entry_read
  rfl
theorem beside_zero (r : Fin 2048) (n : Fin 248) : StableHlo.after (hostOps0_2.take 7) σ (Proc.devRef .tc main_v12) (ix2 r n) = (0 : EReal) := by
  simp only [hostOps0_2, List.take_succ_cons, List.take_zero]
  entry_read
  pointwise
/-- Outside the convolution's columns the call that carries the gradient back finds the gradient it will hold. -/
theorem given (r : Fin 2048) (n : Fin 3840) (h : n.val < 1536 ∨ 3072 ≤ n.val) :
    V3 m ρ c main_v13 (ix2 r n) = padded (fun n => dproj (ins m c) (src n) r) n := by
  show StableHlo.after hostOps0_2 (W2 m ρ c) (Proc.devRef .tc main_v13) (ix2 r n) = _
  rw [beside_split]
  pointwise
  unfold padded
  by_cases h1 : n.val < 1536
  · have hs := src_low (n := ⟨n.val, by omega⟩) h1
    simp only [] at hs
    rw [dif_pos h1, dif_pos (by omega), beside_first, W2_args m ρ c main_arg4 (by decide)]
    dsimp only
    rw [dproj, dif_pos (by omega)]
    refine congrArg (m _) ?_
    blk_ext
    all_goals omega
  · by_cases h2 : n.val < 3592
    · have hs := src_high (n := ⟨n.val, by omega⟩) h1
      simp only [] at hs
      rw [dif_neg h1, dif_neg (by omega), dif_pos (by omega), beside_last, W2_args m ρ c main_arg6 (by decide), dif_pos h2]
      dsimp only
      rw [dproj, dif_neg (by omega), dif_neg (by omega)]
      refine congrArg (m _) ?_
      blk_ext
      all_goals omega
    · rw [dif_neg h1, dif_neg (by omega), dif_neg (by omega), beside_zero, dif_neg h2]

theorem attention_last (r : Fin 2048) (n : Fin 1536) : StableHlo.after hostOps7 σ (Proc.devRef .tc main_v24) (ix2 r n)
    = σ (Proc.devRef .tc main_v15) (ix2 r ⟨(listed (first n)).val, by have := (listed (first n)).isLt; omega⟩) := by
  have hs := listed_low (n := first n) n.isLt
  simp only [first] at hs
  entry_read
  pointwise
  refine congrArg _ ?_
  blk_ext [first]
  all_goals omega
theorem last_last (r : Fin 2048) (n : Fin 520) : StableHlo.after hostOps7 σ (Proc.devRef .tc main_v25) (ix2 r n)
    = σ (Proc.devRef .tc main_v15) (ix2 r ⟨(last n).val, by have := (last n).isLt; omega⟩) := by
  entry_read
  pointwise
  refine congrArg _ ?_
  blk_ext [last]
  all_goals omega
theorem weights_last (n : Fin 3592) (k : Fin 1024) : StableHlo.after hostOps7 σ (Proc.devRef .tc main_v31) (ix2 n k)
    = σ (Proc.devRef .tc main_v19) (ix2 ⟨(listed n).val, by have := (listed n).isLt; omega⟩ k) := by
  entry_read
  pointwise
  by_cases h : n.val < 1536
  · have hs := listed_low h
    rw [dif_pos h]
    refine congrArg _ ?_
    blk_ext
    all_goals omega
  · have hs := listed_high h
    rw [dif_neg h]
    refine congrArg _ ?_
    blk_ext
    all_goals omega

end Cert.MixInIdeal.Hosts

end
-- ==== Proof.MixIn.Products.lean ====
/- The three calls that are plain products: the array each leaves, from the arrays it finds. -/
module

public import proofs.«01_k».proof.Proof.Gen.MixInIdeal.Frame
public import proofs.«01_k».proof.Proof.Geglu.Shared
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixInIdeal.Products

open Cert.MixInIdeal Cert.MixInIdeal.Gen
open Cert.Geglu (Mat mul mulT tMul)

variable (V : (c : Dev nD) → (b : Ref sig .tc) → Buf (Elt Ideal) ((c : Thread nD τ).loc b)) (c : Dev nD)

theorem idx1 : ∀ t : Fin cfg1.N, win1_0.index t = ![0, 0] ∧ win1_1.index t = ![t.val, 0]
    ∧ win1_2.index t = ![0, t.val] :=
  (by decide +kernel : ∀ t : Fin grid1.N, _)
theorem out1_at (x0 : Vec Ideal S2048x1024 .bf16) (x1 : Vec Ideal S768x1024 .bf16) (r : Fin 2048) (l : Fin 768) :
    out1_2 x0 x1 (ix2 r l) = ∑ k, x0 (ix2 r k) * x1 (ix2 l k) := by
  frame_out
  pointwise [k1_pay1]
/-- The in-projection: the normalised rows times the listed input weights, transposed. -/
theorem product1 : (dat1 V c).arrAt 2 cfg1.N = mulT (V c main_v14) (V c main_v7) := by
  refine (dat1 V c).arrAt_eq_of_covers 2 _ (by decide +kernel) fun t _ y => ?_
  have ht := lt_of_lt_of_eq t.isLt N_1
  rw [after1_2]
  obtain ⟨r, l, rfl⟩ : ∃ (r : Fin 2048) (l : Fin 768), y = ix2 r l := ⟨y 0, y 1, (ix2_eta y).symm⟩
  have he : ((cfg1.win 2).blk t).view.emb (ix2 r l) = ix2 r ⟨768 * t.val + l.val, by omega⟩ := by
    blk_ext [idx1 t]
    all_goals omega
  have h : out1_2 (iblk1 V c 0 t) (iblk1 V c 1 t) (ix2 r l) = mulT (V c main_v14) (V c main_v7) (ix2 r ⟨768 * t.val + l.val, by omega⟩) := by
    refine (out1_at ..).trans (Finset.sum_congr rfl fun k _ => congrArg₂ (· * ·) ?_ ?_) <;> blk_ext [iblk1, idx1 t]
    all_goals omega
  rw [he]
  refine Eq.trans ?_ h
  refine (cast_eq _ _).trans (congrArg (out1_2 (iblk1 V c 0 t) (iblk1 V c 1 t)) (funext fun a => Fin.ext ?_))
  fin_cases a <;> rfl

theorem idx4 : ∀ t : Fin cfg4.N, win4_0.index t = ![t.val, 0] ∧ win4_1.index t = ![0, 0]
    ∧ win4_2.index t = ![t.val, 0] :=
  (by decide +kernel : ∀ t : Fin grid4.N, _)
theorem out4_at (x0 : Vec Ideal S512x3840 .bf16) (x1 : Vec Ideal S3840x1024 .bf16) (r : Fin 512) (l : Fin 1024) :
    out4_2 x0 x1 (ix2 r l) = ∑ k, x0 (ix2 r k) * x1 (ix2 k l) := by
  frame_out
  pointwise [k4_pay1]
/-- The gradient of the normalised rows. -/
theorem product4 : (dat4 V c).arrAt 2 cfg4.N = mul (V c main_v17_0) (V c main_v7) := by
  refine (dat4 V c).arrAt_eq_of_covers 2 _ (by decide +kernel) fun t _ y => ?_
  have ht := lt_of_lt_of_eq t.isLt N_4
  rw [after4_2]
  obtain ⟨r, l, rfl⟩ : ∃ (r : Fin 512) (l : Fin 1024), y = ix2 r l := ⟨y 0, y 1, (ix2_eta y).symm⟩
  have he : ((cfg4.win 2).blk t).view.emb (ix2 r l) = ix2 ⟨512 * t.val + r.val, by omega⟩ l := by
    blk_ext [idx4 t]
    all_goals omega
  have h : out4_2 (iblk4 V c 0 t) (iblk4 V c 1 t) (ix2 r l) = mul (V c main_v17_0) (V c main_v7) (ix2 ⟨512 * t.val + r.val, by omega⟩ l) := by
    refine (out4_at ..).trans (Finset.sum_congr rfl fun k _ => congrArg₂ (· * ·) ?_ ?_) <;> blk_ext [iblk4, idx4 t]
    all_goals omega
  rw [he]
  refine Eq.trans ?_ h
  refine (cast_eq _ _).trans (congrArg (out4_2 (iblk4 V c 0 t) (iblk4 V c 1 t)) (funext fun a => Fin.ext ?_))
  fin_cases a <;> rfl

theorem idx5 : ∀ t : Fin cfg5.N, win5_0.index t = ![0, t.val] ∧ win5_1.index t = ![0, 0]
    ∧ win5_2.index t = ![t.val, 0] :=
  (by decide +kernel : ∀ t : Fin grid5.N, _)
theorem out5_at (x0 : Vec Ideal S2048x768 .bf16) (x1 : Vec Ideal S2048x1024 .bf16) (r : Fin 768) (l : Fin 1024) :
    out5_2 x0 x1 (ix2 r l) = ∑ k, x0 (ix2 k r) * x1 (ix2 k l) := by
  frame_out
  pointwise [k5_pay1]
/-- The gradient of the listed input weights. -/
theorem product5 : (dat5 V c).arrAt 2 cfg5.N = tMul (V c main_v17_0) (V c main_v14) := by
  refine (dat5 V c).arrAt_eq_of_covers 2 _ (by decide +kernel) fun t _ y => ?_
  have ht := lt_of_lt_of_eq t.isLt N_5
  rw [after5_2]
  obtain ⟨r, l, rfl⟩ : ∃ (r : Fin 768) (l : Fin 1024), y = ix2 r l := ⟨y 0, y 1, (ix2_eta y).symm⟩
  have he : ((cfg5.win 2).blk t).view.emb (ix2 r l) = ix2 ⟨768 * t.val + r.val, by omega⟩ l := by
    blk_ext [idx5 t]
    all_goals omega
  have h : out5_2 (iblk5 V c 0 t) (iblk5 V c 1 t) (ix2 r l) = tMul (V c main_v17_0) (V c main_v14) (ix2 ⟨768 * t.val + r.val, by omega⟩ l) := by
    refine (out5_at ..).trans (Finset.sum_congr rfl fun k _ => congrArg₂ (· * ·) ?_ ?_) <;> blk_ext [iblk5, idx5 t]
    all_goals omega
  rw [he]
  refine Eq.trans ?_ h
  refine (cast_eq _ _).trans (congrArg (out5_2 (iblk5 V c 0 t) (iblk5 V c 1 t)) (funext fun a => Fin.ext ?_))
  fin_cases a <;> rfl

end Cert.MixInIdeal.Products
end
-- ==== Proof.MixIn.Conv.lean ====
/- The short convolution's two calls on one block of columns: the forward call, and the call that carries the gradient back. -/
module

public import proofs.«01_k».proof.Proof.Gen.MixInIdeal.Frame
public import proofs.«01_k».proof.Proof.Geglu.Shared
public import proofs.«01_k».proof.Proof.MixIn.Stages
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.MixInIdeal.Conv

open Cert.MixInIdeal Cert.MixInIdeal.Gen Cert.Mixer
open Cert.Geglu (late early dtap late_sel early_sel late_zero)

variable (x0 : Vec Ideal S2048x128 .f32) (x1 : Vec Ideal S4x128 .f32) (x2 : Vec Ideal S2048x128 .f32)
variable (r : Fin 2048) (l : Fin 128)

/-- The block's column at lane `l`. -/
def col (l : Fin 128) (r : Fin 2048) : EReal := x0 (ix2 r l)
/-- The block's four taps at lane `l`. -/
def taps (l : Fin 128) (k : Fin 4) : EReal := x1 (ix2 k l)
/-- The convolved column at lane `l`. -/
def act (l : Fin 128) : Fin 2048 → EReal := conv (col x0 l) (taps x1 l)
/-- The gradient column that reaches the convolution at lane `l`. -/
def grad (l : Fin 128) (r : Fin 2048) : EReal := dsilu (act x0 x1 l r) (x2 (ix2 r l))

theorem zero_sub' (a : EReal) : 0 - a = -a := zero_sub a

theorem conv2 : k2_pay2 x0 (View.ld x1 r2_1) (View.ld x1 r2_2) (View.ld x1 r2_3) (View.ld x1 r2_4) (ix2 r l) = act x0 x1 l r := by
  unfold act conv
  rw [← late_sel r 3 (by omega), ← late_sel r 2 (by omega), ← late_sel r 1 (by omega)]
  pointwise [k2_pay2, col, taps, r2_0, r2_1, r2_2, r2_3, r2_4]
/-- What the forward body leaves in its output block: the SiLU of the convolved column. -/
theorem fwd : out2_2 x0 x1 (ix2 r l) = silu (act x0 x1 l r) := by
  unfold out2_2
  frame_out
  unfold silu expit
  rw [← conv2, ← zero_sub']
  pointwise [k2_pay1, k2_pay3]

theorem late3 : k3_pay5 x0 (ix2 r l) = late 3 (col x0 l) r := by
  rw [← late_sel r 3 (by omega)]
  pointwise [k3_pay5, k3_pay4, col]
theorem late2 : k3_pay6 x0 (ix2 r l) = late 2 (col x0 l) r := by
  rw [← late_sel r 2 (by omega)]
  pointwise [k3_pay6, k3_pay4, col]
theorem late1 : k3_pay7 x0 (ix2 r l) = late 1 (col x0 l) r := by
  rw [← late_sel r 1 (by omega)]
  pointwise [k3_pay7, k3_pay4, col]

theorem conv3 : k3_pay8 x0 (View.ld x1 r2_1) (View.ld x1 r2_2) (View.ld x1 r2_3) (View.ld x1 r2_4) (ix2 r l) = act x0 x1 l r := by
  unfold act conv
  pointwise [k3_pay8, k3_pay4, late1, late2, late3, col, taps, r2_1, r2_2, r2_3, r2_4]
/-- The body's gradient column: the two shares of the SiLU's gradient, as the body writes them. -/
theorem grad3 : k3_pay10 (k3_pay8 x0 (View.ld x1 r2_1) (View.ld x1 r2_2) (View.ld x1 r2_3) (View.ld x1 r2_4)) (k3_pay9 x0 (View.ld x1 r2_1) (View.ld x1 r2_2) (View.ld x1 r2_3) (View.ld x1 r2_4))
    (1 : EReal) x2 (ix2 r l) = grad x0 x1 x2 l r := by
  unfold grad dsilu
  rw [← slope]
  pointwise [k3_pay10, k3_pay9, conv3, expit]
  simp only [zero_sub', EReal.neg_mul, neg_neg, mul_assoc]

/-- The body's gradient column, over the block's loads. -/
abbrev g3 : FVec Ideal S2048x128 .f32 :=
  k3_pay10 (k3_pay8 x0 (View.ld x1 r2_1) (View.ld x1 r2_2) (View.ld x1 r2_3) (View.ld x1 r2_4))
    (k3_pay9 x0 (View.ld x1 r2_1) (View.ld x1 r2_2) (View.ld x1 r2_3) (View.ld x1 r2_4)) (Scalar.ofBits .f32 0x3F800000#32) x2

theorem g3_apply : g3 x0 x1 x2 (ix2 r l) = grad x0 x1 x2 l r := by
  pointwise [g3, grad3]
/-- The body's input gradient. -/
theorem dx3 : k3_pay3 (View.ld x1 r2_1) (View.ld x1 r2_4) (g3 x0 x1 x2)
    (k3_pay13 (View.ld x1 r2_2) (View.ld x1 r2_3)
      (k3_pay8 x0 (View.ld x1 r2_1) (View.ld x1 r2_2) (View.ld x1 r2_3) (View.ld x1 r2_4))
      (k3_pay9 x0 (View.ld x1 r2_1) (View.ld x1 r2_2) (View.ld x1 r2_3) (View.ld x1 r2_4)) (Scalar.ofBits .f32 0x3F800000#32) x2) (ix2 r l)
    = dconv (grad x0 x1 x2 l) (taps x1 l) r := by
  unfold dconv
  rw [← early_sel r 2047 (by omega), ← early_sel r 2046 (by omega), ← early_sel r 2045 (by omega)]
  pointwise [k3_pay3, k3_pay13, grad3, g3_apply, taps, r2_1, r2_2, r2_3, r2_4]
theorem dtap3 : k3_pay1 (k3_pay14 (k3_pay5 x0)
      (k3_pay8 x0 (View.ld x1 r2_1) (View.ld x1 r2_2) (View.ld x1 r2_3) (View.ld x1 r2_4))
      (k3_pay9 x0 (View.ld x1 r2_1) (View.ld x1 r2_2) (View.ld x1 r2_3) (View.ld x1 r2_4)) (Scalar.ofBits .f32 0x3F800000#32) x2) (ix2 0 l)
    = dtap 3 (col x0 l) (grad x0 x1 x2 l) := by
  pointwise [k3_pay1, k3_pay14, grad3, late3, dtap]
theorem dtap2 : k3_pay12 (k3_pay6 x0)
      (k3_pay8 x0 (View.ld x1 r2_1) (View.ld x1 r2_2) (View.ld x1 r2_3) (View.ld x1 r2_4))
      (k3_pay9 x0 (View.ld x1 r2_1) (View.ld x1 r2_2) (View.ld x1 r2_3) (View.ld x1 r2_4)) (Scalar.ofBits .f32 0x3F800000#32) x2 (ix2 0 l)
    = dtap 2 (col x0 l) (grad x0 x1 x2 l) := by
  pointwise [k3_pay12, grad3, late2, dtap]
theorem dtap1 : k3_pay11 (k3_pay7 x0)
      (k3_pay8 x0 (View.ld x1 r2_1) (View.ld x1 r2_2) (View.ld x1 r2_3) (View.ld x1 r2_4))
      (k3_pay9 x0 (View.ld x1 r2_1) (View.ld x1 r2_2) (View.ld x1 r2_3) (View.ld x1 r2_4)) (Scalar.ofBits .f32 0x3F800000#32) x2 (ix2 0 l)
    = dtap 1 (col x0 l) (grad x0 x1 x2 l) := by
  pointwise [k3_pay11, grad3, late1, dtap]
theorem dtap0 : k3_pay2 (k3_pay4 x0) (g3 x0 x1 x2) (ix2 0 l) = dtap 0 (col x0 l) (grad x0 x1 x2 l) := by
  pointwise [k3_pay2, k3_pay4, g3_apply, late_zero, col, dtap]

variable (V : (c : Dev nD) → (b : Ref sig .tc) → Buf (Elt Ideal) ((c : Thread nD τ).loc b)) (c : Dev nD) (t : Fin cfg3.N)

/-- What the backward body leaves in its first output block: the input gradient. -/
theorem out3 : (outsAt3 V c t).1 (ix2 r l)
    = dconv (grad (iblk3 V c 0 t) (iblk3 V c 1 t) (iblk3 V c 2 t) l) (taps (iblk3 V c 1 t) l) r := by
  unfold outsAt3 out3_A_3
  frame_out
  exact dx3 ..
/-- What it leaves in its second: the gradient of the taps. -/
theorem out4 (k : Fin 4) : (outsAt3 V c t).2 (ix2 k l)
    = dtap (3 - k.val) (col (iblk3 V c 0 t) l) (grad (iblk3 V c 0 t) (iblk3 V c 1 t) (iblk3 V c 2 t) l) := by
  unfold outsAt3
  dsimp only
  unfold out3_A_4
  frame_out
  canon_tiles y h <;> idx_vars y <;> (obtain rfl : y0 = 0 := Fin.ext (by omega)) <;> (replace h0 : (k : ℕ) = _ := h0) <;> rw [h0] <;>
    obtain rfl : l = y1 := Fin.ext h1
  · exact dtap0 ..
  · exact dtap1 ..
  · exact dtap2 ..
  · exact dtap3 ..

end Cert.MixInIdeal.Conv

end
-- ==== Proof.MixIn.ConvArrays.lean ====
/- The short convolution's two calls, whole arrays: what each holds when the call has gone over its twelve blocks of columns. -/
module

public import proofs.«01_k».proof.Proof.MixIn.Conv
public import proofs.«01_k».proof.Proof.MixIn.Listing
public import Idealize.ShloMosaic.Lib.Pipeline.ValueKit.Partial

@[expose] public section

set_option maxRecDepth 16384

noncomputable section

open Idealize.ShloMosaic Idealize.ShloMosaic.TcCoe Idealize.SL.Sem

namespace Cert.MixInIdeal.ConvArrays

open Cert.MixInIdeal Cert.MixInIdeal.Gen Cert.Mixer
open Cert.Geglu (dtap)

variable (V : (c : Dev nD) → (b : Ref sig .tc) → Buf (Elt Ideal) ((c : Thread nD τ).loc b)) (c : Dev nD) (I : Inputs)

theorem idx2 : ∀ t : Fin cfg2.N, win2_0.index t = ![0, 12 + t.val] ∧ win2_1.index t = ![0, t.val] ∧ win2_2.index t = ![0, t.val] :=
  (by decide +kernel : ∀ t : Fin grid2.N, _)
theorem idx3 : ∀ t : Fin cfg3.N, win3_0.index t = ![0, 12 + t.val] ∧ win3_1.index t = ![0, t.val] ∧ win3_2.index t = ![0, t.val]
    ∧ win3_3.index t = ![0, 12 + t.val] ∧ win3_4.index t = ![0, t.val] :=
  (by decide +kernel : ∀ t : Fin grid3.N, _)

/-- The convolved column that block `t` treats at lane `l`. -/
def place (t : Fin 12) (l : Fin 128) : Fin 1536 := ⟨128 * t.val + l.val, by omega⟩
/-- Its place in the padded listing. -/
def spot (t : Fin 12) (l : Fin 128) : Fin 3840 := ⟨1536 + (128 * t.val + l.val), by omega⟩

theorem src_mid (n : Fin 1536) : src (mid n) = mid n := by
  rw [src, dif_neg (by simp only [mid]; omega)]
theorem padded_spot (f : Fin 3592 → EReal) (t : Fin 12) (l : Fin 128) : padded f (spot t l) = f (mid (place t l)) := by
  rw [padded, dif_pos (by simp only [spot]; omega)]
  rfl

section Block

variable {c I} {x0 : Vec Ideal S2048x128 .f32} {x1 : Vec Ideal S4x128 .f32} {x2 : Vec Ideal S2048x128 .f32}
  {t : Fin 12} (h0 : ∀ r l, x0 (ix2 r l) = proj I (mid (place t l)) r)
  (h1 : ∀ k l, x1 (ix2 k l) = I.cw k (place t l))
  (h2 : ∀ r l, x2 (ix2 r l) = I.dc r (place t l))

include h0 in
theorem col_eq (l : Fin 128) : Conv.col x0 l = proj I (mid (place t l)) := by
  funext r
  exact h0 r l
include h1 in
theorem taps_eq (l : Fin 128) : Conv.taps x1 l = fun k => I.cw k (place t l) := by
  funext k
  exact h1 k l
include h0 h1 in
theorem act_eq (l : Fin 128) : Conv.act x0 x1 l = conved I (place t l) := by
  funext r
  unfold Conv.act conved
  rw [col_eq h0, taps_eq h1]
include h0 h1 h2 in
theorem grad_eq (l : Fin 128) : Conv.grad x0 x1 x2 l = Mixer.grad I (place t l) := by
  funext r
  unfold Conv.grad Mixer.grad
  rw [act_eq h0 h1, h2]

end Block

variable {I} (hX : ∀ r n, V c main_v15 (ix2 r n) = padded (fun n => proj I (src n) r) n)
  (hW : ∀ k n, V c main_arg3 (ix2 k n) = I.cw k n)
  (hD : ∀ r n, V c main_arg5 (ix2 r n) = I.dc r n)

/-- A grid point as the number of its block. -/
abbrev num2 (t : Fin cfg2.N) : Fin 12 := ⟨t.val, lt_of_lt_of_eq t.isLt N_2⟩
abbrev num3 (t : Fin cfg3.N) : Fin 12 := ⟨t.val, lt_of_lt_of_eq t.isLt N_3⟩

include hX in
theorem blk2_0 (t : Fin cfg2.N) (r : Fin 2048) (l : Fin 128) : iblk2 V c 0 t (ix2 r l) = proj I (mid (place (num2 t) l)) r := by
  rw [← src_mid, ← padded_spot (fun n => proj I (src n) r), ← hX]; blk_ext [iblk2, idx2 t, spot]; all_goals omega
include hW in
theorem blk2_1 (t : Fin cfg2.N) (k : Fin 4) (l : Fin 128) : iblk2 V c 1 t (ix2 k l) = I.cw k (place (num2 t) l) := by
  rw [← hW]; blk_ext [iblk2, idx2 t, place]; all_goals omega
include hX in
theorem blk3_0 (t : Fin cfg3.N) (r : Fin 2048) (l : Fin 128) : iblk3 V c 0 t (ix2 r l) = proj I (mid (place (num3 t) l)) r := by
  rw [← src_mid, ← padded_spot (fun n => proj I (src n) r), ← hX]; blk_ext [iblk3, idx3 t, spot]; all_goals omega
include hW in
theorem blk3_1 (t : Fin cfg3.N) (k : Fin 4) (l : Fin 128) : iblk3 V c 1 t (ix2 k l) = I.cw k (place (num3 t) l) := by
  rw [← hW]; blk_ext [iblk3, idx3 t, place]; all_goals omega
include hD in
theorem blk3_2 (t : Fin cfg3.N) (r : Fin 2048) (l : Fin 128) : iblk3 V c 2 t (ix2 r l) = I.dc r (place (num3 t) l) := by
  rw [← hD]; blk_ext [iblk3, idx3 t, place]; all_goals omega

include hX hW in
/-- The forward call leaves the convolved columns after the SiLU. -/
theorem act_at : (dat2 V c).arrAt 2 cfg2.N = fun y => act I (y 0) (y 1) := by
  refine (dat2 V c).arrAt_eq_of_covers 2 _ (by decide +kernel) fun t _ y => ?_
  have ht := lt_of_lt_of_eq t.isLt N_2
  rw [after2_2]
  obtain ⟨r, l, rfl⟩ : ∃ (r : Fin 2048) (l : Fin 128), y = ix2 r l := ⟨y 0, y 1, (ix2_eta y).symm⟩
  have he : ((cfg2.win 2).blk t).view.emb (ix2 r l) = ix2 r (place (num2 t) l) := by
    blk_ext [place, idx2 t]
    all_goals omega
  have h : out2_2 (iblk2 V c 0 t) (iblk2 V c 1 t) (ix2 r l) = act I r (place (num2 t) l) := by
    rw [Conv.fwd, act_eq (blk2_0 V c hX t) (blk2_1 V c hW t), act]
  rw [he]
  refine Eq.trans ?_ h
  refine (cast_eq _ _).trans (congrArg (out2_2 (iblk2 V c 0 t) (iblk2 V c 1 t)) (funext fun a => Fin.ext ?_))
  fin_cases a <;> rfl

include hX hW hD in
/-- The backward call leaves the gradient of the taps, … -/
theorem dcw_at : (dat3 V c).arrAt 4 cfg3.N = fun y => dcw I (y 0) (y 1) := by
  refine (dat3 V c).arrAt_eq_of_covers 4 _ (by decide +kernel) fun t _ y => ?_
  have ht := lt_of_lt_of_eq t.isLt N_3
  rw [after3_4]
  obtain ⟨k, l, rfl⟩ : ∃ (k : Fin 4) (l : Fin 128), y = ix2 k l := ⟨y 0, y 1, (ix2_eta y).symm⟩
  have he : ((cfg3.win 4).blk t).view.emb (ix2 k l) = ix2 k (place (num3 t) l) := by
    blk_ext [place, idx3 t]
    all_goals omega
  have h : (outsAt3 V c t).2 (ix2 k l) = dcw I k (place (num3 t) l) := by
    rw [Conv.out4, grad_eq (blk3_0 V c hX t) (blk3_1 V c hW t) (blk3_2 V c hD t), col_eq (blk3_0 V c hX t), dcw]
  rw [he]
  refine Eq.trans ?_ h
  refine (cast_eq _ _).trans (congrArg (outsAt3 V c t).2 (funext fun a => Fin.ext ?_))
  fin_cases a <;> rfl

/-- The gradient of the in-projection, listed and padded. -/
def dlist (I : Inputs) (r : Fin 2048) (n : Fin 3840) : EReal := padded (fun n => dproj I (src n) r) n

theorem dlist_spot (r : Fin 2048) (t : Fin 12) (l : Fin 128) :
    dlist I r (spot t l) = dconv (Mixer.grad I (place t l)) (fun k => I.cw k (place t l)) r := by
  rw [dlist, padded_spot, src_mid, dproj, dif_neg (by simp only [mid]; omega), dif_pos (by simp only [mid]; omega)]
  have h : (⟨(mid (place t l)).val - 1536, by simp only [mid]; omega⟩ : Fin 1536) = place t l := Fin.ext (by simp only [mid]; omega)
  simp only [h]

variable (hO : ∀ r (n : Fin 3840), n.val < 1536 ∨ 3072 ≤ n.val → V c main_v17_0 (ix2 r n) = dlist I r n)

include hX hW hD hO in
/-- … and, among the columns it finds there, the gradient of its own. -/
theorem dproj_at : (dat3 V c).arrAt 3 cfg3.N = fun y => dlist I (y 0) (y 1) := by
  refine (dat3 V c).arrAt_eq_of_coversWhere_of_agree 3 _ (fun β => 12 ≤ β (1 : Fin 2) ∧ β (1 : Fin 2) < 24) (by decide +kernel)
    (fun t _ y => ?_) fun j hj => ?_
  · have ht := lt_of_lt_of_eq t.isLt N_3
    rw [after3_3]
    obtain ⟨r, l, rfl⟩ : ∃ (r : Fin 2048) (l : Fin 128), y = ix2 r l := ⟨y 0, y 1, (ix2_eta y).symm⟩
    have he : ((cfg3.win 3).blk t).view.emb (ix2 r l) = ix2 r (spot (num3 t) l) := by
      blk_ext [spot, idx3 t]
      all_goals omega
    have h : (outsAt3 V c t).1 (ix2 r l) = dlist I r (spot (num3 t) l) := by
      rw [Conv.out3, grad_eq (blk3_0 V c hX t) (blk3_1 V c hW t) (blk3_2 V c hD t), taps_eq (blk3_1 V c hW t), dlist_spot]
    rw [he]
    refine Eq.trans ?_ h
    refine (cast_eq _ _).trans (congrArg (outsAt3 V c t).1 (funext fun a => Fin.ext ?_))
    fin_cases a <;> rfl
  · obtain ⟨r, n, rfl⟩ : ∃ (r : Fin 2048) (n : Fin 3840), j = ix2 r n := ⟨j 0, j 1, (ix2_eta j).symm⟩
    have hn : n.val < 1536 ∨ 3072 ≤ n.val := by
      have h : ¬(12 ≤ n.val / 128 ∧ n.val / 128 < 24) := hj
      omega
    exact hO r n hn

end Cert.MixInIdeal.ConvArrays

end
-- ==== Proof.MixIn.Norm.lean ====
/- The opening norm and its gradient: eight blocks of 256 rows, the weights' gradient accumulated over the blocks. -/
module

public import proofs.«01_k».proof.Proof.Gen.MixInIdeal.Frame
public import proofs.«01_k».proof.Proof.MixIn.Stages
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixInIdeal.Norm

open Cert.MixInIdeal Cert.MixInIdeal.Gen Cert.Mixer
open Cert.Stages (normed dnorm pull meanSq)

section Block

variable (f d e : Vec Ideal S256x1024 .f32) (w : Vec Ideal S1x1024 .f32)

/-- Row `s` of a block. -/
def row (f : Vec Ideal S256x1024 .f32) (s : Fin 256) (n : Fin 1024) : EReal := f (ix2 s n)

theorem fwd_at (s : Fin 256) (n : Fin 1024) : out0_2 f w (ix2 s n) = normed (row f s) n * w (ix2 0 n) := by
  frame_out
  unfold normed meanSq row
  pointwise [k0_pay1]
theorem zero_dw (j : S1x1024.Idx) : k6_pay1 (F := Ideal) j = 0 := by pointwise [k6_pay1]
theorem add_dw (a : Vec Ideal S1x1024 .f32) (j : S1x1024.Idx) : k6_pay2 (k6_pay6 f d) a j = a j + k6_pay6 f d j := by
  pointwise [k6_pay2]
theorem dw_at (n : Fin 1024) : k6_pay6 f d (ix2 0 n) = ∑ s, normed (row f s) n * d (ix2 s n) := by
  unfold normed meanSq row
  pointwise [k6_pay6, k6_pay3, k6_pay4, k6_pay5]
theorem dx_block (s : Fin 256) (n : Fin 1024) :
    k6_pay7 f w d e (ix2 s n) = dnorm (row f s) (fun n => d (ix2 s n) * w (ix2 0 n)) n + e (ix2 s n) := by
  unfold dnorm pull meanSq row
  pointwise [k6_pay7, k6_pay3, k6_pay4, k6_pay5]
  rw [Fin.sum_univ_one (M := EReal) _]

end Block

variable (V : (c : Dev nD) → (b : Ref sig .tc) → Buf (Elt Ideal) ((c : Thread nD τ).loc b)) (c : Dev nD) {I : Inputs}

theorem idx0 : ∀ t : Fin cfg0.N, win0_0.index t = ![t.val, 0] ∧ win0_1.index t = ![0, 0] ∧ win0_2.index t = ![t.val, 0] :=
  (by decide +kernel : ∀ t : Fin grid0.N, _)
theorem idx6 : ∀ t : Fin cfg6.N, win6_0.index t = ![t.val, 0] ∧ win6_1.index t = ![0, 0] ∧ win6_2.index t = ![t.val, 0]
    ∧ win6_3.index t = ![t.val, 0] ∧ win6_4.index t = ![t.val, 0] :=
  (by decide +kernel : ∀ t : Fin grid6.N, _)

/-- The row that block `t` holds at its row `s`. -/
def rowOf (t : Fin 8) (s : Fin 256) : Fin 2048 := ⟨t.val * 256 + s.val, by omega⟩
abbrev num0 (t : Fin cfg0.N) : Fin 8 := ⟨t.val, lt_of_lt_of_eq t.isLt N_0⟩
abbrev num6 (t : Fin cfg6.N) : Fin 8 := ⟨t.val, lt_of_lt_of_eq t.isLt N_6⟩

section Norm

variable (hx : ∀ r n, V c main_arg0 (ix2 r n) = I.x r n) (hw : ∀ n, V c main_v0 (ix2 0 n) = I.nw n)

include hx hw in
/-- The normalised rows. -/
theorem h_at : (dat0 V c).arrAt 2 cfg0.N = fun y => h I (y 0) (y 1) := by
  refine (dat0 V c).arrAt_eq_of_covers 2 _ (by decide +kernel) fun t _ y => ?_
  have ht := lt_of_lt_of_eq t.isLt N_0
  rw [after0_2]
  obtain ⟨s, n, rfl⟩ : ∃ (s : Fin 256) (n : Fin 1024), y = ix2 s n := ⟨y 0, y 1, (ix2_eta y).symm⟩
  have he : ((cfg0.win 2).blk t).view.emb (ix2 s n) = ix2 (rowOf (num0 t) s) n := by
    blk_ext [rowOf, idx0 t]
    all_goals omega
  have h : out0_2 (iblk0 V c 0 t) (iblk0 V c 1 t) (ix2 s n) = h I (rowOf (num0 t) s) n := by
    have h0 : row (iblk0 V c 0 t) s = I.x (rowOf (num0 t) s) := by
      funext k; rw [← hx]; unfold row; blk_ext [iblk0, idx0 t, rowOf]; all_goals omega
    have h1 : iblk0 V c 1 t (ix2 0 n) = I.nw n := by
      rw [← hw]; blk_ext [iblk0, idx0 t]
    rw [fwd_at, h0, h1, Mixer.h]
  rw [he]
  refine Eq.trans ?_ h
  refine (cast_eq _ _).trans (congrArg (out0_2 (iblk0 V c 0 t) (iblk0 V c 1 t)) (funext fun a => Fin.ext ?_))
  fin_cases a <;> rfl

variable (hd : ∀ r n, V c main_v18 (ix2 r n) = dh I r n) (he : ∀ r n, V c main_arg7 (ix2 r n) = I.dx1 r n)

include hx in
theorem row_blk (t : Fin cfg6.N) (s : Fin 256) : row (iblk6 V c 0 t) s = I.x (rowOf (num6 t) s) := by
  funext k; rw [← hx]; unfold row; blk_ext [iblk6, idx6 t, rowOf]; all_goals omega
include hw in
theorem weight_blk (t : Fin cfg6.N) (n : Fin 1024) : iblk6 V c 1 t (ix2 0 n) = I.nw n := by
  rw [← hw]; blk_ext [iblk6, idx6 t]
include hd in
theorem dh_blk (t : Fin cfg6.N) (s : Fin 256) (n : Fin 1024) : iblk6 V c 2 t (ix2 s n) = dh I (rowOf (num6 t) s) n := by
  rw [← hd]; blk_ext [iblk6, idx6 t, rowOf]; all_goals omega
include he in
theorem dx1_blk (t : Fin cfg6.N) (s : Fin 256) (n : Fin 1024) : iblk6 V c 3 t (ix2 s n) = I.dx1 (rowOf (num6 t) s) n := by
  rw [← he]; blk_ext [iblk6, idx6 t, rowOf]; all_goals omega

include hx hw hd he in
/-- The gradient of the residual rows. -/
theorem dx_at : (dat6 V c).arrAt 4 cfg6.N = fun y => dx I (y 0) (y 1) := by
  refine (dat6 V c).arrAt_eq_of_covers 4 _ (by decide +kernel) fun t _ y => ?_
  have ht := lt_of_lt_of_eq t.isLt N_6
  rw [after6_4]
  have hb : (outsAt6 V c t.val t.isLt).1 = k6_pay7 (iblk6 V c 0 t) (iblk6 V c 1 t) (iblk6 V c 2 t) (iblk6 V c 3 t) := by
    by_cases h : t.val % 8 = 0
    · rw [outsAt6_A V c t h]; frame_out
    · rw [outsAt6_B V c t h]; frame_out
  rw [hb]
  obtain ⟨s, n, rfl⟩ : ∃ (s : Fin 256) (n : Fin 1024), y = ix2 s n := ⟨y 0, y 1, (ix2_eta y).symm⟩
  have hp : ((cfg6.win 4).blk t).view.emb (ix2 s n) = ix2 (rowOf (num6 t) s) n := by
    blk_ext [rowOf, idx6 t]
    all_goals omega
  have h : k6_pay7 (iblk6 V c 0 t) (iblk6 V c 1 t) (iblk6 V c 2 t) (iblk6 V c 3 t) (ix2 s n) = dx I (rowOf (num6 t) s) n := by
    rw [dx_block, row_blk V c hx, dx1_blk V c he, dx]
    simp only [dh_blk V c hd, weight_blk V c hw]
  rw [hp]
  refine Eq.trans ?_ h
  refine (cast_eq _ _).trans (congrArg (k6_pay7 (iblk6 V c 0 t) (iblk6 V c 1 t) (iblk6 V c 2 t) (iblk6 V c 3 t)) (funext fun a => Fin.ext ?_))
  fin_cases a <;> rfl

include hx hd in
/-- The gradient of the norm's weights. -/
theorem dnw_at : (dat6 V c).arrAt 5 cfg6.N = fun y => dnw I (y 1) := by
  refine (dat6 V c).arrAt_eq_of_after_last 5 t6_7 (by decide +kernel) _ fun j => ?_
  blk_simp
  rw [after6_5, Pipeline.eq_sum_fin_of_reset_step_apply_last (fun n h => (outsAt6 V c n h).2) 8 (fun _ => 0) _
    (fun t h j => by rw [outsAt6_A V c t h]; frame_out; rw [add_dw, zero_dw])
    (fun t h j => by rw [outsAt6_B V c t h]; frame_out; rw [add_dw])
    (le_of_eq N_6) t6_7 rfl j, zero_add]
  obtain ⟨r, n, rfl⟩ : ∃ (r : Fin 1) (n : Fin 1024), j = ix2 r n := ⟨j 0, j 1, (ix2_eta j).symm⟩
  obtain rfl : r = 0 := Subsingleton.elim _ _
  show (∑ t : Fin cfg6.N, k6_pay6 (iblk6 V c 0 t) (iblk6 V c 2 t) (ix2 0 n) : EReal) = dnw I n
  simp only [dw_at, row_blk V c hx, dh_blk V c hd]
  rw [dnw]
  refine Fin.sum_mul_add_congr (S := 8) (n := 256) fun t s hl => ?_
  rfl

end Norm

end Cert.MixInIdeal.Norm

end
-- ==== Proof.MixIn.Chain.lean ====
/- The calls one after the other: what each array holds when its call ends, as the stage it computes. -/
module

public import proofs.«01_k».proof.Proof.MixIn.Hosts
public import proofs.«01_k».proof.Proof.MixIn.Products
public import proofs.«01_k».proof.Proof.MixIn.ConvArrays
public import proofs.«01_k».proof.Proof.MixIn.Norm

@[expose] public section

set_option maxRecDepth 16384

noncomputable section

open Idealize.ShloMosaic Idealize.ShloMosaic.TcCoe Idealize.SL.Sem

namespace Cert.MixInIdeal.Chain

open Cert.MixInIdeal Cert.MixInIdeal.Gen Cert.Mixer
open Cert.MixInIdeal.Hosts (ins)
open Cert.MixInIdeal.ConvArrays (dlist)

variable (m : (ℓ : Loc nD τ sig) → Buf (Elt Ideal) ℓ) (ρ : Dev nD → PrngReg) (c : Dev nD)

/-! ## What no call in between writes is kept -/

theorem weights_3_4 : V4 m ρ c main_v7 = V3 m ρ c main_v7 :=
  W4_of m ρ c main_v7 (by decide +kernel)
theorem weights_4_8 : V8 m ρ c main_v7 = V4 m ρ c main_v7 :=
  (((W8_of m ρ c main_v7 (by decide +kernel)).trans (W7_of m ρ c main_v7 (by decide))).trans (W6_of m ρ c main_v7 (by decide +kernel))).trans (W5_of m ρ c main_v7 (by decide +kernel))
theorem h_4_9 : V9 m ρ c main_v14 = V4 m ρ c main_v14 :=
  ((((W9_of m ρ c main_v14 (by decide +kernel)).trans (W8_of m ρ c main_v14 (by decide +kernel))).trans (W7_of m ρ c main_v14 (by decide))).trans (W6_of m ρ c main_v14 (by decide +kernel))).trans (W5_of m ρ c main_v14 (by decide +kernel))
theorem norm_weights_3_10 : V10 m ρ c main_v0 = V3 m ρ c main_v0 :=
  ((((((W10_of m ρ c main_v0 (by decide +kernel)).trans (W9_of m ρ c main_v0 (by decide +kernel))).trans (W8_of m ρ c main_v0 (by decide +kernel))).trans (W7_of m ρ c main_v0 (by decide))).trans (W6_of m ρ c main_v0 (by decide +kernel))).trans (W5_of m ρ c main_v0 (by decide +kernel))).trans (W4_of m ρ c main_v0 (by decide +kernel))
theorem proj_5_7 : V7 m ρ c main_v15 = V5 m ρ c main_v15 :=
  (W7_of m ρ c main_v15 (by decide)).trans (W6_of m ρ c main_v15 (by decide +kernel))
theorem proj_5_11 : V11 m ρ c main_v15 = V5 m ρ c main_v15 :=
  (((((W11_of m ρ c main_v15 (by decide +kernel)).trans (W10_of m ρ c main_v15 (by decide +kernel))).trans (W9_of m ρ c main_v15 (by decide +kernel))).trans (W8_of m ρ c main_v15 (by decide +kernel))).trans (W7_of m ρ c main_v15 (by decide))).trans (W6_of m ρ c main_v15 (by decide +kernel))
theorem given_3_6 : V6 m ρ c main_v13 = V3 m ρ c main_v13 :=
  ((W6_of m ρ c main_v13 (by decide +kernel)).trans (W5_of m ρ c main_v13 (by decide +kernel))).trans (W4_of m ρ c main_v13 (by decide +kernel))
theorem dproj_8_9 : V9 m ρ c main_v17_0 = V8 m ρ c main_v17_0 :=
  W9_of m ρ c main_v17_0 (by decide +kernel)
theorem dh_9_10 : V10 m ρ c main_v18 = V9 m ρ c main_v18 :=
  W10_of m ρ c main_v18 (by decide +kernel)
theorem dwi_10_11 : V11 m ρ c main_v19 = V10 m ρ c main_v19 :=
  W11_of m ρ c main_v19 (by decide +kernel)
theorem act_6_11 : V11 m ρ c main_v16 = V6 m ρ c main_v16 :=
  ((((W11_of m ρ c main_v16 (by decide +kernel)).trans (W10_of m ρ c main_v16 (by decide +kernel))).trans (W9_of m ρ c main_v16 (by decide +kernel))).trans (W8_of m ρ c main_v16 (by decide +kernel))).trans (W7_of m ρ c main_v16 (by decide))
theorem dcw_8_11 : V11 m ρ c main_v17_1 = V8 m ρ c main_v17_1 :=
  ((W11_of m ρ c main_v17_1 (by decide +kernel)).trans (W10_of m ρ c main_v17_1 (by decide +kernel))).trans (W9_of m ρ c main_v17_1 (by decide +kernel))

theorem arg_at3 (a : Ref sig .tc) (h : a ∈ argRefs) : V3 m ρ c a = m ((c : Thread nD τ).loc a) := W3_args m ρ c a h
theorem arg_at5 (a : Ref sig .tc) (h : a ∈ argRefs) : V5 m ρ c a = m ((c : Thread nD τ).loc a) := W5_args m ρ c a h
theorem arg_at7 (a : Ref sig .tc) (h : a ∈ argRefs) : V7 m ρ c a = m ((c : Thread nD τ).loc a) := W7_args m ρ c a h
theorem arg_at10 (a : Ref sig .tc) (h : a ∈ argRefs) : V10 m ρ c a = m ((c : Thread nD τ).loc a) := W10_args m ρ c a h

/-! ## The calls -/

theorem weights_at : V4 m ρ c main_v7 = fun y => padded (fun n => (ins m c).wi (src n) (y 1)) (y 0) := by
  rw [weights_3_4]
  funext y
  rw [← Hosts.weights m ρ c (y 0) (y 1)]
  exact congrArg _ (ix2_eta y).symm

theorem h_at : V4 m ρ c main_v14 = fun y => h (ins m c) (y 0) (y 1) :=
  (W4_arr m ρ c 2).trans (Norm.h_at (V3 m ρ) c (fun r n => congrFun (arg_at3 m ρ c main_arg0 (by decide)) _)
    (Hosts.norm_weights m ρ c))

/-- A row times a padded weight row is zero where the padding is. -/
theorem sum_weights (f : Fin 1024 → EReal) (g : Fin 3592 → Fin 1024 → EReal) (n : Fin 3840) :
    ∑ k, f k * padded (fun n => g n k) n = padded (fun n => ∑ k, f k * g n k) n := by
  by_cases h : n.val < 3592
  · simp only [padded, dif_pos h]
  · simp only [padded, dif_neg h, mul_zero, Finset.sum_const_zero]
/-- A padded column times a column, summed, likewise. -/
theorem sum_rows (f : Fin 3592 → Fin 2048 → EReal) (g : Fin 2048 → EReal) (n : Fin 3592) :
    ∑ r, padded (fun n => f n r) ⟨n.val, by omega⟩ * g r = ∑ r, f n r * g r := by
  refine Finset.sum_congr rfl fun r _ => ?_
  rw [padded, dif_pos n.isLt]

theorem proj_at (r : Fin 2048) (n : Fin 3840) : V5 m ρ c main_v15 (ix2 r n) = padded (fun n => proj (ins m c) (src n) r) n := by
  rw [show V5 m ρ c main_v15 = _ from W5_arr m ρ c 2, Products.product1, h_at, weights_at]
  exact sum_weights (h (ins m c) r) (fun n k => (ins m c).wi (src n) k) n

theorem act_at : V6 m ρ c main_v16 = fun y => act (ins m c) (y 0) (y 1) :=
  (W6_arr m ρ c 2).trans (ConvArrays.act_at (V5 m ρ) c (proj_at m ρ c)
    (fun k n => congrFun (arg_at5 m ρ c main_arg3 (by decide)) _))

theorem proj_7 (r : Fin 2048) (n : Fin 3840) : V7 m ρ c main_v15 (ix2 r n) = padded (fun n => proj (ins m c) (src n) r) n :=
  (congrFun (proj_5_7 m ρ c) _).trans (proj_at m ρ c r n)
theorem given_7 (r : Fin 2048) (n : Fin 3840) (h : n.val < 1536 ∨ 3072 ≤ n.val) :
    V7 m ρ c main_v17_0 (ix2 r n) = dlist (ins m c) r n := by
  refine Eq.trans ?_ (Hosts.given m ρ c r n h)
  refine Eq.trans ?_ (congrFun (given_3_6 m ρ c) _)
  show StableHlo.after hostOps3 (W6 m ρ c) (Proc.devRef .tc main_v17_0) (ix2 r n) = _
  rfl

theorem dproj_at : V8 m ρ c main_v17_0 = fun y => dlist (ins m c) (y 0) (y 1) :=
  (W8_arr m ρ c 3).trans (ConvArrays.dproj_at (V7 m ρ) c (proj_7 m ρ c)
    (fun k n => congrFun (arg_at7 m ρ c main_arg3 (by decide)) _)
    (fun r n => congrFun (arg_at7 m ρ c main_arg5 (by decide)) _) (given_7 m ρ c))
theorem dcw_at : V8 m ρ c main_v17_1 = fun y => dcw (ins m c) (y 0) (y 1) :=
  (W8_arr m ρ c 4).trans (ConvArrays.dcw_at (V7 m ρ) c (proj_7 m ρ c)
    (fun k n => congrFun (arg_at7 m ρ c main_arg3 (by decide)) _)
    (fun r n => congrFun (arg_at7 m ρ c main_arg5 (by decide)) _))

/-- The listing and the zeros do not change the sum over the columns. -/
theorem dh_at (r : Fin 2048) (k : Fin 1024) : V9 m ρ c main_v18 (ix2 r k) = dh (ins m c) r k := by
  rw [show V9 m ρ c main_v18 = _ from W9_arr m ρ c 2, Products.product4, dproj_at, weights_4_8, weights_at]
  exact (sum_padded (fun n => dproj (ins m c) (src n) r) (fun n => (ins m c).wi (src n) k)).trans
    (sum_src fun n => dproj (ins m c) n r * (ins m c).wi n k)

theorem dwi_at (n : Fin 3592) (k : Fin 1024) :
    V10 m ρ c main_v19 (ix2 ⟨n.val, by omega⟩ k) = dwi (ins m c) (src n) k := by
  rw [show V10 m ρ c main_v19 = _ from W10_arr m ρ c 2, Products.product5, dproj_8_9, dproj_at, h_4_9, h_at]
  exact sum_rows (fun n r => dproj (ins m c) (src n) r) (fun r => h (ins m c) r k) n

theorem dh_10 (r : Fin 2048) (k : Fin 1024) : V10 m ρ c main_v18 (ix2 r k) = dh (ins m c) r k :=
  (congrFun (dh_9_10 m ρ c) _).trans (dh_at m ρ c r k)

theorem dx_at : V11 m ρ c main_v20_0 = fun y => dx (ins m c) (y 0) (y 1) :=
  (W11_arr m ρ c 4).trans (Norm.dx_at (V10 m ρ) c (fun r n => congrFun (arg_at10 m ρ c main_arg0 (by decide)) _)
    (fun n => (congrFun (norm_weights_3_10 m ρ c) _).trans (Hosts.norm_weights m ρ c n)) (dh_10 m ρ c)
    (fun r n => congrFun (arg_at10 m ρ c main_arg7 (by decide)) _))
theorem dnw_at : V11 m ρ c main_v20_1 = fun y => dnw (ins m c) (y 1) :=
  (W11_arr m ρ c 5).trans (Norm.dnw_at (V10 m ρ) c (fun r n => congrFun (arg_at10 m ρ c main_arg0 (by decide)) _)
    (dh_10 m ρ c))

/-! ## The results -/

theorem qkv_end (r : Fin 2048) (n : Fin 1536) : W12 m ρ c main_v24 (ix2 r n) = proj (ins m c) (first n) r := by
  refine (Hosts.attention_last (W11 m ρ c) r n).trans (((congrFun (proj_5_11 m ρ c) _).trans (proj_at m ρ c r _)).trans ?_)
  rw [padded, dif_pos (listed (first n)).isLt]
  exact congrArg (proj (ins m c) · r) (src_listed (first n))
theorem act_end : W12 m ρ c main_v16 = fun y => act (ins m c) (y 0) (y 1) :=
  (W12_of m ρ c main_v16 (by decide)).trans ((act_6_11 m ρ c).trans (act_at m ρ c))
theorem tail_end (r : Fin 2048) (n : Fin 520) : W12 m ρ c main_v25 (ix2 r n) = proj (ins m c) (last n) r := by
  refine (Hosts.last_last (W11 m ρ c) r n).trans (((congrFun (proj_5_11 m ρ c) _).trans (proj_at m ρ c r _)).trans ?_)
  rw [padded, dif_pos (last n).isLt]
  exact congrArg (proj (ins m c) · r) (Fin.ext (src_high (n := last n) (by simp [last]; omega)))
theorem dx_end : W12 m ρ c main_v20_0 = fun y => dx (ins m c) (y 0) (y 1) :=
  (W12_of m ρ c main_v20_0 (by decide)).trans (dx_at m ρ c)
theorem dnw_end : W12 m ρ c main_v20_1 = fun y => dnw (ins m c) (y 1) :=
  (W12_of m ρ c main_v20_1 (by decide)).trans (dnw_at m ρ c)
theorem dwi_end (n : Fin 3592) (k : Fin 1024) : W12 m ρ c main_v31 (ix2 n k) = dwi (ins m c) n k :=
  (Hosts.weights_last (W11 m ρ c) n k).trans (((congrFun (dwi_10_11 m ρ c) _).trans (dwi_at m ρ c (listed n) k)).trans (by
    rw [src_listed]))
theorem dcw_end : W12 m ρ c main_v17_1 = fun y => dcw (ins m c) (y 0) (y 1) :=
  (W12_of m ρ c main_v17_1 (by decide)).trans ((dcw_8_11 m ρ c).trans (dcw_at m ρ c))

end Cert.MixInIdeal.Chain

end
-- ==== Proof.MixIn.Reference.lean ====
/- The reference's arrays, stage by stage, at one entry. -/
module

public import proofs.«01_k».proof.Proof.Gen.MixInRefIdeal.Run
public import proofs.«01_k».proof.Proof.MixIn.Stages
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.MixInRefIdeal.Entries

open Cert.MixInRefIdeal Cert.MixInRefIdeal.Gen Cert.MixInRefIdeal.Value Cert.Geglu Cert.Mixer
open Cert.Stages (normed dnorm meanSq pull)

/-- Each tap's gradient, placed in its own row of four, the other rows zero, and the four added. -/
theorem taps_placed (x g : Fin 2048 → EReal) (k : Fin 4) :
    ((((if h : 2 ≤ k.val ∧ k.val - 2 < 1 then ∑ _ : Fin 1, ∑ r, g r * late 1 x r else 0)
      + if h : 1 ≤ k.val ∧ k.val - 1 < 1 then ∑ _ : Fin 1, ∑ r, g r * late 2 x r else 0)
      + if h : k.val < 1 then ∑ _ : Fin 1, ∑ r, g r * late 3 x r else 0)
      + if h : 3 ≤ k.val ∧ k.val - 3 < 1 then ∑ _ : Fin 1, ∑ r, x r * g r else 0) = dtap (3 - k.val) x g := by
  unfold dtap
  match k with
  | 0 => simp [mul_comm]
  | 1 => simp [mul_comm]
  | 2 => simp [mul_comm]
  | 3 => simp [late_zero]

variable (V : Valuation τ sig (Elt Ideal))

/-- The entries of the reference's arguments. -/
def ins : Inputs where
  x r n := (V (Proc.devRef .tc main_arg0) : FVec Ideal S2048x1024 .f32) (ix2 r n)
  nw n := (V (Proc.devRef .tc main_arg1) : FVec Ideal S1024 .f32) (ix1 n)
  wi n k := (V (Proc.devRef .tc main_arg2) : FVec Ideal S3592x1024 .bf16) (ix2 n k)
  cw k n := (V (Proc.devRef .tc main_arg3) : FVec Ideal S4x1536 .f32) (ix2 k n)
  dq r n := (V (Proc.devRef .tc main_arg4) : FVec Ideal S2048x1536 .bf16) (ix2 r n)
  dc r n := (V (Proc.devRef .tc main_arg5) : FVec Ideal S2048x1536 .f32) (ix2 r n)
  dt r n := (V (Proc.devRef .tc main_arg6) : FVec Ideal S2048x520 .bf16) (ix2 r n)
  dx1 r n := (V (Proc.devRef .tc main_arg7) : FVec Ideal S2048x1024 .f32) (ix2 r n)

variable (r : Fin 2048) (n : Fin 1536) (p : Fin 3592) (l : Fin 1024) (k : Fin 4) (e : Fin 520)

theorem x_in : (V (Proc.devRef .tc main_arg0) : FVec Ideal S2048x1024 .f32) (ix2 r l) = (ins V).x r l := rfl
theorem nw_in : (V (Proc.devRef .tc main_arg1) : FVec Ideal S1024 .f32) (ix1 l) = (ins V).nw l := rfl
theorem wi_in : (V (Proc.devRef .tc main_arg2) : FVec Ideal S3592x1024 .bf16) (ix2 p l) = (ins V).wi p l := rfl
theorem cw_in : (V (Proc.devRef .tc main_arg3) : FVec Ideal S4x1536 .f32) (ix2 k n) = (ins V).cw k n := rfl
theorem dq_in : (V (Proc.devRef .tc main_arg4) : FVec Ideal S2048x1536 .bf16) (ix2 r n) = (ins V).dq r n := rfl
theorem dc_in : (V (Proc.devRef .tc main_arg5) : FVec Ideal S2048x1536 .f32) (ix2 r n) = (ins V).dc r n := rfl
theorem dt_in : (V (Proc.devRef .tc main_arg6) : FVec Ideal S2048x520 .bf16) (ix2 r e) = (ins V).dt r e := rfl
theorem dx1_in : (V (Proc.devRef .tc main_arg7) : FVec Ideal S2048x1024 .f32) (ix2 r l) = (ins V).dx1 r l := rfl

theorem meanSq_at (z : Fin 1) : res_main_v7 V (ix2 r z) = meanSq ((ins V).x r) := by
  pointwise [res_main_v7, x_in, meanSq]
theorem normed_at : res_main_v13 V (ix2 r l) = normed ((ins V).x r) l := by
  pointwise [res_main_v13, res_main_v8, meanSq_at, x_in, normed]
theorem h_at : res_main_v16 V (ix2 r l) = h (ins V) r l := by
  pointwise [res_main_v16, res_main_v14, normed_at, nw_in, h]
theorem proj_at : res_main_v18 V (ix2 r p) = proj (ins V) p r := by
  pointwise [res_main_v18, res_main_v17, h_at, wi_in, proj]
theorem mid_at : res_main_v20 V (ix2 r n) = proj (ins V) (mid n) r := by
  pointwise [res_main_v20, proj_at, mid]
theorem late3 : res_main_v31 V (ix2 r n) = late 3 (proj (ins V) (mid n)) r := by
  pointwise [res_main_v31, mid_at]
  exact late_joined 3 (proj (ins V) (mid n)) r
theorem late2 : res_main_v41 V (ix2 r n) = late 2 (proj (ins V) (mid n)) r := by
  pointwise [res_main_v41, mid_at]
  exact late_joined 2 (proj (ins V) (mid n)) r
theorem late1 : res_main_v51 V (ix2 r n) = late 1 (proj (ins V) (mid n)) r := by
  pointwise [res_main_v51, mid_at]
  exact late_joined 1 (proj (ins V) (mid n)) r
theorem conved_at : res_main_v56 V (ix2 r n) = conved (ins V) n r := by
  pointwise [res_main_v56, res_main_v24, res_main_v33, res_main_v43, res_main_v53, mid_at, late1, late2, late3, conved, Mixer.conv, cw_in]
  rw [mul_comm (late 3 _ _), mul_comm (late 2 _ _), mul_comm (late 1 _ _)]
theorem expit_at : res_main_v57_2 V (ix2 r n) = expit (conved (ins V) n r) := by
  pointwise [res_main_v57_2, conved_at, expit]
theorem grad_at : res_main_v60 V (ix2 r n) = grad (ins V) n r := by
  pointwise [res_main_v60, expit_at, conved_at, dc_in, grad, dsilu]
/-- The convolution's share of the in-projection's gradient. -/
abbrev betweenOut : FVec Ideal S2048x1536 .f32 :=
  (addf (addf (addf (pad S2048x1536 ![0, 0] ![1, 0] ![0, 0] (extractStridedSlice S2047x1536 ![1, 0] (res_main_v62 V) slices_S2048x1536_S2047x1536_1_0) (constant S_ .f32 0x00000000#32) pads_S2047x1536_S2048x1536_010_000 h_S_) (pad S2048x1536 ![0, 0] ![2, 0] ![0, 0] (extractStridedSlice S2046x1536 ![2, 0] (res_main_v73 V) slices_S2048x1536_S2046x1536_2_0) (constant S_ .f32 0x00000000#32) pads_S2046x1536_S2048x1536_020_000 h_S_)) (pad S2048x1536 ![0, 0] ![3, 0] ![0, 0] (extractStridedSlice S2045x1536 ![3, 0] (res_main_v86 V) slices_S2048x1536_S2045x1536_3_0) (constant S_ .f32 0x00000000#32) pads_S2045x1536_S2048x1536_030_000 h_S_)) (mulf (res_main_v60 V) (broadcastInDim S2048x1536 ![0, 1] bcast_S1x1536_S2048x1536_0_1 (res_main_v24 V))))
theorem between_at : betweenOut V (ix2 r n) = Mixer.dconv (grad (ins V) n) (fun k => (ins V).cw k n) r := by
  pointwise [betweenOut, res_main_v62, res_main_v73, res_main_v86, grad_at, res_main_v24, res_main_v33, res_main_v43, res_main_v53, cw_in]
  exact congrArg₂ (· + ·) (congrArg₂ (· + ·) (congrArg₂ (· + ·) (early_padded 1 _ _ r) (early_padded 2 _ _ r)) (early_padded 3 _ _ r)) rfl
/-- Three arrays side by side, at one entry. -/
theorem beside (x y : FVec Ideal S2048x1536 .f32) (z : FVec Ideal S2048x520 .f32) :
    concatenate S2048x3592 1 [⟨S2048x1536, x⟩, ⟨S2048x1536, y⟩, ⟨S2048x520, z⟩] concatenates_S2048x1536_S2048x1536_S2048x520_S2048x3592_d1 (ix2 r p)
    = if h : p.val < 1536 then x (ix2 r ⟨p.val, h⟩) else if h : p.val < 3072 then y (ix2 r ⟨p.val - 1536, by omega⟩)
      else z (ix2 r ⟨p.val - 3072, by omega⟩) := by
  pointwise
  by_cases h₁ : p.val < 1536
  · rw [dif_pos h₁, dif_pos h₁]
  · rw [dif_neg h₁, dif_neg h₁]
    by_cases h₂ : p.val < 3072
    · rw [dif_pos h₂, dif_pos (by omega)]
    · rw [dif_neg h₂, dif_neg (by omega)]
      refine congrArg z ?_
      blk_ext
theorem dproj_at : res_main_v108 V (ix2 r p) = dproj (ins V) p r := by
  rw [res_main_v108]
  refine (beside r p _ (betweenOut V) _).trans ?_
  unfold dproj
  by_cases h₁ : p.val < 1536
  · rw [dif_pos h₁, dif_pos h₁]
    pointwise [dq_in]
  · rw [dif_neg h₁, dif_neg h₁]
    by_cases h₂ : p.val < 3072
    · rw [dif_pos h₂, dif_pos h₂]
      exact between_at V r _
    · rw [dif_neg h₂, dif_neg h₂]
      pointwise [dt_in]
theorem dh_at : res_main_v111 V (ix2 r l) = dh (ins V) r l := by
  pointwise [res_main_v111, dproj_at, res_main_v17, wi_in, dh]
theorem pull_at : res_main_v129 V (ix2 r l) = pull ((ins V).x r) (fun n => dh (ins V) r n * (ins V).nw n) := by
  pointwise [res_main_v129, res_main_v117, res_main_v8, res_main_v14, meanSq_at, x_in, dh_at, pull, nw_in]
  exact Fin.sum_univ_one (M := EReal) _

/-- The attention's columns of the in-projection. -/
abbrev qkvOut : FVec Ideal S2048x1536 .f32 :=
  extractStridedSlice S2048x1536 ![0, 0] (res_main_v18 V) slices_S2048x3592_S2048x1536_0_0
/-- The convolved columns. -/
abbrev actOut : FVec Ideal S2048x1536 .bf16 :=
  truncf .bf16 (mulf (res_main_v56 V) (res_main_v57_2 V)) bitsLt_bf16_f32
/-- The last columns of the in-projection. -/
abbrev tailOut : FVec Ideal S2048x520 .f32 :=
  extractStridedSlice S2048x520 ![0, 3072] (res_main_v18 V) slices_S2048x3592_S2048x520_0_3072
/-- The gradient of the residual rows. -/
abbrev dxOut : FVec Ideal S2048x1024 .f32 :=
  addf (addf (addf (V (Proc.devRef .tc main_arg7)) (mulf (res_main_v117 V) (broadcastInDim S2048x1024 ![0, 1] bcast_S2048x1_S2048x1024_0_1 (res_main_v8 V)))) (mulf (V (Proc.devRef .tc main_arg0)) (res_main_v129 V))) (mulf (res_main_v129 V) (V (Proc.devRef .tc main_arg0)))
/-- The gradient of the norm's weights. -/
abbrev dnwOut : FVec Ideal S1x1024 .f32 :=
  broadcastInDim S1x1024 ![1] bcast_S1024_S1x1024_1 (Host.reduceAdd (shapeCast _ (Host.reduceAdd (mulf (res_main_v13 V) (res_main_v111 V)) (constant S_ .f32 0x00000000#32) reducesTo_S2048x1024_S1024_d0 h_S_) shapeCasts_S1024_S1x1024) (constant S_ .f32 0x00000000#32) reducesTo_S1x1024_S1024_d0 h_S_)
/-- The gradient of the input weights. -/
abbrev dwiOut : FVec Ideal S3592x1024 .bf16 :=
  truncf .bf16 (transpose S3592x1024 [1, 0] (transpose S1024x3592 [1, 0] (Host.dotGeneral (φ₁ := .f32) (φ₂ := .f32) dot_S2048x3592_S2048x1024_S3592x1024_0_0_1_1_n_n none (res_main_v108 V) (res_main_v16 V)) transposes_S3592x1024_S1024x3592_1_0) transposes_S1024x3592_S3592x1024_1_0) bitsLt_bf16_f32
/-- The gradient of the taps. -/
abbrev dcwOut : FVec Ideal S4x1536 .f32 :=
  addf (addf (addf (pad S4x1536 ![2, 0] ![1, 0] ![0, 0] (broadcastInDim S1x1536 ![1] bcast_S1536_S1x1536_1 (Host.reduceAdd (shapeCast _ (Host.reduceAdd (mulf (res_main_v60 V) (res_main_v51 V)) (constant S_ .f32 0x00000000#32) reducesTo_S2048x1536_S1536_d0 h_S_) shapeCasts_S1536_S1x1536) (constant S_ .f32 0x00000000#32) reducesTo_S1x1536_S1536_d0 h_S_)) (constant S_ .f32 0x00000000#32) pads_S1x1536_S4x1536_210_000 h_S_) (pad S4x1536 ![1, 0] ![2, 0] ![0, 0] (broadcastInDim S1x1536 ![1] bcast_S1536_S1x1536_1 (Host.reduceAdd (shapeCast _ (Host.reduceAdd (mulf (res_main_v60 V) (res_main_v41 V)) (constant S_ .f32 0x00000000#32) reducesTo_S2048x1536_S1536_d0 h_S_) shapeCasts_S1536_S1x1536) (constant S_ .f32 0x00000000#32) reducesTo_S1x1536_S1536_d0 h_S_)) (constant S_ .f32 0x00000000#32) pads_S1x1536_S4x1536_120_000 h_S_)) (pad S4x1536 ![0, 0] ![3, 0] ![0, 0] (broadcastInDim S1x1536 ![1] bcast_S1536_S1x1536_1 (Host.reduceAdd (shapeCast _ (Host.reduceAdd (mulf (res_main_v60 V) (res_main_v31 V)) (constant S_ .f32 0x00000000#32) reducesTo_S2048x1536_S1536_d0 h_S_) shapeCasts_S1536_S1x1536) (constant S_ .f32 0x00000000#32) reducesTo_S1x1536_S1536_d0 h_S_)) (constant S_ .f32 0x00000000#32) pads_S1x1536_S4x1536_030_000 h_S_)) (pad S4x1536 ![3, 0] ![0, 0] ![0, 0] (broadcastInDim S1x1536 ![1] bcast_S1536_S1x1536_1 (Host.reduceAdd (shapeCast _ (Host.reduceAdd (mulf (res_main_v20 V) (res_main_v60 V)) (constant S_ .f32 0x00000000#32) reducesTo_S2048x1536_S1536_d0 h_S_) shapeCasts_S1536_S1x1536) (constant S_ .f32 0x00000000#32) reducesTo_S1x1536_S1536_d0 h_S_)) (constant S_ .f32 0x00000000#32) pads_S1x1536_S4x1536_300_000 h_S_)

theorem qkv_at : qkvOut V (ix2 r n) = proj (ins V) (first n) r := by
  pointwise [qkvOut, proj_at, first]
theorem act_at : actOut V (ix2 r n) = act (ins V) r n := by
  pointwise [actOut, conved_at, expit_at, act, silu]
theorem tail_at : tailOut V (ix2 r e) = proj (ins V) (last e) r := by
  pointwise [tailOut, proj_at, last]
theorem dx_at : dxOut V (ix2 r l) = dx (ins V) r l := by
  rw [dx, dnorm, add_comm _ ((ins V).dx1 r l), ← add_assoc, ← add_assoc]
  pointwise [dxOut, res_main_v117, res_main_v8, res_main_v14, pull_at, meanSq_at, x_in, dx1_in, dh_at, nw_in]
theorem dnw_at : dnwOut V (ix2 0 l) = dnw (ins V) l := by
  pointwise [dnwOut, normed_at, dh_at, dnw]
  exact Fin.sum_univ_one (M := EReal) _
theorem dwi_at : dwiOut V (ix2 p l) = dwi (ins V) p l := by
  pointwise [dwiOut, dproj_at, h_at, dwi]
theorem dcw_at : dcwOut V (ix2 k n) = dcw (ins V) k n := by
  pointwise [dcwOut, grad_at, late1, late2, late3, mid_at]
  exact taps_placed (proj (ins V) (mid n)) (grad (ins V) n) k

end Cert.MixInRefIdeal.Entries

end
-- ==== Proof.MixOut.Run.lean ====
/- The run of the five calls: every result ends at what the fold over the calls gives it. -/
module

public import proofs.«01_k».proof.Proof.Gen.MixOutIdeal.Frame

@[expose] public section

set_option maxRecDepth 16384

noncomputable section

namespace Cert.MixOutIdeal.Run

open Cert.MixOutIdeal Cert.MixOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every result ends at the contents of the last boundary, every argument as launched. -/
theorem results : θ_run defs (onTc (τ := τ) (main (F := F))) ⟨m, fun _ => 0, ρ⟩ (fun r => ∀ c : Dev nD,
      r.2.mem ((c.tc : Thread nD τ).loc main_v3_0) = W6 m ρ c main_v3_0
      ∧ r.2.mem ((c.tc : Thread nD τ).loc main_v3_1) = W6 m ρ c main_v3_1
      ∧ r.2.mem ((c.tc : Thread nD τ).loc main_v4_0) = W6 m ρ c main_v4_0
      ∧ r.2.mem ((c.tc : Thread nD τ).loc main_v5) = W6 m ρ c main_v5
      ∧ r.2.mem ((c.tc : Thread nD τ).loc main_v6) = W6 m ρ c main_v6
      ∧ r.2.mem ((c.tc : Thread nD τ).loc main_v4_3) = W6 m ρ c main_v4_3
      ∧ r.2.mem ((c.tc : Thread nD τ).loc main_v4_2) = W6 m ρ c main_v4_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v3_0 (by decide)),
       h c _ (mem_uc main_v3_1 (by decide)),
       h c _ (mem_uc main_v4_0 (by decide)),
       h c _ (mem_uc main_v5 (by decide)),
       h c _ (mem_uc main_v6 (by decide)),
       h c _ (mem_uc main_v4_3 (by decide)),
       h c _ (mem_uc main_v4_2 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.MixOutIdeal.Run

end
-- ==== Proof.MixOut.Products.lean ====
/- The three calls that are plain products: the array each leaves, from the arrays it finds. -/
module

public import proofs.«01_k».proof.Proof.Gen.MixOutIdeal.Frame
public import proofs.«01_k».proof.Proof.Geglu.Shared
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutIdeal.Products

open Cert.MixOutIdeal Cert.MixOutIdeal.Gen
open Cert.Geglu (Mat mul mulT tMul)

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0]
    ∧ win0_2.index t = ![t.val, 0] :=
  (by decide +kernel : ∀ t : Fin grid0.N, _)
theorem out0_at (x0 : Vec Ideal S512x1024 .f32) (x1 : Vec Ideal S1024x1024 .bf16) (r : Fin 512) (l : Fin 1024) :
    out0_2 x0 x1 (ix2 r l) = ∑ k, x0 (ix2 r k) * x1 (ix2 k l) := by
  frame_out
  pointwise [k0_pay1]
/-- The out-projection: the columns times the output weights. -/
theorem product0 : (dat0 V c).arrAt 2 cfg0.N = mul (V c main_arg1) (V c main_arg2) := by
  refine (dat0 V c).arrAt_eq_of_covers 2 _ (by decide +kernel) fun t _ y => ?_
  have ht := lt_of_lt_of_eq t.isLt N_0
  rw [after0_2]
  obtain ⟨r, l, rfl⟩ : ∃ (r : Fin 512) (l : Fin 1024), y = ix2 r l := ⟨y 0, y 1, (ix2_eta y).symm⟩
  have he : ((cfg0.win 2).blk t).view.emb (ix2 r l) = ix2 ⟨512 * t.val + r.val, by omega⟩ l := by
    blk_ext [idx0 t]
    all_goals omega
  have h : out0_2 (iblk0 V c 0 t) (iblk0 V c 1 t) (ix2 r l) = mul (V c main_arg1) (V c main_arg2) (ix2 ⟨512 * t.val + r.val, by omega⟩ l) := by
    refine (out0_at ..).trans (Finset.sum_congr rfl fun k _ => congrArg₂ (· * ·) ?_ ?_) <;> blk_ext [iblk0, idx0 t]
    all_goals omega
  rw [he]
  refine Eq.trans ?_ h
  refine (cast_eq _ _).trans (congrArg (out0_2 (iblk0 V c 0 t) (iblk0 V c 1 t)) (funext fun a => Fin.ext ?_))
  fin_cases a <;> rfl

theorem idx3 : ∀ t : Fin cfg3.N, win3_0.index t = ![0, 0] ∧ win3_1.index t = ![t.val, 0]
    ∧ win3_2.index t = ![0, t.val] :=
  (by decide +kernel : ∀ t : Fin grid3.N, _)
theorem out3_at (x0 : Vec Ideal S2048x1024 .bf16) (x1 : Vec Ideal S512x1024 .bf16) (r : Fin 2048) (l : Fin 512) :
    out3_2 x0 x1 (ix2 r l) = ∑ k, x0 (ix2 r k) * x1 (ix2 l k) := by
  frame_out
  pointwise [k3_pay1]
/-- The gradient of the columns: the gradient of the out-projection times the output weights, transposed. -/
theorem product3 : (dat3 V c).arrAt 2 cfg3.N = mulT (V c main_v4_1) (V c main_arg2) := by
  refine (dat3 V c).arrAt_eq_of_covers 2 _ (by decide +kernel) fun t _ y => ?_
  have ht := lt_of_lt_of_eq t.isLt N_3
  rw [after3_2]
  obtain ⟨r, l, rfl⟩ : ∃ (r : Fin 2048) (l : Fin 512), y = ix2 r l := ⟨y 0, y 1, (ix2_eta y).symm⟩
  have he : ((cfg3.win 2).blk t).view.emb (ix2 r l) = ix2 r ⟨512 * t.val + l.val, by omega⟩ := by
    blk_ext [idx3 t]
    all_goals omega
  have h : out3_2 (iblk3 V c 0 t) (iblk3 V c 1 t) (ix2 r l) = mulT (V c main_v4_1) (V c main_arg2) (ix2 r ⟨512 * t.val + l.val, by omega⟩) := by
    refine (out3_at ..).trans (Finset.sum_congr rfl fun k _ => congrArg₂ (· * ·) ?_ ?_) <;> blk_ext [iblk3, idx3 t]
    all_goals omega
  rw [he]
  refine Eq.trans ?_ h
  refine (cast_eq _ _).trans (congrArg (out3_2 (iblk3 V c 0 t) (iblk3 V c 1 t)) (funext fun a => Fin.ext ?_))
  fin_cases a <;> rfl

theorem idx4 : ∀ t : Fin cfg4.N, win4_0.index t = ![0, 0] ∧ win4_1.index t = ![0, t.val]
    ∧ win4_2.index t = ![0, t.val] :=
  (by decide +kernel : ∀ t : Fin grid4.N, _)
theorem out4_at (x0 : Vec Ideal S2048x1024 .f32) (x1 : Vec Ideal S2048x512 .bf16) (r : Fin 1024) (l : Fin 512) :
    out4_2 x0 x1 (ix2 r l) = ∑ k, x0 (ix2 k r) * x1 (ix2 k l) := by
  frame_out
  pointwise [k4_pay1]
/-- The gradient of the output weights. -/
theorem product4 : (dat4 V c).arrAt 2 cfg4.N = tMul (V c main_arg1) (V c main_v4_1) := by
  refine (dat4 V c).arrAt_eq_of_covers 2 _ (by decide +kernel) fun t _ y => ?_
  have ht := lt_of_lt_of_eq t.isLt N_4
  rw [after4_2]
  obtain ⟨r, l, rfl⟩ : ∃ (r : Fin 1024) (l : Fin 512), y = ix2 r l := ⟨y 0, y 1, (ix2_eta y).symm⟩
  have he : ((cfg4.win 2).blk t).view.emb (ix2 r l) = ix2 r ⟨512 * t.val + l.val, by omega⟩ := by
    blk_ext [idx4 t]
    all_goals omega
  have h : out4_2 (iblk4 V c 0 t) (iblk4 V c 1 t) (ix2 r l) = tMul (V c main_arg1) (V c main_v4_1) (ix2 r ⟨512 * t.val + l.val, by omega⟩) := by
    refine (out4_at ..).trans (Finset.sum_congr rfl fun k _ => congrArg₂ (· * ·) ?_ ?_) <;> blk_ext [iblk4, idx4 t]
    all_goals omega
  rw [he]
  refine Eq.trans ?_ h
  refine (cast_eq _ _).trans (congrArg (out4_2 (iblk4 V c 0 t) (iblk4 V c 1 t)) (funext fun a => Fin.ext ?_))
  fin_cases a <;> rfl

end Cert.MixOutIdeal.Products
end
-- ==== Proof.MixOut.Stages.lean ====
/- The mixer's output and its gradients, stage by stage, as plain functions of the entries of the arguments: the out-projection,
   the norm after it with the residual, the norm before the next sub-layer. -/
module

public import proofs.«01_k».proof.Proof.Ffn.Stages

@[expose] public section

set_option maxRecDepth 16384

noncomputable section

open Idealize.ShloMosaic

namespace Cert.MixerOut

open Cert.Stages (normed dnorm)

/-- The arguments' entries: the residual rows, the mixer's columns, the output weights, the weights of the norm after the mixer and
    of the norm before the next sub-layer, and the incoming gradients of the normalised rows and of the residual rows. -/
structure Inputs where
  x : Fin 2048 → Fin 1024 → EReal
  cat : Fin 2048 → Fin 1024 → EReal
  wo : Fin 1024 → Fin 1024 → EReal
  pw : Fin 1024 → EReal
  qw : Fin 1024 → EReal
  dh : Fin 2048 → Fin 1024 → EReal
  dx : Fin 2048 → Fin 1024 → EReal

variable (I : Inputs)

/-- The out-projection. -/
def mix (r : Fin 2048) (n : Fin 1024) : EReal := ∑ k, I.cat r k * I.wo k n
/-- The residual rows after the mixer. -/
def x1 (r : Fin 2048) (n : Fin 1024) : EReal := I.x r n + normed (mix I r) n * I.pw n
/-- The normalised rows handed on. -/
def h2 (r : Fin 2048) (n : Fin 1024) : EReal := normed (x1 I r) n * I.qw n
/-- The gradient of the residual rows. -/
def dx1 (r : Fin 2048) (n : Fin 1024) : EReal := dnorm (x1 I r) (fun n => I.dh r n * I.qw n) n + I.dx r n
/-- The gradient of the out-projection. -/
def dmix (r : Fin 2048) : Fin 1024 → EReal := dnorm (mix I r) fun n => dx1 I r n * I.pw n
/-- The gradient of the mixer's columns. -/
def dcat (r : Fin 2048) (k : Fin 1024) : EReal := ∑ n, dmix I r n * I.wo k n
/-- The gradient of the output weights. -/
def dwo (k n : Fin 1024) : EReal := ∑ r, I.cat r k * dmix I r n
/-- The gradient of the weights of the norm after the mixer. -/
def dpw (n : Fin 1024) : EReal := ∑ r, normed (mix I r) n * dx1 I r n
/-- The gradient of the weights of the norm before the next sub-layer. -/
def dqw (n : Fin 1024) : EReal := ∑ r, normed (x1 I r) n * I.dh r n

end Cert.MixerOut

end
-- ==== Proof.MixOut.Norm.lean ====
/- The norm after the mixer with the residual and the norm before the next sub-layer, and the gradients of both in one call: eight
   blocks of 256 rows, the weights' gradients accumulated over the blocks. -/
module

public import proofs.«01_k».proof.Proof.Gen.MixOutIdeal.Frame
public import proofs.«01_k».proof.Proof.MixOut.Stages
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixOutIdeal.Norm

open Cert.MixOutIdeal Cert.MixOutIdeal.Gen Cert.MixerOut
open Cert.Stages (normed dnorm pull meanSq)

section Block

variable (x f d e : Vec Ideal S256x1024 .f32) (w w' : Vec Ideal S1x1024 .f32)

/-- Row `s` of a block. -/
def row (f : Vec Ideal S256x1024 .f32) (s : Fin 256) (n : Fin 1024) : EReal := f (ix2 s n)

theorem sum_at (s : Fin 256) (n : Fin 1024) : k1_pay1 x f w (ix2 s n) = x (ix2 s n) + normed (row f s) n * w (ix2 0 n) := by
  unfold normed meanSq row
  pointwise [k1_pay1]
theorem out_at (s : Fin 256) (n : Fin 1024) : k1_pay2 x f w w' (ix2 s n) = normed (row (k1_pay1 x f w) s) n * w' (ix2 0 n) := by
  unfold normed meanSq row
  pointwise [k1_pay2]
theorem zero_a (j : S1x1024.Idx) : k2_pay1 (F := Ideal) j = 0 := by pointwise [k2_pay1]
theorem zero_b (j : S1x1024.Idx) : k2_pay2 (F := Ideal) j = 0 := by pointwise [k2_pay2]
theorem add_a (g a : Vec Ideal S1x1024 .f32) (j : S1x1024.Idx) : k2_pay3 g a j = a j + g j := by pointwise [k2_pay3]
theorem add_b (g a : Vec Ideal S1x1024 .f32) (j : S1x1024.Idx) : k2_pay4 g a j = a j + g j := by pointwise [k2_pay4]
theorem dwa_at (n : Fin 1024) : k2_pay8 f d (ix2 0 n) = ∑ s, normed (row f s) n * d (ix2 s n) := by
  unfold normed meanSq row
  pointwise [k2_pay8, k2_pay5, k2_pay6, k2_pay7]
theorem dwb_at (n : Fin 1024) : k2_pay13 d f (ix2 0 n) = ∑ s, normed (row f s) n * d (ix2 s n) := by
  unfold normed meanSq row
  pointwise [k2_pay13, k2_pay10, k2_pay11, k2_pay12]
theorem dxa_at (s : Fin 256) (n : Fin 1024) :
    k2_pay9 f w d e (ix2 s n) = dnorm (row f s) (fun n => d (ix2 s n) * w (ix2 0 n)) n + e (ix2 s n) := by
  unfold dnorm pull meanSq row
  pointwise [k2_pay9, k2_pay5, k2_pay6, k2_pay7]
  rw [Fin.sum_univ_one (M := EReal) _]
theorem dxb_at (s : Fin 256) (n : Fin 1024) :
    k2_pay14 d f w (ix2 s n) = dnorm (row f s) (fun n => d (ix2 s n) * w (ix2 0 n)) n := by
  unfold dnorm pull meanSq row
  pointwise [k2_pay14, k2_pay10, k2_pay11, k2_pay12]
  rw [Fin.sum_univ_one (M := EReal) _]

end Block

variable (V : (c : Dev nD) → (b : Ref sig .tc) → Buf (Elt Ideal) ((c : Thread nD τ).loc b)) (c : Dev nD) {I : Inputs}

theorem idx1 : ∀ t : Fin cfg1.N, win1_0.index t = ![t.val, 0] ∧ win1_1.index t = ![t.val, 0] ∧ win1_2.index t = ![0, 0]
    ∧ win1_3.index t = ![0, 0] ∧ win1_4.index t = ![t.val, 0] ∧ win1_5.index t = ![t.val, 0] :=
  (by decide +kernel : ∀ t : Fin grid1.N, _)
theorem idx2 : ∀ t : Fin cfg2.N, win2_0.index t = ![t.val, 0] ∧ win2_1.index t = ![0, 0] ∧ win2_2.index t = ![t.val, 0]
    ∧ win2_3.index t = ![t.val, 0] ∧ win2_4.index t = ![t.val, 0] ∧ win2_5.index t = ![0, 0] ∧ win2_6.index t = ![t.val, 0]
    ∧ win2_7.index t = ![t.val, 0] :=
  (by decide +kernel : ∀ t : Fin grid2.N, _)

/-- The row that block `t` holds at its row `s`. -/
def rowOf (t : Fin 8) (s : Fin 256) : Fin 2048 := ⟨t.val * 256 + s.val, by omega⟩
abbrev num1 (t : Fin cfg1.N) : Fin 8 := ⟨t.val, lt_of_lt_of_eq t.isLt N_1⟩
abbrev num2 (t : Fin cfg2.N) : Fin 8 := ⟨t.val, lt_of_lt_of_eq t.isLt N_2⟩

section Forward

variable (hx : ∀ r n, V c main_arg0 (ix2 r n) = I.x r n) (hf : ∀ r n, V c main_v2 (ix2 r n) = mix I r n)
  (hp : ∀ n, V c main_v0 (ix2 0 n) = I.pw n) (hq : ∀ n, V c main_v1 (ix2 0 n) = I.qw n)

include hx in
theorem x_blk (t : Fin cfg1.N) (s : Fin 256) (n : Fin 1024) : iblk1 V c 0 t (ix2 s n) = I.x (rowOf (num1 t) s) n := by
  rw [← hx]; blk_ext [iblk1, idx1 t, rowOf]; all_goals omega
include hf in
theorem mix_blk (t : Fin cfg1.N) (s : Fin 256) (n : Fin 1024) : iblk1 V c 1 t (ix2 s n) = mix I (rowOf (num1 t) s) n := by
  rw [← hf]; blk_ext [iblk1, idx1 t, rowOf]; all_goals omega
include hp in
theorem pw_blk (t : Fin cfg1.N) (n : Fin 1024) : iblk1 V c 2 t (ix2 0 n) = I.pw n := by
  rw [← hp]; blk_ext [iblk1, idx1 t]
include hq in
theorem qw_blk (t : Fin cfg1.N) (n : Fin 1024) : iblk1 V c 3 t (ix2 0 n) = I.qw n := by
  rw [← hq]; blk_ext [iblk1, idx1 t]

include hx hf hp in
/-- A block of the residual rows after the mixer. -/
theorem x1_block (t : Fin cfg1.N) (s : Fin 256) (n : Fin 1024) :
    k1_pay1 (iblk1 V c 0 t) (iblk1 V c 1 t) (iblk1 V c 2 t) (ix2 s n) = x1 I (rowOf (num1 t) s) n := by
  have h1 : row (iblk1 V c 1 t) s = mix I (rowOf (num1 t) s) := funext fun n => mix_blk V c hf t s n
  rw [sum_at, x_blk V c hx, pw_blk V c hp, h1, x1]

include hx hf hp in
/-- The residual rows after the mixer. -/
theorem x1_at : (dat1 V c).arrAt 4 cfg1.N = fun y => x1 I (y 0) (y 1) := by
  refine (dat1 V c).arrAt_eq_of_covers 4 _ (by decide +kernel) fun t _ y => ?_
  have ht := lt_of_lt_of_eq t.isLt N_1
  rw [after1_4]
  have hb : out1_4 (iblk1 V c 0 t) (iblk1 V c 1 t) (iblk1 V c 2 t) (iblk1 V c 3 t) = k1_pay1 (iblk1 V c 0 t) (iblk1 V c 1 t) (iblk1 V c 2 t) := by
    frame_out
  rw [hb]
  obtain ⟨s, n, rfl⟩ : ∃ (s : Fin 256) (n : Fin 1024), y = ix2 s n := ⟨y 0, y 1, (ix2_eta y).symm⟩
  have he : ((cfg1.win 4).blk t).view.emb (ix2 s n) = ix2 (rowOf (num1 t) s) n := by
    blk_ext [rowOf, idx1 t]
    all_goals omega
  have h : k1_pay1 (iblk1 V c 0 t) (iblk1 V c 1 t) (iblk1 V c 2 t) (ix2 s n) = x1 I (rowOf (num1 t) s) n := x1_block V c hx hf hp t s n
  rw [he]
  refine Eq.trans ?_ h
  refine (cast_eq _ _).trans (congrArg (k1_pay1 (iblk1 V c 0 t) (iblk1 V c 1 t) (iblk1 V c 2 t)) (funext fun a => Fin.ext ?_))
  fin_cases a <;> rfl

include hx hf hp hq in
/-- The normalised rows handed on. -/
theorem h2_at : (dat1 V c).arrAt 5 cfg1.N = fun y => h2 I (y 0) (y 1) := by
  refine (dat1 V c).arrAt_eq_of_covers 5 _ (by decide +kernel) fun t _ y => ?_
  have ht := lt_of_lt_of_eq t.isLt N_1
  rw [after1_5]
  have hb : out1_5 (iblk1 V c 0 t) (iblk1 V c 1 t) (iblk1 V c 2 t) (iblk1 V c 3 t) = k1_pay2 (iblk1 V c 0 t) (iblk1 V c 1 t) (iblk1 V c 2 t) (iblk1 V c 3 t) := by
    frame_out
  rw [hb]
  obtain ⟨s, n, rfl⟩ : ∃ (s : Fin 256) (n : Fin 1024), y = ix2 s n := ⟨y 0, y 1, (ix2_eta y).symm⟩
  have he : ((cfg1.win 5).blk t).view.emb (ix2 s n) = ix2 (rowOf (num1 t) s) n := by
    blk_ext [rowOf, idx1 t]
    all_goals omega
  have h : k1_pay2 (iblk1 V c 0 t) (iblk1 V c 1 t) (iblk1 V c 2 t) (iblk1 V c 3 t) (ix2 s n) = h2 I (rowOf (num1 t) s) n := by
    have h1 : row (k1_pay1 (iblk1 V c 0 t) (iblk1 V c 1 t) (iblk1 V c 2 t)) s = x1 I (rowOf (num1 t) s) :=
      funext fun n => x1_block V c hx hf hp t s n
    rw [out_at, h1, qw_blk V c hq, h2]
  rw [he]
  refine Eq.trans ?_ h
  refine (cast_eq _ _).trans (congrArg (k1_pay2 (iblk1 V c 0 t) (iblk1 V c 1 t) (iblk1 V c 2 t) (iblk1 V c 3 t)) (funext fun a => Fin.ext ?_))
  fin_cases a <;> rfl

end Forward

section Backward

variable (ha : ∀ r n, V c main_v3_0 (ix2 r n) = x1 I r n) (hq : ∀ n, V c main_v1 (ix2 0 n) = I.qw n)
  (hd : ∀ r n, V c main_arg5 (ix2 r n) = I.dh r n) (hr : ∀ r n, V c main_arg6 (ix2 r n) = I.dx r n)
  (hf : ∀ r n, V c main_v2 (ix2 r n) = mix I r n) (hp : ∀ n, V c main_v0 (ix2 0 n) = I.pw n)

include ha in
theorem x1_in (t : Fin cfg2.N) (s : Fin 256) (n : Fin 1024) : iblk2 V c 0 t (ix2 s n) = x1 I (rowOf (num2 t) s) n := by
  rw [← ha]; blk_ext [iblk2, idx2 t, rowOf]; all_goals omega
include hq in
theorem qw_in (t : Fin cfg2.N) (n : Fin 1024) : iblk2 V c 1 t (ix2 0 n) = I.qw n := by
  rw [← hq]; blk_ext [iblk2, idx2 t]
include hd in
theorem dh_in (t : Fin cfg2.N) (s : Fin 256) (n : Fin 1024) : iblk2 V c 2 t (ix2 s n) = I.dh (rowOf (num2 t) s) n := by
  rw [← hd]; blk_ext [iblk2, idx2 t, rowOf]; all_goals omega
include hr in
theorem dx_in (t : Fin cfg2.N) (s : Fin 256) (n : Fin 1024) : iblk2 V c 3 t (ix2 s n) = I.dx (rowOf (num2 t) s) n := by
  rw [← hr]; blk_ext [iblk2, idx2 t, rowOf]; all_goals omega
include hf in
theorem mix_in (t : Fin cfg2.N) (s : Fin 256) (n : Fin 1024) : iblk2 V c 4 t (ix2 s n) = mix I (rowOf (num2 t) s) n := by
  rw [← hf]; blk_ext [iblk2, idx2 t, rowOf]; all_goals omega
include hp in
theorem pw_in (t : Fin cfg2.N) (n : Fin 1024) : iblk2 V c 5 t (ix2 0 n) = I.pw n := by
  rw [← hp]; blk_ext [iblk2, idx2 t]

include ha hq hd hr in
/-- A block of the gradient of the residual rows. -/
theorem dx1_block (t : Fin cfg2.N) (s : Fin 256) (n : Fin 1024) :
    k2_pay9 (iblk2 V c 0 t) (iblk2 V c 1 t) (iblk2 V c 2 t) (iblk2 V c 3 t) (ix2 s n) = dx1 I (rowOf (num2 t) s) n := by
  have h1 : row (iblk2 V c 0 t) s = x1 I (rowOf (num2 t) s) := funext fun n => x1_in V c ha t s n
  rw [dxa_at, h1, dx_in V c hr, dx1]
  simp only [dh_in V c hd, qw_in V c hq]

include ha hq hd hr in
/-- The gradient of the residual rows. -/
theorem dx1_at : (dat2 V c).arrAt 6 cfg2.N = fun y => dx1 I (y 0) (y 1) := by
  refine (dat2 V c).arrAt_eq_of_covers 6 _ (by decide +kernel) fun t _ y => ?_
  have ht := lt_of_lt_of_eq t.isLt N_2
  rw [after2_6]
  have hb : (outsAt2 V c t.val t.isLt).1 = k2_pay9 (iblk2 V c 0 t) (iblk2 V c 1 t) (iblk2 V c 2 t) (iblk2 V c 3 t) := by
    by_cases h : t.val % 8 = 0
    · rw [outsAt2_A V c t h]; frame_out
    · rw [outsAt2_B V c t h]; frame_out
  rw [hb]
  obtain ⟨s, n, rfl⟩ : ∃ (s : Fin 256) (n : Fin 1024), y = ix2 s n := ⟨y 0, y 1, (ix2_eta y).symm⟩
  have he : ((cfg2.win 6).blk t).view.emb (ix2 s n) = ix2 (rowOf (num2 t) s) n := by
    blk_ext [rowOf, idx2 t]
    all_goals omega
  have h : k2_pay9 (iblk2 V c 0 t) (iblk2 V c 1 t) (iblk2 V c 2 t) (iblk2 V c 3 t) (ix2 s n) = dx1 I (rowOf (num2 t) s) n := dx1_block V c ha hq hd hr t s n
  rw [he]
  refine Eq.trans ?_ h
  refine (cast_eq _ _).trans (congrArg (k2_pay9 (iblk2 V c 0 t) (iblk2 V c 1 t) (iblk2 V c 2 t) (iblk2 V c 3 t)) (funext fun a => Fin.ext ?_))
  fin_cases a <;> rfl

include ha hq hd hr hf hp in
/-- The gradient of the out-projection. -/
theorem dmix_at : (dat2 V c).arrAt 7 cfg2.N = fun y => dmix I (y 0) (y 1) := by
  refine (dat2 V c).arrAt_eq_of_covers 7 _ (by decide +kernel) fun t _ y => ?_
  have ht := lt_of_lt_of_eq t.isLt N_2
  rw [after2_7]
  have hb : (outsAt2 V c t.val t.isLt).2.1 = k2_pay14 (k2_pay9 (iblk2 V c 0 t) (iblk2 V c 1 t) (iblk2 V c 2 t) (iblk2 V c 3 t)) (iblk2 V c 4 t) (iblk2 V c 5 t) := by
    by_cases h : t.val % 8 = 0
    · rw [outsAt2_A V c t h]; frame_out
    · rw [outsAt2_B V c t h]; frame_out
  rw [hb]
  obtain ⟨s, n, rfl⟩ : ∃ (s : Fin 256) (n : Fin 1024), y = ix2 s n := ⟨y 0, y 1, (ix2_eta y).symm⟩
  have he : ((cfg2.win 7).blk t).view.emb (ix2 s n) = ix2 (rowOf (num2 t) s) n := by
    blk_ext [rowOf, idx2 t]
    all_goals omega
  have h : k2_pay14 (k2_pay9 (iblk2 V c 0 t) (iblk2 V c 1 t) (iblk2 V c 2 t) (iblk2 V c 3 t)) (iblk2 V c 4 t) (iblk2 V c 5 t) (ix2 s n) = dmix I (rowOf (num2 t) s) n := by
    have h1 : row (iblk2 V c 4 t) s = mix I (rowOf (num2 t) s) := funext fun n => mix_in V c hf t s n
    rw [dxb_at, h1, dmix]
    simp only [dx1_block V c ha hq hd hr, pw_in V c hp]
  rw [he]
  refine Eq.trans ?_ h
  refine (cast_eq _ _).trans (congrArg (k2_pay14 (k2_pay9 (iblk2 V c 0 t) (iblk2 V c 1 t) (iblk2 V c 2 t) (iblk2 V c 3 t)) (iblk2 V c 4 t) (iblk2 V c 5 t)) (funext fun a => Fin.ext ?_))
  fin_cases a <;> rfl

include ha hd in
/-- The gradient of the weights of the norm before the next sub-layer. -/
theorem dqw_at : (dat2 V c).arrAt 8 cfg2.N = fun y => dqw I (y 1) := by
  refine (dat2 V c).arrAt_eq_of_after_last 8 t2_7 (by decide +kernel) _ fun j => ?_
  blk_simp
  rw [after2_8, Pipeline.eq_sum_fin_of_reset_step_apply_last (fun n h => (outsAt2 V c n h).2.2.1) 8 (fun _ => 0) _
    (fun t h j => by rw [outsAt2_A V c t h]; frame_out; rw [add_a, zero_a])
    (fun t h j => by rw [outsAt2_B V c t h]; frame_out; rw [add_a])
    (le_of_eq N_2) t2_7 rfl j, zero_add]
  obtain ⟨r, n, rfl⟩ : ∃ (r : Fin 1) (n : Fin 1024), j = ix2 r n := ⟨j 0, j 1, (ix2_eta j).symm⟩
  obtain rfl : r = 0 := Subsingleton.elim _ _
  show (∑ t : Fin cfg2.N, k2_pay8 (iblk2 V c 0 t) (iblk2 V c 2 t) (ix2 0 n) : EReal) = dqw I n
  have h1 (t : Fin cfg2.N) (s : Fin 256) : row (iblk2 V c 0 t) s = x1 I (rowOf (num2 t) s) :=
    funext fun n => x1_in V c ha t s n
  simp only [dwa_at, h1, dh_in V c hd]
  rw [dqw]
  refine Fin.sum_mul_add_congr (S := 8) (n := 256) fun t s hl => ?_
  rfl

include ha hq hd hr hf in
/-- The gradient of the weights of the norm after the mixer. -/
theorem dpw_at : (dat2 V c).arrAt 9 cfg2.N = fun y => dpw I (y 1) := by
  refine (dat2 V c).arrAt_eq_of_after_last 9 t2_7 (by decide +kernel) _ fun j => ?_
  blk_simp
  rw [after2_9, Pipeline.eq_sum_fin_of_reset_step_apply_last (fun n h => (outsAt2 V c n h).2.2.2) 8 (fun _ => 0) _
    (fun t h j => by rw [outsAt2_A V c t h]; frame_out; rw [add_b, zero_b])
    (fun t h j => by rw [outsAt2_B V c t h]; frame_out; rw [add_b])
    (le_of_eq N_2) t2_7 rfl j, zero_add]
  obtain ⟨r, n, rfl⟩ : ∃ (r : Fin 1) (n : Fin 1024), j = ix2 r n := ⟨j 0, j 1, (ix2_eta j).symm⟩
  obtain rfl : r = 0 := Subsingleton.elim _ _
  show (∑ t : Fin cfg2.N, k2_pay13 (k2_pay9 (iblk2 V c 0 t) (iblk2 V c 1 t) (iblk2 V c 2 t) (iblk2 V c 3 t)) (iblk2 V c 4 t) (ix2 0 n) : EReal) = dpw I n
  have h1 (t : Fin cfg2.N) (s : Fin 256) : row (iblk2 V c 4 t) s = mix I (rowOf (num2 t) s) :=
    funext fun n => mix_in V c hf t s n
  simp only [dwb_at, h1, dx1_block V c ha hq hd hr]
  rw [dpw]
  refine Fin.sum_mul_add_congr (S := 8) (n := 256) fun t s hl => ?_
  rfl

end Backward

end Cert.MixOutIdeal.Norm

end
-- ==== Proof.MixOut.Chain.lean ====
/- The calls one after the other: what each array holds when its call ends, as the stage it computes. -/
module

public import proofs.«01_k».proof.Proof.MixOut.Products
public import proofs.«01_k».proof.Proof.MixOut.Norm

@[expose] public section

set_option maxRecDepth 16384

noncomputable section

open Idealize.ShloMosaic Idealize.ShloMosaic.TcCoe Idealize.SL.Sem Idealize.ShloMosaic.StableHlo

namespace Cert.MixOutIdeal.Chain

open Cert.MixOutIdeal Cert.MixOutIdeal.Gen Cert.MixerOut

variable (m : (ℓ : Loc nD τ sig) → Buf (Elt Ideal) ℓ) (ρ : Dev nD → PrngReg) (c : Dev nD)

/-- The entries of the kernel's arguments. -/
def ins : Inputs where
  x r n := (m ((c : Thread nD τ).loc main_arg0) : FVec Ideal S2048x1024 .f32) (ix2 r n)
  cat r n := (m ((c : Thread nD τ).loc main_arg1) : FVec Ideal S2048x1024 .f32) (ix2 r n)
  wo k n := (m ((c : Thread nD τ).loc main_arg2) : FVec Ideal S1024x1024 .bf16) (ix2 k n)
  pw n := (m ((c : Thread nD τ).loc main_arg3) : FVec Ideal S1024 .f32) (ix1 n)
  qw n := (m ((c : Thread nD τ).loc main_arg4) : FVec Ideal S1024 .f32) (ix1 n)
  dh r n := (m ((c : Thread nD τ).loc main_arg5) : FVec Ideal S2048x1024 .f32) (ix2 r n)
  dx r n := (m ((c : Thread nD τ).loc main_arg6) : FVec Ideal S2048x1024 .f32) (ix2 r n)

/-! ## What no call in between writes is kept -/

theorem norm_1_2 : V2 m ρ c main_v0 = V1 m ρ c main_v0 :=
  W2_of m ρ c main_v0 (by decide +kernel)
theorem norm_1_3 : V3 m ρ c main_v0 = V1 m ρ c main_v0 :=
  (W3_of m ρ c main_v0 (by decide +kernel)).trans (W2_of m ρ c main_v0 (by decide +kernel))
theorem next_1_2 : V2 m ρ c main_v1 = V1 m ρ c main_v1 :=
  W2_of m ρ c main_v1 (by decide +kernel)
theorem next_1_3 : V3 m ρ c main_v1 = V1 m ρ c main_v1 :=
  (W3_of m ρ c main_v1 (by decide +kernel)).trans (W2_of m ρ c main_v1 (by decide +kernel))
theorem mix_2_3 : V3 m ρ c main_v2 = V2 m ρ c main_v2 :=
  W3_of m ρ c main_v2 (by decide +kernel)
theorem x1_3_6 : W6 m ρ c main_v3_0 = V3 m ρ c main_v3_0 :=
  ((W6_of m ρ c main_v3_0 (by decide +kernel)).trans (W5_of m ρ c main_v3_0 (by decide +kernel))).trans (W4_of m ρ c main_v3_0 (by decide +kernel))
theorem h2_3_6 : W6 m ρ c main_v3_1 = V3 m ρ c main_v3_1 :=
  ((W6_of m ρ c main_v3_1 (by decide +kernel)).trans (W5_of m ρ c main_v3_1 (by decide +kernel))).trans (W4_of m ρ c main_v3_1 (by decide +kernel))
theorem dx1_4_6 : W6 m ρ c main_v4_0 = V4 m ρ c main_v4_0 :=
  (W6_of m ρ c main_v4_0 (by decide +kernel)).trans (W5_of m ρ c main_v4_0 (by decide +kernel))
theorem dmix_4_5 : V5 m ρ c main_v4_1 = V4 m ρ c main_v4_1 :=
  W5_of m ρ c main_v4_1 (by decide +kernel)
theorem dqw_4_6 : W6 m ρ c main_v4_2 = V4 m ρ c main_v4_2 :=
  (W6_of m ρ c main_v4_2 (by decide +kernel)).trans (W5_of m ρ c main_v4_2 (by decide +kernel))
theorem dpw_4_6 : W6 m ρ c main_v4_3 = V4 m ρ c main_v4_3 :=
  (W6_of m ρ c main_v4_3 (by decide +kernel)).trans (W5_of m ρ c main_v4_3 (by decide +kernel))
theorem dcat_5_6 : W6 m ρ c main_v5 = V5 m ρ c main_v5 :=
  W6_of m ρ c main_v5 (by decide +kernel)
theorem arg_at1 (a : Ref sig .tc) (h : a ∈ argRefs) : V1 m ρ c a = m ((c : Thread nD τ).loc a) := W1_args m ρ c a h
theorem arg_at2 (a : Ref sig .tc) (h : a ∈ argRefs) : V2 m ρ c a = m ((c : Thread nD τ).loc a) := W2_args m ρ c a h
theorem arg_at3 (a : Ref sig .tc) (h : a ∈ argRefs) : V3 m ρ c a = m ((c : Thread nD τ).loc a) := W3_args m ρ c a h
theorem arg_at4 (a : Ref sig .tc) (h : a ∈ argRefs) : V4 m ρ c a = m ((c : Thread nD τ).loc a) := W4_args m ρ c a h
theorem arg_at5 (a : Ref sig .tc) (h : a ∈ argRefs) : V5 m ρ c a = m ((c : Thread nD τ).loc a) := W5_args m ρ c a h

/-! ## The calls -/

theorem norm_weights (n : Fin 1024) : V1 m ρ c main_v0 (ix2 0 n) = (ins m c).pw n := by
  show StableHlo.after hostOps0 (W0 m ρ c) (Proc.devRef .tc main_v0) (ix2 0 n) = _
  entry_read
  pointwise
  rfl
theorem next_weights (n : Fin 1024) : V1 m ρ c main_v1 (ix2 0 n) = (ins m c).qw n := by
  show StableHlo.after hostOps0 (W0 m ρ c) (Proc.devRef .tc main_v1) (ix2 0 n) = _
  entry_read
  pointwise
  rfl

theorem mix_at : V2 m ρ c main_v2 = fun y => mix (ins m c) (y 0) (y 1) := by
  rw [show V2 m ρ c main_v2 = _ from W2_arr m ρ c 2, Products.product0, arg_at1 m ρ c main_arg1 (by decide),
    arg_at1 m ρ c main_arg2 (by decide)]
  rfl

theorem pw_2 (n : Fin 1024) : V2 m ρ c main_v0 (ix2 0 n) = (ins m c).pw n :=
  (congrFun (norm_1_2 m ρ c) _).trans (norm_weights m ρ c n)
theorem pw_3 (n : Fin 1024) : V3 m ρ c main_v0 (ix2 0 n) = (ins m c).pw n :=
  (congrFun (norm_1_3 m ρ c) _).trans (norm_weights m ρ c n)
theorem qw_2 (n : Fin 1024) : V2 m ρ c main_v1 (ix2 0 n) = (ins m c).qw n :=
  (congrFun (next_1_2 m ρ c) _).trans (next_weights m ρ c n)
theorem qw_3 (n : Fin 1024) : V3 m ρ c main_v1 (ix2 0 n) = (ins m c).qw n :=
  (congrFun (next_1_3 m ρ c) _).trans (next_weights m ρ c n)
theorem x_2 (r : Fin 2048) (n : Fin 1024) : V2 m ρ c main_arg0 (ix2 r n) = (ins m c).x r n :=
  congrFun (arg_at2 m ρ c main_arg0 (by decide)) _
theorem dh_3 (r : Fin 2048) (n : Fin 1024) : V3 m ρ c main_arg5 (ix2 r n) = (ins m c).dh r n :=
  congrFun (arg_at3 m ρ c main_arg5 (by decide)) _
theorem dx_3 (r : Fin 2048) (n : Fin 1024) : V3 m ρ c main_arg6 (ix2 r n) = (ins m c).dx r n :=
  congrFun (arg_at3 m ρ c main_arg6 (by decide)) _
theorem mix_2 (r : Fin 2048) (n : Fin 1024) : V2 m ρ c main_v2 (ix2 r n) = mix (ins m c) r n := congrFun (mix_at m ρ c) _
theorem mix_3 (r : Fin 2048) (n : Fin 1024) : V3 m ρ c main_v2 (ix2 r n) = mix (ins m c) r n :=
  (congrFun (mix_2_3 m ρ c) _).trans (mix_2 m ρ c r n)

theorem x1_at : V3 m ρ c main_v3_0 = fun y => x1 (ins m c) (y 0) (y 1) :=
  (W3_arr m ρ c 4).trans (Norm.x1_at (V2 m ρ) c (x_2 m ρ c) (mix_2 m ρ c) (pw_2 m ρ c))
theorem h2_at : V3 m ρ c main_v3_1 = fun y => h2 (ins m c) (y 0) (y 1) :=
  (W3_arr m ρ c 5).trans (Norm.h2_at (V2 m ρ) c (x_2 m ρ c) (mix_2 m ρ c) (pw_2 m ρ c) (qw_2 m ρ c))
theorem x1_3 (r : Fin 2048) (n : Fin 1024) : V3 m ρ c main_v3_0 (ix2 r n) = x1 (ins m c) r n := congrFun (x1_at m ρ c) _

theorem dx1_at : V4 m ρ c main_v4_0 = fun y => dx1 (ins m c) (y 0) (y 1) :=
  (W4_arr m ρ c 6).trans (Norm.dx1_at (V3 m ρ) c (x1_3 m ρ c) (qw_3 m ρ c) (dh_3 m ρ c) (dx_3 m ρ c))
theorem dmix_at : V4 m ρ c main_v4_1 = fun y => dmix (ins m c) (y 0) (y 1) :=
  (W4_arr m ρ c 7).trans (Norm.dmix_at (V3 m ρ) c (x1_3 m ρ c) (qw_3 m ρ c) (dh_3 m ρ c) (dx_3 m ρ c) (mix_3 m ρ c) (pw_3 m ρ c))
theorem dqw_at : V4 m ρ c main_v4_2 = fun y => dqw (ins m c) (y 1) :=
  (W4_arr m ρ c 8).trans (Norm.dqw_at (V3 m ρ) c (x1_3 m ρ c) (dh_3 m ρ c))
theorem dpw_at : V4 m ρ c main_v4_3 = fun y => dpw (ins m c) (y 1) :=
  (W4_arr m ρ c 9).trans (Norm.dpw_at (V3 m ρ) c (x1_3 m ρ c) (qw_3 m ρ c) (dh_3 m ρ c) (dx_3 m ρ c) (mix_3 m ρ c))

theorem dcat_at : V5 m ρ c main_v5 = fun y => dcat (ins m c) (y 0) (y 1) := by
  rw [show V5 m ρ c main_v5 = _ from W5_arr m ρ c 2, Products.product3, dmix_at, arg_at4 m ρ c main_arg2 (by decide)]
  rfl

/-! ## The results -/

theorem x1_end : W6 m ρ c main_v3_0 = fun y => x1 (ins m c) (y 0) (y 1) := (x1_3_6 m ρ c).trans (x1_at m ρ c)
theorem h2_end : W6 m ρ c main_v3_1 = fun y => h2 (ins m c) (y 0) (y 1) := (h2_3_6 m ρ c).trans (h2_at m ρ c)
theorem dx1_end : W6 m ρ c main_v4_0 = fun y => dx1 (ins m c) (y 0) (y 1) := (dx1_4_6 m ρ c).trans (dx1_at m ρ c)
theorem dcat_end : W6 m ρ c main_v5 = fun y => dcat (ins m c) (y 0) (y 1) := (dcat_5_6 m ρ c).trans (dcat_at m ρ c)
theorem dwo_end : W6 m ρ c main_v6 = fun y => dwo (ins m c) (y 0) (y 1) := by
  rw [W6_arr m ρ c 2, Products.product4, dmix_4_5, dmix_at, arg_at5 m ρ c main_arg1 (by decide)]
  rfl
theorem dpw_end : W6 m ρ c main_v4_3 = fun y => dpw (ins m c) (y 1) := (dpw_4_6 m ρ c).trans (dpw_at m ρ c)
theorem dqw_end : W6 m ρ c main_v4_2 = fun y => dqw (ins m c) (y 1) := (dqw_4_6 m ρ c).trans (dqw_at m ρ c)

end Cert.MixOutIdeal.Chain

end
-- ==== Proof.MixOut.Reference.lean ====
/- The reference's arrays, stage by stage, at one entry. -/
module

public import proofs.«01_k».proof.Proof.Gen.MixOutRefIdeal.Run
public import proofs.«01_k».proof.Proof.MixOut.Stages
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.MixOutRefIdeal.Entries

open Cert.MixOutRefIdeal Cert.MixOutRefIdeal.Gen Cert.MixOutRefIdeal.Value Cert.MixerOut
open Cert.Stages (normed dnorm meanSq pull)

variable (V : Valuation τ sig (Elt Ideal))

/-- The entries of the reference's arguments. -/
def ins : Inputs where
  x r n := (V (Proc.devRef .tc main_arg0) : FVec Ideal S2048x1024 .f32) (ix2 r n)
  cat r n := (V (Proc.devRef .tc main_arg1) : FVec Ideal S2048x1024 .f32) (ix2 r n)
  wo k n := (V (Proc.devRef .tc main_arg2) : FVec Ideal S1024x1024 .bf16) (ix2 k n)
  pw n := (V (Proc.devRef .tc main_arg3) : FVec Ideal S1024 .f32) (ix1 n)
  qw n := (V (Proc.devRef .tc main_arg4) : FVec Ideal S1024 .f32) (ix1 n)
  dh r n := (V (Proc.devRef .tc main_arg5) : FVec Ideal S2048x1024 .f32) (ix2 r n)
  dx r n := (V (Proc.devRef .tc main_arg6) : FVec Ideal S2048x1024 .f32) (ix2 r n)

/-! ## The arrays -/

/-- The out-projection. -/
def outProj : FVec Ideal S2048x1024 .f32 :=
  Host.dotGeneral (φ₁ := .f32) (φ₂ := .f32) dot_S2048x1024_S1024x1024_S2048x1024_1_0_0_1_n_n none (V (Proc.devRef .tc main_arg1)) (extf .f32 (V (Proc.devRef .tc main_arg2)) bitsLt_bf16_f32)
/-- The weights of the norm after the mixer, in every row. -/
def pwRows : FVec Ideal S2048x1024 .f32 :=
  broadcastInDim S2048x1024 ![0, 1] bcast_S1x1024_S2048x1024_0_1 (broadcastInDim S1x1024 ![1] bcast_S1024_S1x1024_1 (V (Proc.devRef .tc main_arg3)))
/-- The weights of the norm before the next sub-layer, in every row. -/
def qwRows : FVec Ideal S2048x1024 .f32 :=
  broadcastInDim S2048x1024 ![0, 1] bcast_S1x1024_S2048x1024_0_1 (broadcastInDim S1x1024 ![1] bcast_S1024_S1x1024_1 (V (Proc.devRef .tc main_arg4)))
/-- The mean square of the out-projection's rows. -/
def mixSq : FVec Ideal S2048x1 .f32 :=
  addf (Host.divf (broadcastInDim S2048x1 ![0] bcast_S2048_S2048x1_0 (Host.reduceAdd (mulf (outProj V) (outProj V)) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
/-- Its inverse square root, in every column. -/
def mixRs : FVec Ideal S2048x1024 .f32 :=
  broadcastInDim S2048x1024 ![0, 1] bcast_S2048x1_S2048x1024_0_1 (Host.rsqrt (mixSq V))
/-- The normalised out-projection. -/
def mixNormed : FVec Ideal S2048x1024 .f32 :=
  mulf (outProj V) (mixRs V)
/-- The residual rows after the mixer. -/
def x1Out : FVec Ideal S2048x1024 .f32 :=
  addf (V (Proc.devRef .tc main_arg0)) (mulf (mixNormed V) (pwRows V))
/-- Their mean square. -/
def x1Sq : FVec Ideal S2048x1 .f32 :=
  addf (Host.divf (broadcastInDim S2048x1 ![0] bcast_S2048_S2048x1_0 (Host.reduceAdd (mulf (x1Out V) (x1Out V)) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
/-- Its inverse square root, in every column. -/
def x1Rs : FVec Ideal S2048x1024 .f32 :=
  broadcastInDim S2048x1024 ![0, 1] bcast_S2048x1_S2048x1024_0_1 (Host.rsqrt (x1Sq V))
/-- The normalised residual rows. -/
def x1Normed : FVec Ideal S2048x1024 .f32 :=
  mulf (x1Out V) (x1Rs V)
/-- The normalised rows handed on. -/
def h2Out : FVec Ideal S2048x1024 .bf16 :=
  truncf .bf16 (mulf (x1Normed V) (qwRows V)) bitsLt_bf16_f32
/-- The incoming gradient times the weights. -/
def given : FVec Ideal S2048x1024 .f32 :=
  mulf (V (Proc.devRef .tc main_arg5)) (qwRows V)
/-- The pull on the residual rows. -/
def x1Pull : FVec Ideal S2048x1024 .f32 :=
  broadcastInDim S2048x1024 ![0] bcast_S2048_S2048x1024_0 (Host.reduceAdd (Host.divf (mulf (shapeCast _ (Host.reduceAdd (mulf (x1Out V) (given V)) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (x1Sq V)) (x1Sq V)))) (broadcastInDim S2048x1 ![] bcast_S_S2048x1 (constant S_ .f32 0x44800000#32))) (constant S_ .f32 0x00000000#32) reducesTo_S2048x1_S2048_d1 h_S_)
/-- The gradient of the residual rows. -/
def dx1Out : FVec Ideal S2048x1024 .f32 :=
  addf (addf (addf (V (Proc.devRef .tc main_arg6)) (mulf (given V) (x1Rs V))) (mulf (x1Out V) (x1Pull V))) (mulf (x1Pull V) (x1Out V))
/-- The same array. -/
def dx1Rows : FVec Ideal S2048x1024 .f32 :=
  shapeCast _ (dx1Out V) shapeCasts_S2048x1024_S2048x1024
/-- The gradient of the residual rows times the weights. -/
def handed : FVec Ideal S2048x1024 .f32 :=
  mulf (dx1Rows V) (pwRows V)
/-- The pull on the out-projection. -/
def mixPull : FVec Ideal S2048x1024 .f32 :=
  broadcastInDim S2048x1024 ![0] bcast_S2048_S2048x1024_0 (Host.reduceAdd (Host.divf (mulf (shapeCast _ (Host.reduceAdd (mulf (outProj V) (handed V)) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (mixSq V)) (mixSq V)))) (broadcastInDim S2048x1 ![] bcast_S_S2048x1 (constant S_ .f32 0x44800000#32))) (constant S_ .f32 0x00000000#32) reducesTo_S2048x1_S2048_d1 h_S_)
/-- The gradient of the out-projection. -/
def dmixRows : FVec Ideal S2048x1024 .f32 :=
  addf (addf (mulf (handed V) (mixRs V)) (mulf (outProj V) (mixPull V))) (mulf (mixPull V) (outProj V))
/-- The gradient of the mixer's columns. -/
def dcatOut : FVec Ideal S2048x1024 .f32 :=
  Host.dotGeneral (φ₁ := .f32) (φ₂ := .f32) dot_S2048x1024_S1024x1024_S2048x1024_1_1_0_0_n_n none (dmixRows V) (extf .f32 (V (Proc.devRef .tc main_arg2)) bitsLt_bf16_f32)
/-- The gradient of the output weights. -/
def dwoOut : FVec Ideal S1024x1024 .bf16 :=
  truncf .bf16 (transpose S1024x1024 [1, 0] (Host.dotGeneral (φ₁ := .f32) (φ₂ := .f32) dot_S2048x1024_S2048x1024_S1024x1024_0_0_1_1_n_n none (dmixRows V) (V (Proc.devRef .tc main_arg1))) transposes_S1024x1024_S1024x1024_1_0) bitsLt_bf16_f32
/-- The gradient of the weights of the norm after the mixer. -/
def dpwOut : FVec Ideal S1x1024 .f32 :=
  broadcastInDim S1x1024 ![1] bcast_S1024_S1x1024_1 (Host.reduceAdd (shapeCast _ (Host.reduceAdd (mulf (mixNormed V) (dx1Rows V)) (constant S_ .f32 0x00000000#32) reducesTo_S2048x1024_S1024_d0 h_S_) shapeCasts_S1024_S1x1024) (constant S_ .f32 0x00000000#32) reducesTo_S1x1024_S1024_d0 h_S_)
/-- The gradient of the weights of the norm before the next sub-layer. -/
def dqwOut : FVec Ideal S1x1024 .f32 :=
  broadcastInDim S1x1024 ![1] bcast_S1024_S1x1024_1 (Host.reduceAdd (shapeCast _ (Host.reduceAdd (mulf (x1Normed V) (V (Proc.devRef .tc main_arg5))) (constant S_ .f32 0x00000000#32) reducesTo_S2048x1024_S1024_d0 h_S_) shapeCasts_S1024_S1x1024) (constant S_ .f32 0x00000000#32) reducesTo_S1x1024_S1024_d0 h_S_)

/-! ## At one entry -/

variable (r : Fin 2048) (n k : Fin 1024) (z : Fin 1)

theorem x_in : (V (Proc.devRef .tc main_arg0) : FVec Ideal S2048x1024 .f32) (ix2 r n) = (ins V).x r n := rfl
theorem cat_in : (V (Proc.devRef .tc main_arg1) : FVec Ideal S2048x1024 .f32) (ix2 r n) = (ins V).cat r n := rfl
theorem wo_in : (V (Proc.devRef .tc main_arg2) : FVec Ideal S1024x1024 .bf16) (ix2 k n) = (ins V).wo k n := rfl
theorem pw_in : (V (Proc.devRef .tc main_arg3) : FVec Ideal S1024 .f32) (ix1 n) = (ins V).pw n := rfl
theorem qw_in : (V (Proc.devRef .tc main_arg4) : FVec Ideal S1024 .f32) (ix1 n) = (ins V).qw n := rfl
theorem dh_in : (V (Proc.devRef .tc main_arg5) : FVec Ideal S2048x1024 .f32) (ix2 r n) = (ins V).dh r n := rfl
theorem dx_in : (V (Proc.devRef .tc main_arg6) : FVec Ideal S2048x1024 .f32) (ix2 r n) = (ins V).dx r n := rfl

theorem mix_at : outProj V (ix2 r n) = mix (ins V) r n := by
  pointwise [outProj, cat_in, wo_in, mix]
theorem pw_at : pwRows V (ix2 r n) = (ins V).pw n := by
  pointwise [pwRows, pw_in]
theorem qw_at : qwRows V (ix2 r n) = (ins V).qw n := by
  pointwise [qwRows, qw_in]
theorem mixSq_at : mixSq V (ix2 r z) = meanSq (mix (ins V) r) := by
  pointwise [mixSq, mix_at, meanSq]
theorem mixNormed_at : mixNormed V (ix2 r n) = normed (mix (ins V) r) n := by
  pointwise [mixNormed, mixRs, mixSq_at, mix_at, normed]
theorem x1_at : x1Out V (ix2 r n) = x1 (ins V) r n := by
  pointwise [x1Out, x_in, mixNormed_at, pw_at, x1]
theorem x1Sq_at : x1Sq V (ix2 r z) = meanSq (x1 (ins V) r) := by
  pointwise [x1Sq, x1_at, meanSq]
theorem x1Normed_at : x1Normed V (ix2 r n) = normed (x1 (ins V) r) n := by
  pointwise [x1Normed, x1Rs, x1Sq_at, x1_at, normed]
theorem h2_at : h2Out V (ix2 r n) = h2 (ins V) r n := by
  pointwise [h2Out, x1Normed_at, qw_at, h2]
theorem given_at : given V (ix2 r n) = (ins V).dh r n * (ins V).qw n := by
  pointwise [given, dh_in, qw_at]
theorem x1Pull_at : x1Pull V (ix2 r n) = pull (x1 (ins V) r) (fun n => (ins V).dh r n * (ins V).qw n) := by
  pointwise [x1Pull, x1Sq_at, x1_at, given_at, pull]
  exact Fin.sum_univ_one (M := EReal) _
theorem dx1_at : dx1Out V (ix2 r n) = dx1 (ins V) r n := by
  rw [dx1, dnorm, add_comm _ ((ins V).dx r n), ← add_assoc, ← add_assoc]
  pointwise [dx1Out, dx_in, given_at, x1Rs, x1Sq_at, x1_at, x1Pull_at]
theorem dx1Rows_at : dx1Rows V (ix2 r n) = dx1 (ins V) r n := by
  pointwise [dx1Rows, dx1_at]
theorem handed_at : handed V (ix2 r n) = dx1 (ins V) r n * (ins V).pw n := by
  pointwise [handed, dx1Rows_at, pw_at]
theorem mixPull_at : mixPull V (ix2 r n) = pull (mix (ins V) r) (fun n => dx1 (ins V) r n * (ins V).pw n) := by
  pointwise [mixPull, mixSq_at, mix_at, handed_at, pull]
  exact Fin.sum_univ_one (M := EReal) _
theorem dmix_at : dmixRows V (ix2 r n) = dmix (ins V) r n := by
  pointwise [dmixRows, handed_at, mixRs, mixSq_at, mix_at, mixPull_at, dmix, dnorm]
theorem dcat_at : dcatOut V (ix2 r k) = dcat (ins V) r k := by
  pointwise [dcatOut, dmix_at, wo_in, dcat]
theorem dwo_at : dwoOut V (ix2 k n) = dwo (ins V) k n := by
  pointwise [dwoOut, dmix_at, cat_in]
  exact Finset.sum_congr rfl fun r _ => mul_comm _ _
theorem dpw_at : dpwOut V (ix2 0 n) = dpw (ins V) n := by
  pointwise [dpwOut, mixNormed_at, dx1Rows_at, dpw]
  exact Fin.sum_univ_one (M := EReal) _
theorem dqw_at : dqwOut V (ix2 0 n) = dqw (ins V) n := by
  pointwise [dqwOut, x1Normed_at, dh_in, dqw]
  exact Fin.sum_univ_one (M := EReal) _

/-! ## The run's arrays are these -/

variable (m : (ℓ : Loc nD τ sig) → Buf (Elt Ideal) ℓ) (c : Dev nD)

theorem h2_run : res_main_v80 m c = h2Out (launchContents m c) := rfl
theorem dx1_run : res_main_v55 m c = dx1Out (launchContents m c) := rfl
theorem dcat_run : res_main_v79 m c = dcatOut (launchContents m c) := rfl
theorem dwo_run : res_main_v81 m c = dwoOut (launchContents m c) := rfl
theorem dpw_run : res_main_v82 m c = dpwOut (launchContents m c) := rfl
theorem dqw_run : res_main_v83 m c = dqwOut (launchContents m c) := rfl

end Cert.MixOutRefIdeal.Entries

end
-- ==== Proof.Opt.Run.lean ====
/- The run of the four calls: every result ends at what the fold over the calls gives it. -/
module

public import proofs.«01_k».proof.Proof.Gen.OptIdeal.Frame

@[expose] public section

set_option maxRecDepth 16384

noncomputable section

namespace Cert.OptIdeal.Run

open Cert.OptIdeal Cert.OptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every result ends at the contents of the last boundary, every argument as launched. -/
theorem results : θ_run defs (onTc (τ := τ) (main (F := F))) ⟨m, fun _ => 0, ρ⟩ (fun r => ∀ c : Dev nD,
      r.2.mem ((c.tc : Thread nD τ).loc main_v4) = W8 m ρ c main_v4
      ∧ r.2.mem ((c.tc : Thread nD τ).loc main_v5) = W8 m ρ c main_v5
      ∧ r.2.mem ((c.tc : Thread nD τ).loc main_v6) = W8 m ρ c main_v6
      ∧ r.2.mem ((c.tc : Thread nD τ).loc main_v7) = W8 m ρ c main_v7
      ∧ r.2.mem ((c.tc : Thread nD τ).loc main_v8_0) = W8 m ρ c main_v8_0
      ∧ r.2.mem ((c.tc : Thread nD τ).loc main_v8_1) = W8 m ρ c main_v8_1
      ∧ r.2.mem ((c.tc : Thread nD τ).loc main_v8_2) = W8 m ρ c main_v8_2
      ∧ r.2.mem ((c.tc : Thread nD τ).loc main_v8_3) = W8 m ρ c main_v8_3
      ∧ r.2.mem ((c.tc : Thread nD τ).loc main_v13) = W8 m ρ c main_v13
      ∧ r.2.mem ((c.tc : Thread nD τ).loc main_v14) = W8 m ρ c main_v14
      ∧ r.2.mem ((c.tc : Thread nD τ).loc main_v15) = W8 m ρ c main_v15
      ∧ r.2.mem ((c.tc : Thread nD τ).loc main_v16) = W8 m ρ c main_v16
      ∧ r.2.mem ((c.tc : Thread nD τ).loc main_v17_0) = W8 m ρ c main_v17_0
      ∧ r.2.mem ((c.tc : Thread nD τ).loc main_v17_1) = W8 m ρ c main_v17_1
      ∧ r.2.mem ((c.tc : Thread nD τ).loc main_v17_2) = W8 m ρ c main_v17_2
      ∧ r.2.mem ((c.tc : Thread nD τ).loc main_v17_3) = W8 m ρ c main_v17_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v4 (by decide)),
       h c _ (mem_uc main_v5 (by decide)),
       h c _ (mem_uc main_v6 (by decide)),
       h c _ (mem_uc main_v7 (by decide)),
       h c _ (mem_uc main_v8_0 (by decide)),
       h c _ (mem_uc main_v8_1 (by decide)),
       h c _ (mem_uc main_v8_2 (by decide)),
       h c _ (mem_uc main_v8_3 (by decide)),
       h c _ (mem_uc main_v13 (by decide)),
       h c _ (mem_uc main_v14 (by decide)),
       h c _ (mem_uc main_v15 (by decide)),
       h c _ (mem_uc main_v16 (by decide)),
       h c _ (mem_uc main_v17_0 (by decide)),
       h c _ (mem_uc main_v17_1 (by decide)),
       h c _ (mem_uc main_v17_2 (by decide)),
       h c _ (mem_uc main_v17_3 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c)⟩)

end Cert.OptIdeal.Run

end
-- ==== Proof.Opt.Stages.lean ====
/- One AdamW step at one entry, as plain functions: the gradient summed over the chips, the two running means, the change of the weight. -/
module

public import Idealize.ShloMosaic.Lib.Pointwise

@[expose] public section

noncomputable section

open Idealize.ShloMosaic

namespace Cert.Adamw

/-- One chip's gradient of each of four chips, of one layer. -/
abbrev Parts (R C : ℕ) := (⟨3, ![4, R, C]⟩ : Shape).Idx → EReal

/-- The gradient of layer `l` at row `r` and column `k`, summed over the chips. -/
def grad {R C : ℕ} (a b : Parts R C) (l : Fin 2) (r : Fin R) (k : Fin C) : EReal :=
  ∑ d : Fin 4, (if l = 0 then a else b) (ix3 d r k)

theorem grad_zero {R C : ℕ} (a b : Parts R C) (l : Fin 2) (r : Fin R) (k : Fin C) (h : l = 0) :
    grad a b l r k = ∑ d : Fin 4, a (ix3 d r k) := by
  unfold grad
  rw [if_pos h]
theorem grad_one {R C : ℕ} (a b : Parts R C) (l : Fin 2) (r : Fin R) (k : Fin C) (h : l = 1) :
    grad a b l r k = ∑ d : Fin 4, b (ix3 d r k) := by
  unfold grad
  rw [if_neg (by rw [h]; decide)]

/-- The new running mean of the gradient. -/
def first (g m : EReal) : EReal := Ideal.ofBits .f32 0x3F666666#32 * m + Ideal.ofBits .f32 0x3DCCCCCD#32 * g

/-- The new running mean of its square. -/
def second (g v : EReal) : EReal := Ideal.ofBits .f32 0x3F7FBE77#32 * v + Ideal.ofBits .f32 0x3A83126F#32 * (g * g)

/-- The change of the weight: the step size times the corrected mean over the root of the corrected mean square, with the decay. -/
def delta (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
      + Ideal.ofBits .f32 0x3C23D70A#32 * w)

end Cert.Adamw
end
-- ==== Proof.Opt.WIn.lean ====
/- The call that updates the input projection of the mixer: the four arrays it leaves, from the arrays it finds. -/
module

public import proofs.«01_k».proof.Proof.Gen.OptIdeal.Frame
public import proofs.«01_k».proof.Proof.Opt.Stages
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OptIdeal.WIn

open Cert.OptIdeal Cert.OptIdeal.Gen
open Cert.Adamw (grad first second delta)

/-! ## One block -/

theorem grad_first (i : grid0.Coords) (h : (i 0).val = 0) (x0 x1 : Vec Ideal S4x449x256 .bf16) (r : Fin 449) (k : Fin 256) :
    k0_pay5 i x0 x1 (ix2 r k) = ∑ d : Fin 4, x0 (ix3 d r k) := by
  have hs : Scalar.cmpi .eq (BitVec.ofNat 32 (i 0).val) 1#32 = 0#1 := by rw [h]; rfl
  rw [Fin.sum_univ_four]
  unfold k0_pay5
  simp only [hs]
  pointwise [Scalar.select]
  rw [if_neg (by decide : ¬(0#1 : BitVec 1) = 1)]
  simp only [add_assoc]
theorem grad_second (i : grid0.Coords) (h : (i 0).val = 1) (x0 x1 : Vec Ideal S4x449x256 .bf16) (r : Fin 449) (k : Fin 256) :
    k0_pay5 i x0 x1 (ix2 r k) = ∑ d : Fin 4, x1 (ix3 d r k) := by
  have hs : Scalar.cmpi .eq (BitVec.ofNat 32 (i 0).val) 1#32 = 1#1 := by rw [h]; rfl
  rw [Fin.sum_univ_four]
  unfold k0_pay5
  simp only [hs]
  pointwise [Scalar.select]
  rw [if_pos (by decide : (1#1 : BitVec 1) = 1)]
  simp only [add_assoc]

section
variable (i : grid0.Coords) (x0 x1 : Vec Ideal S4x449x256 .bf16) (x2 x3 x4 : Vec Ideal S1x449x256 .f32) (z : Fin 1) (r : Fin 449) (k : Fin 256)
theorem grad_at : out0_5 i x0 x1 x2 x3 x4 (ix3 z r k) = k0_pay5 i x0 x1 (ix2 r k) := by
  obtain rfl : z = 0 := Subsingleton.elim _ _
  frame_out
  pointwise [k0_pay1]
theorem first_at : out0_7 i x0 x1 x2 x3 x4 (ix3 z r k) = first (k0_pay5 i x0 x1 (ix2 r k)) (x3 (ix3 z r k)) := by
  obtain rfl : z = 0 := Subsingleton.elim _ _
  frame_out
  pointwise [k0_pay3, k0_pay7]
  rfl
theorem second_at : out0_8 i x0 x1 x2 x3 x4 (ix3 z r k) = second (k0_pay5 i x0 x1 (ix2 r k)) (x4 (ix3 z r k)) := by
  obtain rfl : z = 0 := Subsingleton.elim _ _
  unfold_out out0_8
  frame_out
  pointwise [k0_pay4, k0_pay8]
  rfl
theorem delta_at : out0_6 i x0 x1 x2 x3 x4 (ix3 z r k)
    = delta (x2 (ix3 z r k)) (k0_pay5 i x0 x1 (ix2 r k)) (x3 (ix3 z r k)) (x4 (ix3 z r k)) := by
  obtain rfl : z = 0 := Subsingleton.elim _ _
  unfold_out out0_6
  frame_out
  pointwise [k0_pay2, k0_pay6, k0_pay8, k0_pay9, k0_pay7]
  rfl
end

/-! ## The arrays -/

theorem coord : ∀ t : Fin cfg0.N, (grid0.coords t 0).val = t.val / 4 :=
  (by decide +kernel : ∀ t : Fin grid0.N, _)
theorem idxA : ∀ t : Fin cfg0.N, t.val / 4 = 0 → win0_0.index t = ![0, 0, t.val % 4] :=
  (by decide +kernel : ∀ t : Fin grid0.N, _)
theorem idxB : ∀ t : Fin cfg0.N, t.val / 4 = 1 → win0_1.index t = ![0, 0, t.val % 4] :=
  (by decide +kernel : ∀ t : Fin grid0.N, _)
theorem idx : ∀ t : Fin cfg0.N, win0_2.index t = ![t.val / 4, 0, t.val % 4] ∧ win0_3.index t = ![t.val / 4, 0, t.val % 4] ∧ win0_4.index t = ![t.val / 4, 0, t.val % 4]
    ∧ win0_5.index t = ![t.val / 4, 0, t.val % 4] ∧ win0_6.index t = ![t.val / 4, 0, t.val % 4] ∧ win0_7.index t = ![t.val / 4, 0, t.val % 4] ∧ win0_8.index t = ![t.val / 4, 0, t.val % 4] :=
  (by decide +kernel : ∀ t : Fin grid0.N, _)

variable (V : (c : Dev nD) → (b : Ref sig .tc) → Buf (Elt Ideal) ((c : Thread nD τ).loc b)) (c : Dev nD)

/-- The gradient at one entry, summed over the chips. -/
def total (y : S2x449x1024.Idx) : EReal :=
  grad (R := 449) (C := 1024) (V c main_arg0) (V c main_arg1) (y 0) (y 1) (y 2)

theorem lt_layer (t : Fin cfg0.N) : t.val / 4 < 2 := by
  have ht := lt_of_lt_of_eq t.isLt N_0
  omega

theorem total_at (t : Fin cfg0.N) (r : Fin 449) (k : Fin 256) :
    k0_pay5 (grid0.coords t) (iblk0 V c 0 t) (iblk0 V c 1 t) (ix2 r k)
      = total V c (ix3 ⟨t.val / 4, lt_layer t⟩ r ⟨256 * (t.val % 4) + k.val, by omega⟩) := by
  have ht := lt_of_lt_of_eq t.isLt N_0
  obtain h | h : t.val / 4 = 0 ∨ t.val / 4 = 1 := by omega
  · refine (grad_first _ ((coord t).trans h) _ _ r k).trans (Eq.trans ?_ (Cert.Adamw.grad_zero (R := 449) (C := 1024) (V c main_arg0) (V c main_arg1) ⟨t.val / 4, lt_layer t⟩ r ⟨256 * (t.val % 4) + k.val, by omega⟩ (Fin.ext h)).symm)
    refine Finset.sum_congr rfl fun d _ => ?_
    blk_ext [iblk0, idxA t h]
    all_goals omega
  · refine (grad_second _ ((coord t).trans h) _ _ r k).trans (Eq.trans ?_ (Cert.Adamw.grad_one (R := 449) (C := 1024) (V c main_arg0) (V c main_arg1) ⟨t.val / 4, lt_layer t⟩ r ⟨256 * (t.val % 4) + k.val, by omega⟩ (Fin.ext h)).symm)
    refine Finset.sum_congr rfl fun d _ => ?_
    blk_ext [iblk0, idxB t h]
    all_goals omega
theorem w_at (t : Fin cfg0.N) (z : Fin 1) (r : Fin 449) (k : Fin 256) :
    iblk0 V c 2 t (ix3 z r k) = V c main_v0 (ix3 ⟨t.val / 4, lt_layer t⟩ r ⟨256 * (t.val % 4) + k.val, by omega⟩) := by
  have ht := lt_of_lt_of_eq t.isLt N_0
  blk_ext [iblk0, idx t]
  all_goals omega
theorem m_at (t : Fin cfg0.N) (z : Fin 1) (r : Fin 449) (k : Fin 256) :
    iblk0 V c 3 t (ix3 z r k) = V c main_v1 (ix3 ⟨t.val / 4, lt_layer t⟩ r ⟨256 * (t.val % 4) + k.val, by omega⟩) := by
  have ht := lt_of_lt_of_eq t.isLt N_0
  blk_ext [iblk0, idx t]
  all_goals omega
theorem v_at (t : Fin cfg0.N) (z : Fin 1) (r : Fin 449) (k : Fin 256) :
    iblk0 V c 4 t (ix3 z r k) = V c main_v2 (ix3 ⟨t.val / 4, lt_layer t⟩ r ⟨256 * (t.val % 4) + k.val, by omega⟩) := by
  have ht := lt_of_lt_of_eq t.isLt N_0
  blk_ext [iblk0, idx t]
  all_goals omega

theorem total_arr : (dat0 V c).arrAt 5 cfg0.N = fun y => total V c y := by
  refine (dat0 V c).arrAt_eq_of_covers 5 _ (by decide +kernel) fun t _ y => ?_
  have ht := lt_of_lt_of_eq t.isLt N_0
  rw [after0_5]
  obtain ⟨z, r, k, rfl⟩ : ∃ (z : Fin 1) (r : Fin 449) (k : Fin 256), y = ix3 z r k := ⟨y 0, y 1, y 2, (ix3_eta y).symm⟩
  have he : ((cfg0.win 5).blk t).view.emb (ix3 z r k) = ix3 ⟨t.val / 4, lt_layer t⟩ r ⟨256 * (t.val % 4) + k.val, by omega⟩ := by
    blk_ext [idx t]
    all_goals omega
  rw [he]
  refine Eq.trans ?_ ((grad_at _ _ _ (iblk0 V c 2 t) (iblk0 V c 3 t) (iblk0 V c 4 t) z r k).trans (total_at V c t r k))
  refine (cast_eq _ _).trans (congrArg (out0_5 (grid0.coords t) (iblk0 V c 0 t) (iblk0 V c 1 t) (iblk0 V c 2 t) (iblk0 V c 3 t) (iblk0 V c 4 t)) (funext fun a => Fin.ext ?_))
  fin_cases a <;> rfl
theorem first_arr : (dat0 V c).arrAt 7 cfg0.N = fun y => first (total V c y) (V c main_v1 y) := by
  refine (dat0 V c).arrAt_eq_of_covers 7 _ (by decide +kernel) fun t _ y => ?_
  have ht := lt_of_lt_of_eq t.isLt N_0
  rw [after0_7]
  obtain ⟨z, r, k, rfl⟩ : ∃ (z : Fin 1) (r : Fin 449) (k : Fin 256), y = ix3 z r k := ⟨y 0, y 1, y 2, (ix3_eta y).symm⟩
  have he : ((cfg0.win 7).blk t).view.emb (ix3 z r k) = ix3 ⟨t.val / 4, lt_layer t⟩ r ⟨256 * (t.val % 4) + k.val, by omega⟩ := by
    blk_ext [idx t]
    all_goals omega
  rw [he]
  refine Eq.trans ?_ ((first_at _ _ _ (iblk0 V c 2 t) (iblk0 V c 3 t) (iblk0 V c 4 t) z r k).trans (congrArg₂ first (total_at V c t r k) (m_at V c t z r k)))
  refine (cast_eq _ _).trans (congrArg (out0_7 (grid0.coords t) (iblk0 V c 0 t) (iblk0 V c 1 t) (iblk0 V c 2 t) (iblk0 V c 3 t) (iblk0 V c 4 t)) (funext fun a => Fin.ext ?_))
  fin_cases a <;> rfl
theorem second_arr : (dat0 V c).arrAt 8 cfg0.N = fun y => second (total V c y) (V c main_v2 y) := by
  refine (dat0 V c).arrAt_eq_of_covers 8 _ (by decide +kernel) fun t _ y => ?_
  have ht := lt_of_lt_of_eq t.isLt N_0
  rw [after0_8]
  obtain ⟨z, r, k, rfl⟩ : ∃ (z : Fin 1) (r : Fin 449) (k : Fin 256), y = ix3 z r k := ⟨y 0, y 1, y 2, (ix3_eta y).symm⟩
  have he : ((cfg0.win 8).blk t).view.emb (ix3 z r k) = ix3 ⟨t.val / 4, lt_layer t⟩ r ⟨256 * (t.val % 4) + k.val, by omega⟩ := by
    blk_ext [idx t]
    all_goals omega
  rw [he]
  refine Eq.trans ?_ ((second_at _ _ _ (iblk0 V c 2 t) (iblk0 V c 3 t) (iblk0 V c 4 t) z r k).trans (congrArg₂ second (total_at V c t r k) (v_at V c t z r k)))
  refine (cast_eq _ _).trans (congrArg (out0_8 (grid0.coords t) (iblk0 V c 0 t) (iblk0 V c 1 t) (iblk0 V c 2 t) (iblk0 V c 3 t) (iblk0 V c 4 t)) (funext fun a => Fin.ext ?_))
  fin_cases a <;> rfl
theorem delta_arr : (dat0 V c).arrAt 6 cfg0.N = fun y => delta (V c main_v0 y) (total V c y) (V c main_v1 y) (V c main_v2 y) := by
  refine (dat0 V c).arrAt_eq_of_covers 6 _ (by decide +kernel) fun t _ y => ?_
  have ht := lt_of_lt_of_eq t.isLt N_0
  rw [after0_6]
  obtain ⟨z, r, k, rfl⟩ : ∃ (z : Fin 1) (r : Fin 449) (k : Fin 256), y = ix3 z r k := ⟨y 0, y 1, y 2, (ix3_eta y).symm⟩
  have he : ((cfg0.win 6).blk t).view.emb (ix3 z r k) = ix3 ⟨t.val / 4, lt_layer t⟩ r ⟨256 * (t.val % 4) + k.val, by omega⟩ := by
    blk_ext [idx t]
    all_goals omega
  have h : delta (iblk0 V c 2 t (ix3 z r k)) (k0_pay5 (grid0.coords t) (iblk0 V c 0 t) (iblk0 V c 1 t) (ix2 r k)) (iblk0 V c 3 t (ix3 z r k)) (iblk0 V c 4 t (ix3 z r k))
      = delta (V c main_v0 (ix3 ⟨t.val / 4, lt_layer t⟩ r ⟨256 * (t.val % 4) + k.val, by omega⟩)) (total V c (ix3 ⟨t.val / 4, lt_layer t⟩ r ⟨256 * (t.val % 4) + k.val, by omega⟩)) (V c main_v1 (ix3 ⟨t.val / 4, lt_layer t⟩ r ⟨256 * (t.val % 4) + k.val, by omega⟩)) (V c main_v2 (ix3 ⟨t.val / 4, lt_layer t⟩ r ⟨256 * (t.val % 4) + k.val, by omega⟩)) :=
    congr (congr (congrArg₂ delta (w_at V c t z r k) (total_at V c t r k)) (m_at V c t z r k)) (v_at V c t z r k)
  rw [he]
  refine Eq.trans ?_ ((delta_at _ _ _ (iblk0 V c 2 t) (iblk0 V c 3 t) (iblk0 V c 4 t) z r k).trans h)
  refine (cast_eq _ _).trans (congrArg (out0_6 (grid0.coords t) (iblk0 V c 0 t) (iblk0 V c 1 t) (iblk0 V c 2 t) (iblk0 V c 3 t) (iblk0 V c 4 t)) (funext fun a => Fin.ext ?_))
  fin_cases a <;> rfl

end Cert.OptIdeal.WIn
end
-- ==== Proof.Opt.WOut.lean ====
/- The call that updates the out-projection of the mixer: the four arrays it leaves, from the arrays it finds. -/
module

public import proofs.«01_k».proof.Proof.Gen.OptIdeal.Frame
public import proofs.«01_k».proof.Proof.Opt.Stages
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OptIdeal.WOut

open Cert.OptIdeal Cert.OptIdeal.Gen
open Cert.Adamw (grad first second delta)

/-! ## One block -/

theorem grad_first (i : grid1.Coords) (h : (i 0).val = 0) (x0 x1 : Vec Ideal S4x128x1024 .bf16) (r : Fin 128) (k : Fin 1024) :
    k1_pay5 i x0 x1 (ix2 r k) = ∑ d : Fin 4, x0 (ix3 d r k) := by
  have hs : Scalar.cmpi .eq (BitVec.ofNat 32 (i 0).val) 1#32 = 0#1 := by rw [h]; rfl
  rw [Fin.sum_univ_four]
  unfold k1_pay5
  simp only [hs]
  pointwise [Scalar.select]
  rw [if_neg (by decide : ¬(0#1 : BitVec 1) = 1)]
  simp only [add_assoc]
theorem grad_second (i : grid1.Coords) (h : (i 0).val = 1) (x0 x1 : Vec Ideal S4x128x1024 .bf16) (r : Fin 128) (k : Fin 1024) :
    k1_pay5 i x0 x1 (ix2 r k) = ∑ d : Fin 4, x1 (ix3 d r k) := by
  have hs : Scalar.cmpi .eq (BitVec.ofNat 32 (i 0).val) 1#32 = 1#1 := by rw [h]; rfl
  rw [Fin.sum_univ_four]
  unfold k1_pay5
  simp only [hs]
  pointwise [Scalar.select]
  rw [if_pos (by decide : (1#1 : BitVec 1) = 1)]
  simp only [add_assoc]

section
variable (i : grid1.Coords) (x0 x1 : Vec Ideal S4x128x1024 .bf16) (x2 x3 x4 : Vec Ideal S1x128x1024 .f32) (z : Fin 1) (r : Fin 128) (k : Fin 1024)
theorem grad_at : out1_5 i x0 x1 x2 x3 x4 (ix3 z r k) = k1_pay5 i x0 x1 (ix2 r k) := by
  obtain rfl : z = 0 := Subsingleton.elim _ _
  frame_out
  pointwise [k1_pay1]
theorem first_at : out1_7 i x0 x1 x2 x3 x4 (ix3 z r k) = first (k1_pay5 i x0 x1 (ix2 r k)) (x3 (ix3 z r k)) := by
  obtain rfl : z = 0 := Subsingleton.elim _ _
  frame_out
  pointwise [k1_pay3, k1_pay7]
  rfl
theorem second_at : out1_8 i x0 x1 x2 x3 x4 (ix3 z r k) = second (k1_pay5 i x0 x1 (ix2 r k)) (x4 (ix3 z r k)) := by
  obtain rfl : z = 0 := Subsingleton.elim _ _
  unfold_out out1_8
  frame_out
  pointwise [k1_pay4, k1_pay8]
  rfl
theorem delta_at : out1_6 i x0 x1 x2 x3 x4 (ix3 z r k)
    = delta (x2 (ix3 z r k)) (k1_pay5 i x0 x1 (ix2 r k)) (x3 (ix3 z r k)) (x4 (ix3 z r k)) := by
  obtain rfl : z = 0 := Subsingleton.elim _ _
  unfold_out out1_6
  frame_out
  pointwise [k1_pay2, k1_pay6, k1_pay8, k1_pay9, k1_pay7]
  rfl
end

/-! ## The arrays -/

theorem coord : ∀ t : Fin cfg1.N, (grid1.coords t 0).val = t.val / 1 :=
  (by decide +kernel : ∀ t : Fin grid1.N, _)
theorem idxA : ∀ t : Fin cfg1.N, t.val / 1 = 0 → win1_0.index t = ![0, 0, 0] :=
  (by decide +kernel : ∀ t : Fin grid1.N, _)
theorem idxB : ∀ t : Fin cfg1.N, t.val / 1 = 1 → win1_1.index t = ![0, 0, 0] :=
  (by decide +kernel : ∀ t : Fin grid1.N, _)
theorem idx : ∀ t : Fin cfg1.N, win1_2.index t = ![t.val / 1, 0, 0] ∧ win1_3.index t = ![t.val / 1, 0, 0] ∧ win1_4.index t = ![t.val / 1, 0, 0]
    ∧ win1_5.index t = ![t.val / 1, 0, 0] ∧ win1_6.index t = ![t.val / 1, 0, 0] ∧ win1_7.index t = ![t.val / 1, 0, 0] ∧ win1_8.index t = ![t.val / 1, 0, 0] :=
  (by decide +kernel : ∀ t : Fin grid1.N, _)

variable (V : (c : Dev nD) → (b : Ref sig .tc) → Buf (Elt Ideal) ((c : Thread nD τ).loc b)) (c : Dev nD)

/-- The gradient at one entry, summed over the chips. -/
def total (y : S2x128x1024.Idx) : EReal :=
  grad (R := 128) (C := 1024) (V c main_arg5) (V c main_arg6) (y 0) (y 1) (y 2)

theorem lt_layer (t : Fin cfg1.N) : t.val / 1 < 2 := by
  have ht := lt_of_lt_of_eq t.isLt N_1
  omega

theorem total_at (t : Fin cfg1.N) (r : Fin 128) (k : Fin 1024) :
    k1_pay5 (grid1.coords t) (iblk1 V c 0 t) (iblk1 V c 1 t) (ix2 r k)
      = total V c (ix3 ⟨t.val / 1, lt_layer t⟩ r k) := by
  have ht := lt_of_lt_of_eq t.isLt N_1
  obtain h | h : t.val / 1 = 0 ∨ t.val / 1 = 1 := by omega
  · refine (grad_first _ ((coord t).trans h) _ _ r k).trans (Eq.trans ?_ (Cert.Adamw.grad_zero (R := 128) (C := 1024) (V c main_arg5) (V c main_arg6) ⟨t.val / 1, lt_layer t⟩ r k (Fin.ext h)).symm)
    refine Finset.sum_congr rfl fun d _ => ?_
    blk_ext [iblk1, idxA t h]
    all_goals omega
  · refine (grad_second _ ((coord t).trans h) _ _ r k).trans (Eq.trans ?_ (Cert.Adamw.grad_one (R := 128) (C := 1024) (V c main_arg5) (V c main_arg6) ⟨t.val / 1, lt_layer t⟩ r k (Fin.ext h)).symm)
    refine Finset.sum_congr rfl fun d _ => ?_
    blk_ext [iblk1, idxB t h]
    all_goals omega
theorem w_at (t : Fin cfg1.N) (z : Fin 1) (r : Fin 128) (k : Fin 1024) :
    iblk1 V c 2 t (ix3 z r k) = V c main_arg7 (ix3 ⟨t.val / 1, lt_layer t⟩ r k) := by
  have ht := lt_of_lt_of_eq t.isLt N_1
  blk_ext [iblk1, idx t]
  all_goals omega
theorem m_at (t : Fin cfg1.N) (z : Fin 1) (r : Fin 128) (k : Fin 1024) :
    iblk1 V c 3 t (ix3 z r k) = V c main_arg8 (ix3 ⟨t.val / 1, lt_layer t⟩ r k) := by
  have ht := lt_of_lt_of_eq t.isLt N_1
  blk_ext [iblk1, idx t]
  all_goals omega
theorem v_at (t : Fin cfg1.N) (z : Fin 1) (r : Fin 128) (k : Fin 1024) :
    iblk1 V c 4 t (ix3 z r k) = V c main_arg9 (ix3 ⟨t.val / 1, lt_layer t⟩ r k) := by
  have ht := lt_of_lt_of_eq t.isLt N_1
  blk_ext [iblk1, idx t]
  all_goals omega

theorem total_arr : (dat1 V c).arrAt 5 cfg1.N = fun y => total V c y := by
  refine (dat1 V c).arrAt_eq_of_covers 5 _ (by decide +kernel) fun t _ y => ?_
  have ht := lt_of_lt_of_eq t.isLt N_1
  rw [after1_5]
  obtain ⟨z, r, k, rfl⟩ : ∃ (z : Fin 1) (r : Fin 128) (k : Fin 1024), y = ix3 z r k := ⟨y 0, y 1, y 2, (ix3_eta y).symm⟩
  have he : ((cfg1.win 5).blk t).view.emb (ix3 z r k) = ix3 ⟨t.val / 1, lt_layer t⟩ r k := by
    blk_ext [idx t]
    all_goals omega
  rw [he]
  refine Eq.trans ?_ ((grad_at _ _ _ (iblk1 V c 2 t) (iblk1 V c 3 t) (iblk1 V c 4 t) z r k).trans (total_at V c t r k))
  refine (cast_eq _ _).trans (congrArg (out1_5 (grid1.coords t) (iblk1 V c 0 t) (iblk1 V c 1 t) (iblk1 V c 2 t) (iblk1 V c 3 t) (iblk1 V c 4 t)) (funext fun a => Fin.ext ?_))
  fin_cases a <;> rfl
theorem first_arr : (dat1 V c).arrAt 7 cfg1.N = fun y => first (total V c y) (V c main_arg8 y) := by
  refine (dat1 V c).arrAt_eq_of_covers 7 _ (by decide +kernel) fun t _ y => ?_
  have ht := lt_of_lt_of_eq t.isLt N_1
  rw [after1_7]
  obtain ⟨z, r, k, rfl⟩ : ∃ (z : Fin 1) (r : Fin 128) (k : Fin 1024), y = ix3 z r k := ⟨y 0, y 1, y 2, (ix3_eta y).symm⟩
  have he : ((cfg1.win 7).blk t).view.emb (ix3 z r k) = ix3 ⟨t.val / 1, lt_layer t⟩ r k := by
    blk_ext [idx t]
    all_goals omega
  rw [he]
  refine Eq.trans ?_ ((first_at _ _ _ (iblk1 V c 2 t) (iblk1 V c 3 t) (iblk1 V c 4 t) z r k).trans (congrArg₂ first (total_at V c t r k) (m_at V c t z r k)))
  refine (cast_eq _ _).trans (congrArg (out1_7 (grid1.coords t) (iblk1 V c 0 t) (iblk1 V c 1 t) (iblk1 V c 2 t) (iblk1 V c 3 t) (iblk1 V c 4 t)) (funext fun a => Fin.ext ?_))
  fin_cases a <;> rfl
theorem second_arr : (dat1 V c).arrAt 8 cfg1.N = fun y => second (total V c y) (V c main_arg9 y) := by
  refine (dat1 V c).arrAt_eq_of_covers 8 _ (by decide +kernel) fun t _ y => ?_
  have ht := lt_of_lt_of_eq t.isLt N_1
  rw [after1_8]
  obtain ⟨z, r, k, rfl⟩ : ∃ (z : Fin 1) (r : Fin 128) (k : Fin 1024), y = ix3 z r k := ⟨y 0, y 1, y 2, (ix3_eta y).symm⟩
  have he : ((cfg1.win 8).blk t).view.emb (ix3 z r k) = ix3 ⟨t.val / 1, lt_layer t⟩ r k := by
    blk_ext [idx t]
    all_goals omega
  rw [he]
  refine Eq.trans ?_ ((second_at _ _ _ (iblk1 V c 2 t) (iblk1 V c 3 t) (iblk1 V c 4 t) z r k).trans (congrArg₂ second (total_at V c t r k) (v_at V c t z r k)))
  refine (cast_eq _ _).trans (congrArg (out1_8 (grid1.coords t) (iblk1 V c 0 t) (iblk1 V c 1 t) (iblk1 V c 2 t) (iblk1 V c 3 t) (iblk1 V c 4 t)) (funext fun a => Fin.ext ?_))
  fin_cases a <;> rfl
theorem delta_arr : (dat1 V c).arrAt 6 cfg1.N = fun y => delta (V c main_arg7 y) (total V c y) (V c main_arg8 y) (V c main_arg9 y) := by
  refine (dat1 V c).arrAt_eq_of_covers 6 _ (by decide +kernel) fun t _ y => ?_
  have ht := lt_of_lt_of_eq t.isLt N_1
  rw [after1_6]
  obtain ⟨z, r, k, rfl⟩ : ∃ (z : Fin 1) (r : Fin 128) (k : Fin 1024), y = ix3 z r k := ⟨y 0, y 1, y 2, (ix3_eta y).symm⟩
  have he : ((cfg1.win 6).blk t).view.emb (ix3 z r k) = ix3 ⟨t.val / 1, lt_layer t⟩ r k := by
    blk_ext [idx t]
    all_goals omega
  have h : delta (iblk1 V c 2 t (ix3 z r k)) (k1_pay5 (grid1.coords t) (iblk1 V c 0 t) (iblk1 V c 1 t) (ix2 r k)) (iblk1 V c 3 t (ix3 z r k)) (iblk1 V c 4 t (ix3 z r k))
      = delta (V c main_arg7 (ix3 ⟨t.val / 1, lt_layer t⟩ r k)) (total V c (ix3 ⟨t.val / 1, lt_layer t⟩ r k)) (V c main_arg8 (ix3 ⟨t.val / 1, lt_layer t⟩ r k)) (V c main_arg9 (ix3 ⟨t.val / 1, lt_layer t⟩ r k)) :=
    congr (congr (congrArg₂ delta (w_at V c t z r k) (total_at V c t r k)) (m_at V c t z r k)) (v_at V c t z r k)
  rw [he]
  refine Eq.trans ?_ ((delta_at _ _ _ (iblk1 V c 2 t) (iblk1 V c 3 t) (iblk1 V c 4 t) z r k).trans h)
  refine (cast_eq _ _).trans (congrArg (out1_6 (grid1.coords t) (iblk1 V c 0 t) (iblk1 V c 1 t) (iblk1 V c 2 t) (iblk1 V c 3 t) (iblk1 V c 4 t)) (funext fun a => Fin.ext ?_))
  fin_cases a <;> rfl

end Cert.OptIdeal.WOut
end
-- ==== Proof.Opt.FfnIn.lean ====
/- The call that updates the input projection of the feed-forward: the four arrays it leaves, from the arrays it finds. -/
module

public import proofs.«01_k».proof.Proof.Gen.OptIdeal.Frame
public import proofs.«01_k».proof.Proof.Opt.Stages
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OptIdeal.FfnIn

open Cert.OptIdeal Cert.OptIdeal.Gen
open Cert.Adamw (grad first second delta)

/-! ## One block -/

theorem grad_first (i : grid2.Coords) (h : (i 0).val = 0) (x0 x1 : Vec Ideal S4x176x1024 .bf16) (r : Fin 176) (k : Fin 1024) :
    k2_pay5 i x0 x1 (ix2 r k) = ∑ d : Fin 4, x0 (ix3 d r k) := by
  have hs : Scalar.cmpi .eq (BitVec.ofNat 32 (i 0).val) 1#32 = 0#1 := by rw [h]; rfl
  rw [Fin.sum_univ_four]
  unfold k2_pay5
  simp only [hs]
  pointwise [Scalar.select]
  rw [if_neg (by decide : ¬(0#1 : BitVec 1) = 1)]
  simp only [add_assoc]
theorem grad_second (i : grid2.Coords) (h : (i 0).val = 1) (x0 x1 : Vec Ideal S4x176x1024 .bf16) (r : Fin 176) (k : Fin 1024) :
    k2_pay5 i x0 x1 (ix2 r k) = ∑ d : Fin 4, x1 (ix3 d r k) := by
  have hs : Scalar.cmpi .eq (BitVec.ofNat 32 (i 0).val) 1#32 = 1#1 := by rw [h]; rfl
  rw [Fin.sum_univ_four]
  unfold k2_pay5
  simp only [hs]
  pointwise [Scalar.select]
  rw [if_pos (by decide : (1#1 : BitVec 1) = 1)]
  simp only [add_assoc]

section
variable (i : grid2.Coords) (x0 x1 : Vec Ideal S4x176x1024 .bf16) (x2 x3 x4 : Vec Ideal S1x176x1024 .f32) (z : Fin 1) (r : Fin 176) (k : Fin 1024)
theorem grad_at : out2_5 i x0 x1 x2 x3 x4 (ix3 z r k) = k2_pay5 i x0 x1 (ix2 r k) := by
  obtain rfl : z = 0 := Subsingleton.elim _ _
  frame_out
  pointwise [k2_pay1]
theorem first_at : out2_7 i x0 x1 x2 x3 x4 (ix3 z r k) = first (k2_pay5 i x0 x1 (ix2 r k)) (x3 (ix3 z r k)) := by
  obtain rfl : z = 0 := Subsingleton.elim _ _
  frame_out
  pointwise [k2_pay3, k2_pay7]
  rfl
theorem second_at : out2_8 i x0 x1 x2 x3 x4 (ix3 z r k) = second (k2_pay5 i x0 x1 (ix2 r k)) (x4 (ix3 z r k)) := by
  obtain rfl : z = 0 := Subsingleton.elim _ _
  unfold_out out2_8
  frame_out
  pointwise [k2_pay4, k2_pay8]
  rfl
theorem delta_at : out2_6 i x0 x1 x2 x3 x4 (ix3 z r k)
    = delta (x2 (ix3 z r k)) (k2_pay5 i x0 x1 (ix2 r k)) (x3 (ix3 z r k)) (x4 (ix3 z r k)) := by
  obtain rfl : z = 0 := Subsingleton.elim _ _
  unfold_out out2_6
  frame_out
  pointwise [k2_pay2, k2_pay6, k2_pay8, k2_pay9, k2_pay7]
  rfl
end

/-! ## The arrays -/

theorem coord : ∀ t : Fin cfg2.N, (grid2.coords t 0).val = t.val / 4 :=
  (by decide +kernel : ∀ t : Fin grid2.N, _)
theorem idxA : ∀ t : Fin cfg2.N, t.val / 4 = 0 → win2_0.index t = ![0, t.val % 4, 0] :=
  (by decide +kernel : ∀ t : Fin grid2.N, _)
theorem idxB : ∀ t : Fin cfg2.N, t.val / 4 = 1 → win2_1.index t = ![0, t.val % 4, 0] :=
  (by decide +kernel : ∀ t : Fin grid2.N, _)
theorem idx : ∀ t : Fin cfg2.N, win2_2.index t = ![t.val / 4, t.val % 4, 0] ∧ win2_3.index t = ![t.val / 4, t.val % 4, 0] ∧ win2_4.index t = ![t.val / 4, t.val % 4, 0]
    ∧ win2_5.index t = ![t.val / 4, t.val % 4, 0] ∧ win2_6.index t = ![t.val / 4, t.val % 4, 0] ∧ win2_7.index t = ![t.val / 4, t.val % 4, 0] ∧ win2_8.index t = ![t.val / 4, t.val % 4, 0] :=
  (by decide +kernel : ∀ t : Fin grid2.N, _)

variable (V : (c : Dev nD) → (b : Ref sig .tc) → Buf (Elt Ideal) ((c : Thread nD τ).loc b)) (c : Dev nD)

/-- The gradient at one entry, summed over the chips. -/
def total (y : S2x704x1024.Idx) : EReal :=
  grad (R := 704) (C := 1024) (V c main_arg10) (V c main_arg11) (y 0) (y 1) (y 2)

theorem lt_layer (t : Fin cfg2.N) : t.val / 4 < 2 := by
  have ht := lt_of_lt_of_eq t.isLt N_2
  omega

theorem total_at (t : Fin cfg2.N) (r : Fin 176) (k : Fin 1024) :
    k2_pay5 (grid2.coords t) (iblk2 V c 0 t) (iblk2 V c 1 t) (ix2 r k)
      = total V c (ix3 ⟨t.val / 4, lt_layer t⟩ ⟨176 * (t.val % 4) + r.val, by omega⟩ k) := by
  have ht := lt_of_lt_of_eq t.isLt N_2
  obtain h | h : t.val / 4 = 0 ∨ t.val / 4 = 1 := by omega
  · refine (grad_first _ ((coord t).trans h) _ _ r k).trans (Eq.trans ?_ (Cert.Adamw.grad_zero (R := 704) (C := 1024) (V c main_arg10) (V c main_arg11) ⟨t.val / 4, lt_layer t⟩ ⟨176 * (t.val % 4) + r.val, by omega⟩ k (Fin.ext h)).symm)
    refine Finset.sum_congr rfl fun d _ => ?_
    blk_ext [iblk2, idxA t h]
    all_goals omega
  · refine (grad_second _ ((coord t).trans h) _ _ r k).trans (Eq.trans ?_ (Cert.Adamw.grad_one (R := 704) (C := 1024) (V c main_arg10) (V c main_arg11) ⟨t.val / 4, lt_layer t⟩ ⟨176 * (t.val % 4) + r.val, by omega⟩ k (Fin.ext h)).symm)
    refine Finset.sum_congr rfl fun d _ => ?_
    blk_ext [iblk2, idxB t h]
    all_goals omega
theorem w_at (t : Fin cfg2.N) (z : Fin 1) (r : Fin 176) (k : Fin 1024) :
    iblk2 V c 2 t (ix3 z r k) = V c main_v9 (ix3 ⟨t.val / 4, lt_layer t⟩ ⟨176 * (t.val % 4) + r.val, by omega⟩ k) := by
  have ht := lt_of_lt_of_eq t.isLt N_2
  blk_ext [iblk2, idx t]
  all_goals omega
theorem m_at (t : Fin cfg2.N) (z : Fin 1) (r : Fin 176) (k : Fin 1024) :
    iblk2 V c 3 t (ix3 z r k) = V c main_v10 (ix3 ⟨t.val / 4, lt_layer t⟩ ⟨176 * (t.val % 4) + r.val, by omega⟩ k) := by
  have ht := lt_of_lt_of_eq t.isLt N_2
  blk_ext [iblk2, idx t]
  all_goals omega
theorem v_at (t : Fin cfg2.N) (z : Fin 1) (r : Fin 176) (k : Fin 1024) :
    iblk2 V c 4 t (ix3 z r k) = V c main_v11 (ix3 ⟨t.val / 4, lt_layer t⟩ ⟨176 * (t.val % 4) + r.val, by omega⟩ k) := by
  have ht := lt_of_lt_of_eq t.isLt N_2
  blk_ext [iblk2, idx t]
  all_goals omega

theorem total_arr : (dat2 V c).arrAt 5 cfg2.N = fun y => total V c y := by
  refine (dat2 V c).arrAt_eq_of_covers 5 _ (by decide +kernel) fun t _ y => ?_
  have ht := lt_of_lt_of_eq t.isLt N_2
  rw [after2_5]
  obtain ⟨z, r, k, rfl⟩ : ∃ (z : Fin 1) (r : Fin 176) (k : Fin 1024), y = ix3 z r k := ⟨y 0, y 1, y 2, (ix3_eta y).symm⟩
  have he : ((cfg2.win 5).blk t).view.emb (ix3 z r k) = ix3 ⟨t.val / 4, lt_layer t⟩ ⟨176 * (t.val % 4) + r.val, by omega⟩ k := by
    blk_ext [idx t]
    all_goals omega
  rw [he]
  refine Eq.trans ?_ ((grad_at _ _ _ (iblk2 V c 2 t) (iblk2 V c 3 t) (iblk2 V c 4 t) z r k).trans (total_at V c t r k))
  refine (cast_eq _ _).trans (congrArg (out2_5 (grid2.coords t) (iblk2 V c 0 t) (iblk2 V c 1 t) (iblk2 V c 2 t) (iblk2 V c 3 t) (iblk2 V c 4 t)) (funext fun a => Fin.ext ?_))
  fin_cases a <;> rfl
theorem first_arr : (dat2 V c).arrAt 7 cfg2.N = fun y => first (total V c y) (V c main_v10 y) := by
  refine (dat2 V c).arrAt_eq_of_covers 7 _ (by decide +kernel) fun t _ y => ?_
  have ht := lt_of_lt_of_eq t.isLt N_2
  rw [after2_7]
  obtain ⟨z, r, k, rfl⟩ : ∃ (z : Fin 1) (r : Fin 176) (k : Fin 1024), y = ix3 z r k := ⟨y 0, y 1, y 2, (ix3_eta y).symm⟩
  have he : ((cfg2.win 7).blk t).view.emb (ix3 z r k) = ix3 ⟨t.val / 4, lt_layer t⟩ ⟨176 * (t.val % 4) + r.val, by omega⟩ k := by
    blk_ext [idx t]
    all_goals omega
  rw [he]
  refine Eq.trans ?_ ((first_at _ _ _ (iblk2 V c 2 t) (iblk2 V c 3 t) (iblk2 V c 4 t) z r k).trans (congrArg₂ first (total_at V c t r k) (m_at V c t z r k)))
  refine (cast_eq _ _).trans (congrArg (out2_7 (grid2.coords t) (iblk2 V c 0 t) (iblk2 V c 1 t) (iblk2 V c 2 t) (iblk2 V c 3 t) (iblk2 V c 4 t)) (funext fun a => Fin.ext ?_))
  fin_cases a <;> rfl
theorem second_arr : (dat2 V c).arrAt 8 cfg2.N = fun y => second (total V c y) (V c main_v11 y) := by
  refine (dat2 V c).arrAt_eq_of_covers 8 _ (by decide +kernel) fun t _ y => ?_
  have ht := lt_of_lt_of_eq t.isLt N_2
  rw [after2_8]
  obtain ⟨z, r, k, rfl⟩ : ∃ (z : Fin 1) (r : Fin 176) (k : Fin 1024), y = ix3 z r k := ⟨y 0, y 1, y 2, (ix3_eta y).symm⟩
  have he : ((cfg2.win 8).blk t).view.emb (ix3 z r k) = ix3 ⟨t.val / 4, lt_layer t⟩ ⟨176 * (t.val % 4) + r.val, by omega⟩ k := by
    blk_ext [idx t]
    all_goals omega
  rw [he]
  refine Eq.trans ?_ ((second_at _ _ _ (iblk2 V c 2 t) (iblk2 V c 3 t) (iblk2 V c 4 t) z r k).trans (congrArg₂ second (total_at V c t r k) (v_at V c t z r k)))
  refine (cast_eq _ _).trans (congrArg (out2_8 (grid2.coords t) (iblk2 V c 0 t) (iblk2 V c 1 t) (iblk2 V c 2 t) (iblk2 V c 3 t) (iblk2 V c 4 t)) (funext fun a => Fin.ext ?_))
  fin_cases a <;> rfl
theorem delta_arr : (dat2 V c).arrAt 6 cfg2.N = fun y => delta (V c main_v9 y) (total V c y) (V c main_v10 y) (V c main_v11 y) := by
  refine (dat2 V c).arrAt_eq_of_covers 6 _ (by decide +kernel) fun t _ y => ?_
  have ht := lt_of_lt_of_eq t.isLt N_2
  rw [after2_6]
  obtain ⟨z, r, k, rfl⟩ : ∃ (z : Fin 1) (r : Fin 176) (k : Fin 1024), y = ix3 z r k := ⟨y 0, y 1, y 2, (ix3_eta y).symm⟩
  have he : ((cfg2.win 6).blk t).view.emb (ix3 z r k) = ix3 ⟨t.val / 4, lt_layer t⟩ ⟨176 * (t.val % 4) + r.val, by omega⟩ k := by
    blk_ext [idx t]
    all_goals omega
  have h : delta (iblk2 V c 2 t (ix3 z r k)) (k2_pay5 (grid2.coords t) (iblk2 V c 0 t) (iblk2 V c 1 t) (ix2 r k)) (iblk2 V c 3 t (ix3 z r k)) (iblk2 V c 4 t (ix3 z r k))
      = delta (V c main_v9 (ix3 ⟨t.val / 4, lt_layer t⟩ ⟨176 * (t.val % 4) + r.val, by omega⟩ k)) (total V c (ix3 ⟨t.val / 4, lt_layer t⟩ ⟨176 * (t.val % 4) + r.val, by omega⟩ k)) (V c main_v10 (ix3 ⟨t.val / 4, lt_layer t⟩ ⟨176 * (t.val % 4) + r.val, by omega⟩ k)) (V c main_v11 (ix3 ⟨t.val / 4, lt_layer t⟩ ⟨176 * (t.val % 4) + r.val, by omega⟩ k)) :=
    congr (congr (congrArg₂ delta (w_at V c t z r k) (total_at V c t r k)) (m_at V c t z r k)) (v_at V c t z r k)
  rw [he]
  refine Eq.trans ?_ ((delta_at _ _ _ (iblk2 V c 2 t) (iblk2 V c 3 t) (iblk2 V c 4 t) z r k).trans h)
  refine (cast_eq _ _).trans (congrArg (out2_6 (grid2.coords t) (iblk2 V c 0 t) (iblk2 V c 1 t) (iblk2 V c 2 t) (iblk2 V c 3 t) (iblk2 V c 4 t)) (funext fun a => Fin.ext ?_))
  fin_cases a <;> rfl

end Cert.OptIdeal.FfnIn
end
-- ==== Proof.Opt.FfnOut.lean ====
/- The call that updates the output projection of the feed-forward: the four arrays it leaves, from the arrays it finds. -/
module

public import proofs.«01_k».proof.Proof.Gen.OptIdeal.Frame
public import proofs.«01_k».proof.Proof.Opt.Stages
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OptIdeal.FfnOut

open Cert.OptIdeal Cert.OptIdeal.Gen
open Cert.Adamw (grad first second delta)

/-! ## One block -/

theorem grad_first (i : grid3.Coords) (h : (i 0).val = 0) (x0 x1 : Vec Ideal S4x176x1024 .bf16) (r : Fin 176) (k : Fin 1024) :
    k3_pay5 i x0 x1 (ix2 r k) = ∑ d : Fin 4, x0 (ix3 d r k) := by
  have hs : Scalar.cmpi .eq (BitVec.ofNat 32 (i 0).val) 1#32 = 0#1 := by rw [h]; rfl
  rw [Fin.sum_univ_four]
  unfold k3_pay5
  simp only [hs]
  pointwise [Scalar.select]
  rw [if_neg (by decide : ¬(0#1 : BitVec 1) = 1)]
  simp only [add_assoc]
theorem grad_second (i : grid3.Coords) (h : (i 0).val = 1) (x0 x1 : Vec Ideal S4x176x1024 .bf16) (r : Fin 176) (k : Fin 1024) :
    k3_pay5 i x0 x1 (ix2 r k) = ∑ d : Fin 4, x1 (ix3 d r k) := by
  have hs : Scalar.cmpi .eq (BitVec.ofNat 32 (i 0).val) 1#32 = 1#1 := by rw [h]; rfl
  rw [Fin.sum_univ_four]
  unfold k3_pay5
  simp only [hs]
  pointwise [Scalar.select]
  rw [if_pos (by decide : (1#1 : BitVec 1) = 1)]
  simp only [add_assoc]

section
variable (i : grid3.Coords) (x0 x1 : Vec Ideal S4x176x1024 .bf16) (x2 x3 x4 : Vec Ideal S1x176x1024 .f32) (z : Fin 1) (r : Fin 176) (k : Fin 1024)
theorem grad_at : out3_5 i x0 x1 x2 x3 x4 (ix3 z r k) = k3_pay5 i x0 x1 (ix2 r k) := by
  obtain rfl : z = 0 := Subsingleton.elim _ _
  frame_out
  pointwise [k3_pay1]
theorem first_at : out3_7 i x0 x1 x2 x3 x4 (ix3 z r k) = first (k3_pay5 i x0 x1 (ix2 r k)) (x3 (ix3 z r k)) := by
  obtain rfl : z = 0 := Subsingleton.elim _ _
  frame_out
  pointwise [k3_pay3, k3_pay7]
  rfl
theorem second_at : out3_8 i x0 x1 x2 x3 x4 (ix3 z r k) = second (k3_pay5 i x0 x1 (ix2 r k)) (x4 (ix3 z r k)) := by
  obtain rfl : z = 0 := Subsingleton.elim _ _
  unfold_out out3_8
  frame_out
  pointwise [k3_pay4, k3_pay8]
  rfl
theorem delta_at : out3_6 i x0 x1 x2 x3 x4 (ix3 z r k)
    = delta (x2 (ix3 z r k)) (k3_pay5 i x0 x1 (ix2 r k)) (x3 (ix3 z r k)) (x4 (ix3 z r k)) := by
  obtain rfl : z = 0 := Subsingleton.elim _ _
  unfold_out out3_6
  frame_out
  pointwise [k3_pay2, k3_pay6, k3_pay8, k3_pay9, k3_pay7]
  rfl
end

/-! ## The arrays -/

theorem coord : ∀ t : Fin cfg3.N, (grid3.coords t 0).val = t.val / 2 :=
  (by decide +kernel : ∀ t : Fin grid3.N, _)
theorem idxA : ∀ t : Fin cfg3.N, t.val / 2 = 0 → win3_0.index t = ![0, t.val % 2, 0] :=
  (by decide +kernel : ∀ t : Fin grid3.N, _)
theorem idxB : ∀ t : Fin cfg3.N, t.val / 2 = 1 → win3_1.index t = ![0, t.val % 2, 0] :=
  (by decide +kernel : ∀ t : Fin grid3.N, _)
theorem idx : ∀ t : Fin cfg3.N, win3_2.index t = ![t.val / 2, t.val % 2, 0] ∧ win3_3.index t = ![t.val / 2, t.val % 2, 0] ∧ win3_4.index t = ![t.val / 2, t.val % 2, 0]
    ∧ win3_5.index t = ![t.val / 2, t.val % 2, 0] ∧ win3_6.index t = ![t.val / 2, t.val % 2, 0] ∧ win3_7.index t = ![t.val / 2, t.val % 2, 0] ∧ win3_8.index t = ![t.val / 2, t.val % 2, 0] :=
  (by decide +kernel : ∀ t : Fin grid3.N, _)

variable (V : (c : Dev nD) → (b : Ref sig .tc) → Buf (Elt Ideal) ((c : Thread nD τ).loc b)) (c : Dev nD)

/-- The gradient at one entry, summed over the chips. -/
def total (y : S2x352x1024.Idx) : EReal :=
  grad (R := 352) (C := 1024) (V c main_arg15) (V c main_arg16) (y 0) (y 1) (y 2)

theorem lt_layer (t : Fin cfg3.N) : t.val / 2 < 2 := by
  have ht := lt_of_lt_of_eq t.isLt N_3
  omega

theorem total_at (t : Fin cfg3.N) (r : Fin 176) (k : Fin 1024) :
    k3_pay5 (grid3.coords t) (iblk3 V c 0 t) (iblk3 V c 1 t) (ix2 r k)
      = total V c (ix3 ⟨t.val / 2, lt_layer t⟩ ⟨176 * (t.val % 2) + r.val, by omega⟩ k) := by
  have ht := lt_of_lt_of_eq t.isLt N_3
  obtain h | h : t.val / 2 = 0 ∨ t.val / 2 = 1 := by omega
  · refine (grad_first _ ((coord t).trans h) _ _ r k).trans (Eq.trans ?_ (Cert.Adamw.grad_zero (R := 352) (C := 1024) (V c main_arg15) (V c main_arg16) ⟨t.val / 2, lt_layer t⟩ ⟨176 * (t.val % 2) + r.val, by omega⟩ k (Fin.ext h)).symm)
    refine Finset.sum_congr rfl fun d _ => ?_
    blk_ext [iblk3, idxA t h]
    all_goals omega
  · refine (grad_second _ ((coord t).trans h) _ _ r k).trans (Eq.trans ?_ (Cert.Adamw.grad_one (R := 352) (C := 1024) (V c main_arg15) (V c main_arg16) ⟨t.val / 2, lt_layer t⟩ ⟨176 * (t.val % 2) + r.val, by omega⟩ k (Fin.ext h)).symm)
    refine Finset.sum_congr rfl fun d _ => ?_
    blk_ext [iblk3, idxB t h]
    all_goals omega
theorem w_at (t : Fin cfg3.N) (z : Fin 1) (r : Fin 176) (k : Fin 1024) :
    iblk3 V c 2 t (ix3 z r k) = V c main_arg17 (ix3 ⟨t.val / 2, lt_layer t⟩ ⟨176 * (t.val % 2) + r.val, by omega⟩ k) := by
  have ht := lt_of_lt_of_eq t.isLt N_3
  blk_ext [iblk3, idx t]
  all_goals omega
theorem m_at (t : Fin cfg3.N) (z : Fin 1) (r : Fin 176) (k : Fin 1024) :
    iblk3 V c 3 t (ix3 z r k) = V c main_arg18 (ix3 ⟨t.val / 2, lt_layer t⟩ ⟨176 * (t.val % 2) + r.val, by omega⟩ k) := by
  have ht := lt_of_lt_of_eq t.isLt N_3
  blk_ext [iblk3, idx t]
  all_goals omega
theorem v_at (t : Fin cfg3.N) (z : Fin 1) (r : Fin 176) (k : Fin 1024) :
    iblk3 V c 4 t (ix3 z r k) = V c main_arg19 (ix3 ⟨t.val / 2, lt_layer t⟩ ⟨176 * (t.val % 2) + r.val, by omega⟩ k) := by
  have ht := lt_of_lt_of_eq t.isLt N_3
  blk_ext [iblk3, idx t]
  all_goals omega

theorem total_arr : (dat3 V c).arrAt 5 cfg3.N = fun y => total V c y := by
  refine (dat3 V c).arrAt_eq_of_covers 5 _ (by decide +kernel) fun t _ y => ?_
  have ht := lt_of_lt_of_eq t.isLt N_3
  rw [after3_5]
  obtain ⟨z, r, k, rfl⟩ : ∃ (z : Fin 1) (r : Fin 176) (k : Fin 1024), y = ix3 z r k := ⟨y 0, y 1, y 2, (ix3_eta y).symm⟩
  have he : ((cfg3.win 5).blk t).view.emb (ix3 z r k) = ix3 ⟨t.val / 2, lt_layer t⟩ ⟨176 * (t.val % 2) + r.val, by omega⟩ k := by
    blk_ext [idx t]
    all_goals omega
  rw [he]
  refine Eq.trans ?_ ((grad_at _ _ _ (iblk3 V c 2 t) (iblk3 V c 3 t) (iblk3 V c 4 t) z r k).trans (total_at V c t r k))
  refine (cast_eq _ _).trans (congrArg (out3_5 (grid3.coords t) (iblk3 V c 0 t) (iblk3 V c 1 t) (iblk3 V c 2 t) (iblk3 V c 3 t) (iblk3 V c 4 t)) (funext fun a => Fin.ext ?_))
  fin_cases a <;> rfl
theorem first_arr : (dat3 V c).arrAt 7 cfg3.N = fun y => first (total V c y) (V c main_arg18 y) := by
  refine (dat3 V c).arrAt_eq_of_covers 7 _ (by decide +kernel) fun t _ y => ?_
  have ht := lt_of_lt_of_eq t.isLt N_3
  rw [after3_7]
  obtain ⟨z, r, k, rfl⟩ : ∃ (z : Fin 1) (r : Fin 176) (k : Fin 1024), y = ix3 z r k := ⟨y 0, y 1, y 2, (ix3_eta y).symm⟩
  have he : ((cfg3.win 7).blk t).view.emb (ix3 z r k) = ix3 ⟨t.val / 2, lt_layer t⟩ ⟨176 * (t.val % 2) + r.val, by omega⟩ k := by
    blk_ext [idx t]
    all_goals omega
  rw [he]
  refine Eq.trans ?_ ((first_at _ _ _ (iblk3 V c 2 t) (iblk3 V c 3 t) (iblk3 V c 4 t) z r k).trans (congrArg₂ first (total_at V c t r k) (m_at V c t z r k)))
  refine (cast_eq _ _).trans (congrArg (out3_7 (grid3.coords t) (iblk3 V c 0 t) (iblk3 V c 1 t) (iblk3 V c 2 t) (iblk3 V c 3 t) (iblk3 V c 4 t)) (funext fun a => Fin.ext ?_))
  fin_cases a <;> rfl
theorem second_arr : (dat3 V c).arrAt 8 cfg3.N = fun y => second (total V c y) (V c main_arg19 y) := by
  refine (dat3 V c).arrAt_eq_of_covers 8 _ (by decide +kernel) fun t _ y => ?_
  have ht := lt_of_lt_of_eq t.isLt N_3
  rw [after3_8]
  obtain ⟨z, r, k, rfl⟩ : ∃ (z : Fin 1) (r : Fin 176) (k : Fin 1024), y = ix3 z r k := ⟨y 0, y 1, y 2, (ix3_eta y).symm⟩
  have he : ((cfg3.win 8).blk t).view.emb (ix3 z r k) = ix3 ⟨t.val / 2, lt_layer t⟩ ⟨176 * (t.val % 2) + r.val, by omega⟩ k := by
    blk_ext [idx t]
    all_goals omega
  rw [he]
  refine Eq.trans ?_ ((second_at _ _ _ (iblk3 V c 2 t) (iblk3 V c 3 t) (iblk3 V c 4 t) z r k).trans (congrArg₂ second (total_at V c t r k) (v_at V c t z r k)))
  refine (cast_eq _ _).trans (congrArg (out3_8 (grid3.coords t) (iblk3 V c 0 t) (iblk3 V c 1 t) (iblk3 V c 2 t) (iblk3 V c 3 t) (iblk3 V c 4 t)) (funext fun a => Fin.ext ?_))
  fin_cases a <;> rfl
theorem delta_arr : (dat3 V c).arrAt 6 cfg3.N = fun y => delta (V c main_arg17 y) (total V c y) (V c main_arg18 y) (V c main_arg19 y) := by
  refine (dat3 V c).arrAt_eq_of_covers 6 _ (by decide +kernel) fun t _ y => ?_
  have ht := lt_of_lt_of_eq t.isLt N_3
  rw [after3_6]
  obtain ⟨z, r, k, rfl⟩ : ∃ (z : Fin 1) (r : Fin 176) (k : Fin 1024), y = ix3 z r k := ⟨y 0, y 1, y 2, (ix3_eta y).symm⟩
  have he : ((cfg3.win 6).blk t).view.emb (ix3 z r k) = ix3 ⟨t.val / 2, lt_layer t⟩ ⟨176 * (t.val % 2) + r.val, by omega⟩ k := by
    blk_ext [idx t]
    all_goals omega
  have h : delta (iblk3 V c 2 t (ix3 z r k)) (k3_pay5 (grid3.coords t) (iblk3 V c 0 t) (iblk3 V c 1 t) (ix2 r k)) (iblk3 V c 3 t (ix3 z r k)) (iblk3 V c 4 t (ix3 z r k))
      = delta (V c main_arg17 (ix3 ⟨t.val / 2, lt_layer t⟩ ⟨176 * (t.val % 2) + r.val, by omega⟩ k)) (total V c (ix3 ⟨t.val / 2, lt_layer t⟩ ⟨176 * (t.val % 2) + r.val, by omega⟩ k)) (V c main_arg18 (ix3 ⟨t.val / 2, lt_layer t⟩ ⟨176 * (t.val % 2) + r.val, by omega⟩ k)) (V c main_arg19 (ix3 ⟨t.val / 2, lt_layer t⟩ ⟨176 * (t.val % 2) + r.val, by omega⟩ k)) :=
    congr (congr (congrArg₂ delta (w_at V c t z r k) (total_at V c t r k)) (m_at V c t z r k)) (v_at V c t z r k)
  rw [he]
  refine Eq.trans ?_ ((delta_at _ _ _ (iblk3 V c 2 t) (iblk3 V c 3 t) (iblk3 V c 4 t) z r k).trans h)
  refine (cast_eq _ _).trans (congrArg (out3_6 (grid3.coords t) (iblk3 V c 0 t) (iblk3 V c 1 t) (iblk3 V c 2 t) (iblk3 V c 3 t) (iblk3 V c 4 t)) (funext fun a => Fin.ext ?_))
  fin_cases a <;> rfl

end Cert.OptIdeal.FfnOut
end
-- ==== Proof.Opt.Chain.lean ====
/- The calls one after the other: what each result holds at the end, at one entry. -/
module

public import proofs.«01_k».proof.Proof.Opt.WIn
public import proofs.«01_k».proof.Proof.Opt.WOut
public import proofs.«01_k».proof.Proof.Opt.FfnIn
public import proofs.«01_k».proof.Proof.Opt.FfnOut

@[expose] public section

set_option maxRecDepth 16384

noncomputable section

open Idealize.ShloMosaic Idealize.ShloMosaic.TcCoe Idealize.SL.Sem Idealize.ShloMosaic.StableHlo

namespace Cert.OptIdeal.Chain

open Cert.OptIdeal Cert.OptIdeal.Gen
open Cert.Adamw (grad first second delta)

variable (m : (ℓ : Loc nD τ sig) → Buf (Elt Ideal) ℓ) (ρ : Dev nD → PrngReg) (c : Dev nD)

theorem arg_at1 (a : Ref sig .tc) (h : a ∈ argRefs) : V1 m ρ c a = m ((c : Thread nD τ).loc a) := W1_args m ρ c a h
theorem arg_at3 (a : Ref sig .tc) (h : a ∈ argRefs) : V3 m ρ c a = m ((c : Thread nD τ).loc a) := W3_args m ρ c a h
theorem arg_at4 (a : Ref sig .tc) (h : a ∈ argRefs) : V4 m ρ c a = m ((c : Thread nD τ).loc a) := W4_args m ρ c a h
theorem arg_at5 (a : Ref sig .tc) (h : a ∈ argRefs) : V5 m ρ c a = m ((c : Thread nD τ).loc a) := W5_args m ρ c a h
theorem arg_at7 (a : Ref sig .tc) (h : a ∈ argRefs) : V7 m ρ c a = m ((c : Thread nD τ).loc a) := W7_args m ρ c a h

/-! ## The input projection of the mixer -/

section
variable (l : Fin 2) (r : Fin 449) (k : Fin 1024)
theorem in_w : V1 m ρ c main_v0 (ix3 l r k) = (m ((c : Thread nD τ).loc main_arg2) : FVec Ideal S2x1024x449 .f32) (ix3 l k r) := by
  show StableHlo.after hostOps0 (W0 m ρ c) (Proc.devRef .tc main_v0) (ix3 l r k) = _
  entry_read
  pointwise
theorem in_u : V1 m ρ c main_v1 (ix3 l r k) = (m ((c : Thread nD τ).loc main_arg3) : FVec Ideal S2x1024x449 .f32) (ix3 l k r) := by
  show StableHlo.after hostOps0 (W0 m ρ c) (Proc.devRef .tc main_v1) (ix3 l r k) = _
  entry_read
  pointwise
theorem in_v : V1 m ρ c main_v2 (ix3 l r k) = (m ((c : Thread nD τ).loc main_arg4) : FVec Ideal S2x1024x449 .f32) (ix3 l k r) := by
  show StableHlo.after hostOps0 (W0 m ρ c) (Proc.devRef .tc main_v2) (ix3 l r k) = _
  entry_read
  pointwise
theorem in_total : WIn.total (V1 m ρ) c (ix3 l r k) = grad (R := 449) (C := 1024) (m ((c : Thread nD τ).loc main_arg0)) (m ((c : Thread nD τ).loc main_arg1)) l r k :=
  congrArg₂ (fun a b => grad (R := 449) (C := 1024) a b l r k) (arg_at1 m ρ c main_arg0 (by decide)) (arg_at1 m ρ c main_arg1 (by decide))
theorem in_sum_call : V2 m ρ c main_v3_0 (ix3 l r k) = grad (R := 449) (C := 1024) (m ((c : Thread nD τ).loc main_arg0)) (m ((c : Thread nD τ).loc main_arg1)) l r k :=
  (congrFun ((W2_arr m ρ c 5).trans (WIn.total_arr (V1 m ρ) c)) _).trans (in_total m ρ c l r k)
theorem in_delta_call : V2 m ρ c main_v3_1 (ix3 l r k) = delta ((m ((c : Thread nD τ).loc main_arg2) : FVec Ideal S2x1024x449 .f32) (ix3 l k r)) (grad (R := 449) (C := 1024) (m ((c : Thread nD τ).loc main_arg0)) (m ((c : Thread nD τ).loc main_arg1)) l r k) ((m ((c : Thread nD τ).loc main_arg3) : FVec Ideal S2x1024x449 .f32) (ix3 l k r)) ((m ((c : Thread nD τ).loc main_arg4) : FVec Ideal S2x1024x449 .f32) (ix3 l k r)) :=
  (congrFun ((W2_arr m ρ c 6).trans (WIn.delta_arr (V1 m ρ) c)) _).trans (congr (congr (congrArg₂ delta (in_w m ρ c l r k) (in_total m ρ c l r k)) (in_u m ρ c l r k)) (in_v m ρ c l r k))
theorem in_first_call : V2 m ρ c main_v3_2 (ix3 l r k) = first (grad (R := 449) (C := 1024) (m ((c : Thread nD τ).loc main_arg0)) (m ((c : Thread nD τ).loc main_arg1)) l r k) ((m ((c : Thread nD τ).loc main_arg3) : FVec Ideal S2x1024x449 .f32) (ix3 l k r)) :=
  (congrFun ((W2_arr m ρ c 7).trans (WIn.first_arr (V1 m ρ) c)) _).trans (congrArg₂ first (in_total m ρ c l r k) (in_u m ρ c l r k))
theorem in_second_call : V2 m ρ c main_v3_3 (ix3 l r k) = second (grad (R := 449) (C := 1024) (m ((c : Thread nD τ).loc main_arg0)) (m ((c : Thread nD τ).loc main_arg1)) l r k) ((m ((c : Thread nD τ).loc main_arg4) : FVec Ideal S2x1024x449 .f32) (ix3 l k r)) :=
  (congrFun ((W2_arr m ρ c 8).trans (WIn.second_arr (V1 m ρ) c)) _).trans (congrArg₂ second (in_total m ρ c l r k) (in_v m ρ c l r k))
theorem in_sum_end : W8 m ρ c main_v4 (ix3 l k r) = grad (R := 449) (C := 1024) (m ((c : Thread nD τ).loc main_arg0)) (m ((c : Thread nD τ).loc main_arg1)) l r k := by
  refine (congrFun (W8_of m ρ c main_v4 (by decide +kernel)) _).trans ?_
  refine (congrFun (W7_of m ρ c main_v4 (by decide +kernel)) _).trans ?_
  refine (congrFun (W6_of m ρ c main_v4 (by decide +kernel)) _).trans ?_
  refine (congrFun (W5_of m ρ c main_v4 (by decide +kernel)) _).trans ?_
  refine (congrFun (W4_of m ρ c main_v4 (by decide +kernel)) _).trans ?_
  show StableHlo.after hostOps1 (W2 m ρ c) (Proc.devRef .tc main_v4) (ix3 l k r) = _
  entry_read
  pointwise
  exact in_sum_call m ρ c l r k
theorem in_delta_end : W8 m ρ c main_v5 (ix3 l k r) = delta ((m ((c : Thread nD τ).loc main_arg2) : FVec Ideal S2x1024x449 .f32) (ix3 l k r)) (grad (R := 449) (C := 1024) (m ((c : Thread nD τ).loc main_arg0)) (m ((c : Thread nD τ).loc main_arg1)) l r k) ((m ((c : Thread nD τ).loc main_arg3) : FVec Ideal S2x1024x449 .f32) (ix3 l k r)) ((m ((c : Thread nD τ).loc main_arg4) : FVec Ideal S2x1024x449 .f32) (ix3 l k r)) := by
  refine (congrFun (W8_of m ρ c main_v5 (by decide +kernel)) _).trans ?_
  refine (congrFun (W7_of m ρ c main_v5 (by decide +kernel)) _).trans ?_
  refine (congrFun (W6_of m ρ c main_v5 (by decide +kernel)) _).trans ?_
  refine (congrFun (W5_of m ρ c main_v5 (by decide +kernel)) _).trans ?_
  refine (congrFun (W4_of m ρ c main_v5 (by decide +kernel)) _).trans ?_
  show StableHlo.after hostOps1 (W2 m ρ c) (Proc.devRef .tc main_v5) (ix3 l k r) = _
  entry_read
  pointwise
  exact in_delta_call m ρ c l r k
theorem in_first_end : W8 m ρ c main_v6 (ix3 l k r) = first (grad (R := 449) (C := 1024) (m ((c : Thread nD τ).loc main_arg0)) (m ((c : Thread nD τ).loc main_arg1)) l r k) ((m ((c : Thread nD τ).loc main_arg3) : FVec Ideal S2x1024x449 .f32) (ix3 l k r)) := by
  refine (congrFun (W8_of m ρ c main_v6 (by decide +kernel)) _).trans ?_
  refine (congrFun (W7_of m ρ c main_v6 (by decide +kernel)) _).trans ?_
  refine (congrFun (W6_of m ρ c main_v6 (by decide +kernel)) _).trans ?_
  refine (congrFun (W5_of m ρ c main_v6 (by decide +kernel)) _).trans ?_
  refine (congrFun (W4_of m ρ c main_v6 (by decide +kernel)) _).trans ?_
  show StableHlo.after hostOps1 (W2 m ρ c) (Proc.devRef .tc main_v6) (ix3 l k r) = _
  entry_read
  pointwise
  exact in_first_call m ρ c l r k
theorem in_second_end : W8 m ρ c main_v7 (ix3 l k r) = second (grad (R := 449) (C := 1024) (m ((c : Thread nD τ).loc main_arg0)) (m ((c : Thread nD τ).loc main_arg1)) l r k) ((m ((c : Thread nD τ).loc main_arg4) : FVec Ideal S2x1024x449 .f32) (ix3 l k r)) := by
  refine (congrFun (W8_of m ρ c main_v7 (by decide +kernel)) _).trans ?_
  refine (congrFun (W7_of m ρ c main_v7 (by decide +kernel)) _).trans ?_
  refine (congrFun (W6_of m ρ c main_v7 (by decide +kernel)) _).trans ?_
  refine (congrFun (W5_of m ρ c main_v7 (by decide +kernel)) _).trans ?_
  refine (congrFun (W4_of m ρ c main_v7 (by decide +kernel)) _).trans ?_
  show StableHlo.after hostOps1 (W2 m ρ c) (Proc.devRef .tc main_v7) (ix3 l k r) = _
  entry_read
  pointwise
  exact in_second_call m ρ c l r k
end

/-! ## The out-projection of the mixer -/

section
variable (l : Fin 2) (r : Fin 128) (k : Fin 1024)
theorem wo_w : V3 m ρ c main_arg7 (ix3 l r k) = (m ((c : Thread nD τ).loc main_arg7) : FVec Ideal S2x128x1024 .f32) (ix3 l r k) := congrFun (arg_at3 m ρ c main_arg7 (by decide)) _
theorem wo_u : V3 m ρ c main_arg8 (ix3 l r k) = (m ((c : Thread nD τ).loc main_arg8) : FVec Ideal S2x128x1024 .f32) (ix3 l r k) := congrFun (arg_at3 m ρ c main_arg8 (by decide)) _
theorem wo_v : V3 m ρ c main_arg9 (ix3 l r k) = (m ((c : Thread nD τ).loc main_arg9) : FVec Ideal S2x128x1024 .f32) (ix3 l r k) := congrFun (arg_at3 m ρ c main_arg9 (by decide)) _
theorem wo_total : WOut.total (V3 m ρ) c (ix3 l r k) = grad (R := 128) (C := 1024) (m ((c : Thread nD τ).loc main_arg5)) (m ((c : Thread nD τ).loc main_arg6)) l r k :=
  congrArg₂ (fun a b => grad (R := 128) (C := 1024) a b l r k) (arg_at3 m ρ c main_arg5 (by decide)) (arg_at3 m ρ c main_arg6 (by decide))
theorem wo_sum_call : V4 m ρ c main_v8_0 (ix3 l r k) = grad (R := 128) (C := 1024) (m ((c : Thread nD τ).loc main_arg5)) (m ((c : Thread nD τ).loc main_arg6)) l r k :=
  (congrFun ((W4_arr m ρ c 5).trans (WOut.total_arr (V3 m ρ) c)) _).trans (wo_total m ρ c l r k)
theorem wo_delta_call : V4 m ρ c main_v8_1 (ix3 l r k) = delta ((m ((c : Thread nD τ).loc main_arg7) : FVec Ideal S2x128x1024 .f32) (ix3 l r k)) (grad (R := 128) (C := 1024) (m ((c : Thread nD τ).loc main_arg5)) (m ((c : Thread nD τ).loc main_arg6)) l r k) ((m ((c : Thread nD τ).loc main_arg8) : FVec Ideal S2x128x1024 .f32) (ix3 l r k)) ((m ((c : Thread nD τ).loc main_arg9) : FVec Ideal S2x128x1024 .f32) (ix3 l r k)) :=
  (congrFun ((W4_arr m ρ c 6).trans (WOut.delta_arr (V3 m ρ) c)) _).trans (congr (congr (congrArg₂ delta (wo_w m ρ c l r k) (wo_total m ρ c l r k)) (wo_u m ρ c l r k)) (wo_v m ρ c l r k))
theorem wo_first_call : V4 m ρ c main_v8_2 (ix3 l r k) = first (grad (R := 128) (C := 1024) (m ((c : Thread nD τ).loc main_arg5)) (m ((c : Thread nD τ).loc main_arg6)) l r k) ((m ((c : Thread nD τ).loc main_arg8) : FVec Ideal S2x128x1024 .f32) (ix3 l r k)) :=
  (congrFun ((W4_arr m ρ c 7).trans (WOut.first_arr (V3 m ρ) c)) _).trans (congrArg₂ first (wo_total m ρ c l r k) (wo_u m ρ c l r k))
theorem wo_second_call : V4 m ρ c main_v8_3 (ix3 l r k) = second (grad (R := 128) (C := 1024) (m ((c : Thread nD τ).loc main_arg5)) (m ((c : Thread nD τ).loc main_arg6)) l r k) ((m ((c : Thread nD τ).loc main_arg9) : FVec Ideal S2x128x1024 .f32) (ix3 l r k)) :=
  (congrFun ((W4_arr m ρ c 8).trans (WOut.second_arr (V3 m ρ) c)) _).trans (congrArg₂ second (wo_total m ρ c l r k) (wo_v m ρ c l r k))
theorem wo_sum_end : W8 m ρ c main_v8_0 (ix3 l r k) = grad (R := 128) (C := 1024) (m ((c : Thread nD τ).loc main_arg5)) (m ((c : Thread nD τ).loc main_arg6)) l r k := by
  refine (congrFun (W8_of m ρ c main_v8_0 (by decide +kernel)) _).trans ?_
  refine (congrFun (W7_of m ρ c main_v8_0 (by decide +kernel)) _).trans ?_
  refine (congrFun (W6_of m ρ c main_v8_0 (by decide +kernel)) _).trans ?_
  refine (congrFun (W5_of m ρ c main_v8_0 (by decide +kernel)) _).trans ?_
  exact wo_sum_call m ρ c l r k
theorem wo_delta_end : W8 m ρ c main_v8_1 (ix3 l r k) = delta ((m ((c : Thread nD τ).loc main_arg7) : FVec Ideal S2x128x1024 .f32) (ix3 l r k)) (grad (R := 128) (C := 1024) (m ((c : Thread nD τ).loc main_arg5)) (m ((c : Thread nD τ).loc main_arg6)) l r k) ((m ((c : Thread nD τ).loc main_arg8) : FVec Ideal S2x128x1024 .f32) (ix3 l r k)) ((m ((c : Thread nD τ).loc main_arg9) : FVec Ideal S2x128x1024 .f32) (ix3 l r k)) := by
  refine (congrFun (W8_of m ρ c main_v8_1 (by decide +kernel)) _).trans ?_
  refine (congrFun (W7_of m ρ c main_v8_1 (by decide +kernel)) _).trans ?_
  refine (congrFun (W6_of m ρ c main_v8_1 (by decide +kernel)) _).trans ?_
  refine (congrFun (W5_of m ρ c main_v8_1 (by decide +kernel)) _).trans ?_
  exact wo_delta_call m ρ c l r k
theorem wo_first_end : W8 m ρ c main_v8_2 (ix3 l r k) = first (grad (R := 128) (C := 1024) (m ((c : Thread nD τ).loc main_arg5)) (m ((c : Thread nD τ).loc main_arg6)) l r k) ((m ((c : Thread nD τ).loc main_arg8) : FVec Ideal S2x128x1024 .f32) (ix3 l r k)) := by
  refine (congrFun (W8_of m ρ c main_v8_2 (by decide +kernel)) _).trans ?_
  refine (congrFun (W7_of m ρ c main_v8_2 (by decide +kernel)) _).trans ?_
  refine (congrFun (W6_of m ρ c main_v8_2 (by decide +kernel)) _).trans ?_
  refine (congrFun (W5_of m ρ c main_v8_2 (by decide +kernel)) _).trans ?_
  exact wo_first_call m ρ c l r k
theorem wo_second_end : W8 m ρ c main_v8_3 (ix3 l r k) = second (grad (R := 128) (C := 1024) (m ((c : Thread nD τ).loc main_arg5)) (m ((c : Thread nD τ).loc main_arg6)) l r k) ((m ((c : Thread nD τ).loc main_arg9) : FVec Ideal S2x128x1024 .f32) (ix3 l r k)) := by
  refine (congrFun (W8_of m ρ c main_v8_3 (by decide +kernel)) _).trans ?_
  refine (congrFun (W7_of m ρ c main_v8_3 (by decide +kernel)) _).trans ?_
  refine (congrFun (W6_of m ρ c main_v8_3 (by decide +kernel)) _).trans ?_
  refine (congrFun (W5_of m ρ c main_v8_3 (by decide +kernel)) _).trans ?_
  exact wo_second_call m ρ c l r k
end

/-! ## The input projection of the feed-forward -/

section
variable (l : Fin 2) (r : Fin 704) (k : Fin 1024)
theorem fi_w : V5 m ρ c main_v9 (ix3 l r k) = (m ((c : Thread nD τ).loc main_arg12) : FVec Ideal S2x1024x704 .f32) (ix3 l k r) := by
  show StableHlo.after hostOps2 (W4 m ρ c) (Proc.devRef .tc main_v9) (ix3 l r k) = _
  entry_read
  pointwise
  exact congrFun (arg_at4 m ρ c main_arg12 (by decide)) _
theorem fi_u : V5 m ρ c main_v10 (ix3 l r k) = (m ((c : Thread nD τ).loc main_arg13) : FVec Ideal S2x1024x704 .f32) (ix3 l k r) := by
  show StableHlo.after hostOps2 (W4 m ρ c) (Proc.devRef .tc main_v10) (ix3 l r k) = _
  entry_read
  pointwise
  exact congrFun (arg_at4 m ρ c main_arg13 (by decide)) _
theorem fi_v : V5 m ρ c main_v11 (ix3 l r k) = (m ((c : Thread nD τ).loc main_arg14) : FVec Ideal S2x1024x704 .f32) (ix3 l k r) := by
  show StableHlo.after hostOps2 (W4 m ρ c) (Proc.devRef .tc main_v11) (ix3 l r k) = _
  entry_read
  pointwise
  exact congrFun (arg_at4 m ρ c main_arg14 (by decide)) _
theorem fi_total : FfnIn.total (V5 m ρ) c (ix3 l r k) = grad (R := 704) (C := 1024) (m ((c : Thread nD τ).loc main_arg10)) (m ((c : Thread nD τ).loc main_arg11)) l r k :=
  congrArg₂ (fun a b => grad (R := 704) (C := 1024) a b l r k) (arg_at5 m ρ c main_arg10 (by decide)) (arg_at5 m ρ c main_arg11 (by decide))
theorem fi_sum_call : V6 m ρ c main_v12_0 (ix3 l r k) = grad (R := 704) (C := 1024) (m ((c : Thread nD τ).loc main_arg10)) (m ((c : Thread nD τ).loc main_arg11)) l r k :=
  (congrFun ((W6_arr m ρ c 5).trans (FfnIn.total_arr (V5 m ρ) c)) _).trans (fi_total m ρ c l r k)
theorem fi_delta_call : V6 m ρ c main_v12_1 (ix3 l r k) = delta ((m ((c : Thread nD τ).loc main_arg12) : FVec Ideal S2x1024x704 .f32) (ix3 l k r)) (grad (R := 704) (C := 1024) (m ((c : Thread nD τ).loc main_arg10)) (m ((c : Thread nD τ).loc main_arg11)) l r k) ((m ((c : Thread nD τ).loc main_arg13) : FVec Ideal S2x1024x704 .f32) (ix3 l k r)) ((m ((c : Thread nD τ).loc main_arg14) : FVec Ideal S2x1024x704 .f32) (ix3 l k r)) :=
  (congrFun ((W6_arr m ρ c 6).trans (FfnIn.delta_arr (V5 m ρ) c)) _).trans (congr (congr (congrArg₂ delta (fi_w m ρ c l r k) (fi_total m ρ c l r k)) (fi_u m ρ c l r k)) (fi_v m ρ c l r k))
theorem fi_first_call : V6 m ρ c main_v12_2 (ix3 l r k) = first (grad (R := 704) (C := 1024) (m ((c : Thread nD τ).loc main_arg10)) (m ((c : Thread nD τ).loc main_arg11)) l r k) ((m ((c : Thread nD τ).loc main_arg13) : FVec Ideal S2x1024x704 .f32) (ix3 l k r)) :=
  (congrFun ((W6_arr m ρ c 7).trans (FfnIn.first_arr (V5 m ρ) c)) _).trans (congrArg₂ first (fi_total m ρ c l r k) (fi_u m ρ c l r k))
theorem fi_second_call : V6 m ρ c main_v12_3 (ix3 l r k) = second (grad (R := 704) (C := 1024) (m ((c : Thread nD τ).loc main_arg10)) (m ((c : Thread nD τ).loc main_arg11)) l r k) ((m ((c : Thread nD τ).loc main_arg14) : FVec Ideal S2x1024x704 .f32) (ix3 l k r)) :=
  (congrFun ((W6_arr m ρ c 8).trans (FfnIn.second_arr (V5 m ρ) c)) _).trans (congrArg₂ second (fi_total m ρ c l r k) (fi_v m ρ c l r k))
theorem fi_sum_end : W8 m ρ c main_v13 (ix3 l k r) = grad (R := 704) (C := 1024) (m ((c : Thread nD τ).loc main_arg10)) (m ((c : Thread nD τ).loc main_arg11)) l r k := by
  refine (congrFun (W8_of m ρ c main_v13 (by decide +kernel)) _).trans ?_
  show StableHlo.after hostOps3 (W6 m ρ c) (Proc.devRef .tc main_v13) (ix3 l k r) = _
  entry_read
  pointwise
  exact fi_sum_call m ρ c l r k
theorem fi_delta_end : W8 m ρ c main_v14 (ix3 l k r) = delta ((m ((c : Thread nD τ).loc main_arg12) : FVec Ideal S2x1024x704 .f32) (ix3 l k r)) (grad (R := 704) (C := 1024) (m ((c : Thread nD τ).loc main_arg10)) (m ((c : Thread nD τ).loc main_arg11)) l r k) ((m ((c : Thread nD τ).loc main_arg13) : FVec Ideal S2x1024x704 .f32) (ix3 l k r)) ((m ((c : Thread nD τ).loc main_arg14) : FVec Ideal S2x1024x704 .f32) (ix3 l k r)) := by
  refine (congrFun (W8_of m ρ c main_v14 (by decide +kernel)) _).trans ?_
  show StableHlo.after hostOps3 (W6 m ρ c) (Proc.devRef .tc main_v14) (ix3 l k r) = _
  entry_read
  pointwise
  exact fi_delta_call m ρ c l r k
theorem fi_first_end : W8 m ρ c main_v15 (ix3 l k r) = first (grad (R := 704) (C := 1024) (m ((c : Thread nD τ).loc main_arg10)) (m ((c : Thread nD τ).loc main_arg11)) l r k) ((m ((c : Thread nD τ).loc main_arg13) : FVec Ideal S2x1024x704 .f32) (ix3 l k r)) := by
  refine (congrFun (W8_of m ρ c main_v15 (by decide +kernel)) _).trans ?_
  show StableHlo.after hostOps3 (W6 m ρ c) (Proc.devRef .tc main_v15) (ix3 l k r) = _
  entry_read
  pointwise
  exact fi_first_call m ρ c l r k
theorem fi_second_end : W8 m ρ c main_v16 (ix3 l k r) = second (grad (R := 704) (C := 1024) (m ((c : Thread nD τ).loc main_arg10)) (m ((c : Thread nD τ).loc main_arg11)) l r k) ((m ((c : Thread nD τ).loc main_arg14) : FVec Ideal S2x1024x704 .f32) (ix3 l k r)) := by
  refine (congrFun (W8_of m ρ c main_v16 (by decide +kernel)) _).trans ?_
  show StableHlo.after hostOps3 (W6 m ρ c) (Proc.devRef .tc main_v16) (ix3 l k r) = _
  entry_read
  pointwise
  exact fi_second_call m ρ c l r k
end

/-! ## The output projection of the feed-forward -/

section
variable (l : Fin 2) (r : Fin 352) (k : Fin 1024)
theorem fo_w : V7 m ρ c main_arg17 (ix3 l r k) = (m ((c : Thread nD τ).loc main_arg17) : FVec Ideal S2x352x1024 .f32) (ix3 l r k) := congrFun (arg_at7 m ρ c main_arg17 (by decide)) _
theorem fo_u : V7 m ρ c main_arg18 (ix3 l r k) = (m ((c : Thread nD τ).loc main_arg18) : FVec Ideal S2x352x1024 .f32) (ix3 l r k) := congrFun (arg_at7 m ρ c main_arg18 (by decide)) _
theorem fo_v : V7 m ρ c main_arg19 (ix3 l r k) = (m ((c : Thread nD τ).loc main_arg19) : FVec Ideal S2x352x1024 .f32) (ix3 l r k) := congrFun (arg_at7 m ρ c main_arg19 (by decide)) _
theorem fo_total : FfnOut.total (V7 m ρ) c (ix3 l r k) = grad (R := 352) (C := 1024) (m ((c : Thread nD τ).loc main_arg15)) (m ((c : Thread nD τ).loc main_arg16)) l r k :=
  congrArg₂ (fun a b => grad (R := 352) (C := 1024) a b l r k) (arg_at7 m ρ c main_arg15 (by decide)) (arg_at7 m ρ c main_arg16 (by decide))
theorem fo_sum_call : V8 m ρ c main_v17_0 (ix3 l r k) = grad (R := 352) (C := 1024) (m ((c : Thread nD τ).loc main_arg15)) (m ((c : Thread nD τ).loc main_arg16)) l r k :=
  (congrFun ((W8_arr m ρ c 5).trans (FfnOut.total_arr (V7 m ρ) c)) _).trans (fo_total m ρ c l r k)
theorem fo_delta_call : V8 m ρ c main_v17_1 (ix3 l r k) = delta ((m ((c : Thread nD τ).loc main_arg17) : FVec Ideal S2x352x1024 .f32) (ix3 l r k)) (grad (R := 352) (C := 1024) (m ((c : Thread nD τ).loc main_arg15)) (m ((c : Thread nD τ).loc main_arg16)) l r k) ((m ((c : Thread nD τ).loc main_arg18) : FVec Ideal S2x352x1024 .f32) (ix3 l r k)) ((m ((c : Thread nD τ).loc main_arg19) : FVec Ideal S2x352x1024 .f32) (ix3 l r k)) :=
  (congrFun ((W8_arr m ρ c 6).trans (FfnOut.delta_arr (V7 m ρ) c)) _).trans (congr (congr (congrArg₂ delta (fo_w m ρ c l r k) (fo_total m ρ c l r k)) (fo_u m ρ c l r k)) (fo_v m ρ c l r k))
theorem fo_first_call : V8 m ρ c main_v17_2 (ix3 l r k) = first (grad (R := 352) (C := 1024) (m ((c : Thread nD τ).loc main_arg15)) (m ((c : Thread nD τ).loc main_arg16)) l r k) ((m ((c : Thread nD τ).loc main_arg18) : FVec Ideal S2x352x1024 .f32) (ix3 l r k)) :=
  (congrFun ((W8_arr m ρ c 7).trans (FfnOut.first_arr (V7 m ρ) c)) _).trans (congrArg₂ first (fo_total m ρ c l r k) (fo_u m ρ c l r k))
theorem fo_second_call : V8 m ρ c main_v17_3 (ix3 l r k) = second (grad (R := 352) (C := 1024) (m ((c : Thread nD τ).loc main_arg15)) (m ((c : Thread nD τ).loc main_arg16)) l r k) ((m ((c : Thread nD τ).loc main_arg19) : FVec Ideal S2x352x1024 .f32) (ix3 l r k)) :=
  (congrFun ((W8_arr m ρ c 8).trans (FfnOut.second_arr (V7 m ρ) c)) _).trans (congrArg₂ second (fo_total m ρ c l r k) (fo_v m ρ c l r k))
theorem fo_sum_end : W8 m ρ c main_v17_0 (ix3 l r k) = grad (R := 352) (C := 1024) (m ((c : Thread nD τ).loc main_arg15)) (m ((c : Thread nD τ).loc main_arg16)) l r k := by
  exact fo_sum_call m ρ c l r k
theorem fo_delta_end : W8 m ρ c main_v17_1 (ix3 l r k) = delta ((m ((c : Thread nD τ).loc main_arg17) : FVec Ideal S2x352x1024 .f32) (ix3 l r k)) (grad (R := 352) (C := 1024) (m ((c : Thread nD τ).loc main_arg15)) (m ((c : Thread nD τ).loc main_arg16)) l r k) ((m ((c : Thread nD τ).loc main_arg18) : FVec Ideal S2x352x1024 .f32) (ix3 l r k)) ((m ((c : Thread nD τ).loc main_arg19) : FVec Ideal S2x352x1024 .f32) (ix3 l r k)) := by
  exact fo_delta_call m ρ c l r k
theorem fo_first_end : W8 m ρ c main_v17_2 (ix3 l r k) = first (grad (R := 352) (C := 1024) (m ((c : Thread nD τ).loc main_arg15)) (m ((c : Thread nD τ).loc main_arg16)) l r k) ((m ((c : Thread nD τ).loc main_arg18) : FVec Ideal S2x352x1024 .f32) (ix3 l r k)) := by
  exact fo_first_call m ρ c l r k
theorem fo_second_end : W8 m ρ c main_v17_3 (ix3 l r k) = second (grad (R := 352) (C := 1024) (m ((c : Thread nD τ).loc main_arg15)) (m ((c : Thread nD τ).loc main_arg16)) l r k) ((m ((c : Thread nD τ).loc main_arg19) : FVec Ideal S2x352x1024 .f32) (ix3 l r k)) := by
  exact fo_second_call m ρ c l r k
end

end Cert.OptIdeal.Chain
end
-- ==== Proof.Opt.Reference.lean ====
/- The reference's arrays at one entry: the sums over the chips and the AdamW step. -/
module

public import proofs.«01_k».proof.Proof.Gen.OptRefIdeal.Run
public import proofs.«01_k».proof.Proof.Opt.Stages
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.OptRefIdeal.Entries

open Cert.OptRefIdeal Cert.OptRefIdeal.Gen Cert.Adamw

/-! ## The input projection of the mixer -/

/-- The gradient, summed over the chips. -/
def sumIn (a b : FVec Ideal S4x449x1024 .bf16) : FVec Ideal S2x1024x449 .f32 :=
  transpose S2x1024x449 [0, 2, 1] (concatenate S2x449x1024 0 [⟨S1x449x1024, (broadcastInDim S1x449x1024 ![1, 2] bcast_S449x1024_S1x449x1024_1_2 (Host.reduceAdd (extf .f32 a bitsLt_bf16_f32) (constant S_ .f32 0x00000000#32) reducesTo_S4x449x1024_S449x1024_d0 h_S_))⟩, ⟨S1x449x1024, (broadcastInDim S1x449x1024 ![1, 2] bcast_S449x1024_S1x449x1024_1_2 (Host.reduceAdd (extf .f32 b bitsLt_bf16_f32) (constant S_ .f32 0x00000000#32) reducesTo_S4x449x1024_S449x1024_d0 h_S_))⟩] concatenates_S1x449x1024_S1x449x1024_S2x449x1024_d0) transposes_S2x449x1024_S2x1024x449_0_2_1
/-- The new running mean of the gradient. -/
def firstIn (a b : FVec Ideal S4x449x1024 .bf16) (u : FVec Ideal S2x1024x449 .f32) : FVec Ideal S2x1024x449 .f32 :=
  addf (mulf (broadcastInDim S2x1024x449 ![] bcast_S_S2x1024x449 (constant S_ .f32 0x3F666666#32)) u) (mulf (broadcastInDim S2x1024x449 ![] bcast_S_S2x1024x449 (constant S_ .f32 0x3DCCCCCD#32)) (sumIn a b))
/-- The new running mean of its square. -/
def secondIn (a b : FVec Ideal S4x449x1024 .bf16) (v : FVec Ideal S2x1024x449 .f32) : FVec Ideal S2x1024x449 .f32 :=
  addf (mulf (broadcastInDim S2x1024x449 ![] bcast_S_S2x1024x449 (constant S_ .f32 0x3F7FBE77#32)) v) (mulf (broadcastInDim S2x1024x449 ![] bcast_S_S2x1024x449 (constant S_ .f32 0x3A83126F#32)) (mulf (sumIn a b) (sumIn a b)))
/-- The change of the weights. -/
def deltaIn (a b : FVec Ideal S4x449x1024 .bf16) (w u v : FVec Ideal S2x1024x449 .f32) : FVec Ideal S2x1024x449 .f32 :=
  mulf (broadcastInDim S2x1024x449 ![] bcast_S_S2x1024x449 (constant S_ .f32 0xBA83126F#32)) (addf (Host.divf (Host.divf (firstIn a b u) (broadcastInDim S2x1024x449 ![] bcast_S_S2x1024x449 (constant S_ .f32 0x3F26BD02#32))) (addf (Host.sqrt (Host.divf (secondIn a b v) (broadcastInDim S2x1024x449 ![] bcast_S_S2x1024x449 (constant S_ .f32 0x3C231ACC#32)))) (broadcastInDim S2x1024x449 ![] bcast_S_S2x1024x449 (constant S_ .f32 0x322BCC77#32)))) (mulf (broadcastInDim S2x1024x449 ![] bcast_S_S2x1024x449 (constant S_ .f32 0x3C23D70A#32)) w))

section
variable (a b : FVec Ideal S4x449x1024 .bf16) (w u v : FVec Ideal S2x1024x449 .f32) (l : Fin 2) (k : Fin 1024) (n : Fin 449)
theorem sumIn_at : sumIn a b (ix3 l k n) = grad a b l n k := by
  unfold grad
  rw [Fin.sum_univ_four]
  obtain rfl | rfl : l = 0 ∨ l = 1 := by omega
  all_goals
    pointwise [sumIn]
    try simp [Fin.sum_univ_four]
theorem firstIn_at : firstIn a b u (ix3 l k n) = first (grad a b l n k) (u (ix3 l k n)) := by
  rw [← sumIn_at]
  pointwise [firstIn]
  rfl
theorem secondIn_at : secondIn a b v (ix3 l k n) = second (grad a b l n k) (v (ix3 l k n)) := by
  rw [← sumIn_at]
  pointwise [secondIn]
  rfl
theorem deltaIn_at : deltaIn a b w u v (ix3 l k n) = delta (w (ix3 l k n)) (grad a b l n k) (u (ix3 l k n)) (v (ix3 l k n)) := by
  unfold delta
  rw [← firstIn_at, ← secondIn_at]
  pointwise [deltaIn]
end

/-! ## The out-projection of the mixer -/

/-- The gradient, summed over the chips. -/
def sumWo (a b : FVec Ideal S4x128x1024 .bf16) : FVec Ideal S2x128x1024 .f32 :=
  concatenate S2x128x1024 0 [⟨S1x128x1024, (broadcastInDim S1x128x1024 ![1, 2] bcast_S128x1024_S1x128x1024_1_2 (Host.reduceAdd (extf .f32 a bitsLt_bf16_f32) (constant S_ .f32 0x00000000#32) reducesTo_S4x128x1024_S128x1024_d0 h_S_))⟩, ⟨S1x128x1024, (broadcastInDim S1x128x1024 ![1, 2] bcast_S128x1024_S1x128x1024_1_2 (Host.reduceAdd (extf .f32 b bitsLt_bf16_f32) (constant S_ .f32 0x00000000#32) reducesTo_S4x128x1024_S128x1024_d0 h_S_))⟩] concatenates_S1x128x1024_S1x128x1024_S2x128x1024_d0
/-- The new running mean of the gradient. -/
def firstWo (a b : FVec Ideal S4x128x1024 .bf16) (u : FVec Ideal S2x128x1024 .f32) : FVec Ideal S2x128x1024 .f32 :=
  addf (mulf (broadcastInDim S2x128x1024 ![] bcast_S_S2x128x1024 (constant S_ .f32 0x3F666666#32)) u) (mulf (broadcastInDim S2x128x1024 ![] bcast_S_S2x128x1024 (constant S_ .f32 0x3DCCCCCD#32)) (sumWo a b))
/-- The new running mean of its square. -/
def secondWo (a b : FVec Ideal S4x128x1024 .bf16) (v : FVec Ideal S2x128x1024 .f32) : FVec Ideal S2x128x1024 .f32 :=
  addf (mulf (broadcastInDim S2x128x1024 ![] bcast_S_S2x128x1024 (constant S_ .f32 0x3F7FBE77#32)) v) (mulf (broadcastInDim S2x128x1024 ![] bcast_S_S2x128x1024 (constant S_ .f32 0x3A83126F#32)) (mulf (sumWo a b) (sumWo a b)))
/-- The change of the weights. -/
def deltaWo (a b : FVec Ideal S4x128x1024 .bf16) (w u v : FVec Ideal S2x128x1024 .f32) : FVec Ideal S2x128x1024 .f32 :=
  mulf (broadcastInDim S2x128x1024 ![] bcast_S_S2x128x1024 (constant S_ .f32 0xBA83126F#32)) (addf (Host.divf (Host.divf (firstWo a b u) (broadcastInDim S2x128x1024 ![] bcast_S_S2x128x1024 (constant S_ .f32 0x3F26BD02#32))) (addf (Host.sqrt (Host.divf (secondWo a b v) (broadcastInDim S2x128x1024 ![] bcast_S_S2x128x1024 (constant S_ .f32 0x3C231ACC#32)))) (broadcastInDim S2x128x1024 ![] bcast_S_S2x128x1024 (constant S_ .f32 0x322BCC77#32)))) (mulf (broadcastInDim S2x128x1024 ![] bcast_S_S2x128x1024 (constant S_ .f32 0x3C23D70A#32)) w))

section
variable (a b : FVec Ideal S4x128x1024 .bf16) (w u v : FVec Ideal S2x128x1024 .f32) (l : Fin 2) (k : Fin 128) (n : Fin 1024)
theorem sumWo_at : sumWo a b (ix3 l k n) = grad a b l k n := by
  unfold grad
  rw [Fin.sum_univ_four]
  obtain rfl | rfl : l = 0 ∨ l = 1 := by omega
  all_goals
    pointwise [sumWo]
    try simp [Fin.sum_univ_four]
theorem firstWo_at : firstWo a b u (ix3 l k n) = first (grad a b l k n) (u (ix3 l k n)) := by
  rw [← sumWo_at]
  pointwise [firstWo]
  rfl
theorem secondWo_at : secondWo a b v (ix3 l k n) = second (grad a b l k n) (v (ix3 l k n)) := by
  rw [← sumWo_at]
  pointwise [secondWo]
  rfl
theorem deltaWo_at : deltaWo a b w u v (ix3 l k n) = delta (w (ix3 l k n)) (grad a b l k n) (u (ix3 l k n)) (v (ix3 l k n)) := by
  unfold delta
  rw [← firstWo_at, ← secondWo_at]
  pointwise [deltaWo]
end

/-! ## The input projection of the feed-forward -/

/-- The gradient, summed over the chips. -/
def sumFi (a b : FVec Ideal S4x704x1024 .bf16) : FVec Ideal S2x1024x704 .f32 :=
  transpose S2x1024x704 [0, 2, 1] (concatenate S2x704x1024 0 [⟨S1x704x1024, (broadcastInDim S1x704x1024 ![1, 2] bcast_S704x1024_S1x704x1024_1_2 (Host.reduceAdd (extf .f32 a bitsLt_bf16_f32) (constant S_ .f32 0x00000000#32) reducesTo_S4x704x1024_S704x1024_d0 h_S_))⟩, ⟨S1x704x1024, (broadcastInDim S1x704x1024 ![1, 2] bcast_S704x1024_S1x704x1024_1_2 (Host.reduceAdd (extf .f32 b bitsLt_bf16_f32) (constant S_ .f32 0x00000000#32) reducesTo_S4x704x1024_S704x1024_d0 h_S_))⟩] concatenates_S1x704x1024_S1x704x1024_S2x704x1024_d0) transposes_S2x704x1024_S2x1024x704_0_2_1
/-- The new running mean of the gradient. -/
def firstFi (a b : FVec Ideal S4x704x1024 .bf16) (u : FVec Ideal S2x1024x704 .f32) : FVec Ideal S2x1024x704 .f32 :=
  addf (mulf (broadcastInDim S2x1024x704 ![] bcast_S_S2x1024x704 (constant S_ .f32 0x3F666666#32)) u) (mulf (broadcastInDim S2x1024x704 ![] bcast_S_S2x1024x704 (constant S_ .f32 0x3DCCCCCD#32)) (sumFi a b))
/-- The new running mean of its square. -/
def secondFi (a b : FVec Ideal S4x704x1024 .bf16) (v : FVec Ideal S2x1024x704 .f32) : FVec Ideal S2x1024x704 .f32 :=
  addf (mulf (broadcastInDim S2x1024x704 ![] bcast_S_S2x1024x704 (constant S_ .f32 0x3F7FBE77#32)) v) (mulf (broadcastInDim S2x1024x704 ![] bcast_S_S2x1024x704 (constant S_ .f32 0x3A83126F#32)) (mulf (sumFi a b) (sumFi a b)))
/-- The change of the weights. -/
def deltaFi (a b : FVec Ideal S4x704x1024 .bf16) (w u v : FVec Ideal S2x1024x704 .f32) : FVec Ideal S2x1024x704 .f32 :=
  mulf (broadcastInDim S2x1024x704 ![] bcast_S_S2x1024x704 (constant S_ .f32 0xBA83126F#32)) (addf (Host.divf (Host.divf (firstFi a b u) (broadcastInDim S2x1024x704 ![] bcast_S_S2x1024x704 (constant S_ .f32 0x3F26BD02#32))) (addf (Host.sqrt (Host.divf (secondFi a b v) (broadcastInDim S2x1024x704 ![] bcast_S_S2x1024x704 (constant S_ .f32 0x3C231ACC#32)))) (broadcastInDim S2x1024x704 ![] bcast_S_S2x1024x704 (constant S_ .f32 0x322BCC77#32)))) (mulf (broadcastInDim S2x1024x704 ![] bcast_S_S2x1024x704 (constant S_ .f32 0x3C23D70A#32)) w))

section
variable (a b : FVec Ideal S4x704x1024 .bf16) (w u v : FVec Ideal S2x1024x704 .f32) (l : Fin 2) (k : Fin 1024) (n : Fin 704)
theorem sumFi_at : sumFi a b (ix3 l k n) = grad a b l n k := by
  unfold grad
  rw [Fin.sum_univ_four]
  obtain rfl | rfl : l = 0 ∨ l = 1 := by omega
  all_goals
    pointwise [sumFi]
    try simp [Fin.sum_univ_four]
theorem firstFi_at : firstFi a b u (ix3 l k n) = first (grad a b l n k) (u (ix3 l k n)) := by
  rw [← sumFi_at]
  pointwise [firstFi]
  rfl
theorem secondFi_at : secondFi a b v (ix3 l k n) = second (grad a b l n k) (v (ix3 l k n)) := by
  rw [← sumFi_at]
  pointwise [secondFi]
  rfl
theorem deltaFi_at : deltaFi a b w u v (ix3 l k n) = delta (w (ix3 l k n)) (grad a b l n k) (u (ix3 l k n)) (v (ix3 l k n)) := by
  unfold delta
  rw [← firstFi_at, ← secondFi_at]
  pointwise [deltaFi]
end

/-! ## The output projection of the feed-forward -/

/-- The gradient, summed over the chips. -/
def sumFo (a b : FVec Ideal S4x352x1024 .bf16) : FVec Ideal S2x352x1024 .f32 :=
  concatenate S2x352x1024 0 [⟨S1x352x1024, (broadcastInDim S1x352x1024 ![1, 2] bcast_S352x1024_S1x352x1024_1_2 (Host.reduceAdd (extf .f32 a bitsLt_bf16_f32) (constant S_ .f32 0x00000000#32) reducesTo_S4x352x1024_S352x1024_d0 h_S_))⟩, ⟨S1x352x1024, (broadcastInDim S1x352x1024 ![1, 2] bcast_S352x1024_S1x352x1024_1_2 (Host.reduceAdd (extf .f32 b bitsLt_bf16_f32) (constant S_ .f32 0x00000000#32) reducesTo_S4x352x1024_S352x1024_d0 h_S_))⟩] concatenates_S1x352x1024_S1x352x1024_S2x352x1024_d0
/-- The new running mean of the gradient. -/
def firstFo (a b : FVec Ideal S4x352x1024 .bf16) (u : FVec Ideal S2x352x1024 .f32) : FVec Ideal S2x352x1024 .f32 :=
  addf (mulf (broadcastInDim S2x352x1024 ![] bcast_S_S2x352x1024 (constant S_ .f32 0x3F666666#32)) u) (mulf (broadcastInDim S2x352x1024 ![] bcast_S_S2x352x1024 (constant S_ .f32 0x3DCCCCCD#32)) (sumFo a b))
/-- The new running mean of its square. -/
def secondFo (a b : FVec Ideal S4x352x1024 .bf16) (v : FVec Ideal S2x352x1024 .f32) : FVec Ideal S2x352x1024 .f32 :=
  addf (mulf (broadcastInDim S2x352x1024 ![] bcast_S_S2x352x1024 (constant S_ .f32 0x3F7FBE77#32)) v) (mulf (broadcastInDim S2x352x1024 ![] bcast_S_S2x352x1024 (constant S_ .f32 0x3A83126F#32)) (mulf (sumFo a b) (sumFo a b)))
/-- The change of the weights. -/
def deltaFo (a b : FVec Ideal S4x352x1024 .bf16) (w u v : FVec Ideal S2x352x1024 .f32) : FVec Ideal S2x352x1024 .f32 :=
  mulf (broadcastInDim S2x352x1024 ![] bcast_S_S2x352x1024 (constant S_ .f32 0xBA83126F#32)) (addf (Host.divf (Host.divf (firstFo a b u) (broadcastInDim S2x352x1024 ![] bcast_S_S2x352x1024 (constant S_ .f32 0x3F26BD02#32))) (addf (Host.sqrt (Host.divf (secondFo a b v) (broadcastInDim S2x352x1024 ![] bcast_S_S2x352x1024 (constant S_ .f32 0x3C231ACC#32)))) (broadcastInDim S2x352x1024 ![] bcast_S_S2x352x1024 (constant S_ .f32 0x322BCC77#32)))) (mulf (broadcastInDim S2x352x1024 ![] bcast_S_S2x352x1024 (constant S_ .f32 0x3C23D70A#32)) w))

section
variable (a b : FVec Ideal S4x352x1024 .bf16) (w u v : FVec Ideal S2x352x1024 .f32) (l : Fin 2) (k : Fin 352) (n : Fin 1024)
theorem sumFo_at : sumFo a b (ix3 l k n) = grad a b l k n := by
  unfold grad
  rw [Fin.sum_univ_four]
  obtain rfl | rfl : l = 0 ∨ l = 1 := by omega
  all_goals
    pointwise [sumFo]
    try simp [Fin.sum_univ_four]
theorem firstFo_at : firstFo a b u (ix3 l k n) = first (grad a b l k n) (u (ix3 l k n)) := by
  rw [← sumFo_at]
  pointwise [firstFo]
  rfl
theorem secondFo_at : secondFo a b v (ix3 l k n) = second (grad a b l k n) (v (ix3 l k n)) := by
  rw [← sumFo_at]
  pointwise [secondFo]
  rfl
theorem deltaFo_at : deltaFo a b w u v (ix3 l k n) = delta (w (ix3 l k n)) (grad a b l k n) (u (ix3 l k n)) (v (ix3 l k n)) := by
  unfold delta
  rw [← firstFo_at, ← secondFo_at]
  pointwise [deltaFo]
end

end Cert.OptRefIdeal.Entries
end
-- ==== Proof.Opt.Agree.lean ====
/- The AdamW step of the kernel and of the reference: the sixteen results agree. -/
module

public import proofs.«01_k».proof.Defs
public import proofs.«01_k».proof.Proof.Opt.Run
public import proofs.«01_k».proof.Proof.Opt.Chain
public import proofs.«01_k».proof.Proof.Opt.Reference
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

set_option maxHeartbeats 2000000 in
open Cert.OptRefIdeal.Entries in
/-- The sixteen results of the AdamW step end equal to the reference's, over the reals with infinities. -/
theorem opt : algebraic_OptIdeal_OptRefIdeal := by
  pair_intro
  · run_from Cert.OptIdeal.Run.results m g
  · run_from Cert.OptRefIdeal.Value.run m' g'
    · refine Eq.trans (b := sumIn (m ((c : Thread OptIdeal.nD OptIdeal.τ).loc OptIdeal.main_arg0)) (m ((c : Thread OptIdeal.nD OptIdeal.τ).loc OptIdeal.main_arg1))) ?_ (funext fun y => ?_)
      · delta sumIn
        try rewrite [(hagree c).1]
        try rewrite [(hagree c).2.1]
        exact rfl
      obtain ⟨l, k, n, rfl⟩ : ∃ (l : Fin 2) (k : Fin 1024) (n : Fin 449), y = ix3 l k n := ⟨y 0, y 1, y 2, (ix3_eta y).symm⟩
      exact (sumIn_at (m ((c : Thread OptIdeal.nD OptIdeal.τ).loc OptIdeal.main_arg0)) (m ((c : Thread OptIdeal.nD OptIdeal.τ).loc OptIdeal.main_arg1)) l k n).trans (OptIdeal.Chain.in_sum_end m g c l n k).symm
    · refine Eq.trans (b := deltaIn (m ((c : Thread OptIdeal.nD OptIdeal.τ).loc OptIdeal.main_arg0)) (m ((c : Thread OptIdeal.nD OptIdeal.τ).loc OptIdeal.main_arg1)) (m ((c : Thread OptIdeal.nD OptIdeal.τ).loc OptIdeal.main_arg2)) (m ((c : Thread OptIdeal.nD OptIdeal.τ).loc OptIdeal.main_arg3)) (m ((c : Thread OptIdeal.nD OptIdeal.τ).loc OptIdeal.main_arg4))) ?_ (funext fun y => ?_)
      · delta deltaIn firstIn secondIn sumIn
        try rewrite [(hagree c).1]
        try rewrite [(hagree c).2.1]
        try rewrite [(hagree c).2.2.1]
        try rewrite [(hagree c).2.2.2.1]
        try rewrite [(hagree c).2.2.2.2.1]
        exact rfl
      obtain ⟨l, k, n, rfl⟩ : ∃ (l : Fin 2) (k : Fin 1024) (n : Fin 449), y = ix3 l k n := ⟨y 0, y 1, y 2, (ix3_eta y).symm⟩
      exact (deltaIn_at (m ((c : Thread OptIdeal.nD OptIdeal.τ).loc OptIdeal.main_arg0)) (m ((c : Thread OptIdeal.nD OptIdeal.τ).loc OptIdeal.main_arg1)) (m ((c : Thread OptIdeal.nD OptIdeal.τ).loc OptIdeal.main_arg2)) (m ((c : Thread OptIdeal.nD OptIdeal.τ).loc OptIdeal.main_arg3)) (m ((c : Thread OptIdeal.nD OptIdeal.τ).loc OptIdeal.main_arg4)) l k n).trans (OptIdeal.Chain.in_delta_end m g c l n k).symm
    · refine Eq.trans (b := firstIn (m ((c : Thread OptIdeal.nD OptIdeal.τ).loc OptIdeal.main_arg0)) (m ((c : Thread OptIdeal.nD OptIdeal.τ).loc OptIdeal.main_arg1)) (m ((c : Thread OptIdeal.nD OptIdeal.τ).loc OptIdeal.main_arg3))) ?_ (funext fun y => ?_)
      · delta firstIn sumIn
        try rewrite [(hagree c).1]
        try rewrite [(hagree c).2.1]
        try rewrite [(hagree c).2.2.2.1]
        exact rfl
      obtain ⟨l, k, n, rfl⟩ : ∃ (l : Fin 2) (k : Fin 1024) (n : Fin 449), y = ix3 l k n := ⟨y 0, y 1, y 2, (ix3_eta y).symm⟩
      exact (firstIn_at (m ((c : Thread OptIdeal.nD OptIdeal.τ).loc OptIdeal.main_arg0)) (m ((c : Thread OptIdeal.nD OptIdeal.τ).loc OptIdeal.main_arg1)) (m ((c : Thread OptIdeal.nD OptIdeal.τ).loc OptIdeal.main_arg3)) l k n).trans (OptIdeal.Chain.in_first_end m g c l n k).symm
    · refine Eq.trans (b := secondIn (m ((c : Thread OptIdeal.nD OptIdeal.τ).loc OptIdeal.main_arg0)) (m ((c : Thread OptIdeal.nD OptIdeal.τ).loc OptIdeal.main_arg1)) (m ((c : Thread OptIdeal.nD OptIdeal.τ).loc OptIdeal.main_arg4))) ?_ (funext fun y => ?_)
      · delta secondIn sumIn
        try rewrite [(hagree c).1]
        try rewrite [(hagree c).2.1]
        try rewrite [(hagree c).2.2.2.2.1]
        exact rfl
      obtain ⟨l, k, n, rfl⟩ : ∃ (l : Fin 2) (k : Fin 1024) (n : Fin 449), y = ix3 l k n := ⟨y 0, y 1, y 2, (ix3_eta y).symm⟩
      exact (secondIn_at (m ((c : Thread OptIdeal.nD OptIdeal.τ).loc OptIdeal.main_arg0)) (m ((c : Thread OptIdeal.nD OptIdeal.τ).loc OptIdeal.main_arg1)) (m ((c : Thread OptIdeal.nD OptIdeal.τ).loc OptIdeal.main_arg4)) l k n).trans (OptIdeal.Chain.in_second_end m g c l n k).symm
    · refine Eq.trans (b := sumWo (m ((c : Thread OptIdeal.nD OptIdeal.τ).loc OptIdeal.main_arg5)) (m ((c : Thread OptIdeal.nD OptIdeal.τ).loc OptIdeal.main_arg6))) ?_ (funext fun y => ?_)
      · delta sumWo
        try rewrite [(hagree c).2.2.2.2.2.1]
        try rewrite [(hagree c).2.2.2.2.2.2.1]
        exact rfl
      obtain ⟨l, k, n, rfl⟩ : ∃ (l : Fin 2) (k : Fin 128) (n : Fin 1024), y = ix3 l k n := ⟨y 0, y 1, y 2, (ix3_eta y).symm⟩
      exact (sumWo_at (m ((c : Thread OptIdeal.nD OptIdeal.τ).loc OptIdeal.main_arg5)) (m ((c : Thread OptIdeal.nD OptIdeal.τ).loc OptIdeal.main_arg6)) l k n).trans (OptIdeal.Chain.wo_sum_end m g c l k n).symm
    · refine Eq.trans (b := deltaWo (m ((c : Thread OptIdeal.nD OptIdeal.τ).loc OptIdeal.main_arg5)) (m ((c : Thread OptIdeal.nD OptIdeal.τ).loc OptIdeal.main_arg6)) (m ((c : Thread OptIdeal.nD OptIdeal.τ).loc OptIdeal.main_arg7)) (m ((c : Thread OptIdeal.nD OptIdeal.τ).loc OptIdeal.main_arg8)) (m ((c : Thread OptIdeal.nD OptIdeal.τ).loc OptIdeal.main_arg9))) ?_ (funext fun y => ?_)
      · delta deltaWo firstWo secondWo sumWo
        try rewrite [(hagree c).2.2.2.2.2.1]
        try rewrite [(hagree c).2.2.2.2.2.2.1]
        try rewrite [(hagree c).2.2.2.2.2.2.2.1]
        try rewrite [(hagree c).2.2.2.2.2.2.2.2.1]
        try rewrite [(hagree c).2.2.2.2.2.2.2.2.2.1]
        exact rfl
      obtain ⟨l, k, n, rfl⟩ : ∃ (l : Fin 2) (k : Fin 128) (n : Fin 1024), y = ix3 l k n := ⟨y 0, y 1, y 2, (ix3_eta y).symm⟩
      exact (deltaWo_at (m ((c : Thread OptIdeal.nD OptIdeal.τ).loc OptIdeal.main_arg5)) (m ((c : Thread OptIdeal.nD OptIdeal.τ).loc OptIdeal.main_arg6)) (m ((c : Thread OptIdeal.nD OptIdeal.τ).loc OptIdeal.main_arg7)) (m ((c : Thread OptIdeal.nD OptIdeal.τ).loc OptIdeal.main_arg8)) (m ((c : Thread OptIdeal.nD OptIdeal.τ).loc OptIdeal.main_arg9)) l k n).trans (OptIdeal.Chain.wo_delta_end m g c l k n).symm
    · refine Eq.trans (b := firstWo (m ((c : Thread OptIdeal.nD OptIdeal.τ).loc OptIdeal.main_arg5)) (m ((c : Thread OptIdeal.nD OptIdeal.τ).loc OptIdeal.main_arg6)) (m ((c : Thread OptIdeal.nD OptIdeal.τ).loc OptIdeal.main_arg8))) ?_ (funext fun y => ?_)
      · delta firstWo sumWo
        try rewrite [(hagree c).2.2.2.2.2.1]
        try rewrite [(hagree c).2.2.2.2.2.2.1]
        try rewrite [(hagree c).2.2.2.2.2.2.2.2.1]
        exact rfl
      obtain ⟨l, k, n, rfl⟩ : ∃ (l : Fin 2) (k : Fin 128) (n : Fin 1024), y = ix3 l k n := ⟨y 0, y 1, y 2, (ix3_eta y).symm⟩
      exact (firstWo_at (m ((c : Thread OptIdeal.nD OptIdeal.τ).loc OptIdeal.main_arg5)) (m ((c : Thread OptIdeal.nD OptIdeal.τ).loc OptIdeal.main_arg6)) (m ((c : Thread OptIdeal.nD OptIdeal.τ).loc OptIdeal.main_arg8)) l k n).trans (OptIdeal.Chain.wo_first_end m g c l k n).symm
    · refine Eq.trans (b := secondWo (m ((c : Thread OptIdeal.nD OptIdeal.τ).loc OptIdeal.main_arg5)) (m ((c : Thread OptIdeal.nD OptIdeal.τ).loc OptIdeal.main_arg6)) (m ((c : Thread OptIdeal.nD OptIdeal.τ).loc OptIdeal.main_arg9))) ?_ (funext fun y => ?_)
      · delta secondWo sumWo
        try rewrite [(hagree c).2.2.2.2.2.1]
        try rewrite [(hagree c).2.2.2.2.2.2.1]
        try rewrite [(hagree c).2.2.2.2.2.2.2.2.2.1]
        exact rfl
      obtain ⟨l, k, n, rfl⟩ : ∃ (l : Fin 2) (k : Fin 128) (n : Fin 1024), y = ix3 l k n := ⟨y 0, y 1, y 2, (ix3_eta y).symm⟩
      exact (secondWo_at (m ((c : Thread OptIdeal.nD OptIdeal.τ).loc OptIdeal.main_arg5)) (m ((c : Thread OptIdeal.nD OptIdeal.τ).loc OptIdeal.main_arg6)) (m ((c : Thread OptIdeal.nD OptIdeal.τ).loc OptIdeal.main_arg9)) l k n).trans (OptIdeal.Chain.wo_second_end m g c l k n).symm
    · refine Eq.trans (b := sumFi (m ((c : Thread OptIdeal.nD OptIdeal.τ).loc OptIdeal.main_arg10)) (m ((c : Thread OptIdeal.nD OptIdeal.τ).loc OptIdeal.main_arg11))) ?_ (funext fun y => ?_)
      · delta sumFi
        try rewrite [(hagree c).2.2.2.2.2.2.2.2.2.2.1]
        try rewrite [(hagree c).2.2.2.2.2.2.2.2.2.2.2.1]
        exact rfl
      obtain ⟨l, k, n, rfl⟩ : ∃ (l : Fin 2) (k : Fin 1024) (n : Fin 704), y = ix3 l k n := ⟨y 0, y 1, y 2, (ix3_eta y).symm⟩
      exact (sumFi_at (m ((c : Thread OptIdeal.nD OptIdeal.τ).loc OptIdeal.main_arg10)) (m ((c : Thread OptIdeal.nD OptIdeal.τ).loc OptIdeal.main_arg11)) l k n).trans (OptIdeal.Chain.fi_sum_end m g c l n k).symm
    · refine Eq.trans (b := deltaFi (m ((c : Thread OptIdeal.nD OptIdeal.τ).loc OptIdeal.main_arg10)) (m ((c : Thread OptIdeal.nD OptIdeal.τ).loc OptIdeal.main_arg11)) (m ((c : Thread OptIdeal.nD OptIdeal.τ).loc OptIdeal.main_arg12)) (m ((c : Thread OptIdeal.nD OptIdeal.τ).loc OptIdeal.main_arg13)) (m ((c : Thread OptIdeal.nD OptIdeal.τ).loc OptIdeal.main_arg14))) ?_ (funext fun y => ?_)
      · delta deltaFi firstFi secondFi sumFi
        try rewrite [(hagree c).2.2.2.2.2.2.2.2.2.2.1]
        try rewrite [(hagree c).2.2.2.2.2.2.2.2.2.2.2.1]
        try rewrite [(hagree c).2.2.2.2.2.2.2.2.2.2.2.2.1]
        try rewrite [(hagree c).2.2.2.2.2.2.2.2.2.2.2.2.2.1]
        try rewrite [(hagree c).2.2.2.2.2.2.2.2.2.2.2.2.2.2.1]
        exact rfl
      obtain ⟨l, k, n, rfl⟩ : ∃ (l : Fin 2) (k : Fin 1024) (n : Fin 704), y = ix3 l k n := ⟨y 0, y 1, y 2, (ix3_eta y).symm⟩
      exact (deltaFi_at (m ((c : Thread OptIdeal.nD OptIdeal.τ).loc OptIdeal.main_arg10)) (m ((c : Thread OptIdeal.nD OptIdeal.τ).loc OptIdeal.main_arg11)) (m ((c : Thread OptIdeal.nD OptIdeal.τ).loc OptIdeal.main_arg12)) (m ((c : Thread OptIdeal.nD OptIdeal.τ).loc OptIdeal.main_arg13)) (m ((c : Thread OptIdeal.nD OptIdeal.τ).loc OptIdeal.main_arg14)) l k n).trans (OptIdeal.Chain.fi_delta_end m g c l n k).symm
    · refine Eq.trans (b := firstFi (m ((c : Thread OptIdeal.nD OptIdeal.τ).loc OptIdeal.main_arg10)) (m ((c : Thread OptIdeal.nD OptIdeal.τ).loc OptIdeal.main_arg11)) (m ((c : Thread OptIdeal.nD OptIdeal.τ).loc OptIdeal.main_arg13))) ?_ (funext fun y => ?_)
      · delta firstFi sumFi
        try rewrite [(hagree c).2.2.2.2.2.2.2.2.2.2.1]
        try rewrite [(hagree c).2.2.2.2.2.2.2.2.2.2.2.1]
        try rewrite [(hagree c).2.2.2.2.2.2.2.2.2.2.2.2.2.1]
        exact rfl
      obtain ⟨l, k, n, rfl⟩ : ∃ (l : Fin 2) (k : Fin 1024) (n : Fin 704), y = ix3 l k n := ⟨y 0, y 1, y 2, (ix3_eta y).symm⟩
      exact (firstFi_at (m ((c : Thread OptIdeal.nD OptIdeal.τ).loc OptIdeal.main_arg10)) (m ((c : Thread OptIdeal.nD OptIdeal.τ).loc OptIdeal.main_arg11)) (m ((c : Thread OptIdeal.nD OptIdeal.τ).loc OptIdeal.main_arg13)) l k n).trans (OptIdeal.Chain.fi_first_end m g c l n k).symm
    · refine Eq.trans (b := secondFi (m ((c : Thread OptIdeal.nD OptIdeal.τ).loc OptIdeal.main_arg10)) (m ((c : Thread OptIdeal.nD OptIdeal.τ).loc OptIdeal.main_arg11)) (m ((c : Thread OptIdeal.nD OptIdeal.τ).loc OptIdeal.main_arg14))) ?_ (funext fun y => ?_)
      · delta secondFi sumFi
        try rewrite [(hagree c).2.2.2.2.2.2.2.2.2.2.1]
        try rewrite [(hagree c).2.2.2.2.2.2.2.2.2.2.2.1]
        try rewrite [(hagree c).2.2.2.2.2.2.2.2.2.2.2.2.2.2.1]
        exact rfl
      obtain ⟨l, k, n, rfl⟩ : ∃ (l : Fin 2) (k : Fin 1024) (n : Fin 704), y = ix3 l k n := ⟨y 0, y 1, y 2, (ix3_eta y).symm⟩
      exact (secondFi_at (m ((c : Thread OptIdeal.nD OptIdeal.τ).loc OptIdeal.main_arg10)) (m ((c : Thread OptIdeal.nD OptIdeal.τ).loc OptIdeal.main_arg11)) (m ((c : Thread OptIdeal.nD OptIdeal.τ).loc OptIdeal.main_arg14)) l k n).trans (OptIdeal.Chain.fi_second_end m g c l n k).symm
    · refine Eq.trans (b := sumFo (m ((c : Thread OptIdeal.nD OptIdeal.τ).loc OptIdeal.main_arg15)) (m ((c : Thread OptIdeal.nD OptIdeal.τ).loc OptIdeal.main_arg16))) ?_ (funext fun y => ?_)
      · delta sumFo
        try rewrite [(hagree c).2.2.2.2.2.2.2.2.2.2.2.2.2.2.2.1]
        try rewrite [(hagree c).2.2.2.2.2.2.2.2.2.2.2.2.2.2.2.2.1]
        exact rfl
      obtain ⟨l, k, n, rfl⟩ : ∃ (l : Fin 2) (k : Fin 352) (n : Fin 1024), y = ix3 l k n := ⟨y 0, y 1, y 2, (ix3_eta y).symm⟩
      exact (sumFo_at (m ((c : Thread OptIdeal.nD OptIdeal.τ).loc OptIdeal.main_arg15)) (m ((c : Thread OptIdeal.nD OptIdeal.τ).loc OptIdeal.main_arg16)) l k n).trans (OptIdeal.Chain.fo_sum_end m g c l k n).symm
    · refine Eq.trans (b := deltaFo (m ((c : Thread OptIdeal.nD OptIdeal.τ).loc OptIdeal.main_arg15)) (m ((c : Thread OptIdeal.nD OptIdeal.τ).loc OptIdeal.main_arg16)) (m ((c : Thread OptIdeal.nD OptIdeal.τ).loc OptIdeal.main_arg17)) (m ((c : Thread OptIdeal.nD OptIdeal.τ).loc OptIdeal.main_arg18)) (m ((c : Thread OptIdeal.nD OptIdeal.τ).loc OptIdeal.main_arg19))) ?_ (funext fun y => ?_)
      · delta deltaFo firstFo secondFo sumFo
        try rewrite [(hagree c).2.2.2.2.2.2.2.2.2.2.2.2.2.2.2.1]
        try rewrite [(hagree c).2.2.2.2.2.2.2.2.2.2.2.2.2.2.2.2.1]
        try rewrite [(hagree c).2.2.2.2.2.2.2.2.2.2.2.2.2.2.2.2.2.1]
        try rewrite [(hagree c).2.2.2.2.2.2.2.2.2.2.2.2.2.2.2.2.2.2.1]
        try rewrite [(hagree c).2.2.2.2.2.2.2.2.2.2.2.2.2.2.2.2.2.2.2]
        exact rfl
      obtain ⟨l, k, n, rfl⟩ : ∃ (l : Fin 2) (k : Fin 352) (n : Fin 1024), y = ix3 l k n := ⟨y 0, y 1, y 2, (ix3_eta y).symm⟩
      exact (deltaFo_at (m ((c : Thread OptIdeal.nD OptIdeal.τ).loc OptIdeal.main_arg15)) (m ((c : Thread OptIdeal.nD OptIdeal.τ).loc OptIdeal.main_arg16)) (m ((c : Thread OptIdeal.nD OptIdeal.τ).loc OptIdeal.main_arg17)) (m ((c : Thread OptIdeal.nD OptIdeal.τ).loc OptIdeal.main_arg18)) (m ((c : Thread OptIdeal.nD OptIdeal.τ).loc OptIdeal.main_arg19)) l k n).trans (OptIdeal.Chain.fo_delta_end m g c l k n).symm
    · refine Eq.trans (b := firstFo (m ((c : Thread OptIdeal.nD OptIdeal.τ).loc OptIdeal.main_arg15)) (m ((c : Thread OptIdeal.nD OptIdeal.τ).loc OptIdeal.main_arg16)) (m ((c : Thread OptIdeal.nD OptIdeal.τ).loc OptIdeal.main_arg18))) ?_ (funext fun y => ?_)
      · delta firstFo sumFo
        try rewrite [(hagree c).2.2.2.2.2.2.2.2.2.2.2.2.2.2.2.1]
        try rewrite [(hagree c).2.2.2.2.2.2.2.2.2.2.2.2.2.2.2.2.1]
        try rewrite [(hagree c).2.2.2.2.2.2.2.2.2.2.2.2.2.2.2.2.2.2.1]
        exact rfl
      obtain ⟨l, k, n, rfl⟩ : ∃ (l : Fin 2) (k : Fin 352) (n : Fin 1024), y = ix3 l k n := ⟨y 0, y 1, y 2, (ix3_eta y).symm⟩
      exact (firstFo_at (m ((c : Thread OptIdeal.nD OptIdeal.τ).loc OptIdeal.main_arg15)) (m ((c : Thread OptIdeal.nD OptIdeal.τ).loc OptIdeal.main_arg16)) (m ((c : Thread OptIdeal.nD OptIdeal.τ).loc OptIdeal.main_arg18)) l k n).trans (OptIdeal.Chain.fo_first_end m g c l k n).symm
    · refine Eq.trans (b := secondFo (m ((c : Thread OptIdeal.nD OptIdeal.τ).loc OptIdeal.main_arg15)) (m ((c : Thread OptIdeal.nD OptIdeal.τ).loc OptIdeal.main_arg16)) (m ((c : Thread OptIdeal.nD OptIdeal.τ).loc OptIdeal.main_arg19))) ?_ (funext fun y => ?_)
      · delta secondFo sumFo
        try rewrite [(hagree c).2.2.2.2.2.2.2.2.2.2.2.2.2.2.2.1]
        try rewrite [(hagree c).2.2.2.2.2.2.2.2.2.2.2.2.2.2.2.2.1]
        try rewrite [(hagree c).2.2.2.2.2.2.2.2.2.2.2.2.2.2.2.2.2.2.2]
        exact rfl
      obtain ⟨l, k, n, rfl⟩ : ∃ (l : Fin 2) (k : Fin 352) (n : Fin 1024), y = ix3 l k n := ⟨y 0, y 1, y 2, (ix3_eta y).symm⟩
      exact (secondFo_at (m ((c : Thread OptIdeal.nD OptIdeal.τ).loc OptIdeal.main_arg15)) (m ((c : Thread OptIdeal.nD OptIdeal.τ).loc OptIdeal.main_arg16)) (m ((c : Thread OptIdeal.nD OptIdeal.τ).loc OptIdeal.main_arg19)) l k n).trans (OptIdeal.Chain.fo_second_end m g c l k n).symm

end Cert.Proof

end
-- ==== Proof.lean ====
/- The proof of the certificate's claims: each program's run, and the equations of their results, joined stage by
   stage in `Ffn.Chain`, `MixIn.Chain`, `MixOut.Chain` and `Opt.Chain` (the calls) and `Ffn.Reference`,
   `MixIn.Reference`, `MixOut.Reference` and `Opt.Reference` (the references). -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInRefIdeal
public import proofs.«01_k».proof.Proof.Gen.MixInRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.MixOutRefIdeal.Run
public import proofs.«01_k».proof.Proof.Gen.Opt
public import proofs.«01_k».proof.Proof.Gen.Opt.Skeleton
public import proofs.«01_k».proof.Proof.Gen.Opt.Launch
public import proofs.«01_k».proof.Proof.Gen.Opt.Points
public import proofs.«01_k».proof.Proof.Gen.Opt.Frame
public import proofs.«01_k».proof.Proof.Gen.OptIdeal
public import proofs.«01_k».proof.Proof.Gen.OptIdeal.Skeleton
public import proofs.«01_k».proof.Proof.Gen.OptIdeal.Launch
public import proofs.«01_k».proof.Proof.Gen.OptIdeal.Points
public import proofs.«01_k».proof.Proof.Gen.OptIdeal.Frame
public import proofs.«01_k».proof.Proof.Gen.OptRefIdeal
public import proofs.«01_k».proof.Proof.Gen.OptRefIdeal.Run
public import proofs.«01_k».proof.Proof.Ffn.Run
public import proofs.«01_k».proof.Proof.Ffn.Chain
public import proofs.«01_k».proof.Proof.Ffn.Reference
public import proofs.«01_k».proof.Proof.MixIn.Run
public import proofs.«01_k».proof.Proof.MixIn.Chain
public import proofs.«01_k».proof.Proof.MixIn.Reference
public import proofs.«01_k».proof.Proof.MixOut.Run
public import proofs.«01_k».proof.Proof.MixOut.Chain
public import proofs.«01_k».proof.Proof.MixOut.Reference
public import proofs.«01_k».proof.Proof.Opt.Agree
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

open Cert.FfnRefIdeal.Entries in
/-- The two programs read the same entries from equal arguments. -/
theorem same (m : (ℓ : Loc FfnIdeal.nD FfnIdeal.τ FfnIdeal.sig) → Buf (Elt Ideal) ℓ)
    (m' : (ℓ : Loc FfnRefIdeal.nD FfnRefIdeal.τ FfnRefIdeal.sig) → Buf (Elt Ideal) ℓ) (c : Dev FfnIdeal.nD)
    (h0 : m' ((c : Thread FfnRefIdeal.nD FfnRefIdeal.τ).loc FfnRefIdeal.main_arg0) = m ((c : Thread FfnIdeal.nD FfnIdeal.τ).loc FfnIdeal.main_arg0))
    (h1 : m' ((c : Thread FfnRefIdeal.nD FfnRefIdeal.τ).loc FfnRefIdeal.main_arg1) = m ((c : Thread FfnIdeal.nD FfnIdeal.τ).loc FfnIdeal.main_arg1))
    (h2 : m' ((c : Thread FfnRefIdeal.nD FfnRefIdeal.τ).loc FfnRefIdeal.main_arg2) = m ((c : Thread FfnIdeal.nD FfnIdeal.τ).loc FfnIdeal.main_arg2))
    (h3 : m' ((c : Thread FfnRefIdeal.nD FfnRefIdeal.τ).loc FfnRefIdeal.main_arg3) = m ((c : Thread FfnIdeal.nD FfnIdeal.τ).loc FfnIdeal.main_arg3))
    (h4 : m' ((c : Thread FfnRefIdeal.nD FfnRefIdeal.τ).loc FfnRefIdeal.main_arg4) = m ((c : Thread FfnIdeal.nD FfnIdeal.τ).loc FfnIdeal.main_arg4))
    (h5 : m' ((c : Thread FfnRefIdeal.nD FfnRefIdeal.τ).loc FfnRefIdeal.main_arg5) = m ((c : Thread FfnIdeal.nD FfnIdeal.τ).loc FfnIdeal.main_arg5))
    (h6 : m' ((c : Thread FfnRefIdeal.nD FfnRefIdeal.τ).loc FfnRefIdeal.main_arg6) = m ((c : Thread FfnIdeal.nD FfnIdeal.τ).loc FfnIdeal.main_arg6))
    (h7 : m' ((c : Thread FfnRefIdeal.nD FfnRefIdeal.τ).loc FfnRefIdeal.main_arg7) = m ((c : Thread FfnIdeal.nD FfnIdeal.τ).loc FfnIdeal.main_arg7)) :
    ins (StableHlo.launchContents m' c) = FfnIdeal.Hosts.ins m c := by
  refine (Stages.Inputs.mk.injEq ..).mpr ⟨?_, ?_, ?_, ?_, ?_, ?_, ?_, ?_⟩ <;> funext a
  · funext b; exact congrFun h0 _
  · funext b; exact congrFun h1 _
  · funext b; exact congrFun h2 _
  · funext b; exact congrFun h3 _
  · exact congrFun h4 _
  · funext b; exact congrFun h5 _
  · exact congrFun h6 _
  · funext b; exact congrFun h7 _

set_option maxHeartbeats 1000000 in
open Cert.FfnRefIdeal.Entries in
/-- The kernel's eight results end equal to the reference's, over the reals with infinities. -/
theorem ffn : algebraic_FfnIdeal_FfnRefIdeal := by
  pair_intro
  · run_from Cert.FfnIdeal.Run.results m g
  · run_from Cert.FfnRefIdeal.Value.run m' g'
    · refine Eq.trans ?_ (FfnIdeal.Chain.loss_end m g c).symm
      funext y
      exact (loss_at (StableHlo.launchContents m' c) y).trans (congrArg Stages.loss (same m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · refine Eq.trans ?_ (FfnIdeal.Chain.dx_end m g c).symm
      funext y
      obtain ⟨r, l, rfl⟩ : ∃ (r : Fin 2048) (l : Fin 1024), y = ix2 r l := ⟨y 0, y 1, (ix2_eta y).symm⟩
      exact (dx_at (StableHlo.launchContents m' c) r l).trans (congrArg (Stages.dx · r l) (same m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · refine Eq.trans ?_ (FfnIdeal.Chain.dh_end m g c).symm
      funext y
      obtain ⟨r, l, rfl⟩ : ∃ (r : Fin 2048) (l : Fin 1024), y = ix2 r l := ⟨y 0, y 1, (ix2_eta y).symm⟩
      exact (dh_at (StableHlo.launchContents m' c) r l).trans (congrArg (Stages.dh · r l) (same m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · funext y
      obtain ⟨n, l, rfl⟩ : ∃ (n : Fin 5632) (l : Fin 1024), y = ix2 n l := ⟨y 0, y 1, (ix2_eta y).symm⟩
      refine Eq.trans ?_ (FfnIdeal.Chain.dwi_end m g c n l).symm
      exact (dwi_at (StableHlo.launchContents m' c) n l).trans (congrArg (Stages.dwi · n l) (same m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · funext y
      obtain ⟨k, n, rfl⟩ : ∃ (k : Fin 3) (n : Fin 5632), y = ix2 k n := ⟨y 0, y 1, (ix2_eta y).symm⟩
      refine Eq.trans ?_ (FfnIdeal.Chain.dcw_end m g c k n).symm
      exact (dcw_at (StableHlo.launchContents m' c) n k).trans (congrArg (Stages.dcw · k n) (same m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · funext y
      obtain ⟨z, n, rfl⟩ : ∃ (z : Fin 1) (n : Fin 5632), y = ix2 z n := ⟨y 0, y 1, (ix2_eta y).symm⟩
      obtain rfl : z = 0 := Subsingleton.elim _ _
      refine Eq.trans ?_ (FfnIdeal.Chain.dcb_end m g c n).symm
      exact (dcb_at (StableHlo.launchContents m' c) n).trans (congrArg (Stages.dcb · n) (same m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · refine Eq.trans ?_ (FfnIdeal.Chain.dwo_end m g c).symm
      funext y
      obtain ⟨k, l, rfl⟩ : ∃ (k : Fin 2816) (l : Fin 1024), y = ix2 k l := ⟨y 0, y 1, (ix2_eta y).symm⟩
      exact (dwo_at (StableHlo.launchContents m' c) k l).trans (congrArg (Stages.dwo · k l) (same m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · refine Eq.trans ?_ (FfnIdeal.Chain.dnw_end m g c).symm
      funext y
      obtain ⟨z, l, rfl⟩ : ∃ (z : Fin 1) (l : Fin 1024), y = ix2 z l := ⟨y 0, y 1, (ix2_eta y).symm⟩
      obtain rfl : z = 0 := Subsingleton.elim _ _
      exact (dnw_at (StableHlo.launchContents m' c) l).trans (congrArg (Stages.dnw · l) (same m m' c (hagree c).1 (hagree c).2.1 (hagree c).2.2.1 (hagree c).2.2.2.1 (hagree c).2.2.2.2.1 (hagree c).2.2.2.2.2.1 (hagree c).2.2.2.2.2.2.1 (hagree c).2.2.2.2.2.2.2))

/-- The reference runs, leaves its arguments alone, and declares no semaphore. -/
theorem ffn_reference : quiescent_FfnRefIdeal := fun m g _ =>
  (θ_run Cert.FfnRefIdeal.defs _ _).mono (fun r h => ⟨fun c => (h c).2.2.2.2.2.2.2.2,
      Idealize.ShloMosaic.sem_eq_zero_of_no_sems (by decide) r.2⟩)
    (Cert.FfnRefIdeal.Value.run (F := Ideal) m g)

open Cert.MixInRefIdeal.Entries in
/-- The two programs at the entry to the mixer read the same entries from equal arguments. -/
theorem same_in (m : (ℓ : Loc MixInIdeal.nD MixInIdeal.τ MixInIdeal.sig) → Buf (Elt Ideal) ℓ)
    (m' : (ℓ : Loc MixInRefIdeal.nD MixInRefIdeal.τ MixInRefIdeal.sig) → Buf (Elt Ideal) ℓ) (c : Dev MixInIdeal.nD)
    (h0 : m' ((c : Thread MixInRefIdeal.nD MixInRefIdeal.τ).loc MixInRefIdeal.main_arg0) = m ((c : Thread MixInIdeal.nD MixInIdeal.τ).loc MixInIdeal.main_arg0))
    (h1 : m' ((c : Thread MixInRefIdeal.nD MixInRefIdeal.τ).loc MixInRefIdeal.main_arg1) = m ((c : Thread MixInIdeal.nD MixInIdeal.τ).loc MixInIdeal.main_arg1))
    (h2 : m' ((c : Thread MixInRefIdeal.nD MixInRefIdeal.τ).loc MixInRefIdeal.main_arg2) = m ((c : Thread MixInIdeal.nD MixInIdeal.τ).loc MixInIdeal.main_arg2))
    (h3 : m' ((c : Thread MixInRefIdeal.nD MixInRefIdeal.τ).loc MixInRefIdeal.main_arg3) = m ((c : Thread MixInIdeal.nD MixInIdeal.τ).loc MixInIdeal.main_arg3))
    (h4 : m' ((c : Thread MixInRefIdeal.nD MixInRefIdeal.τ).loc MixInRefIdeal.main_arg4) = m ((c : Thread MixInIdeal.nD MixInIdeal.τ).loc MixInIdeal.main_arg4))
    (h5 : m' ((c : Thread MixInRefIdeal.nD MixInRefIdeal.τ).loc MixInRefIdeal.main_arg5) = m ((c : Thread MixInIdeal.nD MixInIdeal.τ).loc MixInIdeal.main_arg5))
    (h6 : m' ((c : Thread MixInRefIdeal.nD MixInRefIdeal.τ).loc MixInRefIdeal.main_arg6) = m ((c : Thread MixInIdeal.nD MixInIdeal.τ).loc MixInIdeal.main_arg6))
    (h7 : m' ((c : Thread MixInRefIdeal.nD MixInRefIdeal.τ).loc MixInRefIdeal.main_arg7) = m ((c : Thread MixInIdeal.nD MixInIdeal.τ).loc MixInIdeal.main_arg7)) :
    ins (StableHlo.launchContents m' c) = MixInIdeal.Hosts.ins m c := by
  refine (Mixer.Inputs.mk.injEq ..).mpr ⟨?_, ?_, ?_, ?_, ?_, ?_, ?_, ?_⟩ <;> funext a
  · funext b; exact congrFun h0 _
  · exact congrFun h1 _
  · funext b; exact congrFun h2 _
  · funext b; exact congrFun h3 _
  · funext b; exact congrFun h4 _
  · funext b; exact congrFun h5 _
  · funext b; exact congrFun h6 _
  · funext b; exact congrFun h7 _

set_option maxHeartbeats 1000000 in
open Cert.MixInRefIdeal.Entries in
/-- The seven results at the entry to the mixer end equal to the reference's, over the reals with infinities. -/
theorem mix_in : algebraic_MixInIdeal_MixInRefIdeal := by
  pair_intro
  · run_from Cert.MixInIdeal.Run.results m g
  · run_from Cert.MixInRefIdeal.Value.run m' g'
    · funext y
      obtain ⟨r, n, rfl⟩ : ∃ (r : Fin 2048) (n : Fin 1536), y = ix2 r n := ⟨y 0, y 1, (ix2_eta y).symm⟩
      refine Eq.trans ?_ (MixInIdeal.Chain.qkv_end m g c r n).symm
      exact (qkv_at (StableHlo.launchContents m' c) r n).trans (congrArg (Mixer.proj · (Mixer.first n) r) (same_in m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · refine Eq.trans ?_ (MixInIdeal.Chain.act_end m g c).symm
      funext y
      obtain ⟨r, n, rfl⟩ : ∃ (r : Fin 2048) (n : Fin 1536), y = ix2 r n := ⟨y 0, y 1, (ix2_eta y).symm⟩
      exact (act_at (StableHlo.launchContents m' c) r n).trans (congrArg (Mixer.act · r n) (same_in m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · funext y
      obtain ⟨r, n, rfl⟩ : ∃ (r : Fin 2048) (n : Fin 520), y = ix2 r n := ⟨y 0, y 1, (ix2_eta y).symm⟩
      refine Eq.trans ?_ (MixInIdeal.Chain.tail_end m g c r n).symm
      exact (tail_at (StableHlo.launchContents m' c) r n).trans (congrArg (Mixer.proj · (Mixer.last n) r) (same_in m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · refine Eq.trans ?_ (MixInIdeal.Chain.dx_end m g c).symm
      rw [← (hagree c).1, ← (hagree c).2.2.2.2.2.2.2]
      funext y
      obtain ⟨r, l, rfl⟩ : ∃ (r : Fin 2048) (l : Fin 1024), y = ix2 r l := ⟨y 0, y 1, (ix2_eta y).symm⟩
      exact (dx_at (StableHlo.launchContents m' c) r l).trans (congrArg (Mixer.dx · r l) (same_in m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · refine Eq.trans ?_ (MixInIdeal.Chain.dnw_end m g c).symm
      funext y
      obtain ⟨z, l, rfl⟩ : ∃ (z : Fin 1) (l : Fin 1024), y = ix2 z l := ⟨y 0, y 1, (ix2_eta y).symm⟩
      obtain rfl : z = 0 := Subsingleton.elim _ _
      exact (dnw_at (StableHlo.launchContents m' c) l).trans (congrArg (Mixer.dnw · l) (same_in m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · funext y
      obtain ⟨n, l, rfl⟩ : ∃ (n : Fin 3592) (l : Fin 1024), y = ix2 n l := ⟨y 0, y 1, (ix2_eta y).symm⟩
      refine Eq.trans ?_ (MixInIdeal.Chain.dwi_end m g c n l).symm
      exact (dwi_at (StableHlo.launchContents m' c) n l).trans (congrArg (Mixer.dwi · n l) (same_in m m' c (hagree c).1 (hagree c).2.1 (hagree c).2.2.1 (hagree c).2.2.2.1 (hagree c).2.2.2.2.1 (hagree c).2.2.2.2.2.1 (hagree c).2.2.2.2.2.2.1 (hagree c).2.2.2.2.2.2.2))
    · refine Eq.trans ?_ (MixInIdeal.Chain.dcw_end m g c).symm
      funext y
      obtain ⟨k, n, rfl⟩ : ∃ (k : Fin 4) (n : Fin 1536), y = ix2 k n := ⟨y 0, y 1, (ix2_eta y).symm⟩
      exact (dcw_at (StableHlo.launchContents m' c) n k).trans (congrArg (Mixer.dcw · k n) (same_in m m' c (hagree c).1 (hagree c).2.1 (hagree c).2.2.1 (hagree c).2.2.2.1 (hagree c).2.2.2.2.1 (hagree c).2.2.2.2.2.1 (hagree c).2.2.2.2.2.2.1 (hagree c).2.2.2.2.2.2.2))

/-- The reference at the entry to the mixer runs, leaves its arguments alone, and declares no semaphore. -/
theorem mix_in_reference : quiescent_MixInRefIdeal := fun m g _ =>
  (θ_run Cert.MixInRefIdeal.defs _ _).mono (fun r h => ⟨fun c => (h c).2.2.2.2.2.2.2,
      Idealize.ShloMosaic.sem_eq_zero_of_no_sems (by decide) r.2⟩)
    (Cert.MixInRefIdeal.Value.run (F := Ideal) m g)

open Cert.MixOutRefIdeal.Entries in
/-- The two programs at the exit of the mixer read the same entries from equal arguments. -/
theorem same_out (m : (ℓ : Loc MixOutIdeal.nD MixOutIdeal.τ MixOutIdeal.sig) → Buf (Elt Ideal) ℓ)
    (m' : (ℓ : Loc MixOutRefIdeal.nD MixOutRefIdeal.τ MixOutRefIdeal.sig) → Buf (Elt Ideal) ℓ) (c : Dev MixOutIdeal.nD)
    (h0 : m' ((c : Thread MixOutRefIdeal.nD MixOutRefIdeal.τ).loc MixOutRefIdeal.main_arg0) = m ((c : Thread MixOutIdeal.nD MixOutIdeal.τ).loc MixOutIdeal.main_arg0))
    (h1 : m' ((c : Thread MixOutRefIdeal.nD MixOutRefIdeal.τ).loc MixOutRefIdeal.main_arg1) = m ((c : Thread MixOutIdeal.nD MixOutIdeal.τ).loc MixOutIdeal.main_arg1))
    (h2 : m' ((c : Thread MixOutRefIdeal.nD MixOutRefIdeal.τ).loc MixOutRefIdeal.main_arg2) = m ((c : Thread MixOutIdeal.nD MixOutIdeal.τ).loc MixOutIdeal.main_arg2))
    (h3 : m' ((c : Thread MixOutRefIdeal.nD MixOutRefIdeal.τ).loc MixOutRefIdeal.main_arg3) = m ((c : Thread MixOutIdeal.nD MixOutIdeal.τ).loc MixOutIdeal.main_arg3))
    (h4 : m' ((c : Thread MixOutRefIdeal.nD MixOutRefIdeal.τ).loc MixOutRefIdeal.main_arg4) = m ((c : Thread MixOutIdeal.nD MixOutIdeal.τ).loc MixOutIdeal.main_arg4))
    (h5 : m' ((c : Thread MixOutRefIdeal.nD MixOutRefIdeal.τ).loc MixOutRefIdeal.main_arg5) = m ((c : Thread MixOutIdeal.nD MixOutIdeal.τ).loc MixOutIdeal.main_arg5))
    (h6 : m' ((c : Thread MixOutRefIdeal.nD MixOutRefIdeal.τ).loc MixOutRefIdeal.main_arg6) = m ((c : Thread MixOutIdeal.nD MixOutIdeal.τ).loc MixOutIdeal.main_arg6)) :
    ins (StableHlo.launchContents m' c) = MixOutIdeal.Chain.ins m c := by
  refine (MixerOut.Inputs.mk.injEq ..).mpr ⟨?_, ?_, ?_, ?_, ?_, ?_, ?_⟩ <;> funext a
  · funext b; exact congrFun h0 _
  · funext b; exact congrFun h1 _
  · funext b; exact congrFun h2 _
  · exact congrFun h3 _
  · exact congrFun h4 _
  · funext b; exact congrFun h5 _
  · funext b; exact congrFun h6 _

set_option maxHeartbeats 1000000 in
open Cert.MixOutRefIdeal.Entries in
/-- The seven results at the exit of the mixer end equal to the reference's, over the reals with infinities. -/
theorem mix_out : algebraic_MixOutIdeal_MixOutRefIdeal := by
  pair_intro
  · run_from Cert.MixOutIdeal.Run.results m g
  · run_from Cert.MixOutRefIdeal.Value.run m' g'
    · refine Eq.trans ?_ (MixOutIdeal.Chain.x1_end m g c).symm
      rw [← (hagree c).1, ← (hagree c).2.1, ← (hagree c).2.2.1, ← (hagree c).2.2.2.1]
      funext y
      obtain ⟨r, l, rfl⟩ : ∃ (r : Fin 2048) (l : Fin 1024), y = ix2 r l := ⟨y 0, y 1, (ix2_eta y).symm⟩
      exact (x1_at (StableHlo.launchContents m' c) r l).trans (congrArg (MixerOut.x1 · r l) (same_out m m' c (hagree c).1 (hagree c).2.1 (hagree c).2.2.1 (hagree c).2.2.2.1 (hagree c).2.2.2.2.1 (hagree c).2.2.2.2.2.1 (hagree c).2.2.2.2.2.2))
    · refine Eq.trans ?_ (MixOutIdeal.Chain.h2_end m g c).symm
      funext y
      obtain ⟨r, l, rfl⟩ : ∃ (r : Fin 2048) (l : Fin 1024), y = ix2 r l := ⟨y 0, y 1, (ix2_eta y).symm⟩
      exact (congrFun (h2_run m' c) _).trans ((h2_at (StableHlo.launchContents m' c) r l).trans (congrArg (MixerOut.h2 · r l) (same_out m m' c (hagree c).1 (hagree c).2.1 (hagree c).2.2.1 (hagree c).2.2.2.1 (hagree c).2.2.2.2.1 (hagree c).2.2.2.2.2.1 (hagree c).2.2.2.2.2.2)))
    · refine Eq.trans ?_ (MixOutIdeal.Chain.dx1_end m g c).symm
      funext y
      obtain ⟨r, l, rfl⟩ : ∃ (r : Fin 2048) (l : Fin 1024), y = ix2 r l := ⟨y 0, y 1, (ix2_eta y).symm⟩
      exact (congrFun (dx1_run m' c) _).trans ((dx1_at (StableHlo.launchContents m' c) r l).trans (congrArg (MixerOut.dx1 · r l) (same_out m m' c (hagree c).1 (hagree c).2.1 (hagree c).2.2.1 (hagree c).2.2.2.1 (hagree c).2.2.2.2.1 (hagree c).2.2.2.2.2.1 (hagree c).2.2.2.2.2.2)))
    · refine Eq.trans ?_ (MixOutIdeal.Chain.dcat_end m g c).symm
      funext y
      obtain ⟨r, l, rfl⟩ : ∃ (r : Fin 2048) (l : Fin 1024), y = ix2 r l := ⟨y 0, y 1, (ix2_eta y).symm⟩
      exact (congrFun (dcat_run m' c) _).trans ((dcat_at (StableHlo.launchContents m' c) r l).trans (congrArg (MixerOut.dcat · r l) (same_out m m' c (hagree c).1 (hagree c).2.1 (hagree c).2.2.1 (hagree c).2.2.2.1 (hagree c).2.2.2.2.1 (hagree c).2.2.2.2.2.1 (hagree c).2.2.2.2.2.2)))
    · refine Eq.trans ?_ (MixOutIdeal.Chain.dwo_end m g c).symm
      funext y
      obtain ⟨r, l, rfl⟩ : ∃ (r : Fin 1024) (l : Fin 1024), y = ix2 r l := ⟨y 0, y 1, (ix2_eta y).symm⟩
      exact (congrFun (dwo_run m' c) _).trans ((dwo_at (StableHlo.launchContents m' c) l r).trans (congrArg (MixerOut.dwo · r l) (same_out m m' c (hagree c).1 (hagree c).2.1 (hagree c).2.2.1 (hagree c).2.2.2.1 (hagree c).2.2.2.2.1 (hagree c).2.2.2.2.2.1 (hagree c).2.2.2.2.2.2)))
    · refine Eq.trans ?_ (MixOutIdeal.Chain.dpw_end m g c).symm
      funext y
      obtain ⟨z, l, rfl⟩ : ∃ (z : Fin 1) (l : Fin 1024), y = ix2 z l := ⟨y 0, y 1, (ix2_eta y).symm⟩
      obtain rfl : z = 0 := Subsingleton.elim _ _
      exact (congrFun (dpw_run m' c) _).trans ((dpw_at (StableHlo.launchContents m' c) l).trans (congrArg (MixerOut.dpw · l) (same_out m m' c (hagree c).1 (hagree c).2.1 (hagree c).2.2.1 (hagree c).2.2.2.1 (hagree c).2.2.2.2.1 (hagree c).2.2.2.2.2.1 (hagree c).2.2.2.2.2.2)))
    · refine Eq.trans ?_ (MixOutIdeal.Chain.dqw_end m g c).symm
      funext y
      obtain ⟨z, l, rfl⟩ : ∃ (z : Fin 1) (l : Fin 1024), y = ix2 z l := ⟨y 0, y 1, (ix2_eta y).symm⟩
      obtain rfl : z = 0 := Subsingleton.elim _ _
      exact (congrFun (dqw_run m' c) _).trans ((dqw_at (StableHlo.launchContents m' c) l).trans (congrArg (MixerOut.dqw · l) (same_out m m' c (hagree c).1 (hagree c).2.1 (hagree c).2.2.1 (hagree c).2.2.2.1 (hagree c).2.2.2.2.1 (hagree c).2.2.2.2.2.1 (hagree c).2.2.2.2.2.2)))

/-- The reference at the exit of the mixer runs, leaves its arguments alone, and declares no semaphore. -/
theorem mix_out_reference : quiescent_MixOutRefIdeal := fun m g _ =>
  (θ_run Cert.MixOutRefIdeal.defs _ _).mono (fun r h => ⟨fun c => (h c).2.2.2.2.2.2.2,
      Idealize.ShloMosaic.sem_eq_zero_of_no_sems (by decide) r.2⟩)
    (Cert.MixOutRefIdeal.Value.run (F := Ideal) m g)

/-! ## The optimiser -/

/-- The reference's run ends with its arguments as launched. -/
theorem opt_reference : quiescent_OptRefIdeal := fun m g _ =>
  (θ_run Cert.OptRefIdeal.defs _ _).mono (fun r h => ⟨fun c => (h c).2.2.2.2.2.2.2.2.2.2.2.2.2.2.2.2,
      Idealize.ShloMosaic.sem_eq_zero_of_no_sems (by decide) r.2⟩)
    (Cert.OptRefIdeal.Value.run (F := Ideal) m g)

theorem claim : Cert.Claim := ⟨Cert.Ffn.Gen.facts, Cert.FfnIdeal.Gen.facts, Cert.FfnRefIdeal.Gen.facts,
  Cert.MixIn.Gen.facts, Cert.MixInIdeal.Gen.facts, Cert.MixInRefIdeal.Gen.facts,
  Cert.MixOut.Gen.facts, Cert.MixOutIdeal.Gen.facts, Cert.MixOutRefIdeal.Gen.facts,
  Cert.Opt.Gen.facts, Cert.OptIdeal.Gen.facts, Cert.OptRefIdeal.Gen.facts,
  fun m g _ => Cert.Ffn.Gen.frame m g, fun m g _ => Cert.FfnIdeal.Gen.frame m g, ffn_reference,
  fun m g _ => Cert.MixIn.Gen.frame m g, fun m g _ => Cert.MixInIdeal.Gen.frame m g, mix_in_reference,
  fun m g _ => Cert.MixOut.Gen.frame m g, fun m g _ => Cert.MixOutIdeal.Gen.frame m g, mix_out_reference,
  fun m g _ => Cert.Opt.Gen.frame m g, fun m g _ => Cert.OptIdeal.Gen.frame m g, opt_reference,
  trivial, trivial, trivial, trivial, ffn, mix_in, mix_out, opt⟩

end Cert.Proof

end
